-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attention_finite [hPre_attention_finite : Cert.Pre_attention_finite.Facts] (m : (ℓ : Loc Cert.KernelIdeal.nD Cert.KernelIdeal.τ Cert.KernelIdeal.sig) → Buf (Elt Ideal) ℓ) : Prop :=
  ∀ c : Dev Cert.KernelIdeal.nD,
    (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attention_finite [hPre_attention_finite : Cert.Pre_attention_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attention_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_up_finite [hPre_up_finite : Cert.Pre_up_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_up_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_up_finite [hPre_up_finite : Cert.Pre_up_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_up_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_attention_finite [hKernelIdeal : Cert.KernelIdeal.Facts] [hPre_attention_finite : Cert.Pre_attention_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attention_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_attention_finite [hReferenceIdeal : Cert.ReferenceIdeal.Facts] [hPre_attention_finite : Cert.Pre_attention_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attention_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_up_finite [hKernel4Ideal : Cert.Kernel4Ideal.Facts] [hPre_up_finite : Cert.Pre_up_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_up_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_up_finite [hReference4Ideal : Cert.Reference4Ideal.Facts] [hPre_up_finite : Cert.Pre_up_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_up_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_attention_finite [hKernelIdeal : Cert.KernelIdeal.Facts] [hReferenceIdeal : Cert.ReferenceIdeal.Facts] [hPre_attention_finite : Cert.Pre_attention_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attention_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v36_0)) (v2 : (c : Dev Cert.KernelIdeal.nD) → Buf (Elt Ideal) ((c.tc : Thread Cert.KernelIdeal.nD Cert.KernelIdeal.τ).loc Cert.KernelIdeal.main_v38)) (v3 : (c : Dev Cert.KernelIdeal.nD) → Buf (Elt Ideal) ((c.tc : Thread Cert.KernelIdeal.nD Cert.KernelIdeal.τ).loc Cert.KernelIdeal.main_v39)) (v4 : (c : Dev Cert.KernelIdeal.nD) → Buf (Elt Ideal) ((c.tc : Thread Cert.KernelIdeal.nD Cert.KernelIdeal.τ).loc Cert.KernelIdeal.main_v36_3)) (v5 : (c : Dev Cert.KernelIdeal.nD) → Buf (Elt Ideal) ((c.tc : Thread Cert.KernelIdeal.nD Cert.KernelIdeal.τ).loc Cert.KernelIdeal.main_v36_4)) (v6 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v36_0) = v1 c
          ∧ r.2.mem ((c.tc : Thread Cert.KernelIdeal.nD Cert.KernelIdeal.τ).loc Cert.KernelIdeal.main_v38) = v2 c
          ∧ r.2.mem ((c.tc : Thread Cert.KernelIdeal.nD Cert.KernelIdeal.τ).loc Cert.KernelIdeal.main_v39) = v3 c
          ∧ r.2.mem ((c.tc : Thread Cert.KernelIdeal.nD Cert.KernelIdeal.τ).loc Cert.KernelIdeal.main_v36_3) = v4 c
          ∧ r.2.mem ((c.tc : Thread Cert.KernelIdeal.nD Cert.KernelIdeal.τ).loc Cert.KernelIdeal.main_v36_4) = v5 c
          ∧ r.2.mem ((c.tc : Thread Cert.KernelIdeal.nD Cert.KernelIdeal.τ).loc Cert.KernelIdeal.main_v41) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_v111) = v3 c
          ∧ r.2.mem ((c.tc : Thread Cert.ReferenceIdeal.nD Cert.ReferenceIdeal.τ).loc Cert.ReferenceIdeal.main_v110) = v4 c
          ∧ r.2.mem ((c.tc : Thread Cert.ReferenceIdeal.nD Cert.ReferenceIdeal.τ).loc Cert.ReferenceIdeal.main_v109) = v5 c
          ∧ r.2.mem ((c.tc : Thread Cert.ReferenceIdeal.nD Cert.ReferenceIdeal.τ).loc Cert.ReferenceIdeal.main_v113) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_v34) = v1 c
          ∧ r.2.mem ((c.tc : Thread Cert.Reference2Ideal.nD Cert.Reference2Ideal.τ).loc Cert.Reference2Ideal.main_v35) = v2 c
          ∧ r.2.mem ((c.tc : Thread Cert.Reference2Ideal.nD Cert.Reference2Ideal.τ).loc Cert.Reference2Ideal.main_v37) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_up_finite [hKernel4Ideal : Cert.Kernel4Ideal.Facts] [hReference4Ideal : Cert.Reference4Ideal.Facts] [hPre_up_finite : Cert.Pre_up_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_up_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v59) = v0 c
          ∧ r.2.mem ((c.tc : Thread Cert.Reference4Ideal.nD Cert.Reference4Ideal.τ).loc Cert.Reference4Ideal.main_v68) = v1 c
          ∧ r.2.mem ((c.tc : Thread Cert.Reference4Ideal.nD Cert.Reference4Ideal.τ).loc Cert.Reference4Ideal.main_v70) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_v30) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_attention_finite : Cert.Pre_attention_finite.Facts) (hPre_up_finite : Cert.Pre_up_finite.Facts),
    quiescent_Kernel (hKernel := hKernel)
    ∧ quiescent_KernelIdeal (hKernelIdeal := hKernelIdeal)
    ∧ quiescent_KernelIdeal_pre_attention_finite (hKernelIdeal := hKernelIdeal) (hPre_attention_finite := hPre_attention_finite)
    ∧ quiescent_ReferenceIdeal (hReferenceIdeal := hReferenceIdeal)
    ∧ quiescent_ReferenceIdeal_pre_attention_finite (hReferenceIdeal := hReferenceIdeal) (hPre_attention_finite := hPre_attention_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_up_finite (hKernel4Ideal := hKernel4Ideal) (hPre_up_finite := hPre_up_finite)
    ∧ quiescent_Reference4Ideal (hReference4Ideal := hReference4Ideal)
    ∧ quiescent_Reference4Ideal_pre_up_finite (hReference4Ideal := hReference4Ideal) (hPre_up_finite := hPre_up_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_attention_finite (hKernelIdeal := hKernelIdeal) (hReferenceIdeal := hReferenceIdeal) (hPre_attention_finite := hPre_attention_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_up_finite (hKernel4Ideal := hKernel4Ideal) (hReference4Ideal := hReference4Ideal) (hPre_up_finite := hPre_up_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_attention_finite.lean ====
abbrev S4096x512 : Shape := ⟨2, ![4096, 512]⟩
abbrev S4096x128 : Shape := ⟨2, ![4096, 128]⟩
abbrev S256x128 : Shape := ⟨2, ![256, 128]⟩
abbrev S8 : Shape := ⟨1, ![8]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S256x128 : S_.BroadcastsInDim S256x128 (![] : Fin 0 → Fin S256x128.rank)
  reducesTo_S256x128_S_d0_1 : S256x128.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S256x128 .f32) (main_arg5 : FVec F S8 .f32) (main_arg6 : FVec F S4096x512 .f32) (main_v3 : IVec S_ 1) (main_v7 : IVec S_ 1) (main_v11 : IVec S_ 1) (main_v15 : IVec S_ 1) : IVec S_ 1 :=
  let main_v16 : FVec F S256x128 .f32 := Host.absf main_arg4
  let main_cst_6 : FVec F S_ .f32 := constant S_ .f32 0x7F800000#32
  let main_v17 : FVec F S256x128 .f32 := broadcastInDim S256x128 ![] bcast_S_S256x128 main_cst_6
  let main_v18 : IVec S256x128 1 := cmpf .olt main_v16 main_v17
  let main_c_7 : IVec S_ 1 := constantI S_ 1 1#1
  let main_v19 : IVec S_ 1 := (fun x v => Host.reduce IntOp.andi x v reducesTo_S256x128_S_d0_1 h_S_) main_v18 main_c_7
  let main_v20 : FVec F S8 .f32 := Host.absf main_arg5
  let main_cst_8 : FVec F S_ .f32 := constant S_ .f32 0x7F800000#32
  let main_v21 : FVec F S8 .f32 := broadcastInDim S8 ![] bcast_S_S8 main_cst_8
  let main_v22 : IVec S8 1 := cmpf .olt main_v20 main_v21
  let main_c_9 : IVec S_ 1 := constantI S_ 1 1#1
  let main_v23 : IVec S_ 1 := (fun x v => Host.reduce IntOp.andi x v reducesTo_S8_S_d0 h_S_) main_v22 main_c_9
  let main_v24 : FVec F S4096x512 .f32 := Host.absf main_arg6
  let main_cst_10 : FVec F S_ .f32 := constant S_ .f32 0x7F800000#32
  let main_v25 : FVec F S4096x512 .f32 := broadcastInDim S4096x512 ![] bcast_S_S4096x512 main_cst_10
  let main_v26 : IVec S4096x512 1 := cmpf .olt main_v24 main_v25
  let main_c_11 : IVec S_ 1 := constantI S_ 1 1#1
  let main_v27 : IVec S_ 1 := (fun x v => Host.reduce IntOp.andi x v reducesTo_S4096x512_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S4096x512 .f32) (main_arg1 : FVec F S4096x128 .f32) (main_arg2 : FVec F S4096x128 .f32) (main_arg3 : FVec F S256x128 .f32) (main_arg4 : FVec F S256x128 .f32) (main_arg5 : FVec F S8 .f32) (main_arg6 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : FVec F S4096x128 .f32 := Host.absf main_arg2
  let main_cst_2 : FVec F S_ .f32 := constant S_ .f32 0x7F800000#32
  let main_v9 : FVec F S4096x128 .f32 := broadcastInDim S4096x128 ![] bcast_S_S4096x128 main_cst_2
  let main_v10 : IVec S4096x128 1 := cmpf .olt main_v8 main_v9
  let main_c_3 : IVec S_ 1 := constantI S_ 1 1#1
  let main_v11 : IVec S_ 1 := (fun x v => Host.reduce IntOp.andi x v reducesTo_S4096x128_S_d0_1 h_S_) main_v10 main_c_3
  let main_v12 : FVec F S256x128 .f32 := Host.absf main_arg3
  let main_cst_4 : FVec F S_ .f32 := constant S_ .f32 0x7F800000#32
  let main_v13 : FVec F S256x128 .f32 := broadcastInDim S256x128 ![] bcast_S_S256x128 main_cst_4
  let main_v14 : IVec S256x128 1 := cmpf .olt main_v12 main_v13
  let main_c_5 : IVec S_ 1 := constantI S_ 1 1#1
  let main_v15 : IVec S_ 1 := (fun x v => Host.reduce IntOp.andi x v reducesTo_S256x128_S_d0_1 h_S_) main_v14 main_c_5
  fn_part1 (F := F) main_arg4 main_arg5 main_arg6 main_v3 main_v7 main_v11 main_v15
-- ==== Pre_up_finite.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S2x4096x2816 : S_.BroadcastsInDim S2x4096x2816 (![] : Fin 0 → Fin S2x4096x2816.rank)
  reducesTo_S2x4096x2816_S_d0_1_2 : S2x4096x2816.ReducesTo [0, 1, 2] S_
  h_S_ : 0 < S_.numel
  bcast_S_S4x1024x1408 : S_.BroadcastsInDim S4x1024x1408 (![] : Fin 0 → Fin S4x1024x1408.rank)
  reducesTo_S4x1024x1408_S_d0_1_2 : S4x1024x1408.ReducesTo [0, 1, 2] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v4 : IVec S_ 1) (main_v9 : IVec S_ 1) (main_v13 : IVec S_ 1) (main_v17 : IVec S_ 1) (main_v22 : IVec S_ 1) (main_v26 : IVec S_ 1) (main_v30 : IVec S_ 1) (main_v31 : FVec F S1x1024 .f32) (main_v32 : FVec F S1x1024 .f32) : IVec S_ 1 :=
  let main_v33 : IVec S1x1024 1 := cmpf .olt main_v31 main_v32
  let main_c_13 : IVec S_ 1 := constantI S_ 1 1#1
  let main_v34 : IVec S_ 1 := (fun x v => Host.reduce IntOp.andi x v reducesTo_S1x1024_S_d0_1 h_S_) main_v33 main_c_13
  let main_v35 : IVec S_ 1 := andi main_v4 main_v9
  let main_v36 : IVec S_ 1 := andi main_v35 main_v13
  let main_v37 : IVec S_ 1 := andi main_v36 main_v17
  let main_v38 : IVec S_ 1 := andi main_v37 main_v22
  let main_v39 : IVec S_ 1 := andi main_v38 main_v26
  let main_v40 : IVec S_ 1 := andi main_v39 main_v30
  let main_v41 : IVec S_ 1 := andi main_v40 main_v34
  main_v41

def fn_part1 {F : FTy → Type} [FloatOps F] (main_arg4 : FVec F S4096x1024 .bf16) (main_arg5 : FVec F S1x1024 .f32) (main_arg6 : FVec F S1x1024 .f32) (main_arg7 : FVec F S1x1024 .f32) (main_v4 : IVec S_ 1) (main_v9 : IVec S_ 1) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : FVec F S4096x1024 .f32 := (extf .f32 · bitsLt_bf16_f32) main_arg4
  let main_v19 : FVec F S4096x1024 .f32 := Host.absf main_v18
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : FVec F S1x1024 .f32 := Host.absf main_arg5
  let main_cst_8 : FVec F S_ .f32 := constant S_ .f32 0x7F800000#32
  let main_v24 : FVec F S1x1024 .f32 := broadcastInDim S1x1024 ![] bcast_S_S1x1024 main_cst_8
  let main_v25 : IVec S1x1024 1 := cmpf .olt main_v23 main_v24
  let main_c_9 : IVec S_ 1 := constantI S_ 1 1#1
  let main_v26 : IVec S_ 1 := (fun x v => Host.reduce IntOp.andi x v reducesTo_S1x1024_S_d0_1 h_S_) main_v25 main_c_9
  let main_v27 : FVec F S1x1024 .f32 := Host.absf main_arg6
  let main_cst_10 : FVec F S_ .f32 := constant S_ .f32 0x7F800000#32
  let main_v28 : FVec F S1x1024 .f32 := broadcastInDim S1x1024 ![] bcast_S_S1x1024 main_cst_10
  let main_v29 : IVec S1x1024 1 := cmpf .olt main_v27 main_v28
  let main_c_11 : IVec S_ 1 := constantI S_ 1 1#1
  let main_v30 : IVec S_ 1 := (fun x v => Host.reduce IntOp.andi x v reducesTo_S1x1024_S_d0_1 h_S_) main_v29 main_c_11
  let main_v31 : FVec F S1x1024 .f32 := Host.absf main_arg7
  let main_cst_12 : FVec F S_ .f32 := constant S_ .f32 0x7F800000#32
  let main_v32 : FVec F S1x1024 .f32 := broadcastInDim S1x1024 ![] bcast_S_S1x1024 main_cst_12
  fn_part2 (F := F) main_v4 main_v9 main_v13 main_v17 main_v22 main_v26 main_v30 main_v31 main_v32

def fn {F : FTy → Type} [FloatOps F] (main_arg0 : FVec F S2x4096x2816 .bf16) (main_arg1 : FVec F S4x1024x1408 .bf16) (main_arg2 : FVec F S4096x1024 .f32) (main_arg3 : FVec F S4096x1024 .f32) (main_arg4 : FVec F S4096x1024 .bf16) (main_arg5 : FVec F S1x1024 .f32) (main_arg6 : FVec F S1x1024 .f32) (main_arg7 : FVec F S1x1024 .f32) : IVec S_ 1 :=
  let main_v0 : FVec F S2x4096x2816 .f32 := (extf .f32 · bitsLt_bf16_f32) main_arg0
  let main_v1 : FVec F S2x4096x2816 .f32 := Host.absf main_v0
  let main_cst : FVec F S_ .f32 := constant S_ .f32 0x7F800000#32
  let main_v2 : FVec F S2x4096x2816 .f32 := broadcastInDim S2x4096x2816 ![] bcast_S_S2x4096x2816 main_cst
  let main_v3 : IVec S2x4096x2816 1 := cmpf .olt main_v1 main_v2
  let main_c : IVec S_ 1 := constantI S_ 1 1#1
  let main_v4 : IVec S_ 1 := (fun x v => Host.reduce IntOp.andi x v reducesTo_S2x4096x2816_S_d0_1_2 h_S_) main_v3 main_c
  let main_v5 : FVec F S4x1024x1408 .f32 := (extf .f32 · bitsLt_bf16_f32) main_arg1
  let main_v6 : FVec F S4x1024x1408 .f32 := Host.absf main_v5
  let main_cst_0 : FVec F S_ .f32 := constant S_ .f32 0x7F800000#32
  let main_v7 : FVec F S4x1024x1408 .f32 := broadcastInDim S4x1024x1408 ![] bcast_S_S4x1024x1408 main_cst_0
  let main_v8 : IVec S4x1024x1408 1 := cmpf .olt main_v6 main_v7
  let main_c_1 : IVec S_ 1 := constantI S_ 1 1#1
  let main_v9 : IVec S_ 1 := (fun x v => Host.reduce IntOp.andi x v reducesTo_S4x1024x1408_S_d0_1_2 h_S_) main_v8 main_c_1
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_v4 main_v9 main_v13 main_v16
-- ==== Kernel.lean ====
abbrev S4096x512 : Shape := ⟨2, ![4096, 512]⟩
abbrev S4096x128 : Shape := ⟨2, ![4096, 128]⟩
abbrev S256x128 : Shape := ⟨2, ![256, 128]⟩
abbrev S8 : Shape := ⟨1, ![8]⟩
abbrev S512 : Shape := ⟨1, ![512]⟩
abbrev S_ : Shape := ⟨0, ![]⟩
abbrev S1x512 : Shape := ⟨2, ![1, 512]⟩
abbrev S4096x64 : Shape := ⟨2, ![4096, 64]⟩
abbrev S256x64 : Shape := ⟨2, ![256, 64]⟩
abbrev S4352x128 : Shape := ⟨2, ![4352, 128]⟩
abbrev S32x4x256x640 : Shape := ⟨4, ![32, 4, 256, 640]⟩
abbrev S32x4x256x128 : Shape := ⟨4, ![32, 4, 256, 128]⟩
abbrev S128x512 : Shape := ⟨2, ![128, 512]⟩
abbrev S1x4x256x640 : Shape := ⟨4, ![1, 4, 256, 640]⟩
abbrev S1x4x256x128 : Shape := ⟨4, ![1, 4, 256, 128]⟩
abbrev S384x128 : Shape := ⟨2, ![384, 128]⟩
abbrev S640x128 : Shape := ⟨2, ![640, 128]⟩
abbrev S256x640 : Shape := ⟨2, ![256, 640]⟩
abbrev S1x128 : Shape := ⟨2, ![1, 128]⟩
abbrev S128x128 : Shape := ⟨2, ![128, 128]⟩
abbrev S1 : Shape := ⟨1, ![1]⟩
abbrev S128x1 : Shape := ⟨2, ![128, 1]⟩
abbrev S256x1 : Shape := ⟨2, ![256, 1]⟩
abbrev S256 : Shape := ⟨1, ![256]⟩
abbrev S1x1x256x640 : Shape := ⟨4, ![1, 1, 256, 640]⟩
abbrev S1x1x256x128 : Shape := ⟨4, ![1, 1, 256, 128]⟩
abbrev S8x128 : Shape := ⟨2, ![8, 128]⟩
abbrev S128x640 : Shape := ⟨2, ![128, 640]⟩
abbrev S1x1x256x1 : Shape := ⟨4, ![1, 1, 256, 1]⟩
abbrev S1x1 : Shape := ⟨2, ![1, 1]⟩
abbrev S8x1 : Shape := ⟨2, ![8, 1]⟩

abbrev nBuf : Space → Nat
  | .hbm => 95
  | .vmem => 45
  | .smem => 1
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S256x128, .f32⟩
  | .hbm, ⟨4, _⟩ => ⟨S256x128, .f32⟩
  | .hbm, ⟨5, _⟩ => ⟨S8, .f32⟩
  | .hbm, ⟨6, _⟩ => ⟨S4096x512, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S_, .i32⟩
  | .hbm, ⟨23, _⟩ => ⟨S_, .i1⟩
  | .hbm, ⟨24, _⟩ => ⟨S512, .i1⟩
  | .hbm, ⟨25, _⟩ => ⟨S512, .i1⟩
  | .hbm, ⟨26, _⟩ => ⟨S512, .i1⟩
  | .hbm, ⟨27, _⟩ => ⟨S512, .i32⟩
  | .hbm, ⟨28, _⟩ => ⟨S512, .i32⟩
  | .hbm, ⟨29, _⟩ => ⟨S512, .i32⟩
  | .hbm, ⟨30, _⟩ => ⟨S_, .i32⟩
  | .hbm, ⟨31, _⟩ => ⟨S512, .i32⟩
  | .hbm, ⟨32, _⟩ => ⟨S512, .i1⟩
  | .hbm, ⟨33, _⟩ => ⟨S1x512, .i1⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S_, .f32⟩
  | .hbm, ⟨39, _⟩ => ⟨S4096x512, .i1⟩
  | .hbm, ⟨40, _⟩ => ⟨S4096x512, .f32⟩
  | .hbm, ⟨41, _⟩ => ⟨S4096x512, .f32⟩
  | .hbm, ⟨42, _⟩ => ⟨S4096x512, .bf16⟩
  | .hbm, ⟨43, _⟩ => ⟨S_, .f32⟩
  | .hbm, ⟨44, _⟩ => ⟨S_, .f32⟩
  | .hbm, ⟨45, _⟩ => ⟨S4096x512, .i1⟩
  | .hbm, ⟨46, _⟩ => ⟨S4096x512, .f32⟩
  | .hbm, ⟨47, _⟩ => ⟨S4096x512, .f32⟩
  | .hbm, ⟨48, _⟩ => ⟨S4096x512, .bf16⟩
  | .hbm, ⟨49, _⟩ => ⟨S4096x128, .bf16⟩
  | .hbm, ⟨50, _⟩ => ⟨S4096x64, .f32⟩
  | .hbm, ⟨51, _⟩ => ⟨S4096x64, .f32⟩
  | .hbm, ⟨52, _⟩ => ⟨S4096x128, .f32⟩
  | .hbm, ⟨53, _⟩ => ⟨S4096x128, .bf16⟩
  | .hbm, ⟨54, _⟩ => ⟨S4096x128, .bf16⟩
  | .hbm, ⟨55, _⟩ => ⟨S4096x64, .f32⟩
  | .hbm, ⟨56, _⟩ => ⟨S4096x64, .f32⟩
  | .hbm, ⟨57, _⟩ => ⟨S4096x128, .f32⟩
  | .hbm, ⟨58, _⟩ => ⟨S4096x128, .bf16⟩
  | .hbm, ⟨59, _⟩ => ⟨S256x128, .bf16⟩
  | .hbm, ⟨60, _⟩ => ⟨S256x64, .f32⟩
  | .hbm, ⟨61, _⟩ => ⟨S256x64, .f32⟩
  | .hbm, ⟨62, _⟩ => ⟨S256x128, .f32⟩
  | .hbm, ⟨63, _⟩ => ⟨S256x128, .bf16⟩
  | .hbm, ⟨64, _⟩ => ⟨S256x128, .bf16⟩
  | .hbm, ⟨65, _⟩ => ⟨S256x64, .f32⟩
  | .hbm, ⟨66, _⟩ => ⟨S256x64, .f32⟩
  | .hbm, ⟨67, _⟩ => ⟨S256x128, .f32⟩
  | .hbm, ⟨68, _⟩ => ⟨S256x128, .bf16⟩
  | .hbm, ⟨69, _⟩ => ⟨S_, .i32⟩
  | .hbm, ⟨70, _⟩ => ⟨S_, .bf16⟩
  | .hbm, ⟨71, _⟩ => ⟨S4352x128, .bf16⟩
  | .hbm, ⟨72, _⟩ => ⟨S_, .i32⟩
  | .hbm, ⟨73, _⟩ => ⟨S_, .bf16⟩
  | .hbm, ⟨74, _⟩ => ⟨S4352x128, .bf16⟩
  | .hbm, ⟨75, _⟩ => ⟨S_, .i32⟩
  | .hbm, ⟨76, _⟩ => ⟨S_, .bf16⟩
  | .hbm, ⟨77, _⟩ => ⟨S4352x128, .bf16⟩
  | .hbm, ⟨78, _⟩ => ⟨S_, .i32⟩
  | .hbm, ⟨79, _⟩ => ⟨S_, .bf16⟩
  | .hbm, ⟨80, _⟩ => ⟨S4352x128, .bf16⟩
  | .hbm, ⟨81, _⟩ => ⟨S4096x512, .bf16⟩
  | .hbm, ⟨82, _⟩ => ⟨S32x4x256x640, .bf16⟩
  | .hbm, ⟨83, _⟩ => ⟨S32x4x256x128, .f32⟩
  | .hbm, ⟨84, _⟩ => ⟨S4096x512, .f32⟩
  | .hbm, ⟨85, _⟩ => ⟨S4352x128, .f32⟩
  | .hbm, ⟨86, _⟩ => ⟨S4352x128, .f32⟩
  | .hbm, ⟨87, _⟩ => ⟨S256x128, .f32⟩
  | .hbm, ⟨88, _⟩ => ⟨S256x128, .f32⟩
  | .hbm, ⟨89, _⟩ => ⟨S8x128, .f32⟩
  | .hbm, ⟨90, _⟩ => ⟨S4096x512, .f32⟩
  | .hbm, ⟨91, _⟩ => ⟨S4096x128, .f32⟩
  | .hbm, ⟨92, _⟩ => ⟨S4096x128, .f32⟩
  | .hbm, ⟨93, _⟩ => ⟨S8x1, .f32⟩
  | .hbm, ⟨94, _⟩ => ⟨S8, .f32⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S4352x128, .bf16⟩
  | .local _ .vmem, ⟨5, _⟩ => ⟨S4352x128, .bf16⟩
  | .local _ .vmem, ⟨6, _⟩ => ⟨S4352x128, .bf16⟩
  | .local _ .vmem, ⟨7, _⟩ => ⟨S4352x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S128x512, .bf16⟩
  | .local _ .vmem, ⟨13, _⟩ => ⟨S128x512, .bf16⟩
  | .local _ .vmem, ⟨14, _⟩ => ⟨S1x4x256x640, .bf16⟩
  | .local _ .vmem, ⟨15, _⟩ => ⟨S1x4x256x640, .bf16⟩
  | .local _ .vmem, ⟨16, _⟩ => ⟨S1x4x256x128, .f32⟩
  | .local _ .vmem, ⟨17, _⟩ => ⟨S1x4x256x128, .f32⟩
  | .local _ .vmem, ⟨18, _⟩ => ⟨S128x512, .bf16⟩
  | .local _ .vmem, ⟨19, _⟩ => ⟨S128x512, .bf16⟩
  | .local _ .vmem, ⟨20, _⟩ => ⟨S128x512, .bf16⟩
  | .local _ .vmem, ⟨21, _⟩ => ⟨S128x512, .bf16⟩
  | .local _ .vmem, ⟨22, _⟩ => ⟨S4352x128, .bf16⟩
  | .local _ .vmem, ⟨23, _⟩ => ⟨S4352x128, .bf16⟩
  | .local _ .vmem, ⟨24, _⟩ => ⟨S4352x128, .bf16⟩
  | .local _ .vmem, ⟨25, _⟩ => ⟨S4352x128, .bf16⟩
  | .local _ .vmem, ⟨26, _⟩ => ⟨S256x128, .bf16⟩
  | .local _ .vmem, ⟨27, _⟩ => ⟨S256x128, .bf16⟩
  | .local _ .vmem, ⟨28, _⟩ => ⟨S256x128, .bf16⟩
  | .local _ .vmem, ⟨29, _⟩ => ⟨S256x128, .bf16⟩
  | .local _ .vmem, ⟨30, _⟩ => ⟨S1x4x256x640, .bf16⟩
  | .local _ .vmem, ⟨31, _⟩ => ⟨S1x4x256x640, .bf16⟩
  | .local _ .vmem, ⟨32, _⟩ => ⟨S1x4x256x128, .f32⟩
  | .local _ .vmem, ⟨33, _⟩ => ⟨S1x4x256x128, .f32⟩
  | .local _ .vmem, ⟨34, _⟩ => ⟨S128x512, .bf16⟩
  | .local _ .vmem, ⟨35, _⟩ => ⟨S128x512, .bf16⟩
  | .local _ .vmem, ⟨36, _⟩ => ⟨S128x512, .f32⟩
  | .local _ .vmem, ⟨37, _⟩ => ⟨S128x512, .f32⟩
  | .local _ .vmem, ⟨38, _⟩ => ⟨S128x512, .f32⟩
  | .local _ .vmem, ⟨39, _⟩ => ⟨S128x512, .f32⟩
  | .local _ .vmem, ⟨40, _⟩ => ⟨S4352x128, .f32⟩
  | .local _ .vmem, ⟨41, _⟩ => ⟨S4352x128, .f32⟩
  | .local _ .vmem, ⟨42, _⟩ => ⟨S256x128, .f32⟩
  | .local _ .vmem, ⟨43, _⟩ => ⟨S256x128, .f32⟩
  | .local _ .vmem, ⟨44, _⟩ => ⟨S8x128, .f32⟩
  | .local _ .smem, ⟨0, _⟩ => ⟨S8, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .smem, ⟨0, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v1 : Ref sig .tc := ⟨.hbm, 29, rfl⟩
abbrev main_c_0 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_cst : Ref sig .tc := ⟨.hbm, 34, rfl⟩
abbrev main_v5 : Ref sig .tc := ⟨.hbm, 35, rfl⟩
abbrev main_v6 : Ref sig .tc := ⟨.hbm, 36, rfl⟩
abbrev main_cst_1 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v7 : Ref sig .tc := ⟨.hbm, 41, rfl⟩
abbrev main_v8 : Ref sig .tc := ⟨.hbm, 42, rfl⟩
abbrev main_cst_2 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_c_3 : Ref sig .tc := ⟨.hbm, 69, rfl⟩
abbrev main_call3_v0 : Ref sig .tc := ⟨.hbm, 70, rfl⟩
abbrev main_v31 : Ref sig .tc := ⟨.hbm, 71, rfl⟩
abbrev main_c_4 : Ref sig .tc := ⟨.hbm, 72, rfl⟩
abbrev main_call4_v0 : Ref sig .tc := ⟨.hbm, 73, rfl⟩
abbrev main_v32 : Ref sig .tc := ⟨.hbm, 74, rfl⟩
abbrev main_c_5 : Ref sig .tc := ⟨.hbm, 75, rfl⟩
abbrev main_call5_v0 : Ref sig .tc := ⟨.hbm, 76, rfl⟩
abbrev main_v33 : Ref sig .tc := ⟨.hbm, 77, rfl⟩
abbrev main_c_6 : Ref sig .tc := ⟨.hbm, 78, rfl⟩
abbrev main_call6_v0 : Ref sig .tc := ⟨.hbm, 79, rfl⟩
abbrev main_v34 : Ref sig .tc := ⟨.hbm, 80, rfl⟩
abbrev main_v35_0 : Ref sig .tc := ⟨.hbm, 81, rfl⟩
abbrev main_v35_1 : Ref sig .tc := ⟨.hbm, 82, rfl⟩
abbrev main_v35_2 : Ref sig .tc := ⟨.hbm, 83, rfl⟩
abbrev main_v36_0 : Ref sig .tc := ⟨.hbm, 84, rfl⟩
abbrev main_v36_1 : Ref sig .tc := ⟨.hbm, 85, rfl⟩
abbrev main_v36_2 : Ref sig .tc := ⟨.hbm, 86, rfl⟩
abbrev main_v36_3 : Ref sig .tc := ⟨.hbm, 87, rfl⟩
abbrev main_v36_4 : Ref sig .tc := ⟨.hbm, 88, rfl⟩
abbrev main_v36_5 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg10_1 : Ref sig .tc := ⟨.vmem, 31, rfl⟩
abbrev cc1_stg11_0 : Ref sig .tc := ⟨.vmem, 32, rfl⟩
abbrev cc1_stg11_1 : Ref sig .tc := ⟨.vmem, 33, rfl⟩
abbrev cc1_stg12_0 : Ref sig .tc := ⟨.vmem, 34, rfl⟩
abbrev cc1_stg12_1 : Ref sig .tc := ⟨.vmem, 35, rfl⟩
abbrev cc1_stg13_0 : Ref sig .tc := ⟨.vmem, 36, rfl⟩
abbrev cc1_stg13_1 : Ref sig .tc := ⟨.vmem, 37, rfl⟩
abbrev cc1_stg14_0 : Ref sig .tc := ⟨.vmem, 38, rfl⟩
abbrev cc1_stg14_1 : Ref sig .tc := ⟨.vmem, 39, rfl⟩
abbrev cc1_stg15_0 : Ref sig .tc := ⟨.vmem, 40, rfl⟩
abbrev cc1_stg16_0 : Ref sig .tc := ⟨.vmem, 41, rfl⟩
abbrev cc1_stg17_0 : Ref sig .tc := ⟨.vmem, 42, rfl⟩
abbrev cc1_stg18_0 : Ref sig .tc := ⟨.vmem, 43, rfl⟩
abbrev cc1_stg19_0 : Ref sig .tc := ⟨.vmem, 44, rfl⟩
abbrev cc0_stg10_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem10_0 : DmaSem sig := 31
abbrev cc1_sem10_1 : DmaSem sig := 32
abbrev cc1_sem11_0 : DmaSem sig := 33
abbrev cc1_sem11_1 : DmaSem sig := 34
abbrev cc1_sem12_0 : DmaSem sig := 35
abbrev cc1_sem12_1 : DmaSem sig := 36
abbrev cc1_sem13_0 : DmaSem sig := 37
abbrev cc1_sem13_1 : DmaSem sig := 38
abbrev cc1_sem14_0 : DmaSem sig := 39
abbrev cc1_sem14_1 : DmaSem sig := 40
abbrev cc1_sem15_0 : DmaSem sig := 41
abbrev cc1_sem16_0 : DmaSem sig := 42
abbrev cc1_sem17_0 : DmaSem sig := 43
abbrev cc1_sem18_0 : DmaSem sig := 44
abbrev cc1_sem19_0 : DmaSem sig := 45

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
def k0_off1 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v4 : Index := Scalar.indexCast v1
  let c0_1 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4352x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4352x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4352x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4352x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .smem S8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x256x640 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![32], ![false]⟩

def k1_mult1 (i : grid1.Coords) : BitVec 32 :=
  let arg0 : BitVec 32 := BitVec.ofNat 32 (i 0).val
  let c128_i32 : BitVec 32 := 128#32
  let v3 : BitVec 32 := Scalar.muli arg0 c128_i32
  v3
def k1_off1 (i : grid1.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v7 : Index := Scalar.indexCast v4
  let c0_2 : Index := 0#32
  ![v7.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_11 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4352x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4352x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4352x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4352x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S1x4x256x640 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x4x256x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S128x512 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S128x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S128x512 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 1 → Memref sig .tc .vmem S4352x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S4352x128 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S256x128 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S256x128 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S8x128 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]
-- ==== KernelIdeal.lean ====
variable {F : FTy → Type} [FloatOps F] [Named F]
def κ : String → Option EReal := fun
  | "mask" => some ⊥
  | _ => none
-- ==== ReferenceIdeal.lean ====
abbrev S4096x512 : Shape := ⟨2, ![4096, 512]⟩
abbrev S4096x128 : Shape := ⟨2, ![4096, 128]⟩
abbrev S256x128 : Shape := ⟨2, ![256, 128]⟩
abbrev S8 : Shape := ⟨1, ![8]⟩
abbrev S4096x2x4x64 : Shape := ⟨4, ![4096, 2, 4, 64]⟩
abbrev S2x4 : Shape := ⟨2, ![2, 4]⟩
abbrev S4096x2x64 : Shape := ⟨3, ![4096, 2, 64]⟩
abbrev S256x2x64 : Shape := ⟨3, ![256, 2, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S2x4x1x1 : Shape := ⟨4, ![2, 4, 1, 1]⟩
abbrev S2x4x4096x1 : Shape := ⟨4, ![2, 4, 4096, 1]⟩
abbrev S2x4096x4096x4 : Shape := ⟨4, ![2, 4096, 4096, 4]⟩
abbrev S2x4x4096x4096 : Shape := ⟨4, ![2, 4, 4096, 4096]⟩
abbrev S2x256x4096x4 : Shape := ⟨4, ![2, 256, 4096, 4]⟩
abbrev S2x4x4096x256 : Shape := ⟨4, ![2, 4, 4096, 256]⟩
abbrev S2x4x4096x4353 : Shape := ⟨4, ![2, 4, 4096, 4353]⟩
abbrev S2x4x4096 : Shape := ⟨3, ![2, 4, 4096]⟩
abbrev S2x64x4x4096 : Shape := ⟨4, ![2, 64, 4, 4096]⟩
abbrev S2x64x4096 : Shape := ⟨3, ![2, 64, 4096]⟩
abbrev S2x64x256 : Shape := ⟨3, ![2, 64, 256]⟩
abbrev S2x4096x4x64 : Shape := ⟨4, ![2, 4096, 4, 64]⟩
abbrev S2x256x64 : Shape := ⟨3, ![2, 256, 64]⟩
abbrev S2x4096x64 : Shape := ⟨3, ![2, 4096, 64]⟩

abbrev nBuf : Space → Nat
  | .hbm => 151
  | .vmem => 0
  | .smem => 0
  | _ => 0

abbrev hbmTy0_0 (i : Nat) : BufTy := match i % 128 with
  | 0 => ⟨S4096x512, .f32⟩
  | 1 => ⟨S4096x128, .f32⟩
  | 2 => ⟨S4096x128, .f32⟩
  | 3 => ⟨S256x128, .f32⟩
  | 4 => ⟨S256x128, .f32⟩
  | 5 => ⟨S8, .f32⟩
  | 6 => ⟨S4096x512, .f32⟩
  | 7 => ⟨S4096x2x4x64, .f32⟩
  | 8 => ⟨S2x4, .f32⟩
  | 9 => ⟨S4096x2x64, .f32⟩
  | 10 => ⟨S4096x2x64, .f32⟩
  | 11 => ⟨S256x2x64, .f32⟩
  | 12 => ⟨S256x2x64, .f32⟩
  | 13 => ⟨S4096, .i32⟩
  | 14 => ⟨S4096x1, .i32⟩
  | 15 => ⟨S1x4096, .i32⟩
  | 16 => ⟨S4096x4096, .i32⟩
  | 17 => ⟨S4096x4096, .i32⟩
  | 18 => ⟨S4096x4096, .i32⟩
  | 19 => ⟨S4096x4096, .i32⟩
  | 20 => ⟨S_, .i32⟩
  | 21 => ⟨S4096x4096, .i32⟩
  | 22 => ⟨S4096x4096, .i1⟩
  | 23 => ⟨S2x4x1x1, .f32⟩
  | 24 => ⟨S2x4x4096x1, .f32⟩
  | 25 => ⟨S2x4096x4096x4, .f32⟩
  | 26 => ⟨S2x4x4096x4096, .f32⟩
  | 27 => ⟨S_, .f32⟩
  | 28 => ⟨S2x4x4096x4096, .f32⟩
  | 29 => ⟨S2x4x4096x4096, .f32⟩
  | 30 => ⟨S_, .f32⟩
  | 31 => ⟨S_, .f32⟩
  | 32 => ⟨S2x4x4096x4096, .i1⟩
  | 33 => ⟨S2x4x4096x4096, .f32⟩
  | 34 => ⟨S2x4x4096x4096, .f32⟩
  | 35 => ⟨S_, .f32⟩
  | 36 => ⟨S2x4x4096x4096, .f32⟩
  | 37 => ⟨S2x256x4096x4, .f32⟩
  | 38 => ⟨S2x4x4096x256, .f32⟩
  | 39 => ⟨S_, .f32⟩
  | 40 => ⟨S2x4x4096x256, .f32⟩
  | 41 => ⟨S2x4x4096x256, .f32⟩
  | 42 => ⟨S2x4x4096x4353, .f32⟩
  | 43 => ⟨S_, .f32⟩
  | 44 => ⟨S2x4x4096, .f32⟩
  | 45 => ⟨S2x4x4096x1, .f32⟩
  | 46 => ⟨S2x4x4096x4353, .f32⟩
  | 47 => ⟨S2x4x4096x4353, .i1⟩
  | 48 => ⟨S2x4x4096x4353, .f32⟩
  | 49 => ⟨S_, .f32⟩
  | 50 => ⟨S2x4x4096, .f32⟩
  | 51 => ⟨S_, .f32⟩
  | 52 => ⟨S2x4x4096, .f32⟩
  | 53 => ⟨S2x4x4096, .f32⟩
  | 54 => ⟨S_, .f32⟩
  | 55 => ⟨S2x4x4096, .f32⟩
  | 56 => ⟨S2x4x4096, .i1⟩
  | 57 => ⟨S_, .f32⟩
  | 58 => ⟨S2x4x4096, .f32⟩
  | 59 => ⟨S2x4x4096, .i1⟩
  | 60 => ⟨S_, .f32⟩
  | 61 => ⟨S2x4x4096, .f32⟩
  | 62 => ⟨S_, .f32⟩
  | 63 => ⟨S2x4x4096, .f32⟩
  | 64 => ⟨S_, .f32⟩
  | 65 => ⟨S2x4x4096, .f32⟩
  | 66 => ⟨S2x4x4096, .f32⟩
  | 67 => ⟨S2x4x4096, .f32⟩
  | 68 => ⟨S2x4x4096x1, .f32⟩
  | 69 => ⟨S2x4x4096x4353, .f32⟩
  | 70 => ⟨S2x4x4096x4353, .f32⟩
  | 71 => ⟨S2x4x4096x4353, .f32⟩
  | 72 => ⟨S_, .f32⟩
  | 73 => ⟨S2x4x4096, .f32⟩
  | 74 => ⟨S2x4x4096x1, .f32⟩
  | 75 => ⟨S2x4x4096x4353, .f32⟩
  | 76 => ⟨S2x4x4096x4353, .f32⟩
  | 77 => ⟨S2x4x4096x1, .f32⟩
  | 78 => ⟨S_, .f32⟩
  | 79 => ⟨S2x4x4096x1, .f32⟩
  | 80 => ⟨S2x4x4096x1, .f32⟩
  | 81 => ⟨S2x4x4096x256, .f32⟩
  | 82 => ⟨S2x64x4x4096, .f32⟩
  | 83 => ⟨S4096x2x4x64, .f32⟩
  | 84 => ⟨S2x4x4096x4096, .f32⟩
  | 85 => ⟨S2x64x4x4096, .f32⟩
  | 86 => ⟨S4096x2x4x64, .f32⟩
  | 87 => ⟨S4096x2x4x64, .f32⟩
  | 88 => ⟨S4096x512, .f32⟩
  | 89 => ⟨S4096x2x4x64, .f32⟩
  | 90 => ⟨S2x64x4x4096, .f32⟩
  | 91 => ⟨S2x4x4096x4096, .f32⟩
  | 92 => ⟨S2x64x4096, .f32⟩
  | 93 => ⟨S4096x2x64, .f32⟩
  | 94 => ⟨S_, .f32⟩
  | 95 => ⟨S2x4x4096x4353, .f32⟩
  | 96 => ⟨S2x64x4x4096, .f32⟩
  | 97 => ⟨S2x4x4096x256, .f32⟩
  | 98 => ⟨S2x64x256, .f32⟩
  | 99 => ⟨S256x2x64, .f32⟩
  | 100 => ⟨S_, .f32⟩
  | 101 => ⟨S2x4x4096x4353, .f32⟩
  | 102 => ⟨S2x4x4096x4353, .f32⟩
  | 103 => ⟨S2x4x4096x4353, .f32⟩
  | 104 => ⟨S2x4x4096x4353, .f32⟩
  | 105 => ⟨S2x4x4096x4353, .f32⟩
  | 106 => ⟨S_, .f32⟩
  | 107 => ⟨S2x4x4096, .f32⟩
  | 108 => ⟨S2x4x4096x1, .f32⟩
  | 109 => ⟨S2x4x4096x1, .f32⟩
  | 110 => ⟨S2x4x4096x4353, .f32⟩
  | 111 => ⟨S2x4x4096x4353, .f32⟩
  | 112 => ⟨S_, .f32⟩
  | 113 => ⟨S2x4x4096, .f32⟩
  | 114 => ⟨S2x4x4096x4353, .f32⟩
  | 115 => ⟨S2x4x4096x4353, .f32⟩
  | 116 => ⟨S2x4x4096x4353, .f32⟩
  | 117 => ⟨S2x4x4096x1, .f32⟩
  | 118 => ⟨S2x4x4096x256, .f32⟩
  | 119 => ⟨S2x4x4096x4096, .f32⟩
  | 120 => ⟨S_, .f32⟩
  | 121 => ⟨S2x4x4096x256, .f32⟩
  | 122 => ⟨S2x4x4096x256, .f32⟩
  | 123 => ⟨S2x256x4096x4, .f32⟩
  | 124 => ⟨S2x4096x4x64, .f32⟩
  | 125 => ⟨S4096x2x4x64, .f32⟩
  | 126 => ⟨S2x256x64, .f32⟩
  | 127 => ⟨S256x2x64, .f32⟩
  | _ => ⟨S4096x512, .f32⟩

abbrev hbmTy0_1 (i : Nat) : BufTy := match i % 128 with
  | 0 => ⟨S_, .f32⟩
  | 1 => ⟨S2x4x4096x4096, .f32⟩
  | 2 => ⟨S2x4x4096x4096, .f32⟩
  | 3 => ⟨S_, .f32⟩
  | 4 => ⟨S2x4x4096x4096, .f32⟩
  | 5 => ⟨S2x4x4096x4096, .f32⟩
  | 6 => ⟨S2x4096x4096x4, .f32⟩
  | 7 => ⟨S2x4096x4x64, .f32⟩
  | 8 => ⟨S4096x2x4x64, .f32⟩
  | 9 => ⟨S4096x2x4x64, .f32⟩
  | 10 => ⟨S2x4096x64, .f32⟩
  | 11 => ⟨S4096x2x64, .f32⟩
  | 12 => ⟨S_, .f32⟩
  | 13 => ⟨S2x4, .f32⟩
  | 14 => ⟨S2x4x1x1, .f32⟩
  | 15 => ⟨S_, .f32⟩
  | 16 => ⟨S2x4, .f32⟩
  | 17 => ⟨S256x128, .f32⟩
  | 18 => ⟨S256x128, .f32⟩
  | 19 => ⟨S4096x128, .f32⟩
  | 20 => ⟨S4096x128, .f32⟩
  | 21 => ⟨S8, .f32⟩
  | 22 => ⟨S4096x512, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_call0_v0 : Ref sig .tc := ⟨.hbm, 31, rfl⟩
abbrev main_v21_1 : Ref sig .tc := ⟨.hbm, 32, rfl⟩
abbrev main_call0_v2 : Ref sig .tc := ⟨.hbm, 33, rfl⟩
abbrev main_v21_0 : Ref sig .tc := ⟨.hbm, 34, rfl⟩
abbrev main_call0_cst : Ref sig .tc := ⟨.hbm, 35, rfl⟩
abbrev main_v21_2 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_cst_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_12 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_13 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_14 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_15 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_16 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_call1_cst : Ref sig .tc := ⟨.hbm, 128, rfl⟩
abbrev main_call1_v0 : Ref sig .tc := ⟨.hbm, 129, rfl⟩
abbrev main_v97 : Ref sig .tc := ⟨.hbm, 130, rfl⟩
abbrev main_cst_17 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_18 : Ref sig .tc := ⟨.hbm, 140, rfl⟩
abbrev main_v106 : Ref sig .tc := ⟨.hbm, 141, rfl⟩
abbrev main_v107 : Ref sig .tc := ⟨.hbm, 142, rfl⟩
abbrev main_cst_19 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩

abbrev nD : Nat := 1
abbrev τ : Topo := Topo.v7x

variable {F : FTy → Type} [FloatOps F]

def κ : String → Option EReal := fun
  | "mask" => some ⊥
  | _ => none
-- ==== Kernel2.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S8x1024 : Shape := ⟨2, ![8, 1024]⟩
abbrev S512x2816 : Shape := ⟨2, ![512, 2816]⟩
abbrev S512x1024 : Shape := ⟨2, ![512, 1024]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x2816, .bf16⟩
  | .hbm, ⟨7, _⟩ => ⟨S4096x1024, .bf16⟩
  | .hbm, ⟨8, _⟩ => ⟨S8x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x2816, .bf16⟩
  | .local _ .vmem, ⟨11, _⟩ => ⟨S512x2816, .bf16⟩
  | .local _ .vmem, ⟨12, _⟩ => ⟨S512x1024, .bf16⟩
  | .local _ .vmem, ⟨13, _⟩ => ⟨S512x1024, .bf16⟩
  | .local _ .vmem, ⟨14, _⟩ => ⟨S8x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S1024 : Shape := ⟨1, ![1024]⟩
abbrev S6x1024 : Shape := ⟨2, ![6, 1024]⟩
abbrev S8x1024 : Shape := ⟨2, ![8, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x2816, .f32⟩
  | .hbm, ⟨49, _⟩ => ⟨S4096x2816, .bf16⟩
  | .hbm, ⟨50, _⟩ => ⟨S4096x1024, .bf16⟩
  | .hbm, ⟨51, _⟩ => ⟨S_, .f32⟩
  | .hbm, ⟨52, _⟩ => ⟨S6x1024, .f32⟩
  | .hbm, ⟨53, _⟩ => ⟨S8x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_cst_4 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]
-- ==== Kernel3.lean ====
abbrev S4096x1024 : Shape := ⟨2, ![4096, 1024]⟩
abbrev S2x4096x2816 : Shape := ⟨3, ![2, 4096, 2816]⟩
abbrev S4x1024x1408 : Shape := ⟨3, ![4, 1024, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S1x4096x2816, .bf16⟩
  | .hbm, ⟨3, _⟩ => ⟨S4096x2816, .bf16⟩
  | .hbm, ⟨4, _⟩ => ⟨S1x4096x2816, .bf16⟩
  | .hbm, ⟨5, _⟩ => ⟨S4096x2816, .bf16⟩
  | .hbm, ⟨6, _⟩ => ⟨S4096x5632, .bf16⟩
  | .hbm, ⟨7, _⟩ => ⟨S_, .f32⟩
  | .hbm, ⟨8, _⟩ => ⟨S1024x5632, .f32⟩
  | .hbm, ⟨9, _⟩ => ⟨S4096x1024, .f32⟩
  | .hbm, ⟨10, _⟩ => ⟨S4096x5632, .f32⟩
  | .hbm, ⟨11, _⟩ => ⟨S4096x5632, .f32⟩
  | .hbm, ⟨12, _⟩ => ⟨S5632x1024, .f32⟩
  | .hbm, ⟨13, _⟩ => ⟨S1024x5632, .f32⟩
  | .hbm, ⟨14, _⟩ => ⟨S1024x5632, .bf16⟩
  | .hbm, ⟨15, _⟩ => ⟨S1024x4x1408, .bf16⟩
  | .hbm, ⟨16, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel4.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1x1024 : Shape := ⟨2, ![1, 1024]⟩
abbrev S8x1024 : Shape := ⟨2, ![8, 1024]⟩
abbrev S1x512x2816 : Shape := ⟨3, ![1, 512, 2816]⟩
abbrev S2x1024x1408 : Shape := ⟨3, ![2, 1024, 1408]⟩
abbrev S512x1024 : Shape := ⟨2, ![512, 1024]⟩
abbrev S1x512x1408 : Shape := ⟨3, ![1, 512, 1408]⟩
abbrev S512x1408 : Shape := ⟨2, ![512, 1408]⟩
abbrev S1x1024x1408 : Shape := ⟨3, ![1, 1024, 1408]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 11
  | .vmem => 19
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S8x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S2x1024x1408, .bf16⟩
  | .local _ .vmem, ⟨3, _⟩ => ⟨S2x1024x1408, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S8x1024, .f32⟩
  | .local _ .vmem, ⟨18, _⟩ => ⟨S512x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v24 : BitVec 1 := Scalar.cmpi .eq arg1 c1_i32
  let v25 : BitVec 32 := Scalar.extui v24
  let c0_i32_18 : BitVec 32 := 0#32
  let v26 : BitVec 1 := Scalar.cmpi .ne v25 c0_i32_18
  v26

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference4Ideal.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1x1024 : Shape := ⟨2, ![1, 1024]⟩
abbrev S1024x4x1408 : Shape := ⟨3, ![1024, 4, 1408]⟩
abbrev S1024x5632 : Shape := ⟨2, ![1024, 5632]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024 : Shape := ⟨1, ![1024]⟩
abbrev S4x1024 : Shape := ⟨2, ![4, 1024]⟩
abbrev S8x1024 : Shape := ⟨2, ![8, 1024]⟩

abbrev nBuf : Space → Nat
  | .hbm => 93
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4x1024x1408, .f32⟩
  | .hbm, ⟨9, _⟩ => ⟨S1024x4x1408, .f32⟩
  | .hbm, ⟨10, _⟩ => ⟨S1024x5632, .f32⟩
  | .hbm, ⟨11, _⟩ => ⟨S1x4096x2816, .bf16⟩
  | .hbm, ⟨12, _⟩ => ⟨S4096x2816, .bf16⟩
  | .hbm, ⟨13, _⟩ => ⟨S1x4096x2816, .bf16⟩
  | .hbm, ⟨14, _⟩ => ⟨S4096x2816, .bf16⟩
  | .hbm, ⟨15, _⟩ => ⟨S4096x5632, .bf16⟩
  | .hbm, ⟨16, _⟩ => ⟨S4096x5632, .f32⟩
  | .hbm, ⟨17, _⟩ => ⟨S_, .f32⟩
  | .hbm, ⟨18, _⟩ => ⟨S1x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x5632, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S4096x1024, .bf16⟩
  | .hbm, ⟨90, _⟩ => ⟨S_, .f32⟩
  | .hbm, ⟨91, _⟩ => ⟨S4x1024, .f32⟩
  | .hbm, ⟨92, _⟩ => ⟨S8x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_11 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_12 : Ref sig .tc := ⟨.hbm, 90, rfl⟩
abbrev main_v69 : Ref sig .tc := ⟨.hbm, 91, rfl⟩
abbrev main_v70 : Ref sig .tc := ⟨.hbm, 92, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x1024 : Shape := ⟨2, ![4096, 1024]⟩
abbrev S4096x1792 : Shape := ⟨2, ![4096, 1792]⟩
abbrev S1024x256 : Shape := ⟨2, ![1024, 256]⟩
abbrev S1024x1792 : Shape := ⟨2, ![1024, 1792]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1792, .bf16⟩
  | .hbm, ⟨2, _⟩ => ⟨S1024x256, .f32⟩
  | .hbm, ⟨3, _⟩ => ⟨S1024x1792, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1792, .bf16⟩
  | .local _ .vmem, ⟨3, _⟩ => ⟨S1024x1792, .bf16⟩
  | .local _ .vmem, ⟨4, _⟩ => ⟨S1024x256, .f32⟩
  | .local _ .vmem, ⟨5, _⟩ => ⟨S1024x1792, .bf16⟩
  | .local _ .vmem, ⟨6, _⟩ => ⟨S1024x1792, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== Reference7Ideal.lean ====
abbrev S4096x1024 : Shape := ⟨2, ![4096, 1024]⟩
abbrev S4096x1792 : Shape := ⟨2, ![4096, 1792]⟩
abbrev S1024x256 : Shape := ⟨2, ![1024, 256]⟩
abbrev S_ : Shape := ⟨0, ![]⟩
abbrev S1024x512 : Shape := ⟨2, ![1024, 512]⟩
abbrev S1024x1024 : Shape := ⟨2, ![1024, 1024]⟩
abbrev S1024x1792 : Shape := ⟨2, ![1024, 1792]⟩
abbrev S1792x1024 : Shape := ⟨2, ![1792, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1792, .bf16⟩
  | .hbm, ⟨2, _⟩ => ⟨S1024x256, .f32⟩
  | .hbm, ⟨3, _⟩ => ⟨S_, .f32⟩
  | .hbm, ⟨4, _⟩ => ⟨S1024x512, .f32⟩
  | .hbm, ⟨5, _⟩ => ⟨S_, .f32⟩
  | .hbm, ⟨6, _⟩ => ⟨S1024x1024, .f32⟩
  | .hbm, ⟨7, _⟩ => ⟨S1024x1792, .f32⟩
  | .hbm, ⟨8, _⟩ => ⟨S_, .f32⟩
  | .hbm, ⟨9, _⟩ => ⟨S1024x1792, .f32⟩
  | .hbm, ⟨10, _⟩ => ⟨S4096x1024, .f32⟩
  | .hbm, ⟨11, _⟩ => ⟨S4096x1792, .f32⟩
  | .hbm, ⟨12, _⟩ => ⟨S4096x1792, .f32⟩
  | .hbm, ⟨13, _⟩ => ⟨S1792x1024, .f32⟩
  | .hbm, ⟨14, _⟩ => ⟨S1024x1792, .f32⟩
  | .hbm, ⟨15, _⟩ => ⟨S1024x1792, .f32⟩
  | .hbm, ⟨16, _⟩ => ⟨S1024x1792, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel8.lean ====
abbrev S4096x1024 : Shape := ⟨2, ![4096, 1024]⟩
abbrev S1x1024 : Shape := ⟨2, ![1, 1024]⟩
abbrev S4x1024x1408 : Shape := ⟨3, ![4, 1024, 1408]⟩
abbrev S2x4096x2816 : Shape := ⟨3, ![2, 4096, 2816]⟩
abbrev S1024x1024 : Shape := ⟨2, ![1024, 1024]⟩
abbrev S1x1024x1408 : Shape := ⟨3, ![1, 1024, 1408]⟩
abbrev S1024 : Shape := ⟨1, ![1024]⟩
abbrev S1024x1 : Shape := ⟨2, ![1024, 1]⟩
abbrev S1024x1408 : Shape := ⟨2, ![1024, 1408]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4x1024x1408, .bf16⟩
  | .hbm, ⟨5, _⟩ => ⟨S4096x1024, .bf16⟩
  | .hbm, ⟨6, _⟩ => ⟨S2x4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024x1408, .bf16⟩
  | .local _ .vmem, ⟨6, _⟩ => ⟨S1x1024x1408, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024x1408, .bf16⟩
  | .local _ .vmem, ⟨10, _⟩ => ⟨S1x1024x1408, .bf16⟩
  | .local _ .vmem, ⟨11, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference8Ideal.lean ====
abbrev S4096x1024 : Shape := ⟨2, ![4096, 1024]⟩
abbrev S1x1024 : Shape := ⟨2, ![1, 1024]⟩
abbrev S4x1024x1408 : Shape := ⟨3, ![4, 1024, 1408]⟩
abbrev S_ : Shape := ⟨0, ![]⟩
abbrev S4096 : Shape := ⟨1, ![4096]⟩
abbrev S4096x1 : Shape := ⟨2, ![4096, 1]⟩
abbrev S1024x4x1408 : Shape := ⟨3, ![1024, 4, 1408]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4x1024x1408, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S4096x1024, .f32⟩
  | .hbm, ⟨29, _⟩ => ⟨S4x1024x1408, .f32⟩
  | .hbm, ⟨30, _⟩ => ⟨S1024x4x1408, .f32⟩
  | .hbm, ⟨31, _⟩ => ⟨S1024x5632, .f32⟩
  | .hbm, ⟨32, _⟩ => ⟨S4096x5632, .f32⟩
  | .hbm, ⟨33, _⟩ => ⟨S4096x1024, .bf16⟩
  | .hbm, ⟨34, _⟩ => ⟨S4096x2816, .f32⟩
  | .hbm, ⟨35, _⟩ => ⟨S1x4096x2816, .f32⟩
  | .hbm, ⟨36, _⟩ => ⟨S4096x2816, .f32⟩
  | .hbm, ⟨37, _⟩ => ⟨S1x4096x2816, .f32⟩
  | .hbm, ⟨38, _⟩ => ⟨S2x4096x2816, .f32⟩
  | .hbm, ⟨39, _⟩ => ⟨S2x4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Proof.FrameBits.Word.lean ====
/-
  The attention's named constant, the mask, read at bit-exact values as its word.
-/
module

public import proofs.«01_k».proof.Proof.Gen.Kernel
public import proofs.«01_k».proof.Proof.Gen.KernelIdeal
public import proofs.«01_k».proof.Defs

@[expose] public section

noncomputable section

namespace Cert.FrameBits

open Idealize.ShloMosaic

/-- At bit-exact values a named constant is its word. -/
scoped instance word : Named Bits := ⟨fun _ _ {φ} bits => Scalar.ofBits φ bits⟩

end Cert.FrameBits
-- ==== Proof.FrameBits.Parts0.lean ====
/-
  The pieces of the attention's forward body read the same in both programs.
-/
module

public import proofs.«01_k».proof.Proof.FrameBits.Word

@[expose] public section

set_option maxRecDepth 65536

noncomputable section

namespace Cert.FrameBits

open Idealize.ShloMosaic Idealize.SL.Sem

set_option maxHeartbeats 0 in
theorem k0_part1 : Cert.Kernel.k0_part1 (F := Bits) = Cert.KernelIdeal.k0_part1 (F := Bits) := by
  unfold Cert.Kernel.k0_part1 Cert.KernelIdeal.k0_part1
  rfl

set_option maxHeartbeats 0 in
theorem k0_part2 : Cert.Kernel.k0_part2 (F := Bits) = Cert.KernelIdeal.k0_part2 (F := Bits) := by
  unfold Cert.Kernel.k0_part2 Cert.KernelIdeal.k0_part2
  rfl

set_option maxHeartbeats 0 in
theorem k0_part3 : Cert.Kernel.k0_part3 (F := Bits) = Cert.KernelIdeal.k0_part3 (F := Bits) := by
  unfold Cert.Kernel.k0_part3 Cert.KernelIdeal.k0_part3
  rfl

set_option maxHeartbeats 0 in
theorem k0_part4 : Cert.Kernel.k0_part4 (F := Bits) = Cert.KernelIdeal.k0_part4 (F := Bits) := by
  unfold Cert.Kernel.k0_part4 Cert.KernelIdeal.k0_part4
  rfl

set_option maxHeartbeats 0 in
theorem k0_part5 : Cert.Kernel.k0_part5 (F := Bits) = Cert.KernelIdeal.k0_part5 (F := Bits) := by
  unfold Cert.Kernel.k0_part5 Cert.KernelIdeal.k0_part5
  rfl

set_option maxHeartbeats 0 in
theorem k0_part6 : Cert.Kernel.k0_part6 (F := Bits) = Cert.KernelIdeal.k0_part6 (F := Bits) := by
  unfold Cert.Kernel.k0_part6 Cert.KernelIdeal.k0_part6
  rfl

set_option maxHeartbeats 0 in
theorem k0_part7 : Cert.Kernel.k0_part7 (F := Bits) = Cert.KernelIdeal.k0_part7 (F := Bits) := by
  unfold Cert.Kernel.k0_part7 Cert.KernelIdeal.k0_part7
  rfl

end Cert.FrameBits
-- ==== Proof.FrameBits.Parts1.lean ====
/-
  The pieces of the attention's backward body read the same in both programs.
-/
module

public import proofs.«01_k».proof.Proof.FrameBits.Word

@[expose] public section

set_option maxRecDepth 65536

noncomputable section

namespace Cert.FrameBits

open Idealize.ShloMosaic Idealize.SL.Sem

set_option maxHeartbeats 0 in
theorem k1_part1 : Cert.Kernel.k1_part1 (F := Bits) = Cert.KernelIdeal.k1_part1 (F := Bits) := by
  unfold Cert.Kernel.k1_part1 Cert.KernelIdeal.k1_part1
  rfl

set_option maxHeartbeats 0 in
theorem k1_part2 : Cert.Kernel.k1_part2 (F := Bits) = Cert.KernelIdeal.k1_part2 (F := Bits) := by
  unfold Cert.Kernel.k1_part2 Cert.KernelIdeal.k1_part2
  rfl

set_option maxHeartbeats 0 in
theorem k1_part3 : Cert.Kernel.k1_part3 (F := Bits) = Cert.KernelIdeal.k1_part3 (F := Bits) := by
  unfold Cert.Kernel.k1_part3 Cert.KernelIdeal.k1_part3
  rfl

set_option maxHeartbeats 0 in
theorem k1_part4 : Cert.Kernel.k1_part4 (F := Bits) = Cert.KernelIdeal.k1_part4 (F := Bits) := by
  unfold Cert.Kernel.k1_part4 Cert.KernelIdeal.k1_part4
  rfl

set_option maxHeartbeats 0 in
theorem k1_part5 : Cert.Kernel.k1_part5 (F := Bits) = Cert.KernelIdeal.k1_part5 (F := Bits) := by
  unfold Cert.Kernel.k1_part5 Cert.KernelIdeal.k1_part5
  rfl

end Cert.FrameBits
-- ==== Proof.FrameBits.Parts2.lean ====
/-
  The pieces of the attention's backward body read the same in both programs.
-/
module

public import proofs.«01_k».proof.Proof.FrameBits.Word

@[expose] public section

set_option maxRecDepth 65536

noncomputable section

namespace Cert.FrameBits

open Idealize.ShloMosaic Idealize.SL.Sem

set_option maxHeartbeats 0 in
theorem k1_part6 : Cert.Kernel.k1_part6 (F := Bits) = Cert.KernelIdeal.k1_part6 (F := Bits) := by
  unfold Cert.Kernel.k1_part6 Cert.KernelIdeal.k1_part6
  rfl

set_option maxHeartbeats 0 in
theorem k1_part7 : Cert.Kernel.k1_part7 (F := Bits) = Cert.KernelIdeal.k1_part7 (F := Bits) := by
  unfold Cert.Kernel.k1_part7 Cert.KernelIdeal.k1_part7
  rfl

set_option maxHeartbeats 0 in
theorem k1_part8 : Cert.Kernel.k1_part8 (F := Bits) = Cert.KernelIdeal.k1_part8 (F := Bits) := by
  unfold Cert.Kernel.k1_part8 Cert.KernelIdeal.k1_part8
  rfl

set_option maxHeartbeats 0 in
theorem k1_part9 : Cert.Kernel.k1_part9 (F := Bits) = Cert.KernelIdeal.k1_part9 (F := Bits) := by
  unfold Cert.Kernel.k1_part9 Cert.KernelIdeal.k1_part9
  rfl

set_option maxHeartbeats 0 in
theorem k1_part10 : Cert.Kernel.k1_part10 (F := Bits) = Cert.KernelIdeal.k1_part10 (F := Bits) := by
  unfold Cert.Kernel.k1_part10 Cert.KernelIdeal.k1_part10
  rfl

end Cert.FrameBits
-- ==== Proof.FrameBits.Bodies.lean ====
/-
  The attention's bodies and their table read the same in both programs.
-/
module

public import proofs.«01_k».proof.Proof.FrameBits.Parts0
public import proofs.«01_k».proof.Proof.FrameBits.Parts1
public import proofs.«01_k».proof.Proof.FrameBits.Parts2

@[expose] public section

set_option maxRecDepth 65536

noncomputable section

namespace Cert.FrameBits

open Idealize.ShloMosaic Idealize.SL.Sem

set_option maxHeartbeats 0 in
theorem fwd : Cert.Kernel.cc0_attn_fwd (F := Bits) = Cert.KernelIdeal.cc0_attn_fwd (F := Bits) := by
  unfold Cert.Kernel.cc0_attn_fwd Cert.KernelIdeal.cc0_attn_fwd
  simp only [k0_part1, k0_part2, k0_part3, k0_part4, k0_part5, k0_part6, k0_part7]
  rfl

set_option maxHeartbeats 0 in
theorem bwd : Cert.Kernel.cc1_attn_bwd (F := Bits) = Cert.KernelIdeal.cc1_attn_bwd (F := Bits) := by
  unfold Cert.Kernel.cc1_attn_bwd Cert.KernelIdeal.cc1_attn_bwd
  simp only [k1_part1, k1_part2, k1_part3, k1_part4, k1_part5, k1_part6, k1_part7, k1_part8, k1_part9, k1_part10]
  rfl

set_option maxHeartbeats 0 in
theorem table : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) =>
    show Cert.Kernel.cc0_attn_fwd (F := Bits) _ _ _ _ _ _ _ _ _ _ _ _ _ _ _ _ _ _ _ _ _ _ _ _ _ _ _ _ _ = _
    rw [fwd]
    rfl
  | 1, (t, s) =>
    show Cert.Kernel.cc1_attn_bwd (F := Bits) _ _ _ _ _ _ _ _ _ _ _ _ _ _ _ _ _ _ _ _ _ _ _ _ _ _ _ _ _ _ _ _ _ _ _ _ _ _ _ _ _ = _
    rw [bwd]
    rfl
  | ⟨_ + 2, h⟩, _ => exact absurd h (Nat.not_lt.2 (Nat.le_add_left _ _))

set_option maxHeartbeats 0 in
theorem defs_eq : Cert.Kernel.defs (F := Bits) = Cert.KernelIdeal.defs (F := Bits) :=
  congrArg (Pipeline.defs Cert.KernelIdeal.pcfgs) table

end Cert.FrameBits
-- ==== Proof.FrameBits.Main.lean ====
/-
  The attention's host program reads the same at bit-exact values.
-/
module

public import proofs.«01_k».proof.Proof.FrameBits.Word

@[expose] public section

set_option maxRecDepth 65536

noncomputable section

namespace Cert.FrameBits

open Idealize.ShloMosaic Idealize.SL.Sem

set_option maxHeartbeats 0 in
theorem main_eq : Cert.Kernel.main (F := Bits) = Cert.KernelIdeal.main (F := Bits) := by
  unfold Cert.Kernel.main Cert.KernelIdeal.main
  rfl

end Cert.FrameBits
-- ==== Proof.FrameIdeal.BwdA.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_attn_bwd` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not, for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 32 = 0 :=
  (fun t => by
    have ht : t.val < 32 := Nat.lt_of_lt_of_eq t.isLt N_1
    have e0 : (grid1.coords t 0).val = t.val / 1 % 32 := Pipeline.Grid.coords_val t 0 (by decide) rfl
    simp only [cond1_0, e0]
    word_cmp
   : ∀ t : Fin grid1.N, cond1_0 (grid1.coords t) ↔ t.val % 32 = 0)

/-! ## The kernel body on any staging memrefs: a subtype the run finds -/

/-- One staging buffer of output window 14, through which its contents are stated (`View.read_writes_of_cover`: the
    choice does not matter). -/
abbrev VO1_14 : View sig .tc .vmem S128x512 .f32 := (Memref.whole cc1_stg14_0 : Memref sig .tc .vmem S128x512 .f32).view
abbrev VO1_15 : View sig .tc .vmem S4352x128 .f32 := (Memref.whole cc1_stg15_0 : Memref sig .tc .vmem S4352x128 .f32).view
abbrev VO1_16 : View sig .tc .vmem S4352x128 .f32 := (Memref.whole cc1_stg16_0 : Memref sig .tc .vmem S4352x128 .f32).view
abbrev VO1_17 : View sig .tc .vmem S256x128 .f32 := (Memref.whole cc1_stg17_0 : Memref sig .tc .vmem S256x128 .f32).view
abbrev VO1_18 : View sig .tc .vmem S256x128 .f32 := (Memref.whole cc1_stg18_0 : Memref sig .tc .vmem S256x128 .f32).view
abbrev VO1_19 : View sig .tc .vmem S8x128 .f32 := (Memref.whole cc1_stg19_0 : Memref sig .tc .vmem S8x128 .f32).view
/-- Each window's current staging memref at point `t`, spelled as the pipeline passes it (`bodyAt1`), and its wholeness. -/
abbrev ms1_0 (t : Fin cfg1.N) : Memref sig .tc .vmem S128x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4352x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4352x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4352x128 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4352x128 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x128 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x128 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S256x128 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S256x128 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x4x256x640 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x4x256x128 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S128x512 .bf16 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S128x512 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S128x512 .f32 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S4352x128 .f32 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S4352x128 .f32 := win1_16.stage (cfg1.slots t 16)
abbrev hs1_16 (t : Fin cfg1.N) : (ms1_16 t).IsWhole := hstage1_16 ((cfg1.slots t 16).cast nbuf1_16)
abbrev ms1_17 (t : Fin cfg1.N) : Memref sig .tc .vmem S256x128 .f32 := win1_17.stage (cfg1.slots t 17)
abbrev hs1_17 (t : Fin cfg1.N) : (ms1_17 t).IsWhole := hstage1_17 ((cfg1.slots t 17).cast nbuf1_17)
abbrev ms1_18 (t : Fin cfg1.N) : Memref sig .tc .vmem S256x128 .f32 := win1_18.stage (cfg1.slots t 18)
abbrev hs1_18 (t : Fin cfg1.N) : (ms1_18 t).IsWhole := hstage1_18 ((cfg1.slots t 18).cast nbuf1_18)
abbrev ms1_19 (t : Fin cfg1.N) : Memref sig .tc .vmem S8x128 .f32 := win1_19.stage (cfg1.slots t 19)
abbrev hs1_19 (t : Fin cfg1.N) : (ms1_19 t).IsWhole := hstage1_19 ((cfg1.slots t 19).cast nbuf1_19)

set_option maxHeartbeats 8000000 in
/-- What the body's stores leave in each output's staging memref in case A, the first point, as pieces (last first), with the proof that the body runs from the inputs' contents to the continuation that holds the inputs as they were and each output with its pieces written. -/
noncomputable def kernelRun1_A (c : Dev nD) (i : grid1.Coords) (a1 : Memref sig .tc .vmem S128x512 .bf16) (h1 : a1.IsWhole) (a2 : Memref sig .tc .vmem S128x512 .bf16) (h2 : a2.IsWhole) (a3 : Memref sig .tc .vmem S4352x128 .bf16) (h3 : a3.IsWhole) (a4 : Memref sig .tc .vmem S4352x128 .bf16) (h4 : a4.IsWhole) (a5 : Memref sig .tc .vmem S4352x128 .bf16) (h5 : a5.IsWhole) (a6 : Memref sig .tc .vmem S4352x128 .bf16) (h6 : a6.IsWhole) (a7 : Memref sig .tc .vmem S256x128 .bf16) (h7 : a7.IsWhole) (a8 : Memref sig .tc .vmem S256x128 .bf16) (h8 : a8.IsWhole) (a9 : Memref sig .tc .vmem S256x128 .bf16) (h9 : a9.IsWhole) (a10 : Memref sig .tc .vmem S256x128 .bf16) (h10 : a10.IsWhole) (a11 : Memref sig .tc .vmem S1x4x256x640 .bf16) (h11 : a11.IsWhole) (a12 : Memref sig .tc .vmem S1x4x256x128 .f32) (h12 : a12.IsWhole) (a13 : Memref sig .tc .vmem S128x512 .bf16) (h13 : a13.IsWhole) (a14 : Memref sig .tc .vmem S128x512 .f32) (h14 : a14.IsWhole) (a15 : Memref sig .tc .vmem S128x512 .f32) (h15 : a15.IsWhole) (a16 : Memref sig .tc .vmem S4352x128 .f32) (h16 : a16.IsWhole) (a17 : Memref sig .tc .vmem S4352x128 .f32) (h17 : a17.IsWhole) (a18 : Memref sig .tc .vmem S256x128 .f32) (h18 : a18.IsWhole) (a19 : Memref sig .tc .vmem S256x128 .f32) (h19 : a19.IsWhole) (a20 : Memref sig .tc .vmem S8x128 .f32) (h20 : a20.IsWhole) (hc0 : cond1_0 i)
    (x0 : Vec F S128x512 .bf16) (x1 : Vec F S128x512 .bf16) (x2 : Vec F S4352x128 .bf16) (x3 : Vec F S4352x128 .bf16) (x4 : Vec F S4352x128 .bf16) (x5 : Vec F S4352x128 .bf16) (x6 : Vec F S256x128 .bf16) (x7 : Vec F S256x128 .bf16) (x8 : Vec F S256x128 .bf16) (x9 : Vec F S256x128 .bf16) (x10 : Vec F S1x4x256x640 .bf16) (x11 : Vec F S1x4x256x128 .f32) (x12 : Vec F S128x512 .bf16) (x13 : Vec F S128x512 .f32) :
    Σ' (L14 : List (View.Piece (Elt F) S128x512 .f32)), Σ' (L15 : List (View.Piece (Elt F) S4352x128 .f32)), Σ' (L16 : List (View.Piece (Elt F) S4352x128 .f32)), Σ' (L17 : List (View.Piece (Elt F) S256x128 .f32)), Σ' (L18 : List (View.Piece (Elt F) S256x128 .f32)), { L19 : List (View.Piece (Elt F) S8x128 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12 ∗ owns (c : Thread nD τ) a14 fullShare x13 ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12 ∗ owns (c : Thread nD τ) a14 fullShare x13 ∗ (∃ f, a15.view.loc (c : Thread nD τ) ↦[a15.view.set]{fullShare} a15.view.writes (Elt F) f L14) ∗ (∃ f, a16.view.loc (c : Thread nD τ) ↦[a16.view.set]{fullShare} a16.view.writes (Elt F) f L15) ∗ (∃ f, a17.view.loc (c : Thread nD τ) ↦[a17.view.set]{fullShare} a17.view.writes (Elt F) f L16) ∗ (∃ f, a18.view.loc (c : Thread nD τ) ↦[a18.view.set]{fullShare} a18.view.writes (Elt F) f L17) ∗ (∃ f, a19.view.loc (c : Thread nD τ) ↦[a19.view.set]{fullShare} a19.view.writes (Elt F) f L18) ∗ (∃ f, a20.view.loc (c : Thread nD τ) ↦[a20.view.set]{fullShare} a20.view.writes (Elt F) f L19)) -∗ K ⟨⟩))
          ⊢ wp frame (wpE (defs₀ (F := F)) Variants.none c none) E (cc1_attn_bwd i a1 h1 a2 h2 a3 h3 a4 h4 a5 h5 a6 h6 a7 h7 a8 h8 a9 h9 a10 h10 a11 h11 a12 h12 a13 h13 a14 h14 a15 h15 a16 h16 a17 h17 a18 h18 a19 h19 a20 h20) K } := by
  refine ⟨?_, ?_, ?_, ?_, ?_, ?_, fun E K => ?run⟩
  case run =>
    simp only [cc1_attn_bwd_eq_skeleton]; unfold cc1_attn_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
    obtain rfl := h1.eq_unread hf0; obtain rfl := h2.eq_unread hf1; obtain rfl := h3.eq_unread hf2; obtain rfl := h4.eq_unread hf3; obtain rfl := h5.eq_unread hf4; obtain rfl := h6.eq_unread hf5; obtain rfl := h7.eq_unread hf6; obtain rfl := h8.eq_unread hf7; obtain rfl := h9.eq_unread hf8; obtain rfl := h10.eq_unread hf9; obtain rfl := h11.eq_unread hf10; obtain rfl := h12.eq_unread hf11; obtain rfl := h13.eq_unread hf12; obtain rfl := h14.eq_unread hf13
    sl_exec (disch := first | sl_exact hc0)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    isplitl [H5]
    · iexists _; isplitr; · ipureintro; exact h6.read_unread _
      iexact H5
    isplitl [H6]
    · iexists _; isplitr; · ipureintro; exact h7.read_unread _
      iexact H6
    isplitl [H7]
    · iexists _; isplitr; · ipureintro; exact h8.read_unread _
      iexact H7
    isplitl [H8]
    · iexists _; isplitr; · ipureintro; exact h9.read_unread _
      iexact H8
    isplitl [H9]
    · iexists _; isplitr; · ipureintro; exact h10.read_unread _
      iexact H9
    isplitl [H10]
    · iexists _; isplitr; · ipureintro; exact h11.read_unread _
      iexact H10
    isplitl [H11]
    · iexists _; isplitr; · ipureintro; exact h12.read_unread _
      iexact H11
    isplitl [H12]
    · iexists _; isplitr; · ipureintro; exact h13.read_unread _
      iexact H12
    isplitl [H13]
    · iexists _; isplitr; · ipureintro; exact h14.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

section Case
-- the staging memrefs and their contents in this case
variable (c : Dev nD) (i : grid1.Coords) (a1 : Memref sig .tc .vmem S128x512 .bf16) (h1 : a1.IsWhole) (a2 : Memref sig .tc .vmem S128x512 .bf16) (h2 : a2.IsWhole) (a3 : Memref sig .tc .vmem S4352x128 .bf16) (h3 : a3.IsWhole) (a4 : Memref sig .tc .vmem S4352x128 .bf16) (h4 : a4.IsWhole) (a5 : Memref sig .tc .vmem S4352x128 .bf16) (h5 : a5.IsWhole) (a6 : Memref sig .tc .vmem S4352x128 .bf16) (h6 : a6.IsWhole) (a7 : Memref sig .tc .vmem S256x128 .bf16) (h7 : a7.IsWhole) (a8 : Memref sig .tc .vmem S256x128 .bf16) (h8 : a8.IsWhole) (a9 : Memref sig .tc .vmem S256x128 .bf16) (h9 : a9.IsWhole) (a10 : Memref sig .tc .vmem S256x128 .bf16) (h10 : a10.IsWhole) (a11 : Memref sig .tc .vmem S1x4x256x640 .bf16) (h11 : a11.IsWhole) (a12 : Memref sig .tc .vmem S1x4x256x128 .f32) (h12 : a12.IsWhole) (a13 : Memref sig .tc .vmem S128x512 .bf16) (h13 : a13.IsWhole) (a14 : Memref sig .tc .vmem S128x512 .f32) (h14 : a14.IsWhole) (a15 : Memref sig .tc .vmem S128x512 .f32) (h15 : a15.IsWhole) (a16 : Memref sig .tc .vmem S4352x128 .f32) (h16 : a16.IsWhole) (a17 : Memref sig .tc .vmem S4352x128 .f32) (h17 : a17.IsWhole) (a18 : Memref sig .tc .vmem S256x128 .f32) (h18 : a18.IsWhole) (a19 : Memref sig .tc .vmem S256x128 .f32) (h19 : a19.IsWhole) (a20 : Memref sig .tc .vmem S8x128 .f32) (h20 : a20.IsWhole) (hc0 : cond1_0 i)
    (x0 : Vec F S128x512 .bf16) (x1 : Vec F S128x512 .bf16) (x2 : Vec F S4352x128 .bf16) (x3 : Vec F S4352x128 .bf16) (x4 : Vec F S4352x128 .bf16) (x5 : Vec F S4352x128 .bf16) (x6 : Vec F S256x128 .bf16) (x7 : Vec F S256x128 .bf16) (x8 : Vec F S256x128 .bf16) (x9 : Vec F S256x128 .bf16) (x10 : Vec F S1x4x256x640 .bf16) (x11 : Vec F S1x4x256x128 .f32) (x12 : Vec F S128x512 .bf16) (x13 : Vec F S128x512 .f32)

/-- The pieces of an output tile its block, so they cover it. -/
theorem cover1_A_14 (y : S128x512.Idx) :
    ∃ pc ∈ (kernelRun1_A c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13).1, y ∈ pc.1.set :=
  View.cover_of_tiledL (kernelRun1_A c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13).1 S128x128.size (by sl_kernel_rfl) y

/-- What case A leaves in output 14's staging buffer: its pieces read back over junk. -/
def out1_A_14 : Vec F S128x512 .f32 :=
  VO1_14.read (Elt F) (VO1_14.writes (Elt F) VO1_14.junk (kernelRun1_A c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13).1)

/-- Some pieces are stored at offsets known only at the run; one piece is the whole block, so the pieces cover it. -/
theorem cover1_A_15 (y : S4352x128.Idx) :
    ∃ pc ∈ (kernelRun1_A c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13).2.1, y ∈ pc.1.set :=
  View.cover_of_wholeMem (kernelRun1_A c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13).2.1 (by sl_whole_mem) y

def out1_A_15 : Vec F S4352x128 .f32 :=
  VO1_15.read (Elt F) (VO1_15.writes (Elt F) VO1_15.junk (kernelRun1_A c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13).2.1)

theorem cover1_A_16 (y : S4352x128.Idx) :
    ∃ pc ∈ (kernelRun1_A c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13).2.2.1, y ∈ pc.1.set :=
  View.cover_of_wholeMem (kernelRun1_A c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13).2.2.1 (by sl_whole_mem) y

def out1_A_16 : Vec F S4352x128 .f32 :=
  VO1_16.read (Elt F) (VO1_16.writes (Elt F) VO1_16.junk (kernelRun1_A c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13).2.2.1)

theorem cover1_A_17 (y : S256x128.Idx) :
    ∃ pc ∈ (kernelRun1_A c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13).2.2.2.1, y ∈ pc.1.set :=
  View.cover_of_tiledL (kernelRun1_A c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13).2.2.2.1 S256x128.size (by sl_kernel_rfl) y

def out1_A_17 : Vec F S256x128 .f32 :=
  VO1_17.read (Elt F) (VO1_17.writes (Elt F) VO1_17.junk (kernelRun1_A c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13).2.2.2.1)

theorem cover1_A_18 (y : S256x128.Idx) :
    ∃ pc ∈ (kernelRun1_A c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13).2.2.2.2.1, y ∈ pc.1.set :=
  View.cover_of_tiledL (kernelRun1_A c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13).2.2.2.2.1 S256x128.size (by sl_kernel_rfl) y

def out1_A_18 : Vec F S256x128 .f32 :=
  VO1_18.read (Elt F) (VO1_18.writes (Elt F) VO1_18.junk (kernelRun1_A c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13).2.2.2.2.1)

/-- Case A's pieces for output 19 are of SEVERAL sizes (9 stores of `S1x128`, `S8x128`): cut into blocks of `![1, 128]` they tile its block (checked by the kernel's evaluation: Lib/Ring.lean `Piece.tiledBy`), so they cover it. -/
theorem cover1_A_19 (y : S8x128.Idx) :
    ∃ pc ∈ (kernelRun1_A c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13).2.2.2.2.2.1, y ∈ pc.1.set :=
  View.cover_of_tiledBy (kernelRun1_A c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13).2.2.2.2.2.1 ![1, 128] (by sl_kernel_rfl) y

def out1_A_19 : Vec F S8x128 .f32 :=
  VO1_19.read (Elt F) (VO1_19.writes (Elt F) VO1_19.junk (kernelRun1_A c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13).2.2.2.2.2.1)

end Case

end Regions

end Cert.KernelIdeal.Gen

end
-- ==== Proof.FrameIdeal.BwdB.lean ====
module

public import proofs.«01_k».proof.Proof.FrameIdeal.BwdA
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_attn_bwd` (pipeline 1), at the entry contents `V` -/

/-! ## The windows' blocks -/

set_option maxHeartbeats 8000000 in
/-- What the body's stores leave in each output's staging memref, as pieces (last first) IN CASE B (`scf.if` 0 not taken: points 1, 2, … 31: 31 of 32), WITH the
    proof that on whole staging memrefs — the inputs' at their contents, the outputs it reads before covering (15, 16, 17, 18, 19) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (a1 : Memref sig .tc .vmem S128x512 .bf16) (h1 : a1.IsWhole) (a2 : Memref sig .tc .vmem S128x512 .bf16) (h2 : a2.IsWhole) (a3 : Memref sig .tc .vmem S4352x128 .bf16) (h3 : a3.IsWhole) (a4 : Memref sig .tc .vmem S4352x128 .bf16) (h4 : a4.IsWhole) (a5 : Memref sig .tc .vmem S4352x128 .bf16) (h5 : a5.IsWhole) (a6 : Memref sig .tc .vmem S4352x128 .bf16) (h6 : a6.IsWhole) (a7 : Memref sig .tc .vmem S256x128 .bf16) (h7 : a7.IsWhole) (a8 : Memref sig .tc .vmem S256x128 .bf16) (h8 : a8.IsWhole) (a9 : Memref sig .tc .vmem S256x128 .bf16) (h9 : a9.IsWhole) (a10 : Memref sig .tc .vmem S256x128 .bf16) (h10 : a10.IsWhole) (a11 : Memref sig .tc .vmem S1x4x256x640 .bf16) (h11 : a11.IsWhole) (a12 : Memref sig .tc .vmem S1x4x256x128 .f32) (h12 : a12.IsWhole) (a13 : Memref sig .tc .vmem S128x512 .bf16) (h13 : a13.IsWhole) (a14 : Memref sig .tc .vmem S128x512 .f32) (h14 : a14.IsWhole) (a15 : Memref sig .tc .vmem S128x512 .f32) (h15 : a15.IsWhole) (a16 : Memref sig .tc .vmem S4352x128 .f32) (h16 : a16.IsWhole) (a17 : Memref sig .tc .vmem S4352x128 .f32) (h17 : a17.IsWhole) (a18 : Memref sig .tc .vmem S256x128 .f32) (h18 : a18.IsWhole) (a19 : Memref sig .tc .vmem S256x128 .f32) (h19 : a19.IsWhole) (a20 : Memref sig .tc .vmem S8x128 .f32) (h20 : a20.IsWhole) (hc0 : ¬cond1_0 i)
    (x0 : Vec F S128x512 .bf16) (x1 : Vec F S128x512 .bf16) (x2 : Vec F S4352x128 .bf16) (x3 : Vec F S4352x128 .bf16) (x4 : Vec F S4352x128 .bf16) (x5 : Vec F S4352x128 .bf16) (x6 : Vec F S256x128 .bf16) (x7 : Vec F S256x128 .bf16) (x8 : Vec F S256x128 .bf16) (x9 : Vec F S256x128 .bf16) (x10 : Vec F S1x4x256x640 .bf16) (x11 : Vec F S1x4x256x128 .f32) (x12 : Vec F S128x512 .bf16) (x13 : Vec F S128x512 .f32) (xo15 : Vec F S4352x128 .f32) (xo16 : Vec F S4352x128 .f32) (xo17 : Vec F S256x128 .f32) (xo18 : Vec F S256x128 .f32) (xo19 : Vec F S8x128 .f32) :
    Σ' (L14 : List (View.Piece (Elt F) S128x512 .f32)), Σ' (L15 : List (View.Piece (Elt F) S4352x128 .f32)), Σ' (L16 : List (View.Piece (Elt F) S4352x128 .f32)), Σ' (L17 : List (View.Piece (Elt F) S256x128 .f32)), Σ' (L18 : List (View.Piece (Elt F) S256x128 .f32)), { L19 : List (View.Piece (Elt F) S8x128 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12 ∗ owns (c : Thread nD τ) a14 fullShare x13 ∗ (∃ d, owns (c : Thread nD τ) a15 fullShare d) ∗ owns (c : Thread nD τ) a16 fullShare xo15 ∗ owns (c : Thread nD τ) a17 fullShare xo16 ∗ owns (c : Thread nD τ) a18 fullShare xo17 ∗ owns (c : Thread nD τ) a19 fullShare xo18 ∗ owns (c : Thread nD τ) a20 fullShare xo19
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12 ∗ owns (c : Thread nD τ) a14 fullShare x13 ∗ (∃ f, a15.view.loc (c : Thread nD τ) ↦[a15.view.set]{fullShare} a15.view.writes (Elt F) f L14) ∗ (a16.view.loc (c : Thread nD τ) ↦[a16.view.set]{fullShare} a16.view.writes (Elt F) (h16.unread xo15) L15) ∗ (a17.view.loc (c : Thread nD τ) ↦[a17.view.set]{fullShare} a17.view.writes (Elt F) (h17.unread xo16) L16) ∗ (∃ f, a18.view.loc (c : Thread nD τ) ↦[a18.view.set]{fullShare} a18.view.writes (Elt F) f L17) ∗ (∃ f, a19.view.loc (c : Thread nD τ) ↦[a19.view.set]{fullShare} a19.view.writes (Elt F) f L18) ∗ (∃ f, a20.view.loc (c : Thread nD τ) ↦[a20.view.set]{fullShare} a20.view.writes (Elt F) f L19)) -∗ K ⟨⟩))
          ⊢ wp frame (wpE (defs₀ (F := F)) Variants.none c none) E (cc1_attn_bwd i a1 h1 a2 h2 a3 h3 a4 h4 a5 h5 a6 h6 a7 h7 a8 h8 a9 h9 a10 h10 a11 h11 a12 h12 a13 h13 a14 h14 a15 h15 a16 h16 a17 h17 a18 h18 a19 h19 a20 h20) K } := by
  refine ⟨?_, ?_, ?_, ?_, ?_, ?_, fun E K => ?run⟩
  case run =>
    simp only [cc1_attn_bwd_eq_skeleton]; unfold cc1_attn_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%f17, %hf17, H17⟩, ⟨%f18, %hf18, H18⟩, ⟨%f19, %hf19, H19⟩, Hk⟩
    obtain rfl := h1.eq_unread hf0; obtain rfl := h2.eq_unread hf1; obtain rfl := h3.eq_unread hf2; obtain rfl := h4.eq_unread hf3; obtain rfl := h5.eq_unread hf4; obtain rfl := h6.eq_unread hf5; obtain rfl := h7.eq_unread hf6; obtain rfl := h8.eq_unread hf7; obtain rfl := h9.eq_unread hf8; obtain rfl := h10.eq_unread hf9; obtain rfl := h11.eq_unread hf10; obtain rfl := h12.eq_unread hf11; obtain rfl := h13.eq_unread hf12; obtain rfl := h14.eq_unread hf13; obtain rfl := h16.eq_unread hf15; obtain rfl := h17.eq_unread hf16; obtain rfl := h18.eq_unread hf17; obtain rfl := h19.eq_unread hf18; obtain rfl := h20.eq_unread hf19
    sl_exec (disch := first | sl_exact hc0)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    isplitl [H5]
    · iexists _; isplitr; · ipureintro; exact h6.read_unread _
      iexact H5
    isplitl [H6]
    · iexists _; isplitr; · ipureintro; exact h7.read_unread _
      iexact H6
    isplitl [H7]
    · iexists _; isplitr; · ipureintro; exact h8.read_unread _
      iexact H7
    isplitl [H8]
    · iexists _; isplitr; · ipureintro; exact h9.read_unread _
      iexact H8
    isplitl [H9]
    · iexists _; isplitr; · ipureintro; exact h10.read_unread _
      iexact H9
    isplitl [H10]
    · iexists _; isplitr; · ipureintro; exact h11.read_unread _
      iexact H10
    isplitl [H11]
    · iexists _; isplitr; · ipureintro; exact h12.read_unread _
      iexact H11
    isplitl [H12]
    · iexists _; isplitr; · ipureintro; exact h13.read_unread _
      iexact H12
    isplitl [H13]
    · iexists _; isplitr; · ipureintro; exact h14.read_unread _
      iexact H13
    isplitl [H14]; · iexists _; iexact H14
    isplitl [H15]; · iexact H15
    isplitl [H16]; · iexact H16
    isplitl [H17]; · iexists _; iexact H17
    isplitl [H18]; · iexists _; iexact H18
    iexists _; iexact H19

section Case
-- the staging memrefs and their contents in this case
variable (c : Dev nD) (i : grid1.Coords) (a1 : Memref sig .tc .vmem S128x512 .bf16) (h1 : a1.IsWhole) (a2 : Memref sig .tc .vmem S128x512 .bf16) (h2 : a2.IsWhole) (a3 : Memref sig .tc .vmem S4352x128 .bf16) (h3 : a3.IsWhole) (a4 : Memref sig .tc .vmem S4352x128 .bf16) (h4 : a4.IsWhole) (a5 : Memref sig .tc .vmem S4352x128 .bf16) (h5 : a5.IsWhole) (a6 : Memref sig .tc .vmem S4352x128 .bf16) (h6 : a6.IsWhole) (a7 : Memref sig .tc .vmem S256x128 .bf16) (h7 : a7.IsWhole) (a8 : Memref sig .tc .vmem S256x128 .bf16) (h8 : a8.IsWhole) (a9 : Memref sig .tc .vmem S256x128 .bf16) (h9 : a9.IsWhole) (a10 : Memref sig .tc .vmem S256x128 .bf16) (h10 : a10.IsWhole) (a11 : Memref sig .tc .vmem S1x4x256x640 .bf16) (h11 : a11.IsWhole) (a12 : Memref sig .tc .vmem S1x4x256x128 .f32) (h12 : a12.IsWhole) (a13 : Memref sig .tc .vmem S128x512 .bf16) (h13 : a13.IsWhole) (a14 : Memref sig .tc .vmem S128x512 .f32) (h14 : a14.IsWhole) (a15 : Memref sig .tc .vmem S128x512 .f32) (h15 : a15.IsWhole) (a16 : Memref sig .tc .vmem S4352x128 .f32) (h16 : a16.IsWhole) (a17 : Memref sig .tc .vmem S4352x128 .f32) (h17 : a17.IsWhole) (a18 : Memref sig .tc .vmem S256x128 .f32) (h18 : a18.IsWhole) (a19 : Memref sig .tc .vmem S256x128 .f32) (h19 : a19.IsWhole) (a20 : Memref sig .tc .vmem S8x128 .f32) (h20 : a20.IsWhole) (hc0 : ¬cond1_0 i)
    (x0 : Vec F S128x512 .bf16) (x1 : Vec F S128x512 .bf16) (x2 : Vec F S4352x128 .bf16) (x3 : Vec F S4352x128 .bf16) (x4 : Vec F S4352x128 .bf16) (x5 : Vec F S4352x128 .bf16) (x6 : Vec F S256x128 .bf16) (x7 : Vec F S256x128 .bf16) (x8 : Vec F S256x128 .bf16) (x9 : Vec F S256x128 .bf16) (x10 : Vec F S1x4x256x640 .bf16) (x11 : Vec F S1x4x256x128 .f32) (x12 : Vec F S128x512 .bf16) (x13 : Vec F S128x512 .f32) (xo15 : Vec F S4352x128 .f32) (xo16 : Vec F S4352x128 .f32) (xo17 : Vec F S256x128 .f32) (xo18 : Vec F S256x128 .f32) (xo19 : Vec F S8x128 .f32)

/-- Case B's pieces for output 14 tile its block (4 stores of `S128x128`, checked by the kernel's evaluation: Lib/Ring.lean `Piece.tiledL`, linear in the pieces, through a loop's `@[irreducible]` trip theorem too), so they cover it. -/
theorem cover1_B_14 (y : S128x512.Idx) :
    ∃ pc ∈ (kernelRun1_B c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13 xo15 xo16 xo17 xo18 xo19).1, y ∈ pc.1.set :=
  View.cover_of_tiledL (kernelRun1_B c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13 xo15 xo16 xo17 xo18 xo19).1 S128x128.size (by sl_kernel_rfl) y

/-- What case B leaves in output 14's staging buffer: its pieces read back over junk. -/
def out1_B_14 : Vec F S128x512 .f32 :=
  VO1_14.read (Elt F) (VO1_14.writes (Elt F) VO1_14.junk (kernelRun1_B c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13 xo15 xo16 xo17 xo18 xo19).1)

/-- What case B leaves in output 15's staging buffer: its stores read back over what the point before left there (they do not cover the block). -/
def out1_B_15 : Vec F S4352x128 .f32 :=
  a16.view.read (Elt F) (a16.view.writes (Elt F) (h16.unread xo15) (kernelRun1_B c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13 xo15 xo16 xo17 xo18 xo19).2.1)

def out1_B_16 : Vec F S4352x128 .f32 :=
  a17.view.read (Elt F) (a17.view.writes (Elt F) (h17.unread xo16) (kernelRun1_B c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13 xo15 xo16 xo17 xo18 xo19).2.2.1)

theorem cover1_B_17 (y : S256x128.Idx) :
    ∃ pc ∈ (kernelRun1_B c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13 xo15 xo16 xo17 xo18 xo19).2.2.2.1, y ∈ pc.1.set :=
  View.cover_of_tiledL (kernelRun1_B c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13 xo15 xo16 xo17 xo18 xo19).2.2.2.1 S256x128.size (by sl_kernel_rfl) y

def out1_B_17 : Vec F S256x128 .f32 :=
  VO1_17.read (Elt F) (VO1_17.writes (Elt F) VO1_17.junk (kernelRun1_B c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13 xo15 xo16 xo17 xo18 xo19).2.2.2.1)

theorem cover1_B_18 (y : S256x128.Idx) :
    ∃ pc ∈ (kernelRun1_B c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13 xo15 xo16 xo17 xo18 xo19).2.2.2.2.1, y ∈ pc.1.set :=
  View.cover_of_tiledL (kernelRun1_B c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13 xo15 xo16 xo17 xo18 xo19).2.2.2.2.1 S256x128.size (by sl_kernel_rfl) y

def out1_B_18 : Vec F S256x128 .f32 :=
  VO1_18.read (Elt F) (VO1_18.writes (Elt F) VO1_18.junk (kernelRun1_B c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13 xo15 xo16 xo17 xo18 xo19).2.2.2.2.1)

theorem cover1_B_19 (y : S8x128.Idx) :
    ∃ pc ∈ (kernelRun1_B c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13 xo15 xo16 xo17 xo18 xo19).2.2.2.2.2.1, y ∈ pc.1.set :=
  View.cover_of_tiledL (kernelRun1_B c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13 xo15 xo16 xo17 xo18 xo19).2.2.2.2.2.1 S1x128.size (by sl_kernel_rfl) y

def out1_B_19 : Vec F S8x128 .f32 :=
  VO1_19.read (Elt F) (VO1_19.writes (Elt F) VO1_19.junk (kernelRun1_B c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 x11 x12 x13 xo15 xo16 xo17 xo18 xo19).2.2.2.2.2.1)

end Case

/-! ## What the outputs hold after each point -/

/-- What case A leaves at point `t`. -/
def atA (c : Dev nD) (t : Fin cfg1.N) (h0 : cond1_0 (grid1.coords t)) : Vec F S128x512 .f32 × Vec F S4352x128 .f32 × Vec F S4352x128 .f32 × Vec F S256x128 .f32 × Vec F S256x128 .f32 × Vec F S8x128 .f32 :=
  (out1_A_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) h0 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t), out1_A_15 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) h0 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t), out1_A_16 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) h0 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t), out1_A_17 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) h0 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t), out1_A_18 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) h0 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t), out1_A_19 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) h0 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t))

/-- What case B leaves at point `t`, over what the point before left. -/
def atB (c : Dev nD) (t : Fin cfg1.N) (h0 : ¬cond1_0 (grid1.coords t)) (p : Vec F S128x512 .f32 × Vec F S4352x128 .f32 × Vec F S4352x128 .f32 × Vec F S256x128 .f32 × Vec F S256x128 .f32 × Vec F S8x128 .f32) : Vec F S128x512 .f32 × Vec F S4352x128 .f32 × Vec F S4352x128 .f32 × Vec F S256x128 .f32 × Vec F S256x128 .f32 × Vec F S8x128 .f32 :=
  (out1_B_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) h0 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) p.2.1 p.2.2.1 p.2.2.2.1 p.2.2.2.2.1 p.2.2.2.2.2, out1_B_15 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) h0 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) p.2.1 p.2.2.1 p.2.2.2.1 p.2.2.2.2.1 p.2.2.2.2.2, out1_B_16 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) h0 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) p.2.1 p.2.2.1 p.2.2.2.1 p.2.2.2.2.1 p.2.2.2.2.2, out1_B_17 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) h0 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) p.2.1 p.2.2.1 p.2.2.2.1 p.2.2.2.2.1 p.2.2.2.2.2, out1_B_18 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) h0 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) p.2.1 p.2.2.1 p.2.2.2.1 p.2.2.2.2.1 p.2.2.2.2.2, out1_B_19 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) h0 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) p.2.1 p.2.2.1 p.2.2.2.1 p.2.2.2.2.1 p.2.2.2.2.2)

/-- THE ACCUMULATION. What the outputs' staging buffers hold after the body at position `n` (a tuple, in window order):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S128x512 .f32 × Vec F S4352x128 .f32 × Vec F S4352x128 .f32 × Vec F S256x128 .f32 × Vec F S256x128 .f32 × Vec F S8x128 .f32
  | 0, hn => atA V c ⟨0, hn⟩ ((hcond1_0 ⟨0, hn⟩).mpr (Nat.zero_mod _))
  | n + 1, hn =>
    if h0 : (n + 1) % 32 = 0 then
      atA V c ⟨n + 1, hn⟩ ((hcond1_0 ⟨n + 1, hn⟩).mpr h0)
    else
      atB V c ⟨n + 1, hn⟩ (fun h => h0 ((hcond1_0 ⟨n + 1, hn⟩).mp h)) (outsAt1 c n (by omega))

/-- `outsAt1` at a point of case A: that case's contents. -/
theorem outsAt1_A (c : Dev nD) (t : Fin cfg1.N) (h0 : t.val % 32 = 0) :
    outsAt1 V c t.val t.isLt = atA V c t ((hcond1_0 t).mpr h0) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 32 = 0) :
    outsAt1 V c t.val t.isLt = atB V c t (fun h => h0 ((hcond1_0 t).mp h)) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => (outsAt1 V c t.val t.isLt).1
    | ⟨15, _⟩ => (outsAt1 V c t.val t.isLt).2.1
    | ⟨16, _⟩ => (outsAt1 V c t.val t.isLt).2.2.1
    | ⟨17, _⟩ => (outsAt1 V c t.val t.isLt).2.2.2.1
    | ⟨18, _⟩ => (outsAt1 V c t.val t.isLt).2.2.2.2.1
    | ⟨19, _⟩ => (outsAt1 V c t.val t.isLt).2.2.2.2.2
    | ⟨_ + 20, h⟩ => absurd h (Nat.not_lt.2 (Nat.le_add_left _ _))
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = (outsAt1 V c t.val t.isLt).1 := by dsimp only [dat1]
theorem after1_15 (c : Dev nD) (t : Fin cfg1.N) : (dat1 V c).after 15 t = (outsAt1 V c t.val t.isLt).2.1 := by dsimp only [dat1]
theorem after1_16 (c : Dev nD) (t : Fin cfg1.N) : (dat1 V c).after 16 t = (outsAt1 V c t.val t.isLt).2.2.1 := by dsimp only [dat1]
theorem after1_17 (c : Dev nD) (t : Fin cfg1.N) : (dat1 V c).after 17 t = (outsAt1 V c t.val t.isLt).2.2.2.1 := by dsimp only [dat1]
theorem after1_18 (c : Dev nD) (t : Fin cfg1.N) : (dat1 V c).after 18 t = (outsAt1 V c t.val t.isLt).2.2.2.2.1 := by dsimp only [dat1]
theorem after1_19 (c : Dev nD) (t : Fin cfg1.N) : (dat1 V c).after 19 t = (outsAt1 V c t.val t.isLt).2.2.2.2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
/-- At a point of case B output 15's current staging buffer holds what the body left at the point before: the point is
    not the first, the buffer was not written back between (`flush1_15`), the window is live and uncut (Lib/Pipeline/Frame.lean
    `Dat.before_out_kept`). -/
theorem before1_15_B (c : Dev nD) (t : Fin cfg1.N) (h0 : ¬t.val % 32 = 0) (d) :
    (dat1 V c).before 15 t d = (outsAt1 V c (t.val - 1) (Nat.lt_of_le_of_lt (Nat.sub_le _ _) t.isLt)).2.1 := by
  have hN : t.val < 32 := lt_of_lt_of_eq t.isLt (show cfg1.N = 32 from N_1)
  rw [Dat.before_out_kept _ 15 rfl t (by omega) (Bool.eq_false_iff.mpr fun h => by have := (flush1_15 _).mp h; dsimp only at this; omega)
    (fun _ => rfl) (fun _ _ => rfl)]
  dsimp only [dat1]
theorem before1_16_B (c : Dev nD) (t : Fin cfg1.N) (h0 : ¬t.val % 32 = 0) (d) :
    (dat1 V c).before 16 t d = (outsAt1 V c (t.val - 1) (Nat.lt_of_le_of_lt (Nat.sub_le _ _) t.isLt)).2.2.1 := by
  have hN : t.val < 32 := lt_of_lt_of_eq t.isLt (show cfg1.N = 32 from N_1)
  rw [Dat.before_out_kept _ 16 rfl t (by omega) (Bool.eq_false_iff.mpr fun h => by have := (flush1_16 _).mp h; dsimp only at this; omega)
    (fun _ => rfl) (fun _ _ => rfl)]
  dsimp only [dat1]
theorem before1_17_B (c : Dev nD) (t : Fin cfg1.N) (h0 : ¬t.val % 32 = 0) (d) :
    (dat1 V c).before 17 t d = (outsAt1 V c (t.val - 1) (Nat.lt_of_le_of_lt (Nat.sub_le _ _) t.isLt)).2.2.2.1 := by
  have hN : t.val < 32 := lt_of_lt_of_eq t.isLt (show cfg1.N = 32 from N_1)
  rw [Dat.before_out_kept _ 17 rfl t (by omega) (Bool.eq_false_iff.mpr fun h => by have := (flush1_17 _).mp h; dsimp only at this; omega)
    (fun _ => rfl) (fun _ _ => rfl)]
  dsimp only [dat1]
theorem before1_18_B (c : Dev nD) (t : Fin cfg1.N) (h0 : ¬t.val % 32 = 0) (d) :
    (dat1 V c).before 18 t d = (outsAt1 V c (t.val - 1) (Nat.lt_of_le_of_lt (Nat.sub_le _ _) t.isLt)).2.2.2.2.1 := by
  have hN : t.val < 32 := lt_of_lt_of_eq t.isLt (show cfg1.N = 32 from N_1)
  rw [Dat.before_out_kept _ 18 rfl t (by omega) (Bool.eq_false_iff.mpr fun h => by have := (flush1_18 _).mp h; dsimp only at this; omega)
    (fun _ => rfl) (fun _ _ => rfl)]
  dsimp only [dat1]
theorem before1_19_B (c : Dev nD) (t : Fin cfg1.N) (h0 : ¬t.val % 32 = 0) (d) :
    (dat1 V c).before 19 t d = (outsAt1 V c (t.val - 1) (Nat.lt_of_le_of_lt (Nat.sub_le _ _) t.isLt)).2.2.2.2.2 := by
  have hN : t.val < 32 := lt_of_lt_of_eq t.isLt (show cfg1.N = 32 from N_1)
  rw [Dat.before_out_kept _ 19 rfl t (by omega) (Bool.eq_false_iff.mpr fun h => by have := (flush1_19 _).mp h; dsimp only at this; omega)
    (fun _ => rfl) (fun _ _ => rfl)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d))
    ∗ (∃ d, owns (c : Thread nD τ) (ms1_18 t) fullShare ((dat1 V c).before 18 t d))
    ∗ (∃ d, owns (c : Thread nD τ) (ms1_19 t) fullShare ((dat1 V c).before 19 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t)
    ∗ owns (c : Thread nD τ) (ms1_15 t) fullShare ((dat1 V c).after 15 t)
    ∗ owns (c : Thread nD τ) (ms1_16 t) fullShare ((dat1 V c).after 16 t)
    ∗ owns (c : Thread nD τ) (ms1_17 t) fullShare ((dat1 V c).after 17 t)
    ∗ owns (c : Thread nD τ) (ms1_18 t) fullShare ((dat1 V c).after 18 t)
    ∗ owns (c : Thread nD τ) (ms1_19 t) fullShare ((dat1 V c).after 19 t))

set_option maxHeartbeats 4000000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19]
  have hN : t.val < 32 := lt_of_lt_of_eq t.isLt (show cfg1.N = 32 from N_1)
  by_cases h0 : t.val % 32 = 0
  · rw [outsAt1_A V c t h0, atA]
    unfold out1_A_14 out1_A_15 out1_A_16 out1_A_17 out1_A_18 out1_A_19; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply ((kernelRun1_A c (grid1.coords t) _ _ _ _ _ _ _ _ _ _ _ _ _ _ _ _ _ _ _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · unfold owns; iexists _; isplitr
      swap; · iexact H14
      ipureintro; exact View.read_writes_of_cover _ _ _ _ _ (cover1_A_14 c _ _ _ _ _ _ _ _ _ _ _ _ _ _ _ _ _ _ _ _ _ _ _ _ _ _ _ _ _ _ _ _ _ _ _ _ _ _ _ _ _ _ _ _ _ _ _ _ _ _ _ _ _ _ _ _)
    isplitl [H15]
    · unfold owns; iexists _; isplitr
      swap; · iexact H15
      ipureintro; exact View.read_writes_of_cover _ _ _ _ _ (cover1_A_15 c _ _ _ _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (cover1_A_16 c _ _ _ _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact View.read_writes_of_cover _ _ _ _ _ (cover1_A_17 c _ _ _ _ _ _ _ _ _ _ _ _ _ _ _ _ _ _ _ _ _ _ _ _ _ _ _ _ _ _ _ _ _ _ _ _ _ _ _ _ _ _ _ _ _ _ _ _ _ _ _ _ _ _ _ _)
    isplitl [H18]
    · unfold owns; iexists _; isplitr
      swap; · iexact H18
      ipureintro; exact View.read_writes_of_cover _ _ _ _ _ (cover1_A_18 c _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H19
    ipureintro; exact View.read_writes_of_cover _ _ _ _ _ (cover1_A_19 c _ _ _ _ _ _ _ _ _ _ _ _ _ _ _ _ _ _ _ _ _ _ _ _ _ _ _ _ _ _ _ _ _ _ _ _ _ _ _ _ _ _ _ _ _ _ _ _ _ _ _ _ _ _ _ _)
  · rw [outsAt1_B V c t h0, atB]
    simp only [before1_15_B V c t h0, before1_16_B V c t h0, before1_17_B V c t h0, before1_18_B V c t h0, before1_19_B V c t h0]
    unfold out1_B_14 out1_B_15 out1_B_16 out1_B_17 out1_B_18 out1_B_19; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply ((kernelRun1_B c (grid1.coords t) _ _ _ _ _ _ _ _ _ _ _ _ _ _ _ _ _ _ _ _ _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _ _ _ _ _).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexact H15
    isplitl [H16]; · iexact H16
    isplitl [H17]; · iexact H17
    isplitl [H18]; · iexact H18
    isplitl [H19]; · iexact H19
    iintro ⟨H0, H1, H2, H3, H4, H5, H6, H7, H8, H9, H10, H11, H12, H13, ⟨%e14, H14⟩, H15, H16, ⟨%e17, H17⟩, ⟨%e18, H18⟩, ⟨%e19, H19⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · unfold owns; iexists _; isplitr
      swap; · iexact H14
      ipureintro; exact View.read_writes_of_cover _ _ _ _ _ (cover1_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H15]
    · unfold owns; iexists _; isplitr
      swap; · iexact H15
      ipureintro; rfl
    isplitl [H16]
    · unfold owns; iexists _; isplitr
      swap; · iexact H16
      ipureintro; rfl
    isplitl [H17]
    · unfold owns; iexists _; isplitr
      swap; · iexact H17
      ipureintro; exact View.read_writes_of_cover _ _ _ _ _ (cover1_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H18]
    · unfold owns; iexists _; isplitr
      swap; · iexact H18
      ipureintro; exact View.read_writes_of_cover _ _ _ _ _ (cover1_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H19
    ipureintro; exact View.read_writes_of_cover _ _ _ _ _ (cover1_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.FrameIdeal.Fold0.lean ====
module

public import proofs.«01_k».proof.Proof.Gen.KernelIdeal.Frame.Region0
public import proofs.«01_k».proof.Proof.FrameIdeal.BwdB
public import proofs.«01_k».proof.Proof.Gen.KernelIdeal.Frame.Hosts0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
abbrev W4 : Dev nD → Valuation τ sig (Elt F) := fun c => StableHlo.after hostOps0_3 (W3 m ρ c)
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
abbrev W5 : Dev nD → Valuation τ sig (Elt F) := fun c => StableHlo.after hostOps0_4 (W4 m ρ c)
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
abbrev W6 : Dev nD → Valuation τ sig (Elt F) := fun c => StableHlo.after hostOps0_5 (W5 m ρ c)
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W6_args (c : Dev nD) : ∀ a ∈ argRefs, W6 m ρ c (Proc.devRef .tc a) = m ((c : Thread nD τ).loc a) :=
  fun a ha => (W6_of m ρ c a (hostOps0_5_args a ha)).trans (W5_args m ρ c a ha)
abbrev W7 : Dev nD → Valuation τ sig (Elt F) := fun c => StableHlo.after hostOps0_6 (W6 m ρ c)
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W7_args (c : Dev nD) : ∀ a ∈ argRefs, W7 m ρ c (Proc.devRef .tc a) = m ((c : Thread nD τ).loc a) :=
  fun a ha => (W7_of m ρ c a (hostOps0_6_args a ha)).trans (W6_args m ρ c a ha)
abbrev W8 : Dev nD → Valuation τ sig (Elt F) := fun c => StableHlo.after hostOps0_7 (W7 m ρ c)
theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h
theorem W8_args (c : Dev nD) : ∀ a ∈ argRefs, W8 m ρ c (Proc.devRef .tc a) = m ((c : Thread nD τ).loc a) :=
  fun a ha => (W8_of m ρ c a (hostOps0_7_args a ha)).trans (W7_args m ρ c a ha)
abbrev W9 : Dev nD → Valuation τ sig (Elt F) := fun c => StableHlo.after hostOps0_8 (W8 m ρ c)
theorem W9_of (c : Dev nD) (r : Ref sig .tc) (h : r ∉ hostOps0_8_W) : W9 m ρ c (Proc.devRef .tc r) = W8 m ρ c (Proc.devRef .tc r) :=
  StableHlo.after_of_writes_sub hostOps0_8 _ hostOps0_8_writes h
theorem W9_args (c : Dev nD) : ∀ a ∈ argRefs, W9 m ρ c (Proc.devRef .tc a) = m ((c : Thread nD τ).loc a) :=
  fun a ha => (W9_of m ρ c a (hostOps0_8_args a ha)).trans (W8_args m ρ c a ha)
abbrev W10 : Dev nD → Valuation τ sig (Elt F) := fun c => StableHlo.after hostOps0_9 (W9 m ρ c)
theorem W10_of (c : Dev nD) (r : Ref sig .tc) (h : r ∉ hostOps0_9_W) : W10 m ρ c (Proc.devRef .tc r) = W9 m ρ c (Proc.devRef .tc r) :=
  StableHlo.after_of_writes_sub hostOps0_9 _ hostOps0_9_writes h
theorem W10_args (c : Dev nD) : ∀ a ∈ argRefs, W10 m ρ c (Proc.devRef .tc a) = m ((c : Thread nD τ).loc a) :=
  fun a ha => (W10_of m ρ c a (hostOps0_9_args a ha)).trans (W9_args m ρ c a ha)
abbrev W11 : Dev nD → Valuation τ sig (Elt F) := fun c => StableHlo.after hostOps0_10 (W10 m ρ c)
theorem W11_of (c : Dev nD) (r : Ref sig .tc) (h : r ∉ hostOps0_10_W) : W11 m ρ c (Proc.devRef .tc r) = W10 m ρ c (Proc.devRef .tc r) :=
  StableHlo.after_of_writes_sub hostOps0_10 _ hostOps0_10_writes h
theorem W11_args (c : Dev nD) : ∀ a ∈ argRefs, W11 m ρ c (Proc.devRef .tc a) = m ((c : Thread nD τ).loc a) :=
  fun a ha => (W11_of m ρ c a (hostOps0_10_args a ha)).trans (W10_args m ρ c a ha)
abbrev W12 : Dev nD → Valuation τ sig (Elt F) := fun c => StableHlo.after hostOps0_11 (W11 m ρ c)
theorem W12_of (c : Dev nD) (r : Ref sig .tc) (h : r ∉ hostOps0_11_W) : W12 m ρ c (Proc.devRef .tc r) = W11 m ρ c (Proc.devRef .tc r) :=
  StableHlo.after_of_writes_sub hostOps0_11 _ hostOps0_11_writes h
theorem W12_args (c : Dev nD) : ∀ a ∈ argRefs, W12 m ρ c (Proc.devRef .tc a) = m ((c : Thread nD τ).loc a) :=
  fun a ha => (W12_of m ρ c a (hostOps0_11_args a ha)).trans (W11_args m ρ c a ha)
abbrev W13 : Dev nD → Valuation τ sig (Elt F) := fun c => StableHlo.after hostOps0_12 (W12 m ρ c)
theorem W13_of (c : Dev nD) (r : Ref sig .tc) (h : r ∉ hostOps0_12_W) : W13 m ρ c (Proc.devRef .tc r) = W12 m ρ c (Proc.devRef .tc r) :=
  StableHlo.after_of_writes_sub hostOps0_12 _ hostOps0_12_writes h
theorem W13_args (c : Dev nD) : ∀ a ∈ argRefs, W13 m ρ c (Proc.devRef .tc a) = m ((c : Thread nD τ).loc a) :=
  fun a ha => (W13_of m ρ c a (hostOps0_12_args a ha)).trans (W12_args m ρ c a ha)
/-- After `hostOps0_13` (region 0's entry). -/
abbrev W14 : Dev nD → Valuation τ sig (Elt F) := fun c => StableHlo.after hostOps0_13 (W13 m ρ c)
theorem W14_of (c : Dev nD) (r : Ref sig .tc) (h : r ∉ hostOps0_13_W) : W14 m ρ c (Proc.devRef .tc r) = W13 m ρ c (Proc.devRef .tc r) :=
  StableHlo.after_of_writes_sub hostOps0_13 _ hostOps0_13_writes h
theorem W14_args (c : Dev nD) : ∀ a ∈ argRefs, W14 m ρ c (Proc.devRef .tc a) = m ((c : Thread nD τ).loc a) :=
  fun a ha => (W14_of m ρ c a (hostOps0_13_args a ha)).trans (W13_args m ρ c a ha)
/-- The same read at the TensorCore's references (what region 0's proof data take). -/
abbrev V14 : (c : Dev nD) → (b : Ref sig .tc) → Buf (Elt F) ((c : Thread nD τ).loc b) := fun c b => W14 m ρ c b
/-- At region 0's exit: its arrays at what the pipeline leaves (the inputs as entered, each output's write-backs
    folded: `Dat.arrAt … N`), every other buffer as entered (Lib/Pipeline/FrameSuffix.lean `withArrays`) (region 1's entry). -/
def W15 (c : Dev nD) : Valuation τ sig (Elt F) :=
  Pipeline.withArrays spec0 c (W14 m ρ c) fun w => (dat0 (V14 m ρ) c).arrAt w cfg0.N
theorem W15_arr (c : Dev nD) (w : Fin cfg0.W) :
    W15 m ρ c (Proc.devRef .tc (Pipeline.arrRef spec0 w)) = (dat0 (V14 m ρ) c).arrAt w cfg0.N := by
  unfold W15; exact Pipeline.withArrays_arr spec0 launch0.win.arr_inj c _ _ w
theorem W15_of_ne (c : Dev nD) (b : Ref sig .tc) (hb : ∀ w, Pipeline.arrRef spec0 w ≠ b) :
    W15 m ρ c (Proc.devRef .tc b) = W14 m ρ c (Proc.devRef .tc b) := by
  unfold W15; exact Pipeline.withArrays_of_ne spec0 c _ _ b hb
/-- A reference that is none of region 0's OUTPUT arrays keeps its entry contents across it: an input window's
    array is never written back (`Dat.arrAt_in`, `A_eq0`); any other buffer is left as is. -/
theorem W15_of (c : Dev nD) (r : Ref sig .tc) (h : ∀ w : Fin cfg0.W, Pipeline.arrRef spec0 w = r → (cfg0.win w).isOut = false) :
    W15 m ρ c (Proc.devRef .tc r) = W14 m ρ c (Proc.devRef .tc r) := by
  by_cases hw : ∃ w : Fin cfg0.W, Pipeline.arrRef spec0 w = r
  · obtain ⟨w, rfl⟩ := hw
    exact (W15_arr m ρ c w).trans (((dat0 (V14 m ρ) c).arrAt_in w (h w rfl) _).trans (A_eq0 (V14 m ρ) c w))
  · exact W15_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W15_args (c : Dev nD) : ∀ a ∈ argRefs, W15 m ρ c (Proc.devRef .tc a) = m ((c : Thread nD τ).loc a) :=
  fun a ha => (W15_of m ρ c a (argsIn0 a ha)).trans (W14_args m ρ c a ha)
abbrev V15 : (c : Dev nD) → (b : Ref sig .tc) → Buf (Elt F) ((c : Thread nD τ).loc b) := fun c b => W15 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V14 m ρ) c).arrAt w cfg0.N = V15 m ρ c (Pipeline.arrRef spec0 w) :=
  (W15_arr m ρ c w).symm
theorem hrest0 (c : Dev nD) : ∀ b, b ∉ Finset.univ.image (Pipeline.arrRef spec0) → V15 m ρ c b = V14 m ρ c b :=
  fun b hb => W15_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W16 (c : Dev nD) : Valuation τ sig (Elt F) :=
  Pipeline.withArrays spec1 c (W15 m ρ c) fun w => (dat1 (V15 m ρ) c).arrAt w cfg1.N
theorem W16_arr (c : Dev nD) (w : Fin cfg1.W) :
    W16 m ρ c (Proc.devRef .tc (Pipeline.arrRef spec1 w)) = (dat1 (V15 m ρ) c).arrAt w cfg1.N := by
  unfold W16; exact Pipeline.withArrays_arr spec1 launch1.win.arr_inj c _ _ w
theorem W16_of_ne (c : Dev nD) (b : Ref sig .tc) (hb : ∀ w, Pipeline.arrRef spec1 w ≠ b) :
    W16 m ρ c (Proc.devRef .tc b) = W15 m ρ c (Proc.devRef .tc b) := by
  unfold W16; exact Pipeline.withArrays_of_ne spec1 c _ _ b hb
theorem W16_of (c : Dev nD) (r : Ref sig .tc) (h : ∀ w : Fin cfg1.W, Pipeline.arrRef spec1 w = r → (cfg1.win w).isOut = false) :
    W16 m ρ c (Proc.devRef .tc r) = W15 m ρ c (Proc.devRef .tc r) := by
  by_cases hw : ∃ w : Fin cfg1.W, Pipeline.arrRef spec1 w = r
  · obtain ⟨w, rfl⟩ := hw
    exact (W16_arr m ρ c w).trans (((dat1 (V15 m ρ) c).arrAt_in w (h w rfl) _).trans (A_eq1 (V15 m ρ) c w))
  · exact W16_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W16_args (c : Dev nD) : ∀ a ∈ argRefs, W16 m ρ c (Proc.devRef .tc a) = m ((c : Thread nD τ).loc a) :=
  fun a ha => (W16_of m ρ c a (argsIn1 a ha)).trans (W15_args m ρ c a ha)
abbrev V16 : (c : Dev nD) → (b : Ref sig .tc) → Buf (Elt F) ((c : Thread nD τ).loc b) := fun c b => W16 m ρ c b
theorem hF1 (c : Dev nD) (w : Fin cfg1.W) : (dat1 (V15 m ρ) c).arrAt w cfg1.N = V16 m ρ c (Pipeline.arrRef spec1 w) :=
  (W16_arr m ρ c w).symm
theorem hrest1 (c : Dev nD) : ∀ b, b ∉ Finset.univ.image (Pipeline.arrRef spec1) → V16 m ρ c b = V15 m ρ c b :=
  fun b hb => W16_of_ne m ρ c b fun w e => hb (Finset.mem_image.mpr ⟨w, Finset.mem_univ _, e⟩)

abbrev W17 : Dev nD → Valuation τ sig (Elt F) := fun c => StableHlo.after hostOps2 (W16 m ρ c)
theorem W17_of (c : Dev nD) (r : Ref sig .tc) (h : r ∉ hostOps2_W) : W17 m ρ c (Proc.devRef .tc r) = W16 m ρ c (Proc.devRef .tc r) :=
  StableHlo.after_of_writes_sub hostOps2 _ hostOps2_writes h
theorem W17_args (c : Dev nD) : ∀ a ∈ argRefs, W17 m ρ c (Proc.devRef .tc a) = m ((c : Thread nD τ).loc a) :=
  fun a ha => (W17_of m ρ c a (hostOps2_args a ha)).trans (W16_args m ρ c a ha)

/-! ### The arguments end as launched: no host stretch writes one and no region may change one (a region reads it
    through an input window or bypasses it) -/

theorem W17_main_arg0 (c : Dev nD) : W17 m ρ c (Proc.devRef .tc main_arg0) = m ((c : Thread nD τ).loc main_arg0) :=
  W17_args m ρ c main_arg0 (by decide)
theorem W17_main_arg1 (c : Dev nD) : W17 m ρ c (Proc.devRef .tc main_arg1) = m ((c : Thread nD τ).loc main_arg1) :=
  W17_args m ρ c main_arg1 (by decide)
theorem W17_main_arg2 (c : Dev nD) : W17 m ρ c (Proc.devRef .tc main_arg2) = m ((c : Thread nD τ).loc main_arg2) :=
  W17_args m ρ c main_arg2 (by decide)
theorem W17_main_arg3 (c : Dev nD) : W17 m ρ c (Proc.devRef .tc main_arg3) = m ((c : Thread nD τ).loc main_arg3) :=
  W17_args m ρ c main_arg3 (by decide)
theorem W17_main_arg4 (c : Dev nD) : W17 m ρ c (Proc.devRef .tc main_arg4) = m ((c : Thread nD τ).loc main_arg4) :=
  W17_args m ρ c main_arg4 (by decide)
theorem W17_main_arg5 (c : Dev nD) : W17 m ρ c (Proc.devRef .tc main_arg5) = m ((c : Thread nD τ).loc main_arg5) :=
  W17_args m ρ c main_arg5 (by decide)
theorem W17_main_arg6 (c : Dev nD) : W17 m ρ c (Proc.devRef .tc main_arg6) = m ((c : Thread nD τ).loc main_arg6) :=
  W17_args m ρ c main_arg6 (by decide)
end Cert.KernelIdeal.Gen

end
-- ==== Proof.FrameIdeal.State.lean ====
module

public import proofs.«01_k».proof.Proof.FrameIdeal.Fold0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V14 m ρ) c
  | ⟨1, _⟩ => fun c => dat1 (V15 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W17`, the generator register at some state. -/
abbrev Tₙ (c : Dev nD) : sProp 𝕄 := iprop(StableHlo.held (c : Thread nD τ) (Pipeline.ucRefs τ sig) (W17 m ρ c) ∗ ∃ r, prngReg c r)

end Cert.KernelIdeal.Gen

end
-- ==== Proof.FrameIdeal.Record0.lean ====
module

public import proofs.«01_k».proof.Proof.FrameIdeal.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W14`, left at `W15`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V14 m ρ) c).loose
  hwaits := Pipeline.hwaits_of_owed_zero _ _ _ _ L lv 0 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec0 c (V14 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V14 m ρ c) (A_eq0 (V14 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V14 m ρ c) (V15 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.FrameIdeal.Record1.lean ====
module

public import proofs.«01_k».proof.Proof.FrameIdeal.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W15`, left at `W16`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V15 m ρ) c).loose
  hwaits := Pipeline.hwaits_of_owed_zero _ _ _ _ L lv 1 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec1 c (V15 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V15 m ρ c) (A_eq1 (V15 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V15 m ρ c) (V16 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.FrameIdeal.Frame.lean ====
module

public import proofs.«01_k».proof.Proof.FrameIdeal.Record0
public import proofs.«01_k».proof.Proof.FrameIdeal.Record1

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 17 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .host (hseg hostOps0_12 hostOps0_12_sub hostOps0_12_fresh (W12 m ρ)),
    .host (hseg hostOps0_13 hostOps0_13_sub hostOps0_13_fresh (W13 m ρ)),
    .region (reg0 m ρ),
    .region (reg1 m ρ),
    .host (hseg hostOps2 hostOps2_sub hostOps2_fresh (W16 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_KernelIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W17_<arg>`;
    the kit shows every counter at zero except the TensorCores' unscoped ones, of which there are none. Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h hz => ⟨(fun c =>
      ⟨(h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h => h.1) (frame m ρ)

end Cert.KernelIdeal.Gen

end
-- ==== Proof.FrameBits.Frame.lean ====
/-
  The frame of the attention's calls at bit-exact values: with the mask's name read as its word, its program is the one the frame is proved of.
-/
module

public import proofs.«01_k».proof.Proof.FrameBits.Bodies
public import proofs.«01_k».proof.Proof.FrameBits.Main
public import proofs.«01_k».proof.Proof.FrameIdeal.Frame

@[expose] public section

set_option maxRecDepth 65536

noncomputable section

namespace Cert.FrameBits

open Idealize.ShloMosaic Idealize.SL.Sem

set_option maxHeartbeats 0 in
theorem frame : Cert.quiescent_Kernel := by
  intro m ρ _
  rw [defs_eq, main_eq]
  exact Cert.KernelIdeal.Gen.frame (F := Bits) m ρ

end Cert.FrameBits
-- ==== Proof.Run.lean ====
/-
  The program's run, to the contents its arrays hold after the last operation.

  This is the launch of `frame`, kept to every array's last contents instead of the arguments' alone.
-/
module

public import proofs.«01_k».proof.Proof.FrameIdeal.Frame

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch's implicit arguments are found by unifying its conclusion, which takes unfolding definitions in a type
set_option backward.isDefEq.respectTransparency.types false in
/-- Every execution ends, and every final state holds the contents of the last boundary. -/
theorem run_last : θ_run defs (onTc (τ := τ) (main (F := F))) ⟨m, fun _ => 0, ρ⟩ (fun r => ∀ c : Dev nD,
      ∀ b ∈ Pipeline.ucRefs τ sig, r.2.mem (((c : Thread nD τ)).1, b) = W17 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h hz => h)

end Cert.KernelIdeal.Gen

end
-- ==== Proof.Re.lean ====
/-
  Vectors of reals, read as vectors of extended reals.

  Every array of the attention kernel holds real numbers once the arguments do.  This module names the vectors and
  matrices whose entries are reals given by a function of natural numbers, and moves sums, products and maxima of such
  entries to the reals.
-/
module

public import Idealize.ShloMosaic.Lib.Pointwise
public import Idealize.ShloMosaic.Lib.IdealHost

@[expose] public section

noncomputable section

namespace Cert.Attn

open Idealize.ShloMosaic

/-- The matrix whose entry at `(i, j)` is the real `f i j`. -/
def re2 {a b : ℕ} (f : ℕ → ℕ → ℝ) : (⟨2, ![a, b]⟩ : Shape).Idx → EReal := fun i => ((f (i 0) (i 1) : ℝ) : EReal)

theorem re2_ix2 {a b : ℕ} (f : ℕ → ℕ → ℝ) (i : Fin a) (j : Fin b) :
    re2 (a := a) (b := b) f (ix2 i j) = ((f i j : ℝ) : EReal) := rfl

/-- A finite sum of reals is the same sum of extended reals. -/
theorem coe_sum {ι : Type} (s : Finset ι) (f : ι → ℝ) : ((∑ k ∈ s, f k : ℝ) : EReal) = ∑ k ∈ s, ((f k : ℝ) : EReal) := by
  classical
  induction s using Finset.induction_on with
  | empty => simp
  | insert x s h ih => rw [Finset.sum_insert h, Finset.sum_insert h, EReal.coe_add, ih]

/-- A sum over `Fin n` of real entries, over the naturals below `n`. -/
theorem sum_fin {n : ℕ} (f : ℕ → ℝ) : (∑ k : Fin n, ((f k : ℝ) : EReal)) = ((∑ k ∈ Finset.range n, f k : ℝ) : EReal) := by
  rw [Finset.sum_range, coe_sum]

/-- A maximum over a family whose members are reals or −∞, started from −∞, is a real or −∞. -/
theorem fold_max {n : ℕ} (f : Fin n → EReal) (h : ∀ k, f k ≠ ⊤) : Finset.univ.fold max ⊥ f ≠ ⊤ := by
  have : ∀ s : Finset (Fin n), s.fold max ⊥ f ≠ ⊤ := by
    intro s
    induction s using Finset.induction_on with
    | empty => simp
    | insert x s hx ih =>
      rw [Finset.fold_insert hx]
      rcases max_choice (f x) (s.fold max ⊥ f) with e | e <;> rw [e]
      · exact h x
      · exact ih
  exact this _

/-- The larger of a value below +∞ and a real is a real. -/
theorem max_real {x : EReal} (h : x ≠ ⊤) (r : ℝ) : ∃ m : ℝ, max x (r : EReal) = (m : EReal) := by
  induction x using EReal.rec with
  | bot => exact ⟨r, by simp⟩
  | top => exact absurd rfl h
  | coe y =>
    rcases le_total y r with h' | h'
    · exact ⟨r, max_eq_right (EReal.coe_le_coe_iff.mpr h')⟩
    · exact ⟨y, max_eq_left (EReal.coe_le_coe_iff.mpr h')⟩

/-- The quotient of two reals, the divisor not zero. -/
theorem div_real (x : ℝ) {y : ℝ} (h : y ≠ 0) : Ideal.div (x : EReal) (y : EReal) = ((x / y : ℝ) : EReal) := by
  rw [Ideal.div_coe h, ← EReal.coe_mul]; congr 1; ring

end Cert.Attn
-- ==== Proof.Model.lean ====
/-
  The attention and its gradients, over the reals.

  Eight heads of width 64 attend to 256 context positions and to the positions of a sequence of 4096 no further than 128 away; heads
  four at a time share their keys and values, and every head has a sink.  All functions take natural numbers.
-/
module

public import proofs.«01_k».proof.Proof.Re
public import Mathlib.Analysis.SpecialFunctions.Exp

@[expose] public section

noncomputable section

namespace Cert.Attn

/-- The arguments: queries, keys, values, context keys and values, sinks, and the gradient of the output. -/
structure Args where
  q : ℕ → ℕ → ℝ
  k : ℕ → ℕ → ℝ
  v : ℕ → ℕ → ℝ
  kc : ℕ → ℕ → ℝ
  vc : ℕ → ℕ → ℝ
  sk : ℕ → ℝ
  g : ℕ → ℕ → ℝ

/-- Two positions are compared. -/
def near (i s : ℕ) : Prop := s ≤ i + 128 ∧ i ≤ s + 128

instance (i s : ℕ) : Decidable (near i s) := by unfold near; infer_instance

namespace Args

variable (A : Args)

/-- The score of query `i` and context position `j` in head `h`. -/
def scc (h i j : ℕ) : ℝ := ∑ d ∈ Finset.range 64, A.q i (64 * h + d) / 8 * A.kc j (64 * (h / 4) + d)

/-- The score of query `i` and position `s` in head `h`. -/
def scl (h i s : ℕ) : ℝ := ∑ d ∈ Finset.range 64, A.q i (64 * h + d) / 8 * A.k s (64 * (h / 4) + d)

/-- The exponentials of the scores, zero where two positions are not compared. -/
def xc (h i j : ℕ) : ℝ := Real.exp (A.scc h i j)
def xl (h i s : ℕ) : ℝ := if near i s then Real.exp (A.scl h i s) else 0
def xs (h : ℕ) : ℝ := Real.exp (A.sk h)

/-- The sum of a row's exponentials. -/
def z (h i : ℕ) : ℝ := A.xs h + ∑ j ∈ Finset.range 256, A.xc h i j + ∑ s ∈ Finset.range 4096, A.xl h i s

/-- The probabilities. -/
def pc (h i j : ℕ) : ℝ := A.xc h i j / A.z h i
def pl (h i s : ℕ) : ℝ := A.xl h i s / A.z h i
def ps (h i : ℕ) : ℝ := A.xs h / A.z h i

/-- The output of head `h`. -/
def od (h i d : ℕ) : ℝ :=
  ∑ j ∈ Finset.range 256, A.pc h i j * A.vc j (64 * (h / 4) + d) + ∑ s ∈ Finset.range 4096, A.pl h i s * A.v s (64 * (h / 4) + d)

/-- The output. -/
def o (i c : ℕ) : ℝ := A.od (c / 64) i (c % 64)

/-- The output's gradient in head `h`. -/
def gh (h i d : ℕ) : ℝ := A.g i (64 * h + d)

/-- The gradients of the probabilities. -/
def dpc (h i j : ℕ) : ℝ := ∑ d ∈ Finset.range 64, A.gh h i d * A.vc j (64 * (h / 4) + d)
def dpl (h i s : ℕ) : ℝ := ∑ d ∈ Finset.range 64, A.gh h i d * A.v s (64 * (h / 4) + d)

/-- The product of the output and its gradient. -/
def dd (h i : ℕ) : ℝ := ∑ d ∈ Finset.range 64, A.gh h i d * A.od h i d

/-- The gradients of the scores. -/
def dsc (h i j : ℕ) : ℝ := A.pc h i j * (A.dpc h i j - A.dd h i)
def dsl (h i s : ℕ) : ℝ := A.pl h i s * (A.dpl h i s - A.dd h i)

/-- The gradients of the arguments. -/
def dqd (h i d : ℕ) : ℝ :=
  (∑ j ∈ Finset.range 256, A.dsc h i j * A.kc j (64 * (h / 4) + d) + ∑ s ∈ Finset.range 4096, A.dsl h i s * A.k s (64 * (h / 4) + d)) / 8
def dq (i c : ℕ) : ℝ := A.dqd (c / 64) i (c % 64)
def dkc (j c : ℕ) : ℝ :=
  ∑ x ∈ Finset.range 4, ∑ i ∈ Finset.range 4096, A.q i (64 * (4 * (c / 64) + x) + c % 64) / 8 * A.dsc (4 * (c / 64) + x) i j
def dk (s c : ℕ) : ℝ :=
  ∑ x ∈ Finset.range 4, ∑ i ∈ Finset.range 4096, A.q i (64 * (4 * (c / 64) + x) + c % 64) / 8 * A.dsl (4 * (c / 64) + x) i s
def dvc (j c : ℕ) : ℝ :=
  ∑ x ∈ Finset.range 4, ∑ i ∈ Finset.range 4096, A.gh (4 * (c / 64) + x) i (c % 64) * A.pc (4 * (c / 64) + x) i j
def dv (s c : ℕ) : ℝ :=
  ∑ x ∈ Finset.range 4, ∑ i ∈ Finset.range 4096, A.gh (4 * (c / 64) + x) i (c % 64) * A.pl (4 * (c / 64) + x) i s
def dsk (h : ℕ) : ℝ := -∑ i ∈ Finset.range 4096, A.ps h i * A.dd h i

theorem z_pos (h i : ℕ) : 0 < A.z h i := by
  have h1 : 0 < A.xs h := Real.exp_pos _
  have h2 : 0 ≤ ∑ j ∈ Finset.range 256, A.xc h i j := Finset.sum_nonneg fun _ _ => (Real.exp_pos _).le
  have h3 : 0 ≤ ∑ s ∈ Finset.range 4096, A.xl h i s := Finset.sum_nonneg fun s _ => by
    unfold xl
    split_ifs
    · exact (Real.exp_pos _).le
    · exact le_rfl
  unfold z
  linarith

theorem xl_far {h i s : ℕ} (hn : ¬ near i s) : A.xl h i s = 0 := if_neg hn
theorem pl_far {h i s : ℕ} (hn : ¬ near i s) : A.pl h i s = 0 := by rw [pl, A.xl_far hn, zero_div]
theorem dsl_far {h i s : ℕ} (hn : ¬ near i s) : A.dsl h i s = 0 := by rw [dsl, A.pl_far hn, zero_mul]

/-- The product of the output and its gradient, as the probabilities' product with their gradients. -/
theorem dd_eq (h i : ℕ) : A.dd h i
    = ∑ j ∈ Finset.range 256, A.dpc h i j * A.pc h i j + ∑ s ∈ Finset.range 4096, A.dpl h i s * A.pl h i s := by
  unfold dd od dpc dpl
  simp only [mul_add, Finset.sum_add_distrib, Finset.mul_sum, Finset.sum_mul]
  congr 1
  · rw [Finset.sum_comm]
    exact Finset.sum_congr rfl fun _ _ => Finset.sum_congr rfl fun _ _ => by ring
  · rw [Finset.sum_comm]
    exact Finset.sum_congr rfl fun _ _ => Finset.sum_congr rfl fun _ _ => by ring

end Args

end Cert.Attn
-- ==== Proof.FwdPay.lean ====
/-
  The values the forward attention body computes at one grid point, over matrices of reals.

  A point has 128 queries.  It treats them in four groups of 256 rows (two heads of one lane half each), against 640 columns:
  the 256 context rows and a window of 384 positions.  Each lemma says that one named value of the body, applied to matrices
  of reals, is the matrix of reals one expects.
-/
module

public import Idealize.ShloMosaic.Lib.Pipeline.ValueKit
public import Idealize.ShloMosaic.Lib.Tactic.WordOmega
public import proofs.«01_k».proof.Proof.Re
public import proofs.«01_k».proof.Proof.Gen.KernelIdeal.Skeleton

@[expose] public section

set_option maxRecDepth 16384

noncomputable section

namespace Cert.Attn

open Idealize.ShloMosaic
open Cert.KernelIdeal Cert.KernelIdeal.Gen

/-- The matrix of the mask added to the scores: zero where a pair of positions is compared, −∞ elsewhere. -/
def maskOf (ok : ℕ → ℕ → Prop) [∀ i j, Decidable (ok i j)] : FVec Ideal S256x640 .f32 := fun i => if ok (i 0) (i 1) then 0 else ⊥

/-- The lanes of the first half, marked. -/
def lo : IVec S1x128 1 := fun i => if (i 1 : ℕ) < 64 then 1#1 else 0#1

/-- Two matrices, one above the other. -/
def stk (n : ℕ) (f g : ℕ → ℕ → ℝ) : ℕ → ℕ → ℝ := fun i j => if i < n then f i j else g (i - n) j

/-- A number for each of the two halves of the 256 rows. -/
def pair (a b : ℝ) : ℕ → ℝ := fun i => if i < 128 then a else b

/-- A column of reals. -/
def col (f : ℕ → ℝ) : FVec Ideal S256x1 .f32 := fun i => ((f (i 0) : ℝ) : EReal)

theorem col_ix2 (f : ℕ → ℝ) (r : Fin 256) (d : Fin 1) : col f (ix2 r d) = ((f r : ℝ) : EReal) := rfl

/-- Row `r` (of a group of 256) and column `k` of the window at point `t` are compared: a context column, or a position of the
    sequence no further than 128 from the query. -/
def okw (t r k : ℕ) : Prop := k < 256 ∨ (k ≤ r % 128 + 512 ∧ r % 128 + 256 ≤ k ∧ 384 ≤ 128 * t + k ∧ 128 * t + k < 4480)

instance (t r k : ℕ) : Decidable (okw t r k) := by unfold okw; infer_instance

/-- The product of the queries with the keys. -/
def scr (q ka : ℕ → ℕ → ℝ) : ℕ → ℕ → ℝ := fun r k => ∑ d ∈ Finset.range 128, q r d * ka k d

/-- The exponentials of the compared scores, above a number `M` for each row. -/
def expo (ok : ℕ → ℕ → Prop) [∀ i j, Decidable (ok i j)] (s : ℕ → ℕ → ℝ) (M : ℕ → ℝ) : ℕ → ℕ → ℝ :=
  fun r k => if ok r k then Real.exp (s r k - M r) else 0

/-- One over the sum of a row's exponentials and its sink's. -/
def invr (e : ℕ → ℕ → ℝ) (es : ℕ → ℝ) : ℕ → ℝ := fun r => 1 / (∑ k ∈ Finset.range 640, e r k + es r)

/-- The exponential of the sink. -/
def snk (sk M : ℕ → ℝ) : ℕ → ℝ := fun r => Real.exp (sk r - M r)

/-- A product of two matrices over 640 columns, each row scaled. -/
def outr (e : ℕ → ℕ → ℝ) (i : ℕ → ℝ) (va : ℕ → ℕ → ℝ) : ℕ → ℕ → ℝ := fun r d => (∑ k ∈ Finset.range 640, e r k * va k d) * i r

theorem pay5 (kc kp : ℕ → ℕ → ℝ) : k0_pay5 (F := Ideal) (re2 kc) (re2 kp) = re2 (stk 256 kc kp) := by
  funext j
  idx_vars j
  pointwise [k0_pay5]
  simp only [re2_ix2, stk]
  split_ifs <;> rfl

theorem pay6 (kc kp : ℕ → ℕ → ℝ) : k0_pay6 (F := Ideal) (re2 kc) (re2 kp) = re2 (stk 256 kc kp) := pay5 kc kp
theorem pay7 (kc kp : ℕ → ℕ → ℝ) : k0_pay7 (F := Ideal) (re2 kc) (re2 kp) = re2 (stk 256 kc kp) := pay5 kc kp
theorem pay8 (kc kp : ℕ → ℕ → ℝ) : k0_pay8 (F := Ideal) (re2 kc) (re2 kp) = re2 (stk 256 kc kp) := pay5 kc kp

theorem pay17 (a b : ℕ → ℕ → ℝ) : k0_pay17 (F := Ideal) (re2 a) (re2 b) = re2 (stk 128 a b) := by
  funext j
  idx_vars j
  pointwise [k0_pay17]
  simp only [re2_ix2, stk]
  split_ifs <;> rfl

theorem pay21 (a b : ℝ) : k0_pay21 (F := Ideal) (a : EReal) (b : EReal) = col (pair a b) := by
  funext j
  idx_vars j
  pointwise [k0_pay21]
  simp only [col_ix2, pair]
  split_ifs <;> rfl

theorem pay12 : k0_pay12 = lo := by
  funext j
  idx_vars j
  pointwise [k0_pay12, lo]
  show _ = if (j1 : ℕ) < 64 then 1#1 else 0#1
  by_cases h : (j1 : ℕ) < 64
  · rw [if_pos h]; word_omega
  · rw [if_neg h]; word_omega

theorem rem128 : ∀ r : Fin 256, (IntOp.remsi ArithUnit.vector (BitVec.ofNat 32 ↑r)
    (Scalar.select (Scalar.cmpi CmpIPredicate.eq 128#32 0#32) 1#32 128#32)) = BitVec.ofNat 32 (r % 128) := by decide +kernel

/-- The body's test, on words, whether two positions are compared. -/
theorem word_ok (t r k : ℕ) (ht : t < 32) (hr : r < 128) (hk : k < 640) :
    (IntOp.ori (IntOp.cmpi CmpIPredicate.slt (BitVec.ofNat 32 k) 256#32)
      (IntOp.andi
        (IntOp.andi
          (IntOp.cmpi CmpIPredicate.sle
            (IntOp.absi
              (IntOp.subi
                (IntOp.addi (Scalar.muli (BitVec.ofNat 32 t) 128#32)
                  (Scalar.select
                    (IntOp.andi (IntOp.xori (IntOp.cmpi CmpIPredicate.slt (BitVec.ofNat 32 r) 0#32) 0#1)
                      (IntOp.cmpi CmpIPredicate.ne (BitVec.ofNat 32 r) 0#32))
                    (IntOp.addi (BitVec.ofNat 32 r) 128#32) (BitVec.ofNat 32 r)))
                (IntOp.addi (Scalar.muli (Scalar.subi (BitVec.ofNat 32 t) 1#32) 128#32)
                  (IntOp.subi (BitVec.ofNat 32 k) 256#32))))
            128#32)
          (IntOp.cmpi CmpIPredicate.sge
            (IntOp.addi (Scalar.muli (Scalar.subi (BitVec.ofNat 32 t) 1#32) 128#32)
              (IntOp.subi (BitVec.ofNat 32 k) 256#32))
            0#32))
        (IntOp.cmpi CmpIPredicate.slt
          (IntOp.addi (Scalar.muli (Scalar.subi (BitVec.ofNat 32 t) 1#32) 128#32)
            (IntOp.subi (BitVec.ofNat 32 k) 256#32))
          4096#32)))
    = if okw t r k then 1#1 else 0#1 := by
  have hs : (Scalar.select
                    (IntOp.andi (IntOp.xori (IntOp.cmpi CmpIPredicate.slt (BitVec.ofNat 32 r) 0#32) 0#1)
                      (IntOp.cmpi CmpIPredicate.ne (BitVec.ofNat 32 r) 0#32))
                    (IntOp.addi (BitVec.ofNat 32 r) 128#32) (BitVec.ofNat 32 r)) = BitVec.ofNat 32 r := by
    have : IntOp.cmpi CmpIPredicate.slt (BitVec.ofNat 32 r) 0#32 = 0#1 := by word_omega
    rw [this]
    generalize IntOp.cmpi CmpIPredicate.ne (BitVec.ofNat 32 r) 0#32 = x
    have hx : IntOp.andi (IntOp.xori 0#1 0#1) x = 0#1 := by
      revert x; decide
    rw [hx]; rfl
  rw [hs]
  clear hs
  set p : BitVec 32 := (IntOp.addi (Scalar.muli (Scalar.subi (BitVec.ofNat 32 t) 1#32) 128#32) (IntOp.subi (BitVec.ofNat 32 k) 256#32)) with hp
  have hpi : p.toInt = 128 * (t : ℤ) + k - 384 := by
    simp only [hp, IntOp.addi, IntOp.subi, IntOp.muli, Scalar.muli, Scalar.subi, BitVec.toInt_add, BitVec.toInt_sub, BitVec.toInt_mul,
      BitVec.toInt_ofNat', Int.bmod_add_bmod, Int.add_bmod_bmod, Int.bmod_sub_bmod, Int.sub_bmod_bmod, Int.bmod_mul_bmod, Int.mul_bmod_bmod]
    rw [Int.bmod_eq_of_le (by push_cast; omega) (by push_cast; omega)]
    push_cast; omega
  have hdi : (IntOp.subi (IntOp.addi (Scalar.muli (BitVec.ofNat 32 t) 128#32) (BitVec.ofNat 32 r)) p).toInt = (r : ℤ) + 384 - k := by
    simp only [hp, IntOp.addi, IntOp.subi, IntOp.muli, Scalar.muli, Scalar.subi, BitVec.toInt_add, BitVec.toInt_sub, BitVec.toInt_mul,
      BitVec.toInt_ofNat', Int.bmod_add_bmod, Int.add_bmod_bmod, Int.bmod_sub_bmod, Int.sub_bmod_bmod, Int.bmod_mul_bmod, Int.mul_bmod_bmod]
    rw [Int.bmod_eq_of_le (by push_cast; omega) (by push_cast; omega)]
    push_cast; omega
  generalize (IntOp.subi (IntOp.addi (Scalar.muli (BitVec.ofNat 32 t) 128#32) (BitVec.ofNat 32 r)) p) = d at hdi ⊢
  clear hp; clear_value p
  have ha : (IntOp.absi d).toInt = |d.toInt| := by
    unfold IntOp.absi
    rw [BitVec.msb_eq_toInt]
    by_cases h : d.toInt < 0
    · rw [if_pos (by simpa using h), abs_of_neg h]; word_omega
    · rw [if_neg (by simpa using h), abs_of_nonneg (by omega)]
  have e1 : IntOp.cmpi CmpIPredicate.slt (BitVec.ofNat 32 k) 256#32 = BitVec.ofBool (decide (k < 256)) :=
    WordCmp.cmpi_slt_ofNat (by omega) (by norm_num)
  have e2 : (128#32 : BitVec 32).toInt = 128 := rfl
  have e3 : (4096#32 : BitVec 32).toInt = 4096 := rfl
  have e4 : (0#32 : BitVec 32).toInt = 0 := rfl
  rw [e1, WordCmp.cmpi_sle_eq, WordCmp.cmpi_sge_eq, WordCmp.cmpi_slt_eq, ha, hdi, hpi, e2, e3, e4, WordCmp.andi_ofBool, WordCmp.andi_ofBool, WordCmp.ori_ofBool]
  have hb : ∀ b : Bool, BitVec.ofBool b = if b then 1#1 else 0#1 := by decide
  rw [hb]
  congr 1
  simp only [Bool.or_eq_true, Bool.and_eq_true, decide_eq_true_eq, abs_le, okw, Nat.mod_eq_of_lt hr, eq_iff_iff]
  omega

theorem pay11 (t : ℕ) (ht : t < 32) :
    k0_pay11 (F := Ideal) (BitVec.ofNat 32 t) (Scalar.select (Scalar.cmpi .eq 128#32 0#32) 1#32 128#32) k0_pay9 k0_pay10 = maskOf (okw t) := by
  funext j
  idx_vars j
  pointwise [k0_pay11, k0_pay9, k0_pay10, maskOf]
  simp only [rem128]
  have hn : Named.named (F := Ideal) (φ := FTy.f32) κ "mask" 4048155338#32 = (⊥ : EReal) := rfl
  rw [hn]
  have h0 : (Scalar.select (Scalar.cmpi CmpIPredicate.eq 128#32 0#32) 1#32 128#32) = 128#32 := by decide
  have h1 : Scalar.cmpi CmpIPredicate.slt 128#32 0#32 = 0#1 := by decide
  rw [h0, h1, word_ok t (j0 % 128) j1 ht (Nat.mod_lt _ (by norm_num)) j1.isLt]
  have : okw t (j0 % 128) j1 ↔ okw t j0 j1 := by unfold okw; rw [Nat.mod_mod]
  by_cases h : okw t j0 j1 <;> simp only [this, h, if_true, if_false] <;> rfl

variable (ok : ℕ → ℕ → Prop) [∀ i j, Decidable (ok i j)]

/-- The scores, −∞ where a pair is not compared. -/
theorem pay22 (ka q : ℕ → ℕ → ℝ) (r : Fin 256) (k : Fin 640) :
    k0_pay22 (F := Ideal) (re2 ka) (maskOf ok) (re2 q) (ix2 r k) = if ok r k then ((scr q ka r k : ℝ) : EReal) else ⊥ := by
  pointwise [k0_pay22]
  simp only [re2_ix2, ← EReal.coe_mul]
  rw [sum_fin fun d => q r d * ka k d]
  show _ + (if ok r k then (0 : EReal) else ⊥) = _
  by_cases h : ok r k
  · rw [if_pos h, if_pos h, add_zero]; rfl
  · rw [if_neg h, if_neg h, EReal.add_bot]

/-- A row's greatest score, its sink among them, is a real. -/
theorem pay23 (ka q : ℕ → ℕ → ℝ) (x y : ℝ) :
    ∃ M : ℕ → ℝ, k0_pay23 (F := Ideal) (re2 ka) (maskOf ok) (re2 q) (x : EReal) (y : EReal) = col M := by
  have h : ∀ r : Fin 256, ∃ M : ℝ, k0_pay23 (F := Ideal) (re2 ka) (maskOf ok) (re2 q) (x : EReal) (y : EReal) (ix2 r 0) = (M : EReal) := by
    intro r
    pointwise [k0_pay23]
    rw [pay21]
    refine max_real ?_ _
    have h0 : Ideal.ofBits FTy.f32 4286578688#32 = ⊥ := by decide +kernel
    rw [h0]
    refine fold_max _ fun k => ?_
    rw [pay22]
    split_ifs
    · exact EReal.coe_ne_top _
    · exact bot_ne_top
  choose M hM using h
  refine ⟨fun r => if hr : r < 256 then M ⟨r, hr⟩ else 0, ?_⟩
  funext j
  idx_vars j
  rw [show j1 = 0 from Subsingleton.elim _ _, hM, col_ix2, dif_pos j0.isLt]

section Core

variable {ka q : ℕ → ℕ → ℝ} {x y : ℝ} {M : ℕ → ℝ}

theorem pay24 (hM : k0_pay23 (F := Ideal) (re2 ka) (maskOf ok) (re2 q) (x : EReal) (y : EReal) = col M) :
    k0_pay24 (F := Ideal) (re2 ka) (maskOf ok) (re2 q) (x : EReal) (y : EReal) = re2 (expo ok (scr q ka) M) := by
  funext j
  idx_vars j
  pointwise [k0_pay24]
  rw [hM, pay22, re2_ix2, col_ix2, expo]
  by_cases h : ok j0 j1
  · rw [if_pos h, if_pos h, ← EReal.coe_sub]; rfl
  · rw [if_neg h, if_neg h, EReal.bot_sub]; rfl

theorem pay25 (hM : k0_pay23 (F := Ideal) (re2 ka) (maskOf ok) (re2 q) (x : EReal) (y : EReal) = col M) :
    k0_pay25 (F := Ideal) (re2 ka) (maskOf ok) (re2 q) (x : EReal) (y : EReal) = col (snk (pair x y) M) := by
  funext j
  idx_vars j
  pointwise [k0_pay25]
  rw [hM, pay21, col_ix2, col_ix2, ← EReal.coe_sub]; rfl

theorem expo_nonneg (s : ℕ → ℕ → ℝ) (M : ℕ → ℝ) (r k : ℕ) : 0 ≤ expo ok s M r k := by
  unfold expo; split_ifs
  · exact (Real.exp_pos _).le
  · exact le_rfl

theorem den_pos (s : ℕ → ℕ → ℝ) (sk M : ℕ → ℝ) (r : ℕ) : 0 < ∑ k ∈ Finset.range 640, expo ok s M r k + snk sk M r :=
  add_pos_of_nonneg_of_pos (Finset.sum_nonneg fun k _ => expo_nonneg ok s M r k) (Real.exp_pos _)

theorem pay26 (hM : k0_pay23 (F := Ideal) (re2 ka) (maskOf ok) (re2 q) (x : EReal) (y : EReal) = col M) :
    k0_pay26 (F := Ideal) (re2 ka) (maskOf ok) (re2 q) (x : EReal) (y : EReal)
      = col (invr (expo ok (scr q ka) M) (snk (pair x y) M)) := by
  funext j
  idx_vars j
  pointwise [k0_pay26]
  rw [pay24 ok hM, pay25 ok hM]
  simp only [re2_ix2, col_ix2]
  rw [sum_fin fun k => expo ok (scr q ka) M j0 k, ← EReal.coe_add, ← EReal.coe_one, div_real _ (den_pos ok _ _ _ _).ne']
  rfl

theorem pay27 (hM : k0_pay23 (F := Ideal) (re2 ka) (maskOf ok) (re2 q) (x : EReal) (y : EReal) = col M) :
    k0_pay27 (F := Ideal) (re2 ka) (maskOf ok) (re2 q) (x : EReal) (y : EReal) = re2 (expo ok (scr q ka) M) := pay24 ok hM

end Core

/-- The stored exponentials. -/
theorem pay28 (e : ℕ → ℕ → ℝ) (a b : Fin 1) (r : Fin 256) (k : Fin 640) :
    k0_pay28 (F := Ideal) (re2 e) (ix4 a b r k) = ((e r k : ℝ) : EReal) := by
  pointwise [k0_pay28]
  rfl

theorem lo_ix2 (a : Fin 1) (d : Fin 128) : lo (ix2 a d) = if (d : ℕ) < 64 then 1#1 else 0#1 := rfl

/-- The stored statistics: one over the row's sum in the first half of the lanes, the sink's share in the second. -/
theorem pay29 (es i : ℕ → ℝ) (a b : Fin 1) (r : Fin 256) (d : Fin 128) :
    k0_pay29 (F := Ideal) lo (col es) (col i) (ix4 a b r d) = ((if (d : ℕ) < 64 then i r else es r * i r : ℝ) : EReal) := by
  pointwise [k0_pay29]
  rw [lo_ix2]
  by_cases h : (d : ℕ) < 64
  · rw [if_pos h, if_pos h]; rfl
  · rw [if_neg h, if_neg h]; rw [col_ix2, col_ix2, ← EReal.coe_mul]; rfl

/-- The weighted sum of the values. -/
theorem pay60 (va e : ℕ → ℕ → ℝ) (i : ℕ → ℝ) : k0_pay60 (F := Ideal) (re2 va) (col i) (re2 e) = re2 (outr e i va) := by
  funext j
  idx_vars j
  pointwise [k0_pay60]
  simp only [re2_ix2, col_ix2, ← EReal.coe_mul]
  rw [sum_fin fun k => e j0 k * va k j1, ← EReal.coe_mul]
  rfl

/-- The first half of the lanes from one matrix, the second from another, at rows from `n` on. -/
def mixl (n : ℕ) (f g : ℕ → ℕ → ℝ) : ℕ → ℕ → ℝ := fun r d => if d < 64 then f (n + r) d else g (n + r) d

theorem xor1 : IntOp.xori 1#1 1#1 = 0#1 ∧ IntOp.xori 0#1 1#1 = 1#1 := by decide

/-- Adding the two halves, each zero outside its lanes. -/
theorem halves (d : Fin 128) (x y : EReal) :
    Scalar.select (lo (ix2 0 d)) x 0 + Scalar.select (IntOp.xori (lo (ix2 0 d)) 1#1) y 0 = if (d : ℕ) < 64 then x else y := by
  rw [lo_ix2]
  by_cases h : (d : ℕ) < 64
  · rw [if_pos h, if_pos h, xor1.1]; exact add_zero x
  · rw [if_neg h, if_neg h, xor1.2]; exact zero_add y

section Out

variable {v19 v25 : FVec Ideal S640x128 .bf16} {inv0 inv1 : FVec Ideal S256x1 .f32} {e0 e1 : FVec Ideal S256x640 .bf16} {f g : ℕ → ℕ → ℝ}

theorem pay66 (hf : k0_pay60 (F := Ideal) v19 inv0 e0 = re2 f) (hg : k0_pay60 (F := Ideal) v25 inv1 e1 = re2 g) :
    k0_pay1 (k0_pay66 (F := Ideal) v25 lo k0_pay13 inv1 e1 (k0_pay61 v19 inv0 e0) (k0_pay62 lo) k0_pay63) = re2 (mixl 0 f g) := by
  have hg' : k0_pay65 (F := Ideal) v25 inv1 e1 = re2 g := hg
  funext j
  idx_vars j
  pointwise [k0_pay1, k0_pay66, k0_pay61, k0_pay62, k0_pay63, k0_pay64, k0_pay13, hf, hg']
  rw [halves]
  show _ = ((mixl _ f g j0 j1 : ℝ) : EReal)
  unfold mixl; try simp only [Nat.zero_add]
  split_ifs <;> rfl

theorem pay67 (hf : k0_pay60 (F := Ideal) v19 inv0 e0 = re2 f) (hg : k0_pay60 (F := Ideal) v25 inv1 e1 = re2 g) :
    k0_pay2 (k0_pay67 (F := Ideal) v25 lo k0_pay14 inv1 e1 (k0_pay60 v19 inv0 e0)) = re2 (mixl 128 f g) := by
  have hg' : k0_pay65 (F := Ideal) v25 inv1 e1 = re2 g := hg
  funext j
  idx_vars j
  pointwise [k0_pay2, k0_pay67, k0_pay64, k0_pay14, hf, hg']
  rw [halves]
  show _ = ((mixl _ f g j0 j1 : ℝ) : EReal)
  unfold mixl; try simp only [Nat.zero_add]
  split_ifs <;> rfl

theorem pay72 (hf : k0_pay60 (F := Ideal) v25 inv0 e0 = re2 f) (hg : k0_pay60 (F := Ideal) v19 inv1 e1 = re2 g) :
    k0_pay3 (k0_pay72 (F := Ideal) v19 v25 lo k0_pay15 inv0 e0 inv1 e1) = re2 (mixl 0 f g) := by
  have hf' : k0_pay68 (F := Ideal) v25 inv0 e0 = re2 f := hf
  have hg' : k0_pay71 (F := Ideal) v19 inv1 e1 = re2 g := hg
  funext j
  idx_vars j
  pointwise [k0_pay3, k0_pay72, k0_pay70, k0_pay15, hf', hg']
  rw [halves]
  show _ = ((mixl _ f g j0 j1 : ℝ) : EReal)
  unfold mixl; try simp only [Nat.zero_add]
  split_ifs <;> rfl

theorem pay4 (hf : k0_pay60 (F := Ideal) v25 inv0 e0 = re2 f) (hg : k0_pay60 (F := Ideal) v19 inv1 e1 = re2 g) :
    k0_pay4 (k0_pay69 (F := Ideal) v25 lo k0_pay16 inv0 e0) (k0_pay70 lo) (k0_pay71 v19 inv1 e1) = re2 (mixl 128 f g) := by
  have hf' : k0_pay68 (F := Ideal) v25 inv0 e0 = re2 f := hf
  have hg' : k0_pay71 (F := Ideal) v19 inv1 e1 = re2 g := hg
  funext j
  idx_vars j
  pointwise [k0_pay4, k0_pay69, k0_pay70, k0_pay16, hf', hg']
  rw [halves]
  show _ = ((mixl _ f g j0 j1 : ℝ) : EReal)
  unfold mixl; try simp only [Nat.zero_add]
  split_ifs <;> rfl

end Out

/-! The four groups compute the same functions; the body names them apart. -/

section Groups

variable (v68 : FVec Ideal S256x640 .f32) (ka : FVec Ideal S640x128 .bf16) (a b : FVec Ideal S128x128 .bf16) (x y : EReal)

theorem pay35 : k0_pay35 (F := Ideal) v68 (k0_pay18 ka a b) x y = k0_pay26 ka v68 (k0_pay17 a b) x y := rfl
theorem pay36 : k0_pay36 (F := Ideal) v68 (k0_pay18 ka a b) x y = k0_pay27 ka v68 (k0_pay17 a b) x y := rfl
theorem pay37 : k0_pay37 (F := Ideal) v68 (k0_pay18 ka a b) x y = k0_pay28 (k0_pay27 ka v68 (k0_pay17 a b) x y) := rfl
theorem pay40 : k0_pay40 (F := Ideal) (k0_pay35 v68 (k0_pay18 ka a b) x y) (k0_pay38 v68 (k0_pay18 ka a b) x y) (k0_pay39 lo)
    = k0_pay29 lo (k0_pay25 ka v68 (k0_pay17 a b) x y) (k0_pay26 ka v68 (k0_pay17 a b) x y) := rfl
theorem pay46 : k0_pay46 (F := Ideal) v68 (k0_pay19 ka a b) x y = k0_pay26 ka v68 (k0_pay17 a b) x y := rfl
theorem pay47 : k0_pay47 (F := Ideal) v68 (k0_pay19 ka a b) x y = k0_pay27 ka v68 (k0_pay17 a b) x y := rfl
theorem pay48 : k0_pay48 (F := Ideal) v68 (k0_pay19 ka a b) x y = k0_pay28 (k0_pay27 ka v68 (k0_pay17 a b) x y) := rfl
theorem pay50 : k0_pay50 (k0_pay49 (F := Ideal) v68 lo (k0_pay19 ka a b) x y)
    = k0_pay29 lo (k0_pay25 ka v68 (k0_pay17 a b) x y) (k0_pay26 ka v68 (k0_pay17 a b) x y) := rfl
theorem pay56 : k0_pay56 (F := Ideal) v68 (k0_pay20 ka a b) x y = k0_pay26 ka v68 (k0_pay17 a b) x y := rfl
theorem pay57 : k0_pay57 (F := Ideal) v68 (k0_pay20 ka a b) x y = k0_pay27 ka v68 (k0_pay17 a b) x y := rfl
theorem pay58 : k0_pay58 (F := Ideal) v68 (k0_pay20 ka a b) x y = k0_pay28 (k0_pay27 ka v68 (k0_pay17 a b) x y) := rfl
theorem pay59 : k0_pay59 (F := Ideal) v68 lo (k0_pay20 ka a b) x y
    = k0_pay29 lo (k0_pay25 ka v68 (k0_pay17 a b) x y) (k0_pay26 ka v68 (k0_pay17 a b) x y) := rfl

end Groups

end Cert.Attn
-- ==== Proof.BwdPay.lean ====
/-
  The values the backward attention body computes at one grid point, over matrices of reals.

  As in the forward call a point treats its 128 queries in four groups of 256 rows against 640 columns.  The four groups go
  through the same steps, so each step has one lemma and the others are read off it.
-/
module

public import proofs.«01_k».proof.Proof.FwdPay

@[expose] public section

set_option maxRecDepth 16384

noncomputable section

namespace Cert.Attn

open Idealize.ShloMosaic
open Cert.KernelIdeal Cert.KernelIdeal.Gen

namespace Bwd

/-- The lanes of one half, marked: the first if `b`, else the second. -/
def lan (b : Bool) : IVec S1x128 1 := fun i => if decide ((i 1 : ℕ) < 64) = b then 1#1 else 0#1

/-- A matrix cleared outside the lanes of one half. -/
def ln (b : Bool) (f : ℕ → ℕ → ℝ) : ℕ → ℕ → ℝ := fun r d => if decide (d < 64) = b then f r d else 0

/-- The row products of two matrices. -/
def rdot (f g : ℕ → ℕ → ℝ) : ℕ → ℝ := fun r => ∑ d ∈ Finset.range 128, f r d * g r d

/-- The gradient of the scores. -/
def dsf (p v dom : ℕ → ℕ → ℝ) (dd : ℕ → ℝ) : ℕ → ℕ → ℝ := fun r k => p r k * (scr dom v r k - dd r)

/-- A product over 640 columns. -/
def mm6 (f g : ℕ → ℕ → ℝ) : ℕ → ℕ → ℝ := fun r d => ∑ k ∈ Finset.range 640, f r k * g k d

/-- A product over the 256 rows of a group. -/
def mm2 (f g : ℕ → ℕ → ℝ) : ℕ → ℕ → ℝ := fun d k => ∑ r ∈ Finset.range 256, f r d * g r k

/-- A matrix in the last two of four dimensions. -/
def re4 {a b : ℕ} (f : ℕ → ℕ → ℝ) : (⟨4, ![1, 1, a, b]⟩ : Shape).Idx → EReal := fun i => ((f (i 2) (i 3) : ℝ) : EReal)

theorem re4_ix4 {a b : ℕ} (f : ℕ → ℕ → ℝ) (x y : Fin 1) (i : Fin a) (j : Fin b) :
    re4 (a := a) (b := b) f (ix4 x y i j) = ((f i j : ℝ) : EReal) := rfl

theorem lan_ix2 (b : Bool) (a : Fin 1) (d : Fin 128) : lan b (ix2 a d) = if decide ((d : ℕ) < 64) = b then 1#1 else 0#1 := rfl

theorem pay10 : k1_pay10 = lan true := by
  refine (show k1_pay10 = k0_pay12 from rfl).trans (pay12.trans ?_)
  funext i
  show (if _ then _ else _) = (if _ then _ else _)
  simp only [decide_eq_true_eq]

theorem pay31 : k1_pay31 (lan true) = lan false := by
  funext j
  idx_vars j
  pointwise [k1_pay31]
  rw [lan_ix2, lan_ix2]
  by_cases h : (j1 : ℕ) < 64 <;> simp only [h, decide_true, decide_false] <;> decide

theorem pay6 (kc kp : ℕ → ℕ → ℝ) : k1_pay6 (F := Ideal) (re2 kc) (re2 kp) = re2 (stk 256 kc kp) := Attn.pay5 kc kp
theorem pay7 (kc kp : ℕ → ℕ → ℝ) : k1_pay7 (F := Ideal) (re2 kc) (re2 kp) = re2 (stk 256 kc kp) := Attn.pay5 kc kp
theorem pay8 (kc kp : ℕ → ℕ → ℝ) : k1_pay8 (F := Ideal) (re2 kc) (re2 kp) = re2 (stk 256 kc kp) := Attn.pay5 kc kp
theorem pay9 (kc kp : ℕ → ℕ → ℝ) : k1_pay9 (F := Ideal) (re2 kc) (re2 kp) = re2 (stk 256 kc kp) := Attn.pay5 kc kp
theorem pay17 (a b : ℕ → ℕ → ℝ) : k1_pay17 (F := Ideal) (re2 a) (re2 b) = re2 (stk 128 a b) := Attn.pay17 a b

theorem pay18 (e s : ℕ → ℕ → ℝ) : k1_pay18 (F := Ideal) (re4 e) (re4 s) = re2 (fun r k => e r k * s r 0) := by
  funext j
  idx_vars j
  pointwise [k1_pay18]
  simp only [re4_ix4, ← EReal.coe_mul]
  rfl

theorem sel_ln (b : Bool) (f : ℕ → ℕ → ℝ) (r d : ℕ) (hd : d < 128) :
    Scalar.select (if decide (d < 64) = b then 1#1 else 0#1) ((f r d : ℝ) : EReal) 0 = ((ln b f r d : ℝ) : EReal) := by
  unfold ln
  split_ifs <;> rfl

theorem pay19 (m : Bool) (a b : ℕ → ℕ → ℝ) : k1_pay19 (F := Ideal) (lan m) (re2 a) (re2 b) = re2 (ln m (stk 128 a b)) := by
  funext j
  idx_vars j
  pointwise [k1_pay19]
  rw [lan_ix2, re2_ix2, ← sel_ln _ _ _ _ j1.isLt]
  congr 1
  simp only [re2_ix2, stk]
  split_ifs <;> rfl

theorem pay21 (m : Bool) (a b : ℕ → ℕ → ℝ) : k1_pay21 (F := Ideal) (lan m) (re2 a) (re2 b) = re2 (ln m (stk 128 a b)) := pay19 m a b

theorem pay20 (m : Bool) (a b o o' : ℕ → ℕ → ℝ) :
    k1_pay20 (F := Ideal) (lan m) (re2 a) (re2 b) (re2 o) (re2 o') = col (rdot (ln m (stk 128 a b)) (stk 128 o o')) := by
  have h : ∀ (r : Fin 256) (d : Fin 128), (if h : (r : ℕ) < 128 then ((o r d : ℝ) : EReal) else ((o' (r - 128) d : ℝ) : EReal)) = ((stk 128 o o' r d : ℝ) : EReal) := by
    intro r d
    unfold stk
    split_ifs <;> rfl
  funext j
  idx_vars j
  pointwise [k1_pay20]
  rw [pay19]
  simp only [re2_ix2, h, ← EReal.coe_mul]
  rw [sum_fin fun d => ln m (stk 128 a b) j0 d * stk 128 o o' j0 d]
  rfl

theorem pay22 (m : Bool) (a b o o' s : ℕ → ℕ → ℝ) :
    k1_pay22 (F := Ideal) (lan m) (re2 a) (re2 b) (re2 o) (re2 o') (re4 s)
      = col (fun r => s r 0 * rdot (ln m (stk 128 a b)) (stk 128 o o') r) := by
  funext j
  idx_vars j
  pointwise [k1_pay22]
  rw [pay20, col_ix2, re4_ix4, ← EReal.coe_mul]
  rfl

theorem pay23 (f : ℕ → ℝ) (x : ℕ → ℕ → ℝ) :
    k1_pay23 (F := Ideal) (col f) (re2 x) = re2 (fun r d => x r d - ∑ i ∈ Finset.range 128, f i) := by
  funext j
  idx_vars j
  pointwise [k1_pay23]
  simp only [re2_ix2, col_ix2]
  rw [sum_fin fun i => f i, ← EReal.coe_sub]

theorem pay24 (f : ℕ → ℝ) (x : ℕ → ℕ → ℝ) :
    k1_pay24 (F := Ideal) (col f) (re2 x) = re2 (fun r d => x r d - ∑ i ∈ Finset.range 128, f (128 + i)) := by
  funext j
  idx_vars j
  pointwise [k1_pay24]
  simp only [re2_ix2, col_ix2]
  rw [sum_fin fun i => f (128 + i), ← EReal.coe_sub]

theorem pay25 (v p dom : ℕ → ℕ → ℝ) (dd : ℕ → ℝ) :
    k1_pay25 (F := Ideal) (re2 v) (re2 p) (col dd) (re2 dom) = re2 (dsf p v dom dd) := by
  funext j
  idx_vars j
  pointwise [k1_pay25]
  simp only [re2_ix2, col_ix2, ← EReal.coe_mul]
  rw [sum_fin fun d => dom j0 d * v j1 d, ← EReal.coe_sub, ← EReal.coe_mul]
  rfl

theorem pay26 (ka v p dom : ℕ → ℕ → ℝ) (dd : ℕ → ℝ) :
    k1_pay26 (F := Ideal) (re2 ka) (re2 v) (re2 p) (col dd) (re2 dom) = re2 (mm6 (dsf p v dom dd) ka) := by
  funext j
  idx_vars j
  pointwise [k1_pay26]
  rw [pay25]
  simp only [re2_ix2, ← EReal.coe_mul]
  rw [sum_fin fun k => dsf p v dom dd j0 k * ka k j1]
  rfl

theorem pay27 (m : Bool) (w ka v p dom : ℕ → ℕ → ℝ) (dd : ℕ → ℝ) :
    k1_pay27 (F := Ideal) (re2 ka) (re2 v) (lan m) (re2 w) (re2 p) (col dd) (re2 dom)
      = re2 (fun r d => w r d + ln m (mm6 (dsf p v dom dd) ka) r d) := by
  funext j
  idx_vars j
  pointwise [k1_pay27]
  rw [pay26]
  simp only [re2_ix2, lan_ix2]
  rw [sel_ln _ _ _ _ j1.isLt, ← EReal.coe_add]

theorem pay28 (m : Bool) (w ka v p dom : ℕ → ℕ → ℝ) (dd : ℕ → ℝ) :
    k1_pay28 (F := Ideal) (re2 ka) (re2 v) (lan m) (re2 w) (re2 p) (col dd) (re2 dom)
      = re2 (fun r d => w r d + ln m (fun r d => mm6 (dsf p v dom dd) ka (128 + r) d) r d) := by
  funext j
  idx_vars j
  pointwise [k1_pay28]
  rw [pay26]
  simp only [re2_ix2, lan_ix2]
  rw [sel_ln _ (fun r d => mm6 (dsf p v dom dd) ka (128 + r) d) _ _ j1.isLt, ← EReal.coe_add]

theorem pay29 (w q v p dom : ℕ → ℕ → ℝ) (dd : ℕ → ℝ) :
    k1_pay29 (F := Ideal) (re2 v) (re2 w) (re2 q) (re2 p) (col dd) (re2 dom)
      = re2 (fun d k => w d k + mm2 q (dsf p v dom dd) d k) := by
  funext j
  idx_vars j
  pointwise [k1_pay29]
  rw [pay25]
  simp only [re2_ix2, ← EReal.coe_mul]
  rw [sum_fin fun r => q r j0 * dsf p v dom dd r j1, ← EReal.coe_add]
  rfl

theorem pay30 (w p dom : ℕ → ℕ → ℝ) :
    k1_pay30 (F := Ideal) (re2 w) (re2 p) (re2 dom) = re2 (fun d k => w d k + mm2 dom p d k) := by
  funext j
  idx_vars j
  pointwise [k1_pay30]
  simp only [re2_ix2, ← EReal.coe_mul]
  rw [sum_fin fun r => dom r j0 * p r j1, ← EReal.coe_add]
  rfl

/-- The row a rotation by 64 of 128 rows takes to row `d`. -/
def rot (d : ℕ) : ℕ := (d + 128 - 64) % 128

theorem pay44 (w q v p dom : ℕ → ℕ → ℝ) (dd : ℕ → ℝ) :
    k1_pay44 (F := Ideal) (re2 v) (re2 w) (re2 q) (re2 p) (col dd) (re2 dom)
      = re2 (fun d k => w d k + mm2 q (dsf p v dom dd) (rot d) k) := by
  have h40 : k1_pay40 (F := Ideal) (re2 v) (re2 p) (col dd) (re2 dom) = _ := pay25 v p dom dd
  funext j
  idx_vars j
  pointwise [k1_pay44]
  rw [h40]
  simp only [re2_ix2, ← EReal.coe_mul]
  rw [sum_fin fun r => q r ((j0 + 128 - 64) % 128) * dsf p v dom dd r j1, ← EReal.coe_add]
  rfl

theorem pay45 (w p dom : ℕ → ℕ → ℝ) :
    k1_pay45 (F := Ideal) (re2 w) (re2 p) (re2 dom) = re2 (fun d k => w d k + mm2 dom p (rot d) k) := by
  funext j
  idx_vars j
  pointwise [k1_pay45]
  simp only [re2_ix2, ← EReal.coe_mul]
  rw [sum_fin fun r => dom r ((j0 + 128 - 64) % 128) * p r j1, ← EReal.coe_add]
  rfl

theorem pay74 (w q v p dom : ℕ → ℕ → ℝ) (dd : ℕ → ℝ) :
    k1_pay74 (F := Ideal) (re2 v) (re2 w) (re2 q) (re2 p) (col dd) (re2 dom)
      = re2 (fun k d => w d k + mm2 q (dsf p v dom dd) d k) := by
  have h70 : k1_pay70 (F := Ideal) (re2 v) (re2 p) (col dd) (re2 dom) = _ := pay25 v p dom dd
  funext j
  idx_vars j
  pointwise [k1_pay74]
  rw [h70]
  simp only [re2_ix2, ← EReal.coe_mul]
  rw [sum_fin fun r => q r j1 * dsf p v dom dd r j0, ← EReal.coe_add]
  rfl

theorem pay75 (w p dom : ℕ → ℕ → ℝ) :
    k1_pay75 (F := Ideal) (re2 w) (re2 p) (re2 dom) = re2 (fun k d => w d k + mm2 dom p d k) := by
  funext j
  idx_vars j
  pointwise [k1_pay75]
  simp only [re2_ix2, ← EReal.coe_mul]
  rw [sum_fin fun r => dom r j1 * p r j0, ← EReal.coe_add]
  rfl

theorem eighth : Ideal.ofBits .f32 0x3E000000#32 = (((1 : ℝ) / 8 : ℝ) : EReal) := by
  simp [Ideal.ofBits, Ideal.ieee, -EReal.coe_mul]; norm_num

theorem pay76 (w : ℕ → ℕ → ℝ) : k1_pay76 (F := Ideal) (re2 w) = re2 (fun r d => w r d / 8) := by
  funext j
  idx_vars j
  pointwise [k1_pay76]
  rw [eighth, re2_ix2, re2_ix2, ← EReal.coe_mul]
  congr 1; ring

theorem pay77 (w : ℕ → ℕ → ℝ) : k1_pay77 (F := Ideal) (re2 w) = re2 (fun r d => w r d / 8) := pay76 w
theorem pay78 (w : ℕ → ℕ → ℝ) : k1_pay78 (F := Ideal) (re2 w) = re2 (fun r d => w r d / 8) := pay76 w
theorem pay79 (w : ℕ → ℕ → ℝ) : k1_pay79 (F := Ideal) (re2 w) = re2 (fun r d => w r d / 8) := pay76 w

theorem pay80 (w x : ℕ → ℕ → ℝ) : k1_pay80 (F := Ideal) (re2 w) (re2 x) = re2 (fun r d => x r d + w r d) := by
  funext j
  idx_vars j
  pointwise [k1_pay80]
  simp only [re2_ix2, ← EReal.coe_add]

theorem pay81 (w x : ℕ → ℕ → ℝ) : k1_pay81 (F := Ideal) (re2 w) (re2 x) = re2 (fun r d => x r d + w r d) := pay80 w x

theorem pay82 (w x : ℕ → ℕ → ℝ) : k1_pay82 (F := Ideal) (re2 w) (re2 x) = re2 (fun r d => x r d + w (256 + r) d) := by
  funext j
  idx_vars j
  pointwise [k1_pay82]
  simp only [re2_ix2, ← EReal.coe_add]

theorem pay83 (w x : ℕ → ℕ → ℝ) : k1_pay83 (F := Ideal) (re2 w) (re2 x) = re2 (fun r d => x r d + w (256 + r) d) := pay82 w x

theorem zero_re2 {a b : ℕ} (j : (⟨2, ![a, b]⟩ : Shape).Idx) : (0 : EReal) = re2 (a := a) (b := b) (fun _ _ => 0) j := rfl

theorem pay1 : k1_pay1 (F := Ideal) = re2 (fun _ _ => 0) := by
  funext j
  idx_vars j
  pointwise [k1_pay1]
  rfl
theorem pay2 : k1_pay2 (F := Ideal) = re2 (fun _ _ => 0) := pay1
theorem pay3 : k1_pay3 (F := Ideal) = re2 (fun _ _ => 0) := by
  funext j
  idx_vars j
  pointwise [k1_pay3]
  rfl
theorem pay4 : k1_pay4 (F := Ideal) = re2 (fun _ _ => 0) := pay3
theorem pay5 : k1_pay5 (F := Ideal) = re2 (fun _ _ => 0) := by
  funext j
  idx_vars j
  pointwise [k1_pay5]
  rfl
theorem pay11 : k1_pay11 (F := Ideal) = re2 (fun _ _ => 0) := by
  funext j
  idx_vars j
  pointwise [k1_pay11]
  rfl
theorem pay12 : k1_pay12 (F := Ideal) = re2 (fun _ _ => 0) := pay11
theorem pay13 : k1_pay13 (F := Ideal) = re2 (fun _ _ => 0) := pay11
theorem pay14 : k1_pay14 (F := Ideal) = re2 (fun _ _ => 0) := pay11
theorem pay15 : k1_pay15 (F := Ideal) = re2 (fun _ _ => 0) := by
  funext j
  idx_vars j
  pointwise [k1_pay15]
  rfl
theorem pay16 : k1_pay16 (F := Ideal) = re2 (fun _ _ => 0) := pay15

/-! The other groups' names for the same values. -/

theorem pay61 : k1_pay61 = k1_pay31 := rfl
theorem pay32 : @k1_pay32 Ideal = @k1_pay17 Ideal := rfl
theorem pay46 : @k1_pay46 Ideal = @k1_pay17 Ideal := rfl
theorem pay62 : @k1_pay62 Ideal = @k1_pay17 Ideal := rfl
theorem pay33 : @k1_pay33 Ideal _ = @k1_pay18 Ideal _ := rfl
theorem pay47 : @k1_pay47 Ideal _ = @k1_pay18 Ideal _ := rfl
theorem pay63 : @k1_pay63 Ideal _ = @k1_pay18 Ideal _ := rfl
theorem pay35 : @k1_pay35 Ideal _ = @k1_pay20 Ideal _ := rfl
theorem pay49 : @k1_pay49 Ideal _ = @k1_pay20 Ideal _ := rfl
theorem pay65 : @k1_pay65 Ideal _ = @k1_pay20 Ideal _ := rfl
theorem pay36 : @k1_pay36 Ideal _ = @k1_pay21 Ideal _ := rfl
theorem pay50 : @k1_pay50 Ideal _ = @k1_pay21 Ideal _ := rfl
theorem pay66 : @k1_pay66 Ideal _ = @k1_pay21 Ideal _ := rfl
theorem pay37 : @k1_pay37 Ideal _ = @k1_pay22 Ideal _ := rfl
theorem pay51 : @k1_pay51 Ideal _ = @k1_pay22 Ideal _ := rfl
theorem pay67 : @k1_pay67 Ideal _ = @k1_pay22 Ideal _ := rfl
theorem pay38 : @k1_pay38 Ideal _ = @k1_pay23 Ideal _ := rfl
theorem pay53 (a : FVec Ideal S256x1 .f32) (b : FVec Ideal S1x128 .f32) : k1_pay53 (F := Ideal) a (k1_pay52 b) = k1_pay23 a b := rfl
theorem pay68 : @k1_pay68 Ideal _ = @k1_pay23 Ideal _ := rfl
theorem pay39 : @k1_pay39 Ideal _ = @k1_pay24 Ideal _ := rfl
theorem pay54 : @k1_pay54 Ideal _ = @k1_pay24 Ideal _ := rfl
theorem pay69 : @k1_pay69 Ideal _ = @k1_pay24 Ideal _ := rfl
theorem pay42 (a b w m c d e) : k1_pay42 (F := Ideal) a b w m c d e = k1_pay27 a b m w c d e := rfl
theorem pay57 : @k1_pay57 Ideal _ = @k1_pay27 Ideal _ := rfl
theorem pay72 (a b w m c d e) : k1_pay72 (F := Ideal) a b w m c d e = k1_pay27 a b m w c d e := rfl
theorem pay43 (a b w m c d e) : k1_pay43 (F := Ideal) a b w m c d e = k1_pay28 a b m w c d e := rfl
theorem pay58 : @k1_pay58 Ideal _ = @k1_pay28 Ideal _ := rfl
theorem pay73 (a b w m c d e) : k1_pay73 (F := Ideal) a b w m c d e = k1_pay28 a b m w c d e := rfl
theorem pay59 : @k1_pay59 Ideal _ = @k1_pay44 Ideal _ := rfl
theorem pay60 : @k1_pay60 Ideal _ = @k1_pay45 Ideal _ := rfl

end Bwd

end Cert.Attn
-- ==== Proof.FwdOut.lean ====
module

public import proofs.«01_k».proof.Proof.FwdPay
public import proofs.«01_k».proof.Proof.Gen.KernelIdeal.Frame.Region0

@[expose] public section

set_option maxRecDepth 16384

noncomputable section

namespace Cert.Attn

open Idealize.ShloMosaic Idealize.ShloMosaic.TcCoe Idealize.SL.Sem
open Idealize.ShloMosaic.Pipeline (Dat)
open Cert.KernelIdeal Cert.KernelIdeal.Gen

/-- The part of a matrix from row `a` and column `b` on. -/
def tile (f : ℕ → ℕ → ℝ) (a b : ℕ) : ℕ → ℕ → ℝ := fun i j => f (a + i) (b + j)

theorem ld_q (f : ℕ → ℕ → ℝ) (off : Fin 2 → ℕ) (h) :
    View.ld (Val := Elt Ideal) (S := S128x512) (e' := .bf16) (re2 (a := 128) (b := 512) f) (Rect.unit (s := S128x512) off ![128, 128] h)
      = re2 (a := 128) (b := 128) (tile f (off 0) (off 1)) := by
  funext x
  show ((f _ _ : ℝ) : EReal) = ((f _ _ : ℝ) : EReal)
  have : ∀ k : Fin 2, (((Rect.unit (s := S128x512) off ![128, 128] h).idx x k : Fin _) : ℕ) = off k + x k := fun k => by
    show off k + 1 * (x k : ℕ) = _
    rw [Nat.one_mul]
  rw [this 0, this 1]

theorem ld_win (f : ℕ → ℕ → ℝ) (off : Fin 2 → ℕ) (h) :
    View.ld (Val := Elt Ideal) (S := S4352x128) (e' := .bf16) (re2 (a := 4352) (b := 128) f) (Rect.unit (s := S4352x128) off ![384, 128] h)
      = re2 (a := 384) (b := 128) (tile f (off 0) (off 1)) := by
  funext x
  show ((f _ _ : ℝ) : EReal) = ((f _ _ : ℝ) : EReal)
  have : ∀ k : Fin 2, (((Rect.unit (s := S4352x128) off ![384, 128] h).idx x k : Fin _) : ℕ) = off k + x k := fun k => by
    show off k + 1 * (x k : ℕ) = _
    rw [Nat.one_mul]
  rw [this 0, this 1]

theorem ld_sink (sk : ℕ → ℝ) (n : ℕ) (h) (x) :
    View.ld (Val := Elt Ideal) (S := S8) (e' := .f32) (fun i => ((sk (i 0) : ℝ) : EReal)) (Rect.unit (s := S8) ![n] ![1] h) x = ((sk n : ℝ) : EReal) := by
  show ((sk _ : ℝ) : EReal) = _
  have : ((((Rect.unit (s := S8) ![n] ![1] h).idx x 0 : Fin _)) : ℕ) = n := by
    show n + 1 * (x 0 : ℕ) = _
    have : (x 0 : ℕ) < 1 := (x 0).isLt
    omega
  rw [this]

theorem off1 : ∀ t : Fin cfg0.N, k0_off1 (grid0.coords t) = ![128 * t.val, 0] := (by decide +kernel : ∀ t : Fin grid0.N, _)

theorem crd : ∀ t : Fin cfg0.N, BitVec.ofNat 32 (grid0.coords t 0).val = BitVec.ofNat 32 t.val := (by decide +kernel : ∀ t : Fin grid0.N, _)

variable (V : (c : Dev nD) → (b : Ref sig .tc) → Buf (Elt Ideal) ((c : Thread nD τ).loc b))

/-- The keys (or values) a point compares its queries with: the context's, then the window from row `128t` on. -/
def kal (t : ℕ) (kc kp : ℕ → ℕ → ℝ) : ℕ → ℕ → ℝ := stk 256 kc (tile kp (128 * t) 0)

/-- The two column blocks `a` and `a + 128` of a block of queries, one above the other. -/
def grp (q : ℕ → ℕ → ℝ) (a : ℕ) : ℕ → ℕ → ℝ := stk 128 (tile q 0 a) (tile q 0 (a + 128))

/-- The real arrays a point of the attention reads: `q0`, `q1` its block of queries with the second or first half of the lanes of
    every block of 128 cleared, the padded keys and values plain and with their halves exchanged, the context's, and the sinks. -/
structure Inp where
  q0 : ℕ → ℕ → ℝ
  q1 : ℕ → ℕ → ℝ
  kp : ℕ → ℕ → ℝ
  ksw : ℕ → ℕ → ℝ
  vp : ℕ → ℕ → ℝ
  vsw : ℕ → ℕ → ℝ
  kc : ℕ → ℕ → ℝ
  kcsw : ℕ → ℕ → ℝ
  vc : ℕ → ℕ → ℝ
  vcsw : ℕ → ℕ → ℝ
  sk : ℕ → ℝ

namespace Inp

variable (I : Inp) (t : ℕ)

/-- The queries of group `n`. -/
def gq : ℕ → ℕ → ℕ → ℝ
  | 0 => grp I.q0 0
  | 1 => grp I.q1 0
  | 2 => grp I.q0 256
  | _ => grp I.q1 256

/-- The keys of group `n`. -/
def gk : ℕ → ℕ → ℕ → ℝ
  | 0 => kal t I.kc I.kp
  | 1 => kal t I.kcsw I.ksw
  | 2 => kal t I.kcsw I.ksw
  | _ => kal t I.kc I.kp

/-- The values of group `n`. -/
def gv : ℕ → ℕ → ℕ → ℝ
  | 0 => kal t I.vc I.vp
  | 1 => kal t I.vcsw I.vsw
  | 2 => kal t I.vcsw I.vsw
  | _ => kal t I.vc I.vp

/-- The sink of the first head of group `n`. -/
def sx : ℕ → ℝ
  | 0 => I.sk 0
  | 1 => I.sk 1
  | 2 => I.sk 4
  | _ => I.sk 5

/-- The sink of the second head of group `n`. -/
def sy : ℕ → ℝ
  | 0 => I.sk 2
  | 1 => I.sk 3
  | 2 => I.sk 6
  | _ => I.sk 7

/-- The sinks of group `n`, one for each row. -/
def gs (n : ℕ) : ℕ → ℝ := pair (I.sx n) (I.sy n)

/-- The exponentials of group `n` above the numbers `M`. -/
def ge (M : ℕ → ℕ → ℝ) (n : ℕ) : ℕ → ℕ → ℝ := expo (okw t) (scr (I.gq n) (I.gk t n)) (M n)

/-- The exponential of the sink in group `n`. -/
def ges (M : ℕ → ℕ → ℝ) (n : ℕ) : ℕ → ℝ := snk (I.gs n) (M n)

/-- One over the row sums of group `n`. -/
def gi (M : ℕ → ℕ → ℝ) (n : ℕ) : ℕ → ℝ := invr (I.ge t M n) (I.ges M n)

/-- The outputs of group `n`. -/
def go (M : ℕ → ℕ → ℝ) (n : ℕ) : ℕ → ℕ → ℝ := outr (I.ge t M n) (I.gi t M n) (I.gv t n)

end Inp

variable (V : (c : Dev nD) → (b : Ref sig .tc) → Buf (Elt Ideal) ((c : Thread nD τ).loc b))

theorem fo (c : Dev nD) (t : Fin cfg0.N) (I : Inp)
    (h0 : iblk0 V c 0 t = re2 I.q0) (h1 : iblk0 V c 1 t = re2 I.q1) (h2 : iblk0 V c 2 t = re2 I.kp) (h3 : iblk0 V c 3 t = re2 I.ksw)
    (h4 : iblk0 V c 4 t = re2 I.vp) (h5 : iblk0 V c 5 t = re2 I.vsw) (h6 : iblk0 V c 6 t = re2 I.kc) (h7 : iblk0 V c 7 t = re2 I.kcsw)
    (h8 : iblk0 V c 8 t = re2 I.vc) (h9 : iblk0 V c 9 t = re2 I.vcsw) (h10 : iblk0 V c 10 t = fun i => ((I.sk (i 0) : ℝ) : EReal)) :
    ∃ M : ℕ → ℕ → ℝ,
      (outsAt0 V c t).1 = re2 (fun r d => mixl (128 * (d / 128 % 2)) (I.go t M (2 * (d / 256))) (I.go t M (2 * (d / 256) + 1)) r (d % 128))
      ∧ (outsAt0 V c t).2.1 = (fun i => ((I.ge t M (i 1) (i 2) (i 3) : ℝ) : EReal))
      ∧ (outsAt0 V c t).2.2 = (fun i => ((if (i 3 : ℕ) < 64 then I.gi t M (i 1) (i 2) else I.ges M (i 1) (i 2) * I.gi t M (i 1) (i 2) : ℝ) : EReal)) := by
  have ht : (t : ℕ) < 32 := t.isLt
  have hM : ∀ n, ∃ M : ℕ → ℝ, k0_pay23 (F := Ideal) (re2 (I.gk t n)) (maskOf (okw t)) (re2 (I.gq n)) (I.sx n : EReal) (I.sy n : EReal) = col M :=
    fun n => pay23 _ _ _ _ _
  choose M hM using hM
  have m11 : k0_pay11 (F := Ideal) (BitVec.ofNat 32 t) (128#32) k0_pay9 k0_pay10 = maskOf (okw t) := pay11 t ht
  have c0 : k0_pay26 (F := Ideal) (re2 (stk 256 I.kc (tile I.kp (128 * t) 0))) (maskOf (okw t)) (re2 (stk 128 (tile I.q0 0 0) (tile I.q0 0 128))) (I.sk 0 : EReal) (I.sk 2 : EReal) = col (I.gi t M 0) := pay26 _ (hM 0)
  have d0 : k0_pay27 (F := Ideal) (re2 (stk 256 I.kc (tile I.kp (128 * t) 0))) (maskOf (okw t)) (re2 (stk 128 (tile I.q0 0 0) (tile I.q0 0 128))) (I.sk 0 : EReal) (I.sk 2 : EReal) = re2 (I.ge t M 0) := pay27 _ (hM 0)
  have b0 : k0_pay25 (F := Ideal) (re2 (stk 256 I.kc (tile I.kp (128 * t) 0))) (maskOf (okw t)) (re2 (stk 128 (tile I.q0 0 0) (tile I.q0 0 128))) (I.sk 0 : EReal) (I.sk 2 : EReal) = col (I.ges M 0) := pay25 _ (hM 0)
  have c1 : k0_pay26 (F := Ideal) (re2 (stk 256 I.kcsw (tile I.ksw (128 * t) 0))) (maskOf (okw t)) (re2 (stk 128 (tile I.q1 0 0) (tile I.q1 0 128))) (I.sk 1 : EReal) (I.sk 3 : EReal) = col (I.gi t M 1) := pay26 _ (hM 1)
  have d1 : k0_pay27 (F := Ideal) (re2 (stk 256 I.kcsw (tile I.ksw (128 * t) 0))) (maskOf (okw t)) (re2 (stk 128 (tile I.q1 0 0) (tile I.q1 0 128))) (I.sk 1 : EReal) (I.sk 3 : EReal) = re2 (I.ge t M 1) := pay27 _ (hM 1)
  have b1 : k0_pay25 (F := Ideal) (re2 (stk 256 I.kcsw (tile I.ksw (128 * t) 0))) (maskOf (okw t)) (re2 (stk 128 (tile I.q1 0 0) (tile I.q1 0 128))) (I.sk 1 : EReal) (I.sk 3 : EReal) = col (I.ges M 1) := pay25 _ (hM 1)
  have c2 : k0_pay26 (F := Ideal) (re2 (stk 256 I.kcsw (tile I.ksw (128 * t) 0))) (maskOf (okw t)) (re2 (stk 128 (tile I.q0 0 256) (tile I.q0 0 384))) (I.sk 4 : EReal) (I.sk 6 : EReal) = col (I.gi t M 2) := pay26 _ (hM 2)
  have d2 : k0_pay27 (F := Ideal) (re2 (stk 256 I.kcsw (tile I.ksw (128 * t) 0))) (maskOf (okw t)) (re2 (stk 128 (tile I.q0 0 256) (tile I.q0 0 384))) (I.sk 4 : EReal) (I.sk 6 : EReal) = re2 (I.ge t M 2) := pay27 _ (hM 2)
  have b2 : k0_pay25 (F := Ideal) (re2 (stk 256 I.kcsw (tile I.ksw (128 * t) 0))) (maskOf (okw t)) (re2 (stk 128 (tile I.q0 0 256) (tile I.q0 0 384))) (I.sk 4 : EReal) (I.sk 6 : EReal) = col (I.ges M 2) := pay25 _ (hM 2)
  have c3 : k0_pay26 (F := Ideal) (re2 (stk 256 I.kc (tile I.kp (128 * t) 0))) (maskOf (okw t)) (re2 (stk 128 (tile I.q1 0 256) (tile I.q1 0 384))) (I.sk 5 : EReal) (I.sk 7 : EReal) = col (I.gi t M 3) := pay26 _ (hM 3)
  have d3 : k0_pay27 (F := Ideal) (re2 (stk 256 I.kc (tile I.kp (128 * t) 0))) (maskOf (okw t)) (re2 (stk 128 (tile I.q1 0 256) (tile I.q1 0 384))) (I.sk 5 : EReal) (I.sk 7 : EReal) = re2 (I.ge t M 3) := pay27 _ (hM 3)
  have b3 : k0_pay25 (F := Ideal) (re2 (stk 256 I.kc (tile I.kp (128 * t) 0))) (maskOf (okw t)) (re2 (stk 128 (tile I.q1 0 256) (tile I.q1 0 384))) (I.sk 5 : EReal) (I.sk 7 : EReal) = col (I.ges M 3) := pay25 _ (hM 3)
  have o0 : k0_pay60 (F := Ideal) (re2 (stk 256 I.vc (tile I.vp (128 * t) 0))) (col (I.gi t M 0)) (re2 (I.ge t M 0)) = re2 (I.go t M 0) := pay60 _ _ _
  have o1 : k0_pay60 (F := Ideal) (re2 (stk 256 I.vcsw (tile I.vsw (128 * t) 0))) (col (I.gi t M 1)) (re2 (I.ge t M 1)) = re2 (I.go t M 1) := pay60 _ _ _
  have o2 : k0_pay60 (F := Ideal) (re2 (stk 256 I.vcsw (tile I.vsw (128 * t) 0))) (col (I.gi t M 2)) (re2 (I.ge t M 2)) = re2 (I.go t M 2) := pay60 _ _ _
  have o3 : k0_pay60 (F := Ideal) (re2 (stk 256 I.vc (tile I.vp (128 * t) 0))) (col (I.gi t M 3)) (re2 (I.ge t M 3)) = re2 (I.go t M 3) := pay60 _ _ _
  refine ⟨M, ?_, ?_, ?_⟩
  · unfold outsAt0
    rw [h0, h1, h2, h3, h4, h5, h6, h7, h8, h9, h10]
    frame_out
    simp only [ld_q, ld_win, ld_sink, crd, off1, m11, pay5, pay6, pay7, pay8, pay12]
    simp only [pay35, pay36, pay46, pay47, pay56, pay57, pay17, Matrix.cons_val_zero, Matrix.cons_val_one, Matrix.cons_val]
    rw [c0, d0, c1, d1, c2, d2, c3, d3]
    rw [pay66 o0 o1, pay67 o0 o1, pay72 o2 o3, pay4 o2 o3]
    funext y
    canon_tiles y h
    · show ((_ : ℝ) : EReal) = ((_ : ℝ) : EReal)
      rw [h0, h1]
      beta_reduce
      rw [show 128 * ((384 + (y 1 : ℕ)) / 128 % 2) = 128 by omega, show 2 * ((384 + (y 1 : ℕ)) / 256) = 2 by omega,
        show (384 + (y 1 : ℕ)) % 128 = (y 1 : ℕ) by omega]
    · show ((_ : ℝ) : EReal) = ((_ : ℝ) : EReal)
      rw [h0, h1]
      beta_reduce
      rw [show 128 * ((256 + (y 1 : ℕ)) / 128 % 2) = 0 by omega, show 2 * ((256 + (y 1 : ℕ)) / 256) = 2 by omega,
        show (256 + (y 1 : ℕ)) % 128 = (y 1 : ℕ) by omega]
    · show ((_ : ℝ) : EReal) = ((_ : ℝ) : EReal)
      rw [h0, h1]
      beta_reduce
      rw [show 128 * ((128 + (y 1 : ℕ)) / 128 % 2) = 128 by omega, show 2 * ((128 + (y 1 : ℕ)) / 256) = 0 by omega,
        show (128 + (y 1 : ℕ)) % 128 = (y 1 : ℕ) by omega]
    · show ((_ : ℝ) : EReal) = ((_ : ℝ) : EReal)
      rw [h0, h1]
      beta_reduce
      rw [show 128 * (((y 1 : ℕ)) / 128 % 2) = 0 by omega, show 2 * (((y 1 : ℕ)) / 256) = 0 by omega,
        show ((y 1 : ℕ)) % 128 = (y 1 : ℕ) by omega]
  · unfold outsAt0
    rw [h0, h1, h2, h3, h4, h5, h6, h7, h8, h9, h10]
    frame_out
    simp only [ld_q, ld_win, ld_sink, crd, off1, m11, pay5, pay6, pay7, pay8, pay12]
    simp only [pay35, pay36, pay37, pay46, pay47, pay48, pay56, pay57, pay58, pay17, Matrix.cons_val_zero, Matrix.cons_val_one, Matrix.cons_val]
    rw [d0, d1, d2, d3]
    funext y
    canon_tiles y h
    all_goals
      idx_vars y
      refine (pay28 _ _ _ _ _).trans ?_
      rw [h1, h2, h3, show (y1 : ℕ) = 0 by omega]
  · unfold outsAt0
    rw [h0, h1, h2, h3, h4, h5, h6, h7, h8, h9, h10]
    frame_out
    simp only [ld_q, ld_win, ld_sink, crd, off1, m11, pay5, pay6, pay7, pay8, pay12]
    simp only [pay40, pay50, pay59, pay17, Matrix.cons_val_zero, Matrix.cons_val_one, Matrix.cons_val]
    rw [b0, b1, b2, b3, c0, c1, c2, c3]
    funext y
    canon_tiles y h
    all_goals
      idx_vars y
      refine (pay29 _ _ _ _ _ _).trans ?_
      rw [h1, h2, h3, show (y1 : ℕ) = 0 by omega]

end Cert.Attn
-- ==== Proof.BwdOut.lean ====
/-
  What the backward attention call leaves at one grid point, over matrices of reals.
-/
module

public import proofs.«01_k».proof.Proof.BwdPay
public import proofs.«01_k».proof.Proof.FwdOut
public import proofs.«01_k».proof.Proof.FrameIdeal.BwdB
public import Idealize.ShloMosaic.Lib.Pipeline.ReadBack
public import Idealize.ShloMosaic.Lib.WritesUnit

@[expose] public section

set_option maxRecDepth 16384

noncomputable section

namespace Cert.Attn

open Idealize.ShloMosaic Idealize.ShloMosaic.TcCoe Idealize.SL.Sem
open Idealize.ShloMosaic.Pipeline (Dat)
open Cert.KernelIdeal Cert.KernelIdeal.Gen

namespace Bwd

theorem ld_ex (E : ℕ → ℕ → ℕ → ℝ) (n : ℕ) (h) :
    View.ld (Val := Elt Ideal) (S := S1x4x256x640) (e' := .bf16) (fun i => ((E (i 1) (i 2) (i 3) : ℝ) : EReal))
      (Rect.unit (s := S1x4x256x640) ![0, n, 0, 0] ![1, 1, 256, 640] h) = re4 (a := 256) (b := 640) (E n) := by
  funext x
  show ((E _ _ _ : ℝ) : EReal) = ((E _ _ _ : ℝ) : EReal)
  have e1 : (((Rect.unit (s := S1x4x256x640) ![0, n, 0, 0] ![1, 1, 256, 640] h).idx x 1 : Fin _) : ℕ) = n := by
    show n + 1 * (x 1 : ℕ) = _
    have : (x 1 : ℕ) < 1 := (x 1).isLt
    omega
  have e2 : (((Rect.unit (s := S1x4x256x640) ![0, n, 0, 0] ![1, 1, 256, 640] h).idx x 2 : Fin _) : ℕ) = x 2 := by
    show 0 + 1 * (x 2 : ℕ) = _
    omega
  have e3 : (((Rect.unit (s := S1x4x256x640) ![0, n, 0, 0] ![1, 1, 256, 640] h).idx x 3 : Fin _) : ℕ) = x 3 := by
    show 0 + 1 * (x 3 : ℕ) = _
    omega
  rw [e1, e2, e3]

theorem ld_st (E : ℕ → ℕ → ℕ → ℝ) (n c : ℕ) (h) :
    View.ld (Val := Elt Ideal) (S := S1x4x256x128) (e' := .f32) (fun i => ((E (i 1) (i 2) (i 3) : ℝ) : EReal))
      (Rect.unit (s := S1x4x256x128) ![0, n, 0, c] ![1, 1, 256, 1] h) = re4 (a := 256) (b := 1) (fun r k => E n r (c + k)) := by
  funext x
  show ((E _ _ _ : ℝ) : EReal) = ((E _ _ _ : ℝ) : EReal)
  have e1 : (((Rect.unit (s := S1x4x256x128) ![0, n, 0, c] ![1, 1, 256, 1] h).idx x 1 : Fin _) : ℕ) = n := by
    show n + 1 * (x 1 : ℕ) = _
    have : (x 1 : ℕ) < 1 := (x 1).isLt
    omega
  have e2 : (((Rect.unit (s := S1x4x256x128) ![0, n, 0, c] ![1, 1, 256, 1] h).idx x 2 : Fin _) : ℕ) = x 2 := by
    show 0 + 1 * (x 2 : ℕ) = _
    omega
  have e3 : (((Rect.unit (s := S1x4x256x128) ![0, n, 0, c] ![1, 1, 256, 1] h).idx x 3 : Fin _) : ℕ) = c + x 3 := by
    show c + 1 * (x 3 : ℕ) = _
    omega
  rw [e1, e2, e3]

theorem off1b : ∀ t : Fin cfg1.N, k1_off1 (grid1.coords t) = ![128 * t.val, 0] := (by decide +kernel : ∀ t : Fin grid1.N, _)

variable (V : (c : Dev nD) → (b : Ref sig .tc) → Buf (Elt Ideal) ((c : Thread nD τ).loc b))

/-- What a point of the backward call reads besides the forward call's arrays: the stored exponentials and statistics, its block
    of outputs and its block of their gradient. -/
structure Sav where
  E : ℕ → ℕ → ℕ → ℝ
  St : ℕ → ℕ → ℕ → ℝ
  o : ℕ → ℕ → ℝ
  g : ℕ → ℕ → ℝ

/-- The blocks a point of the backward call reads hold these reals. -/
structure Reads (c : Dev nD) (t : Fin cfg1.N) (I : Inp) (J : Sav) : Prop where
  h0 : iblk1 V c 0 t = re2 I.q0
  h1 : iblk1 V c 1 t = re2 I.q1
  h2 : iblk1 V c 2 t = re2 I.kp
  h3 : iblk1 V c 3 t = re2 I.ksw
  h4 : iblk1 V c 4 t = re2 I.vp
  h5 : iblk1 V c 5 t = re2 I.vsw
  h6 : iblk1 V c 6 t = re2 I.kc
  h7 : iblk1 V c 7 t = re2 I.kcsw
  h8 : iblk1 V c 8 t = re2 I.vc
  h9 : iblk1 V c 9 t = re2 I.vcsw
  h10 : iblk1 V c 10 t = fun i => ((J.E (i 1) (i 2) (i 3) : ℝ) : EReal)
  h11 : iblk1 V c 11 t = fun i => ((J.St (i 1) (i 2) (i 3) : ℝ) : EReal)
  h12 : iblk1 V c 12 t = re2 J.o
  h13 : iblk1 V c 13 t = re2 J.g

namespace Sav

variable (J : Sav) (I : Inp) (t : ℕ)

/-- The probabilities of group `n`. -/
def P (n : ℕ) : ℕ → ℕ → ℝ := fun r k => J.E n r k * J.St n r 0

/-- The output gradients of group `n`. -/
def dom (n : ℕ) : ℕ → ℕ → ℝ := ln (decide (n % 2 = 0)) (grp J.g (256 * (n / 2)))

/-- The row products of the output and its gradient. -/
def dd (n : ℕ) : ℕ → ℝ := rdot (J.dom n) (grp J.o (256 * (n / 2)))

/-- The score gradients of group `n`. -/
def ds (n : ℕ) : ℕ → ℕ → ℝ := dsf (J.P n) (I.gv t n) (J.dom n) (J.dd n)

/-- The query gradients of group `n`, before their scale. -/
def dqg (n : ℕ) : ℕ → ℕ → ℝ := mm6 (J.ds I t n) (I.gk t n)

/-- The sink's share in group `n`. -/
def sd (n : ℕ) : ℕ → ℝ := fun r => J.St n r 64 * J.dd n r

/-- The key gradients that the point adds. -/
def dkt : ℕ → ℕ → ℝ := fun k d =>
  0 + mm2 (I.gq 0) (J.ds I t 0) d k + mm2 (I.gq 1) (J.ds I t 1) (rot d) k + mm2 (I.gq 2) (J.ds I t 2) (rot d) k + mm2 (I.gq 3) (J.ds I t 3) d k

/-- The value gradients that the point adds. -/
def dvt : ℕ → ℕ → ℝ := fun k d =>
  0 + mm2 (J.dom 0) (J.P 0) d k + mm2 (J.dom 1) (J.P 1) (rot d) k + mm2 (J.dom 2) (J.P 2) (rot d) k + mm2 (J.dom 3) (J.P 3) d k

/-- The point's block of query gradients. -/
def dqb : ℕ → ℕ → ℝ := fun r d =>
  (0 + ln true (J.dqg I t (2 * (d / 256))) (128 * (d / 128 % 2) + r) (d % 128)
    + ln false (J.dqg I t (2 * (d / 256) + 1)) (128 * (d / 128 % 2) + r) (d % 128)) / 8

/-- The sink gradients after the point. -/
def dsk (X : ℕ → ℕ → ℝ) : ℕ → ℕ → ℝ := fun h d =>
  X h d - ∑ i ∈ Finset.range 128, J.sd (2 * (h / 4) + h % 2) (128 * (h % 4 / 2) + i)

end Sav

/-- An array after the window of 384 rows from row `128t` on received the rows from 256 on of `w`. -/
def upd (t : ℕ) (w X : ℕ → ℕ → ℝ) : ℕ → ℕ → ℝ := fun k d =>
  if 128 * t ≤ k ∧ k < 128 * t + 384 then X k d + w (256 + (k - 128 * t)) d else X k d

theorem ld_win' (f : ℕ → ℕ → ℝ) (off : Fin 2 → ℕ) (h) :
    View.ld (Val := Elt Ideal) (S := S4352x128) (e' := .f32) (re2 (a := 4352) (b := 128) f) (Rect.unit (s := S4352x128) off ![384, 128] h)
      = re2 (a := 384) (b := 128) (tile f (off 0) (off 1)) := ld_win f off h

theorem ld_row (f : ℕ → ℕ → ℝ) (off : Fin 2 → ℕ) (h) :
    View.ld (Val := Elt Ideal) (S := S8x128) (e' := .f32) (re2 (a := 8) (b := 128) f) (Rect.unit (s := S8x128) off ![1, 128] h)
      = re2 (a := 1) (b := 128) (tile f (off 0) (off 1)) := by
  funext x
  show ((f _ _ : ℝ) : EReal) = ((f _ _ : ℝ) : EReal)
  have : ∀ k : Fin 2, (((Rect.unit (s := S8x128) off ![1, 128] h).idx x k : Fin _) : ℕ) = off k + x k := fun k => by
    show off k + 1 * (x k : ℕ) = _
    rw [Nat.one_mul]
  rw [this 0, this 1]

/-- A window of rows written over an array of reals. -/
theorem read_win {sp : Space} (v : View sig .tc sp S4352x128 .f32) (f : v.ty.Contents (Elt Ideal)) (t : ℕ) (off : Fin 2 → ℕ) (hoff : off = ![128 * t, 0])
    (inb) (w X : ℕ → ℕ → ℝ) (L : List (View.Piece (Elt Ideal) S4352x128 .f32)) (y : S4352x128.Idx)
    (hX : v.read (Elt Ideal) (v.writes (Elt Ideal) f L) y = re2 (a := 4352) (b := 128) X y) :
    v.read (Elt Ideal) (v.writes (Elt Ideal) f
        ((⟨Rect.unit (s := S4352x128) off ![384, 128] inb, re2 (a := 384) (b := 128) (fun r d => tile X (off 0) (off 1) r d + w (256 + r) d)⟩ : View.Piece (Elt Ideal) S4352x128 .f32) :: L)) y
      = re2 (a := 4352) (b := 128) (upd t w X) y := by
  rw [View.read_writes_cons_rows (o := 128 * t) (W := 384) v f inb _ L y hoff rfl rfl]
  subst hoff
  split_ifs with h
  · show ((_ : ℝ) : EReal) = ((_ : ℝ) : EReal)
    rw [Rect.unitLocal_val, Rect.unitLocal_val]
    simp only [upd, tile, Matrix.cons_val_zero, Matrix.cons_val_one, Nat.sub_zero, Nat.zero_add]
    rw [if_pos h, Nat.add_sub_cancel' h.1]
  · rw [hX]
    show ((_ : ℝ) : EReal) = ((_ : ℝ) : EReal)
    simp only [upd]
    rw [if_neg h]

/-- A row written over an array of eight rows. -/
theorem read_row {sp : Space} (v : View sig .tc sp S8x128 .f32) (f : v.ty.Contents (Elt Ideal)) (o : ℕ)
    (inb) (w X : ℕ → ℕ → ℝ) (L : List (View.Piece (Elt Ideal) S8x128 .f32)) (y : S8x128.Idx)
    (hw : w 0 (y 1 : ℕ) = X o (y 1 : ℕ))
    (hX : (y 0 : ℕ) ≠ o → v.read (Elt Ideal) (v.writes (Elt Ideal) f L) y = re2 (a := 8) (b := 128) X y) :
    v.read (Elt Ideal) (v.writes (Elt Ideal) f
        ((⟨Rect.unit (s := S8x128) ![o, 0] ![1, 128] inb, re2 (a := 1) (b := 128) w⟩ : View.Piece (Elt Ideal) S8x128 .f32) :: L)) y
      = re2 (a := 8) (b := 128) X y := by
  rw [View.read_writes_cons_rows (o := o) (W := 1) v f inb _ L y rfl rfl rfl]
  split_ifs with h
  · show ((_ : ℝ) : EReal) = ((_ : ℝ) : EReal)
    have e0 : (y 0 : ℕ) = o := by omega
    rw [Rect.unitLocal_val, Rect.unitLocal_val]
    simp only [Matrix.cons_val_zero, Matrix.cons_val_one]
    rw [e0, Nat.sub_self, Nat.sub_zero, hw]
  · exact hX (by omega)

/-- The block of query gradients after a point that starts a fold. -/
theorem bqA (c : Dev nD) (t : Fin cfg1.N) (I : Inp) (J : Sav) (H : Reads V c t I J) (hz : t.val % 32 = 0) :
    (outsAt1 V c t.val t.isLt).1 = re2 (J.dqb I t) := by
  rw [Gen.outsAt1_A V c t hz, Gen.atA]
  simp only []
  rw [H.h0, H.h1, H.h2, H.h3, H.h4, H.h5, H.h6, H.h7, H.h8, H.h9, H.h10, H.h11, H.h12, H.h13]
  frame_out
  simp only [ld_q, ld_win, ld_ex J.E, ld_st J.St, off1b, Matrix.cons_val_zero, Matrix.cons_val_one, Matrix.cons_val]
  simp only [pay31, pay61, pay10, pay17, pay32, pay46, pay62]
  simp only [pay6, pay7, pay8, pay9, pay17, pay18, pay33, pay47, pay63, pay35, pay49, pay65, pay36, pay50, pay66, pay20, pay21, pay19]
  simp only [pay42, pay57, pay72, pay43, pay58, pay73, pay27, pay28, pay76, pay77, pay78, pay79, pay11, pay12, pay13, pay14]
  funext y
  canon_tiles y h
  · show ((_ : ℝ) : EReal) = ((_ : ℝ) : EReal)
    rw [h0, h1]
    simp only [Sav.dqb]
    rw [show 128 * ((384 + (y 1 : ℕ)) / 128 % 2) = 128 by omega, show 2 * ((384 + (y 1 : ℕ)) / 256) = 2 by omega, show (384 + (y 1 : ℕ)) % 128 = (y 1 : ℕ) by omega]
    skip
    rfl
  · show ((_ : ℝ) : EReal) = ((_ : ℝ) : EReal)
    rw [h0, h1]
    simp only [Sav.dqb]
    rw [show 128 * ((256 + (y 1 : ℕ)) / 128 % 2) = 0 by omega, show 2 * ((256 + (y 1 : ℕ)) / 256) = 2 by omega, show (256 + (y 1 : ℕ)) % 128 = (y 1 : ℕ) by omega]
    rw [Nat.zero_add (y 0 : ℕ)]
    rfl
  · show ((_ : ℝ) : EReal) = ((_ : ℝ) : EReal)
    rw [h0, h1]
    simp only [Sav.dqb]
    rw [show 128 * ((128 + (y 1 : ℕ)) / 128 % 2) = 128 by omega, show 2 * ((128 + (y 1 : ℕ)) / 256) = 0 by omega, show (128 + (y 1 : ℕ)) % 128 = (y 1 : ℕ) by omega]
    skip
    rfl
  · show ((_ : ℝ) : EReal) = ((_ : ℝ) : EReal)
    rw [h0, h1]
    simp only [Sav.dqb]
    rw [show 128 * ((y 1 : ℕ) / 128 % 2) = 0 by omega, show 2 * ((y 1 : ℕ) / 256) = 0 by omega, show (y 1 : ℕ) % 128 = (y 1 : ℕ) by omega]
    rw [Nat.zero_add (y 0 : ℕ)]
    rfl

/-- The block of query gradients after a point that continues a fold. -/
theorem bqB (c : Dev nD) (t : Fin cfg1.N) (I : Inp) (J : Sav) (H : Reads V c t I J) (hz : ¬ t.val % 32 = 0) :
    (outsAt1 V c t.val t.isLt).1 = re2 (J.dqb I t) := by
  rw [Gen.outsAt1_B V c t hz, Gen.atB]
  simp only []
  rw [H.h0, H.h1, H.h2, H.h3, H.h4, H.h5, H.h6, H.h7, H.h8, H.h9, H.h10, H.h11, H.h12, H.h13]
  frame_out
  simp only [ld_q, ld_win, ld_ex J.E, ld_st J.St, off1b, Matrix.cons_val_zero, Matrix.cons_val_one, Matrix.cons_val]
  simp only [pay31, pay61, pay10, pay17, pay32, pay46, pay62]
  simp only [pay6, pay7, pay8, pay9, pay17, pay18, pay33, pay47, pay63, pay35, pay49, pay65, pay36, pay50, pay66, pay20, pay21, pay19]
  simp only [pay42, pay57, pay72, pay43, pay58, pay73, pay27, pay28, pay76, pay77, pay78, pay79, pay11, pay12, pay13, pay14]
  funext y
  canon_tiles y h
  · show ((_ : ℝ) : EReal) = ((_ : ℝ) : EReal)
    rw [h0, h1]
    simp only [Sav.dqb]
    rw [show 128 * ((384 + (y 1 : ℕ)) / 128 % 2) = 128 by omega, show 2 * ((384 + (y 1 : ℕ)) / 256) = 2 by omega, show (384 + (y 1 : ℕ)) % 128 = (y 1 : ℕ) by omega]
    skip
    rfl
  · show ((_ : ℝ) : EReal) = ((_ : ℝ) : EReal)
    rw [h0, h1]
    simp only [Sav.dqb]
    rw [show 128 * ((256 + (y 1 : ℕ)) / 128 % 2) = 0 by omega, show 2 * ((256 + (y 1 : ℕ)) / 256) = 2 by omega, show (256 + (y 1 : ℕ)) % 128 = (y 1 : ℕ) by omega]
    rw [Nat.zero_add (y 0 : ℕ)]
    rfl
  · show ((_ : ℝ) : EReal) = ((_ : ℝ) : EReal)
    rw [h0, h1]
    simp only [Sav.dqb]
    rw [show 128 * ((128 + (y 1 : ℕ)) / 128 % 2) = 128 by omega, show 2 * ((128 + (y 1 : ℕ)) / 256) = 0 by omega, show (128 + (y 1 : ℕ)) % 128 = (y 1 : ℕ) by omega]
    skip
    rfl
  · show ((_ : ℝ) : EReal) = ((_ : ℝ) : EReal)
    rw [h0, h1]
    simp only [Sav.dqb]
    rw [show 128 * ((y 1 : ℕ) / 128 % 2) = 0 by omega, show 2 * ((y 1 : ℕ) / 256) = 0 by omega, show (y 1 : ℕ) % 128 = (y 1 : ℕ) by omega]
    rw [Nat.zero_add (y 0 : ℕ)]
    rfl

/-- The key gradients after a point that starts a fold. -/
theorem bdkA (c : Dev nD) (t : Fin cfg1.N) (I : Inp) (J : Sav) (H : Reads V c t I J) (hz : t.val % 32 = 0) :
    (outsAt1 V c t.val t.isLt).2.1 = re2 (upd t (J.dkt I t) (fun _ _ => 0)) := by
  rw [Gen.outsAt1_A V c t hz, Gen.atA]
  simp only []
  rw [H.h0, H.h1, H.h2, H.h3, H.h4, H.h5, H.h6, H.h7, H.h8, H.h9, H.h10, H.h11, H.h12, H.h13]
  frame_out
  simp only [ld_q, ld_win, ld_ex J.E, ld_st J.St, off1b, Matrix.cons_val_zero, Matrix.cons_val_one, Matrix.cons_val]
  simp only [pay31, pay61, pay10, pay17, pay32, pay46, pay62]
  simp only [pay6, pay7, pay8, pay9, pay17, pay18, pay33, pay47, pay63, pay35, pay49, pay65, pay36, pay50, pay66, pay20, pay21, pay19]
  simp only [pay59, pay60, pay44, pay45, pay29, pay30, pay74, pay75, pay15, pay16]
  simp only [pay1, ld_win', pay82]
  funext y
  rw [← View.read_writes_junk_apply_eq_canon (ms1_15 t).view]
  refine read_win _ _ t.val _ (off1b t) _ (J.dkt I t) (fun _ _ => 0) _ y ?_
  rw [View.read_writes_junk_apply_eq_canon]
  canon_tiles y h
  rfl

/-- The key gradients after a point that continues a fold. -/
theorem bdkB (c : Dev nD) (t : Fin cfg1.N) (I : Inp) (J : Sav) (H : Reads V c t I J) (hz : ¬ t.val % 32 = 0) (X : ℕ → ℕ → ℝ)
    (hX : (outsAt1 V c (t.val - 1) (by have := t.isLt; omega)).2.1 = re2 X) :
    (outsAt1 V c t.val t.isLt).2.1 = re2 (upd t (J.dkt I t) X) := by
  rw [Gen.outsAt1_B V c t hz, Gen.atB]
  simp only []
  rw [H.h0, H.h1, H.h2, H.h3, H.h4, H.h5, H.h6, H.h7, H.h8, H.h9, H.h10, H.h11, H.h12, H.h13]
  frame_out
  simp only [ld_q, ld_win, ld_ex J.E, ld_st J.St, off1b, Matrix.cons_val_zero, Matrix.cons_val_one, Matrix.cons_val]
  simp only [pay31, pay61, pay10, pay17, pay32, pay46, pay62]
  simp only [pay6, pay7, pay8, pay9, pay17, pay18, pay33, pay47, pay63, pay35, pay49, pay65, pay36, pay50, pay66, pay20, pay21, pay19]
  simp only [pay59, pay60, pay44, pay45, pay29, pay30, pay74, pay75, pay15, pay16]
  rw [hX]
  simp only [ld_win', pay82]
  funext y
  refine read_win _ _ t.val _ (off1b t) _ (J.dkt I t) X _ y ?_
  exact congrFun (Memref.IsWhole.read_unread _ _) y

/-- The value gradients after a point that starts a fold. -/
theorem bdvA (c : Dev nD) (t : Fin cfg1.N) (I : Inp) (J : Sav) (H : Reads V c t I J) (hz : t.val % 32 = 0) :
    (outsAt1 V c t.val t.isLt).2.2.1 = re2 (upd t (J.dvt) (fun _ _ => 0)) := by
  rw [Gen.outsAt1_A V c t hz, Gen.atA]
  simp only []
  rw [H.h0, H.h1, H.h2, H.h3, H.h4, H.h5, H.h6, H.h7, H.h8, H.h9, H.h10, H.h11, H.h12, H.h13]
  frame_out
  simp only [ld_q, ld_win, ld_ex J.E, ld_st J.St, off1b, Matrix.cons_val_zero, Matrix.cons_val_one, Matrix.cons_val]
  simp only [pay31, pay61, pay10, pay17, pay32, pay46, pay62]
  simp only [pay6, pay7, pay8, pay9, pay17, pay18, pay33, pay47, pay63, pay35, pay49, pay65, pay36, pay50, pay66, pay20, pay21, pay19]
  simp only [pay59, pay60, pay44, pay45, pay29, pay30, pay74, pay75, pay15, pay16]
  simp only [pay2, ld_win', pay83]
  funext y
  rw [← View.read_writes_junk_apply_eq_canon (ms1_16 t).view]
  refine read_win _ _ t.val _ (off1b t) _ (J.dvt) (fun _ _ => 0) _ y ?_
  rw [View.read_writes_junk_apply_eq_canon]
  canon_tiles y h
  rfl

/-- The value gradients after a point that continues a fold. -/
theorem bdvB (c : Dev nD) (t : Fin cfg1.N) (I : Inp) (J : Sav) (H : Reads V c t I J) (hz : ¬ t.val % 32 = 0) (X : ℕ → ℕ → ℝ)
    (hX : (outsAt1 V c (t.val - 1) (by have := t.isLt; omega)).2.2.1 = re2 X) :
    (outsAt1 V c t.val t.isLt).2.2.1 = re2 (upd t (J.dvt) X) := by
  rw [Gen.outsAt1_B V c t hz, Gen.atB]
  simp only []
  rw [H.h0, H.h1, H.h2, H.h3, H.h4, H.h5, H.h6, H.h7, H.h8, H.h9, H.h10, H.h11, H.h12, H.h13]
  frame_out
  simp only [ld_q, ld_win, ld_ex J.E, ld_st J.St, off1b, Matrix.cons_val_zero, Matrix.cons_val_one, Matrix.cons_val]
  simp only [pay31, pay61, pay10, pay17, pay32, pay46, pay62]
  simp only [pay6, pay7, pay8, pay9, pay17, pay18, pay33, pay47, pay63, pay35, pay49, pay65, pay36, pay50, pay66, pay20, pay21, pay19]
  simp only [pay59, pay60, pay44, pay45, pay29, pay30, pay74, pay75, pay15, pay16]
  rw [hX]
  simp only [ld_win', pay83]
  funext y
  refine read_win _ _ t.val _ (off1b t) _ (J.dvt) X _ y ?_
  exact congrFun (Memref.IsWhole.read_unread _ _) y

/-- The context key gradients after a point that starts a fold. -/
theorem bdkcA (c : Dev nD) (t : Fin cfg1.N) (I : Inp) (J : Sav) (H : Reads V c t I J) (hz : t.val % 32 = 0) :
    (outsAt1 V c t.val t.isLt).2.2.2.1 = re2 (fun k d => (0 : ℝ) + J.dkt I t k d) := by
  rw [Gen.outsAt1_A V c t hz, Gen.atA]
  simp only []
  rw [H.h0, H.h1, H.h2, H.h3, H.h4, H.h5, H.h6, H.h7, H.h8, H.h9, H.h10, H.h11, H.h12, H.h13]
  frame_out
  simp only [ld_q, ld_win, ld_ex J.E, ld_st J.St, off1b, Matrix.cons_val_zero, Matrix.cons_val_one, Matrix.cons_val]
  simp only [pay31, pay61, pay10, pay17, pay32, pay46, pay62]
  simp only [pay6, pay7, pay8, pay9, pay17, pay18, pay33, pay47, pay63, pay35, pay49, pay65, pay36, pay50, pay66, pay20, pay21, pay19]
  simp only [pay59, pay60, pay44, pay45, pay29, pay30, pay74, pay75, pay15, pay16]
  simp only [pay3, pay80]
  rfl

/-- The context key gradients after a point that continues a fold. -/
theorem bdkcB (c : Dev nD) (t : Fin cfg1.N) (I : Inp) (J : Sav) (H : Reads V c t I J) (hz : ¬ t.val % 32 = 0) (X : ℕ → ℕ → ℝ)
    (hX : (outsAt1 V c (t.val - 1) (by have := t.isLt; omega)).2.2.2.1 = re2 X) :
    (outsAt1 V c t.val t.isLt).2.2.2.1 = re2 (fun k d => X k d + J.dkt I t k d) := by
  rw [Gen.outsAt1_B V c t hz, Gen.atB]
  simp only []
  rw [H.h0, H.h1, H.h2, H.h3, H.h4, H.h5, H.h6, H.h7, H.h8, H.h9, H.h10, H.h11, H.h12, H.h13]
  frame_out
  simp only [ld_q, ld_win, ld_ex J.E, ld_st J.St, off1b, Matrix.cons_val_zero, Matrix.cons_val_one, Matrix.cons_val]
  simp only [pay31, pay61, pay10, pay17, pay32, pay46, pay62]
  simp only [pay6, pay7, pay8, pay9, pay17, pay18, pay33, pay47, pay63, pay35, pay49, pay65, pay36, pay50, pay66, pay20, pay21, pay19]
  simp only [pay59, pay60, pay44, pay45, pay29, pay30, pay74, pay75, pay15, pay16]
  rw [hX, pay80]
  rfl

/-- The context value gradients after a point that starts a fold. -/
theorem bdvcA (c : Dev nD) (t : Fin cfg1.N) (I : Inp) (J : Sav) (H : Reads V c t I J) (hz : t.val % 32 = 0) :
    (outsAt1 V c t.val t.isLt).2.2.2.2.1 = re2 (fun k d => (0 : ℝ) + J.dvt k d) := by
  rw [Gen.outsAt1_A V c t hz, Gen.atA]
  simp only []
  rw [H.h0, H.h1, H.h2, H.h3, H.h4, H.h5, H.h6, H.h7, H.h8, H.h9, H.h10, H.h11, H.h12, H.h13]
  frame_out
  simp only [ld_q, ld_win, ld_ex J.E, ld_st J.St, off1b, Matrix.cons_val_zero, Matrix.cons_val_one, Matrix.cons_val]
  simp only [pay31, pay61, pay10, pay17, pay32, pay46, pay62]
  simp only [pay6, pay7, pay8, pay9, pay17, pay18, pay33, pay47, pay63, pay35, pay49, pay65, pay36, pay50, pay66, pay20, pay21, pay19]
  simp only [pay59, pay60, pay44, pay45, pay29, pay30, pay74, pay75, pay15, pay16]
  simp only [pay4, pay81]
  rfl

/-- The context value gradients after a point that continues a fold. -/
theorem bdvcB (c : Dev nD) (t : Fin cfg1.N) (I : Inp) (J : Sav) (H : Reads V c t I J) (hz : ¬ t.val % 32 = 0) (X : ℕ → ℕ → ℝ)
    (hX : (outsAt1 V c (t.val - 1) (by have := t.isLt; omega)).2.2.2.2.1 = re2 X) :
    (outsAt1 V c t.val t.isLt).2.2.2.2.1 = re2 (fun k d => X k d + J.dvt k d) := by
  rw [Gen.outsAt1_B V c t hz, Gen.atB]
  simp only []
  rw [H.h0, H.h1, H.h2, H.h3, H.h4, H.h5, H.h6, H.h7, H.h8, H.h9, H.h10, H.h11, H.h12, H.h13]
  frame_out
  simp only [ld_q, ld_win, ld_ex J.E, ld_st J.St, off1b, Matrix.cons_val_zero, Matrix.cons_val_one, Matrix.cons_val]
  simp only [pay31, pay61, pay10, pay17, pay32, pay46, pay62]
  simp only [pay6, pay7, pay8, pay9, pay17, pay18, pay33, pay47, pay63, pay35, pay49, pay65, pay36, pay50, pay66, pay20, pay21, pay19]
  simp only [pay59, pay60, pay44, pay45, pay29, pay30, pay74, pay75, pay15, pay16]
  rw [hX, pay81]
  rfl

/-- The sink gradients after a point that starts a fold. -/
theorem bdsinkA (c : Dev nD) (t : Fin cfg1.N) (I : Inp) (J : Sav) (H : Reads V c t I J) (hz : t.val % 32 = 0) :
    (outsAt1 V c t.val t.isLt).2.2.2.2.2 = re2 (J.dsk (fun _ _ => 0)) := by
  rw [Gen.outsAt1_A V c t hz, Gen.atA]
  simp only []
  rw [H.h0, H.h1, H.h2, H.h3, H.h4, H.h5, H.h6, H.h7, H.h8, H.h9, H.h10, H.h11, H.h12, H.h13]
  frame_out
  simp (disch := decide) only [↓ View.readCov_skip, View.readCov_fill, pay5]
  simp only [ld_row, ld_q, ld_st J.St, Matrix.cons_val_zero, Matrix.cons_val_one, Matrix.cons_val]
  simp only [pay31, pay61, pay10, pay37, pay51, pay67, pay22, pay38, pay53, pay68, pay39, pay54, pay69, pay23, pay24]
  funext y
  have hy : (y 0 : ℕ) < 8 := (y 0).isLt
  rw [← View.read_writes_junk_apply_eq_canon (ms1_19 t).view]
  refine read_row _ _ 7 _ _ _ _ y ?_ fun a7 => ?_
  · simp only [Sav.dsk, Sav.sd, Sav.dd, Sav.dom, tile, Nat.add_zero, Nat.zero_add, Nat.reduceAdd, Nat.reduceMul, Nat.reduceDiv, Nat.reduceMod]
    rfl
  refine read_row _ _ 5 _ _ _ _ y ?_ fun a5 => ?_
  · simp only [Sav.dsk, Sav.sd, Sav.dd, Sav.dom, tile, Nat.add_zero, Nat.zero_add, Nat.reduceAdd, Nat.reduceMul, Nat.reduceDiv, Nat.reduceMod]
    rfl
  refine read_row _ _ 6 _ _ _ _ y ?_ fun a6 => ?_
  · simp only [Sav.dsk, Sav.sd, Sav.dd, Sav.dom, tile, Nat.add_zero, Nat.zero_add, Nat.reduceAdd, Nat.reduceMul, Nat.reduceDiv, Nat.reduceMod]
    rfl
  refine read_row _ _ 4 _ _ _ _ y ?_ fun a4 => ?_
  · simp only [Sav.dsk, Sav.sd, Sav.dd, Sav.dom, tile, Nat.add_zero, Nat.zero_add, Nat.reduceAdd, Nat.reduceMul, Nat.reduceDiv, Nat.reduceMod]
    rfl
  refine read_row _ _ 3 _ _ _ _ y ?_ fun a3 => ?_
  · simp only [Sav.dsk, Sav.sd, Sav.dd, Sav.dom, tile, Nat.add_zero, Nat.zero_add, Nat.reduceAdd, Nat.reduceMul, Nat.reduceDiv, Nat.reduceMod]
    rfl
  refine read_row _ _ 1 _ _ _ _ y ?_ fun a1 => ?_
  · simp only [Sav.dsk, Sav.sd, Sav.dd, Sav.dom, tile, Nat.add_zero, Nat.zero_add, Nat.reduceAdd, Nat.reduceMul, Nat.reduceDiv, Nat.reduceMod]
    rfl
  refine read_row _ _ 2 _ _ _ _ y ?_ fun a2 => ?_
  · simp only [Sav.dsk, Sav.sd, Sav.dd, Sav.dom, tile, Nat.add_zero, Nat.zero_add, Nat.reduceAdd, Nat.reduceMul, Nat.reduceDiv, Nat.reduceMod]
    rfl
  refine read_row _ _ 0 _ _ _ _ y ?_ fun a0 => ?_
  · simp only [Sav.dsk, Sav.sd, Sav.dd, Sav.dom, tile, Nat.add_zero, Nat.zero_add, Nat.reduceAdd, Nat.reduceMul, Nat.reduceDiv, Nat.reduceMod]
    rfl
  omega

/-- The sink gradients after a point that continues a fold. -/
theorem bdsinkB (c : Dev nD) (t : Fin cfg1.N) (I : Inp) (J : Sav) (H : Reads V c t I J) (hz : ¬ t.val % 32 = 0) (X : ℕ → ℕ → ℝ)
    (hX : (outsAt1 V c (t.val - 1) (by have := t.isLt; omega)).2.2.2.2.2 = re2 X) :
    (outsAt1 V c t.val t.isLt).2.2.2.2.2 = re2 (J.dsk X) := by
  rw [Gen.outsAt1_B V c t hz, Gen.atB]
  simp only []
  rw [H.h0, H.h1, H.h2, H.h3, H.h4, H.h5, H.h6, H.h7, H.h8, H.h9, H.h10, H.h11, H.h12, H.h13]
  frame_out
  rw [hX]
  simp only [ld_row, ld_q, ld_st J.St, Matrix.cons_val_zero, Matrix.cons_val_one, Matrix.cons_val]
  simp only [pay31, pay61, pay10, pay37, pay51, pay67, pay22, pay38, pay53, pay68, pay39, pay54, pay69, pay23, pay24]
  funext y
  canon_tiles y h
  all_goals
    show ((_ : ℝ) : EReal) = ((_ : ℝ) : EReal)
    have e0 : (y 0 : ℕ) = 0 := by omega
    rw [h0, h1, e0]
    simp only [Sav.dsk, Sav.sd, Sav.dd, Sav.dom, tile, Nat.add_zero, Nat.zero_add, Nat.reduceAdd, Nat.reduceMul, Nat.reduceDiv, Nat.reduceMod]
    try rfl

end Bwd

end Cert.Attn
-- ==== Proof.Alg.lean ====
/-
  What the points of the two calls compute, as parts of the attention over the reals.
-/
module

public import proofs.«01_k».proof.Proof.Model
public import proofs.«01_k».proof.Proof.BwdOut

@[expose] public section

set_option maxRecDepth 16384

noncomputable section

namespace Cert.Attn

open Idealize.ShloMosaic Idealize.ShloMosaic.TcCoe Idealize.SL.Sem

open Cert.KernelIdeal Cert.KernelIdeal.Gen

/-- The arrays the points read, from the arguments: the queries of block `t`, and the keys and values padded and exchanged. -/
def inp (A : Args) (t : ℕ) : Inp where
  q0 := fun r c => if c % 128 < 64 then A.q (128 * t + r) c / 8 else 0
  q1 := fun r c => if c % 128 < 64 then 0 else A.q (128 * t + r) c / 8
  kp := fun r c => if 128 ≤ r ∧ r < 4224 then A.k (r - 128) c else 0
  ksw := fun r c => if 128 ≤ r ∧ r < 4224 then A.k (r - 128) ((c + 64) % 128) else 0
  vp := fun r c => if 128 ≤ r ∧ r < 4224 then A.v (r - 128) c else 0
  vsw := fun r c => if 128 ≤ r ∧ r < 4224 then A.v (r - 128) ((c + 64) % 128) else 0
  kc := A.kc
  kcsw := fun r c => A.kc r ((c + 64) % 128)
  vc := A.vc
  vcsw := fun r c => A.vc r ((c + 64) % 128)
  sk := A.sk

/-- The head of row `r` in group `n`. -/
def hd (n r : ℕ) : ℕ := 4 * (n / 2) + 2 * (r / 128) + n % 2

/-- The query of row `r` at point `t`. -/
def qi (t r : ℕ) : ℕ := 128 * t + r % 128

/-- An array of context rows, then of the window's rows. -/
def kv (a b : ℕ → ℕ → ℝ) (t κ c : ℕ) : ℝ :=
  if κ < 256 then a κ c else if 384 ≤ 128 * t + κ ∧ 128 * t + κ < 4480 then b (128 * t + κ - 384) c else 0

/-- A function of context positions, then one of the positions compared with row `r`. -/
def win (t r : ℕ) (fc fl : ℕ → ℝ) (κ : ℕ) : ℝ :=
  if κ < 256 then fc κ else if okw t r κ then fl (128 * t + κ - 384) else 0

theorem sum_half (e : ℕ) (he : e < 2) (f : ℕ → ℝ) (h0 : ∀ d, d < 128 → d / 64 ≠ e → f d = 0) :
    ∑ d ∈ Finset.range 128, f d = ∑ d ∈ Finset.range 64, f (64 * e + d) := by
  rw [show (128 : ℕ) = 64 + 64 from rfl, Finset.sum_range_add]
  rcases (by omega : e = 0 ∨ e = 1) with rfl | rfl
  · rw [Finset.sum_eq_zero (s := Finset.range 64) (f := fun x => f (64 + x)), add_zero]
    · simp only [Nat.mul_zero, Nat.zero_add]
    · intro x hx
      have := Finset.mem_range.1 hx
      exact h0 _ (by omega) (by omega)
  · rw [Finset.sum_eq_zero (s := Finset.range 64) (f := f), zero_add]
    intro x hx
    have := Finset.mem_range.1 hx
    exact h0 _ (by omega) (by omega)

theorem near_okw {t r κ : ℕ} (hκ : ¬ κ < 256) (h : okw t r κ) : near (qi t r) (128 * t + κ - 384) := by
  unfold okw at h
  unfold near qi
  omega

/-- A row's sum over the window is the sum over the context and the whole sequence. -/
theorem win_sum (t r : ℕ) (ht : t < 32) (fc fl : ℕ → ℝ) (hf : ∀ s, ¬ near (qi t r) s → fl s = 0) :
    ∑ κ ∈ Finset.range 640, win t r fc fl κ = ∑ j ∈ Finset.range 256, fc j + ∑ s ∈ Finset.range 4096, fl s := by
  rw [show (640 : ℕ) = 256 + 384 from rfl, Finset.sum_range_add]
  refine congrArg₂ (· + ·) ?_ ?_
  · refine Finset.sum_congr rfl fun j hj => ?_
    rw [win, if_pos (Finset.mem_range.1 hj)]
  · have e1 : ∑ s ∈ Finset.range 4096, fl s = ∑ s ∈ (Finset.range 4096).filter (near (qi t r)), fl s := by
      rw [Finset.sum_filter]
      refine Finset.sum_congr rfl fun s _ => ?_
      by_cases h : near (qi t r) s
      · rw [if_pos h]
      · rw [if_neg h, hf s h]
    have e2 : ∑ x ∈ Finset.range 384, win t r fc fl (256 + x)
        = ∑ x ∈ (Finset.range 384).filter (fun x => okw t r (256 + x)), fl (128 * t + (256 + x) - 384) := by
      rw [Finset.sum_filter]
      refine Finset.sum_congr rfl fun x _ => ?_
      rw [win, if_neg (by omega)]
    rw [e1, e2]
    refine Finset.sum_nbij' (fun x => 128 * t + (256 + x) - 384) (fun s => s + 128 - 128 * t) ?_ ?_ ?_ ?_ ?_
    · intro x hx
      obtain ⟨h1, h2⟩ := Finset.mem_filter.1 hx
      have h1 := Finset.mem_range.1 h1
      unfold okw at h2
      refine Finset.mem_filter.2 ⟨Finset.mem_range.2 (by omega), ?_⟩
      unfold near qi
      omega
    · intro s hs
      obtain ⟨h1, h2⟩ := Finset.mem_filter.1 hs
      have h1 := Finset.mem_range.1 h1
      unfold near qi at h2
      refine Finset.mem_filter.2 ⟨Finset.mem_range.2 (by omega), ?_⟩
      unfold okw
      omega
    · intro x hx
      obtain ⟨h1, h2⟩ := Finset.mem_filter.1 hx
      have h1 := Finset.mem_range.1 h1
      unfold okw at h2
      show 128 * t + (256 + x) - 384 + 128 - 128 * t = x
      omega
    · intro s hs
      obtain ⟨h1, h2⟩ := Finset.mem_filter.1 hs
      unfold near qi at h2
      show 128 * t + (256 + (s + 128 - 128 * t)) - 384 = s
      omega
    · intro x hx
      rfl

theorem win_kv (t r : ℕ) (fc fl : ℕ → ℝ) (a b : ℕ → ℕ → ℝ) (c κ : ℕ) :
    win t r fc fl κ * kv a b t κ c = win t r (fun j => fc j * a j c) (fun s => fl s * b s c) κ := by
  unfold win kv
  split_ifs with h1 h2 h3
  · rfl
  · rfl
  · unfold okw at h2; omega
  · exact zero_mul _
  · exact zero_mul _

theorem win_sum_kv (t r : ℕ) (ht : t < 32) (fc fl : ℕ → ℝ) (hf : ∀ s, ¬ near (qi t r) s → fl s = 0) (a b : ℕ → ℕ → ℝ) (c : ℕ) :
    ∑ κ ∈ Finset.range 640, win t r fc fl κ * kv a b t κ c
      = ∑ j ∈ Finset.range 256, fc j * a j c + ∑ s ∈ Finset.range 4096, fl s * b s c := by
  simp only [win_kv]
  exact win_sum t r ht _ _ fun s hs => by rw [hf s hs, zero_mul]

section

variable (A : Args) (t n : ℕ) (hn : n < 4)

include hn

theorem gq_eq {r d : ℕ} (hr : r < 256) (hd' : d < 128) :
    (inp A t).gq n r d = if d / 64 = n % 2 then A.q (qi t r) (64 * hd n r + d % 64) / 8 else 0 := by
  have key : ∀ a : ℕ, a = 256 * (n / 2) → ∀ x : ℕ → ℕ → ℝ,
      grp x a r d = x (r % 128) (a + 128 * (r / 128) + d) := by
    intro a ha x
    simp only [grp, stk, tile]
    split_ifs with h
    · rw [show r % 128 = r by omega, show r / 128 = 0 by omega, Nat.zero_add, Nat.mul_zero, Nat.add_zero]
    · rw [show r % 128 = r - 128 by omega, show r / 128 = 1 by omega, Nat.zero_add, Nat.mul_one]
  rcases (by omega : n = 0 ∨ n = 1 ∨ n = 2 ∨ n = 3) with rfl | rfl | rfl | rfl
  all_goals
    simp only [Inp.gq]
    rw [key _ rfl]
    simp only [inp, qi, hd]
    split_ifs
    all_goals first
      | rfl
      | omega
      | (congr 2; omega)

theorem gk_eq {κ d : ℕ} (hd' : d < 64) :
    (inp A t).gk t n κ (64 * (n % 2) + d) = kv A.kc A.k t κ (64 * (n / 2) + d) := by
  rcases (by omega : n = 0 ∨ n = 1 ∨ n = 2 ∨ n = 3) with rfl | rfl | rfl | rfl
  all_goals
    simp only [Inp.gk, kal, stk, tile, inp, kv]
    split_ifs
    all_goals first
      | omega
      | with_reducible rfl
      | (refine congrArg₂ _ ?_ ?_ <;> omega)

theorem gv_eq {κ d : ℕ} (hd' : d < 64) :
    (inp A t).gv t n κ (64 * (n % 2) + d) = kv A.vc A.v t κ (64 * (n / 2) + d) := by
  rcases (by omega : n = 0 ∨ n = 1 ∨ n = 2 ∨ n = 3) with rfl | rfl | rfl | rfl
  all_goals
    simp only [Inp.gv, kal, stk, tile, inp, kv]
    split_ifs
    all_goals first
      | omega
      | with_reducible rfl
      | (refine congrArg₂ _ ?_ ?_ <;> omega)

theorem hd4 {r : ℕ} (hr : r < 256) : hd n r / 4 = n / 2 := by unfold hd; omega

/-- A product over the lanes with keys or values. -/
theorem sum_lane {r κ : ℕ} (f : ℕ → ℝ) (h0 : ∀ d, d < 128 → d / 64 ≠ n % 2 → f d = 0) (y : ℕ → ℝ) :
    ∑ d ∈ Finset.range 128, f d * y d = ∑ d ∈ Finset.range 64, f (64 * (n % 2) + d) * y (64 * (n % 2) + d) :=
  sum_half _ (by omega) _ fun d hd' hne => by rw [h0 d hd' hne, zero_mul]

theorem scr_eq {r κ : ℕ} (hr : r < 256) :
    scr ((inp A t).gq n) ((inp A t).gk t n) r κ
      = ∑ d ∈ Finset.range 64, A.q (qi t r) (64 * hd n r + d) / 8 * kv A.kc A.k t κ (64 * (hd n r / 4) + d) := by
  unfold scr
  rw [sum_lane (r := r) (κ := κ) n hn _ fun d hd' hne => by rw [gq_eq A t n hn hr hd', if_neg hne]]
  refine Finset.sum_congr rfl fun d hd' => ?_
  have hd'' := Finset.mem_range.1 hd'
  rw [gq_eq A t n hn hr (by omega), if_pos (by omega), gk_eq A t n hn hd'', hd4 n hn hr, show (64 * (n % 2) + d) % 64 = d by omega]

theorem ge_eq {r κ : ℕ} (hr : r < 256) (M : ℕ → ℕ → ℝ) :
    (inp A t).ge t M n r κ = win t r (fun j => A.xc (hd n r) (qi t r) j * Real.exp (-M n r)) (fun s => A.xl (hd n r) (qi t r) s * Real.exp (-M n r)) κ := by
  unfold Inp.ge expo win
  rw [scr_eq A t n hn hr]
  by_cases hκ : κ < 256
  · rw [if_pos (show okw t r κ from Or.inl hκ), if_pos hκ, sub_eq_add_neg, Real.exp_add]
    unfold Args.xc Args.scc kv
    simp only [if_pos hκ]
  · rw [if_neg hκ]
    by_cases h : okw t r κ
    · rw [if_pos h, if_pos h, sub_eq_add_neg, Real.exp_add]
      unfold Args.xl Args.scl kv
      have h' : 384 ≤ 128 * t + κ ∧ 128 * t + κ < 4480 := by unfold okw at h; omega
      simp only [if_neg hκ, if_pos h', if_pos (near_okw hκ h)]
    · rw [if_neg h, if_neg h]

theorem gs_eq {r : ℕ} (hr : r < 256) : (inp A t).gs n r = A.sk (hd n r) := by
  rcases (by omega : n = 0 ∨ n = 1 ∨ n = 2 ∨ n = 3) with rfl | rfl | rfl | rfl
  all_goals
    simp only [Inp.gs, pair, Inp.sx, Inp.sy, inp, hd]
    split_ifs <;> (congr 1; omega)

theorem ges_eq {r : ℕ} (hr : r < 256) (M : ℕ → ℕ → ℝ) :
    (inp A t).ges M n r = A.xs (hd n r) * Real.exp (-M n r) := by
  unfold Inp.ges snk
  rw [gs_eq A t n hn hr, sub_eq_add_neg, Real.exp_add, Args.xs]

theorem gi_eq (ht : t < 32) {r : ℕ} (hr : r < 256) (M : ℕ → ℕ → ℝ) :
    (inp A t).gi t M n r = 1 / (A.z (hd n r) (qi t r) * Real.exp (-M n r)) := by
  unfold Inp.gi invr
  rw [ges_eq A t n hn hr]
  simp only [ge_eq A t n hn hr]
  rw [win_sum t r ht _ _ fun s hs => by rw [A.xl_far hs, zero_mul], ← Finset.sum_mul, ← Finset.sum_mul]
  congr 1
  unfold Args.z
  ring

/-- The probabilities. -/
theorem p_eq (ht : t < 32) {r κ : ℕ} (hr : r < 256) (M : ℕ → ℕ → ℝ) :
    (inp A t).ge t M n r κ * (inp A t).gi t M n r = win t r (A.pc (hd n r) (qi t r)) (A.pl (hd n r) (qi t r)) κ := by
  rw [gi_eq A t n hn ht hr, ge_eq A t n hn hr]
  have hz := (A.z_pos (hd n r) (qi t r)).ne'
  have hM := (Real.exp_pos (-M n r)).ne'
  unfold win Args.pc Args.pl
  split_ifs
  · field_simp
  · field_simp
  · exact zero_mul _

theorem ps_eq (ht : t < 32) {r : ℕ} (hr : r < 256) (M : ℕ → ℕ → ℝ) :
    (inp A t).ges M n r * (inp A t).gi t M n r = A.ps (hd n r) (qi t r) := by
  rw [gi_eq A t n hn ht hr, ges_eq A t n hn hr]
  have hz := (A.z_pos (hd n r) (qi t r)).ne'
  have hM := (Real.exp_pos (-M n r)).ne'
  unfold Args.ps
  field_simp

theorem go_eq (ht : t < 32) {r d : ℕ} (hr : r < 256) (hd' : d < 64) (M : ℕ → ℕ → ℝ) :
    (inp A t).go t M n r (64 * (n % 2) + d) = A.od (hd n r) (qi t r) d := by
  unfold Inp.go outr
  rw [Finset.sum_mul]
  have : ∀ κ ∈ Finset.range 640, (inp A t).ge t M n r κ * (inp A t).gv t n κ (64 * (n % 2) + d) * (inp A t).gi t M n r
      = win t r (A.pc (hd n r) (qi t r)) (A.pl (hd n r) (qi t r)) κ * kv A.vc A.v t κ (64 * (n / 2) + d) := fun κ _ => by
    rw [← p_eq A t n hn ht hr M, gv_eq A t n hn hd']
    ring
  rw [Finset.sum_congr rfl this, win_sum_kv t r ht _ _ (fun s hs => A.pl_far hs)]
  unfold Args.od
  rw [hd4 n hn hr]

end

/-- A block of the output. -/
theorem out_eq (A : Args) (t : ℕ) (ht : t < 32) (M : ℕ → ℕ → ℝ) {r d : ℕ} (hr : r < 128) (hd' : d < 512) :
    mixl (128 * (d / 128 % 2)) ((inp A t).go t M (2 * (d / 256))) ((inp A t).go t M (2 * (d / 256) + 1)) r (d % 128) = A.o (128 * t + r) d := by
  unfold mixl Args.o
  split_ifs with h
  · have := go_eq A t (2 * (d / 256)) (by omega) ht (r := 128 * (d / 128 % 2) + r) (d := d % 128) (by omega) h M
    rw [show 64 * (2 * (d / 256) % 2) + d % 128 = d % 128 by omega] at this
    rw [this]
    congr 1
    · unfold hd; omega
    · unfold qi; omega
    · omega
  · have := go_eq A t (2 * (d / 256) + 1) (by omega) ht (r := 128 * (d / 128 % 2) + r) (d := d % 128 - 64) (by omega) (by omega) M
    rw [show 64 * ((2 * (d / 256) + 1) % 2) + (d % 128 - 64) = d % 128 by omega] at this
    rw [this]
    congr 1
    · unfold hd; omega
    · unfold qi; omega
    · omega

end Cert.Attn
-- ==== Proof.AlgBwd.lean ====
/-
  What the points of the backward call compute, as parts of the gradients over the reals, and the sums over all points.
-/
module

public import proofs.«01_k».proof.Proof.Alg

@[expose] public section

set_option maxRecDepth 16384

noncomputable section

namespace Cert.Attn

open Idealize.ShloMosaic Idealize.ShloMosaic.TcCoe Idealize.SL.Sem

open Cert.KernelIdeal Cert.KernelIdeal.Gen Bwd

/-- The saved arrays of point `t` hold the probabilities, the sinks' probabilities, the output and its gradient. -/
structure Good (A : Args) (t : ℕ) (J : Sav) : Prop where
  hP : ∀ n, n < 4 → ∀ r, r < 256 → ∀ κ, κ < 640 → J.P n r κ = win t r (A.pc (hd n r) (qi t r)) (A.pl (hd n r) (qi t r)) κ
  hS : ∀ n, n < 4 → ∀ r, r < 256 → J.St n r 64 = A.ps (hd n r) (qi t r)
  ho : ∀ r, r < 128 → ∀ c, c < 512 → J.o r c = A.o (128 * t + r) c
  hg : ∀ r, r < 128 → ∀ c, c < 512 → J.g r c = A.g (128 * t + r) c

theorem grp_eq (x : ℕ → ℕ → ℝ) (a : ℕ) {r : ℕ} (hr : r < 256) (d : ℕ) : grp x a r d = x (r % 128) (a + 128 * (r / 128) + d) := by
  simp only [grp, stk, tile]
  split_ifs with h
  · rw [show r % 128 = r by omega, show r / 128 = 0 by omega, Nat.zero_add, Nat.mul_zero, Nat.add_zero]
  · rw [show r % 128 = r - 128 by omega, show r / 128 = 1 by omega, Nat.zero_add, Nat.mul_one]

section

variable {A : Args} {t : ℕ} {J : Sav} (H : Good A t J) (ht : t < 32) {n : ℕ} (hn : n < 4) {r : ℕ} (hr : r < 256)

include H hn hr

theorem dom_eq {d : ℕ} (hd' : d < 128) : J.dom n r d = if d / 64 = n % 2 then A.gh (hd n r) (qi t r) (d % 64) else 0 := by
  unfold Sav.dom ln
  have e : (decide (d < 64) = decide (n % 2 = 0)) ↔ d / 64 = n % 2 := by
    rw [decide_eq_decide]
    omega
  by_cases h : d / 64 = n % 2
  · rw [if_pos (e.2 h), if_pos h, grp_eq _ _ hr, H.hg _ (by omega) _ (by omega)]
    unfold Args.gh qi hd
    congr 1
    omega
  · rw [if_neg (fun h' => h (e.1 h')), if_neg h]

theorem dd_row : J.dd n r = A.dd (hd n r) (qi t r) := by
  unfold Sav.dd rdot Args.dd
  rw [sum_lane (r := r) (κ := 0) n hn _ fun d hd' hne => by rw [dom_eq H hn hr hd', if_neg hne]]
  refine Finset.sum_congr rfl fun d hd' => ?_
  have hd'' := Finset.mem_range.1 hd'
  rw [dom_eq H hn hr (by omega), if_pos (by omega), grp_eq _ _ hr, H.ho _ (by omega) _ (by omega), show (64 * (n % 2) + d) % 64 = d by omega]
  unfold Args.o
  congr 2
  · unfold hd; omega
  · omega

include ht

theorem ds_eq {κ : ℕ} (hκ : κ < 640) :
    J.ds (inp A t) t n r κ = win t r (A.dsc (hd n r) (qi t r)) (A.dsl (hd n r) (qi t r)) κ := by
  unfold Sav.ds dsf
  rw [H.hP n hn r hr κ hκ, dd_row H hn hr]
  have : scr (J.dom n) ((inp A t).gv t n) r κ
      = ∑ d ∈ Finset.range 64, A.gh (hd n r) (qi t r) d * kv A.vc A.v t κ (64 * (hd n r / 4) + d) := by
    unfold scr
    rw [sum_lane (r := r) (κ := κ) n hn _ fun d hd' hne => by rw [dom_eq H hn hr hd', if_neg hne]]
    refine Finset.sum_congr rfl fun d hd' => ?_
    have hd'' := Finset.mem_range.1 hd'
    rw [dom_eq H hn hr (by omega), if_pos (by omega), gv_eq A t n hn hd'', hd4 n hn hr, show (64 * (n % 2) + d) % 64 = d by omega]
  rw [this]
  unfold win kv Args.dsc Args.dsl Args.dpc Args.dpl
  by_cases h1 : κ < 256
  · simp only [if_pos h1]
  · by_cases h2 : okw t r κ
    · have h' : 384 ≤ 128 * t + κ ∧ 128 * t + κ < 4480 := by unfold okw at h2; omega
      simp only [if_neg h1, if_pos h2, if_pos h']
    · simp only [if_neg h1, if_neg h2, zero_mul]

theorem dqg_eq {d : ℕ} (hd' : d < 64) :
    J.dqg (inp A t) t n r (64 * (n % 2) + d) / 8 = A.dqd (hd n r) (qi t r) d := by
  unfold Sav.dqg mm6 Args.dqd
  have : ∀ κ ∈ Finset.range 640, J.ds (inp A t) t n r κ * (inp A t).gk t n κ (64 * (n % 2) + d)
      = win t r (A.dsc (hd n r) (qi t r)) (A.dsl (hd n r) (qi t r)) κ * kv A.kc A.k t κ (64 * (n / 2) + d) := fun κ hκ => by
    rw [ds_eq H ht hn hr (Finset.mem_range.1 hκ), gk_eq A t n hn hd']
  rw [Finset.sum_congr rfl this, win_sum_kv t r ht _ _ (fun s hs => A.dsl_far hs), hd4 n hn hr]

end

/-- A block of the query gradients. -/
theorem dqb_eq {A : Args} {t : ℕ} {J : Sav} (H : Good A t J) (ht : t < 32) {r c : ℕ} (hr : r < 128) (hc : c < 512) :
    J.dqb (inp A t) t r c = A.dq (128 * t + r) c := by
  unfold Sav.dqb ln Args.dq
  by_cases h : c % 128 < 64
  · have := dqg_eq H ht (n := 2 * (c / 256)) (by omega) (r := 128 * (c / 128 % 2) + r) (by omega) (d := c % 128) h
    rw [show 64 * (2 * (c / 256) % 2) + c % 128 = c % 128 by omega] at this
    rw [if_pos (by simpa using h), if_neg (by simpa using h), add_zero, zero_add, this]
    congr 1
    · unfold hd; omega
    · unfold qi; omega
    · omega
  · have := dqg_eq H ht (n := 2 * (c / 256) + 1) (by omega) (r := 128 * (c / 128 % 2) + r) (by omega) (d := c % 128 - 64) (by omega)
    rw [show 64 * ((2 * (c / 256) + 1) % 2) + (c % 128 - 64) = c % 128 by omega] at this
    rw [if_neg (by simpa using h), if_pos (by simpa using h), add_zero, zero_add, this]
    congr 1
    · unfold hd; omega
    · unfold qi; omega
    · omega

theorem win_add (t r : ℕ) (fc fl : ℕ → ℝ) (κ : ℕ) : win t (128 + r) fc fl κ = win t r fc fl κ := by
  have : okw t (128 + r) κ ↔ okw t r κ := by unfold okw; rw [Nat.add_mod_left]
  unfold win
  simp only [this]

/-- A product over the rows of a group, by heads. -/
theorem mm2_heads (t : ℕ) {n : ℕ} (hn : n < 4) (X Y : ℕ → ℕ → ℝ) (d κ : ℕ) (F : ℕ → ℕ → ℝ)
    (h : ∀ r, r < 256 → X r d * Y r κ = if d / 64 = n % 2 then F (hd n r) (qi t r) else 0) :
    mm2 X Y d κ = if d / 64 = n % 2
      then ∑ r ∈ Finset.range 128, F (4 * (n / 2) + n % 2) (128 * t + r) + ∑ r ∈ Finset.range 128, F (4 * (n / 2) + 2 + n % 2) (128 * t + r)
      else 0 := by
  unfold mm2
  rw [Finset.sum_congr rfl fun r hr => h r (Finset.mem_range.1 hr)]
  split_ifs
  · rw [show (256 : ℕ) = 128 + 128 from rfl, Finset.sum_range_add]
    refine congrArg₂ (· + ·) ?_ ?_
    · refine Finset.sum_congr rfl fun r hr => ?_
      have := Finset.mem_range.1 hr
      congr 1
      · unfold hd; omega
      · unfold qi; omega
    · refine Finset.sum_congr rfl fun r hr => ?_
      have := Finset.mem_range.1 hr
      congr 1
      · unfold hd; omega
      · unfold qi; omega
  · exact Finset.sum_const_zero

/-- The four groups' products, as a sum over the four heads that share a column's keys. -/
theorem four_heads (t : ℕ) (X Y : ℕ → ℕ → ℕ → ℝ) {c : ℕ} (hc : c < 128) (κ : ℕ) (F : ℕ → ℕ → ℝ)
    (h : ∀ n, n < 4 → ∀ d, d < 128 → d % 64 = c % 64 → ∀ r, r < 256 →
      X n r d * Y n r κ = if d / 64 = n % 2 then F (hd n r) (qi t r) else 0) :
    0 + mm2 (X 0) (Y 0) c κ + mm2 (X 1) (Y 1) (rot c) κ + mm2 (X 2) (Y 2) (rot c) κ + mm2 (X 3) (Y 3) c κ
      = ∑ x ∈ Finset.range 4, ∑ r ∈ Finset.range 128, F (4 * (c / 64) + x) (128 * t + r) := by
  have hrot : rot c < 128 ∧ rot c % 64 = c % 64 ∧ rot c / 64 = 1 - c / 64 := by unfold rot; omega
  rw [mm2_heads t (n := 0) (by omega) (X 0) (Y 0) c κ F (h 0 (by omega) c hc rfl),
    mm2_heads t (n := 1) (by omega) (X 1) (Y 1) (rot c) κ F (h 1 (by omega) _ hrot.1 hrot.2.1),
    mm2_heads t (n := 2) (by omega) (X 2) (Y 2) (rot c) κ F (h 2 (by omega) _ hrot.1 hrot.2.1),
    mm2_heads t (n := 3) (by omega) (X 3) (Y 3) c κ F (h 3 (by omega) c hc rfl), hrot.2.2]
  rcases (by omega : c / 64 = 0 ∨ c / 64 = 1) with e | e <;> rw [e]
  all_goals
    simp only [Finset.sum_range_succ _ 3, Finset.sum_range_succ _ 2, Finset.sum_range_succ _ 1, Finset.sum_range_one, Nat.reduceMod, Nat.reduceDiv, Nat.reduceMul,
      Nat.reduceAdd, Nat.reduceSub, if_true, Nat.zero_add, Nat.add_zero, zero_ne_one, one_ne_zero, if_false, reduceIte, zero_add, add_zero]
    ring

section

variable {A : Args} {t : ℕ} {J : Sav} (H : Good A t J) (ht : t < 32)

include H ht

theorem dkt_eq {κ c : ℕ} (hκ : κ < 640) (hc : c < 128) :
    J.dkt (inp A t) t κ c = ∑ x ∈ Finset.range 4, ∑ r ∈ Finset.range 128,
      A.q (128 * t + r) (64 * (4 * (c / 64) + x) + c % 64) / 8
        * win t (128 * t + r) (A.dsc (4 * (c / 64) + x) (128 * t + r)) (A.dsl (4 * (c / 64) + x) (128 * t + r)) κ := by
  unfold Sav.dkt
  refine four_heads t (fun n => (inp A t).gq n) (fun n => J.ds (inp A t) t n) hc κ
    (fun h i => A.q i (64 * h + c % 64) / 8 * win t i (A.dsc h i) (A.dsl h i) κ) fun n hn d hd' hdc r hr => ?_
  have hw : ∀ fc fl, win t (qi t r) fc fl κ = win t r fc fl κ := fun fc fl => by
    have : okw t (qi t r) κ ↔ okw t r κ := by unfold okw qi; omega
    unfold win
    simp only [this]
  beta_reduce
  rw [gq_eq A t n hn hr hd', ds_eq H ht hn hr hκ, hdc, hw, ite_mul, zero_mul]

theorem dvt_eq {κ c : ℕ} (hκ : κ < 640) (hc : c < 128) :
    J.dvt κ c = ∑ x ∈ Finset.range 4, ∑ r ∈ Finset.range 128,
      A.gh (4 * (c / 64) + x) (128 * t + r) (c % 64)
        * win t (128 * t + r) (A.pc (4 * (c / 64) + x) (128 * t + r)) (A.pl (4 * (c / 64) + x) (128 * t + r)) κ := by
  unfold Sav.dvt
  refine four_heads t (fun n => J.dom n) (fun n => J.P n) hc κ
    (fun h i => A.gh h i (c % 64) * win t i (A.pc h i) (A.pl h i) κ) fun n hn d hd' hdc r hr => ?_
  have hw : ∀ fc fl, win t (qi t r) fc fl κ = win t r fc fl κ := fun fc fl => by
    have : okw t (qi t r) κ ↔ okw t r κ := by unfold okw qi; omega
    unfold win
    simp only [this]
  beta_reduce
  rw [dom_eq H hn hr hd', H.hP n hn r hr κ hκ, hdc, hw, ite_mul, zero_mul]

theorem sd_eq {h i : ℕ} (hh : h < 8) (hi : i < 128) :
    J.sd (2 * (h / 4) + h % 2) (128 * (h % 4 / 2) + i) = A.ps h (128 * t + i) * A.dd h (128 * t + i) := by
  unfold Sav.sd
  rw [H.hS _ (by omega) _ (by omega), dd_row H (by omega) (by omega)]
  have e1 : hd (2 * (h / 4) + h % 2) (128 * (h % 4 / 2) + i) = h := by unfold hd; omega
  have e2 : qi t (128 * (h % 4 / 2) + i) = 128 * t + i := by unfold qi; omega
  rw [e1, e2]

end

theorem sum_blocks (f : ℕ → ℝ) (T : ℕ) :
    ∑ t ∈ Finset.range T, ∑ r ∈ Finset.range 128, f (128 * t + r) = ∑ i ∈ Finset.range (128 * T), f i := by
  induction T with
  | zero => simp
  | succ T ih => rw [Finset.sum_range_succ, ih, Nat.mul_succ, Finset.sum_range_add]

/-- The sum over all points of the context rows of the products. -/
theorem fold_ctx (w fc fl : ℕ → ℕ → ℕ → ℝ) {j : ℕ} (hj : j < 256) (f : ℕ) :
    ∑ t ∈ Finset.range 32, ∑ x ∈ Finset.range 4, ∑ r ∈ Finset.range 128,
        w x f (128 * t + r) * win t (128 * t + r) (fc x (128 * t + r)) (fl x (128 * t + r)) j
      = ∑ x ∈ Finset.range 4, ∑ i ∈ Finset.range 4096, w x f i * fc x i j := by
  rw [Finset.sum_comm]
  refine Finset.sum_congr rfl fun x _ => ?_
  rw [show (4096 : ℕ) = 128 * 32 from rfl, ← sum_blocks]
  refine Finset.sum_congr rfl fun t _ => Finset.sum_congr rfl fun r _ => ?_
  rw [win, if_pos hj]

/-- The sum over all points of what the window adds to row `s`. -/
theorem fold_loc (w fc fl : ℕ → ℕ → ℕ → ℝ) (hf : ∀ x i s, ¬ near i s → fl x i s = 0) {s : ℕ} (hs : s < 4096) (f : ℕ) :
    ∑ t ∈ Finset.range 32, (if 128 * t ≤ s + 128 ∧ s + 128 < 128 * t + 384 then ∑ x ∈ Finset.range 4, ∑ r ∈ Finset.range 128,
        w x f (128 * t + r) * win t (128 * t + r) (fc x (128 * t + r)) (fl x (128 * t + r)) (256 + (s + 128 - 128 * t)) else 0)
      = ∑ x ∈ Finset.range 4, ∑ i ∈ Finset.range 4096, w x f i * fl x i s := by
  have : ∀ t ∈ Finset.range 32, (if 128 * t ≤ s + 128 ∧ s + 128 < 128 * t + 384 then ∑ x ∈ Finset.range 4, ∑ r ∈ Finset.range 128,
        w x f (128 * t + r) * win t (128 * t + r) (fc x (128 * t + r)) (fl x (128 * t + r)) (256 + (s + 128 - 128 * t)) else 0)
      = ∑ x ∈ Finset.range 4, ∑ r ∈ Finset.range 128, w x f (128 * t + r) * fl x (128 * t + r) s := fun t ht => by
    have ht' := Finset.mem_range.1 ht
    split_ifs with h
    · refine Finset.sum_congr rfl fun x _ => Finset.sum_congr rfl fun r hr => ?_
      have hr' := Finset.mem_range.1 hr
      rw [win, if_neg (by omega)]
      by_cases ho : okw t (128 * t + r) (256 + (s + 128 - 128 * t))
      · rw [if_pos ho]
        congr 2
        omega
      · rw [if_neg ho, hf x (128 * t + r) s]
        intro hne
        apply ho
        unfold near at hne
        unfold okw
        omega
    · symm
      refine Finset.sum_eq_zero fun x _ => Finset.sum_eq_zero fun r hr => ?_
      have hr' := Finset.mem_range.1 hr
      rw [hf x (128 * t + r) s, mul_zero]
      intro hne
      unfold near at hne
      omega
  rw [Finset.sum_congr rfl this, Finset.sum_comm]
  refine Finset.sum_congr rfl fun x _ => ?_
  rw [show (4096 : ℕ) = 128 * 32 from rfl, ← sum_blocks]

/-- An array after the first `T` points. -/
def acc (w : ℕ → ℕ → ℕ → ℝ) (T k d : ℕ) : ℝ :=
  ∑ t ∈ Finset.range T, if 128 * t ≤ k ∧ k < 128 * t + 384 then w t (256 + (k - 128 * t)) d else 0

theorem upd_acc (w : ℕ → ℕ → ℕ → ℝ) (T : ℕ) : upd T (w T) (acc w T) = acc w (T + 1) := by
  funext k d
  unfold upd acc
  rw [Finset.sum_range_succ]
  split_ifs
  · rfl
  · rw [add_zero]

theorem acc_zero (w : ℕ → ℕ → ℕ → ℝ) : acc w 0 = fun _ _ => 0 := by
  funext k d
  exact Finset.sum_range_zero _

section

variable {A : Args} {J : ℕ → Sav} (H : ∀ t, t < 32 → Good A t (J t))

include H

theorem dkc_eq {j c : ℕ} (hj : j < 256) (hc : c < 128) :
    ∑ t ∈ Finset.range 32, (J t).dkt (inp A t) t j c = A.dkc j c := by
  rw [Finset.sum_congr rfl fun t ht => dkt_eq (H t (Finset.mem_range.1 ht)) (Finset.mem_range.1 ht) (by omega) hc]
  exact fold_ctx (fun x f i => A.q i (64 * (4 * (c / 64) + x) + c % 64) / 8) (fun x => A.dsc (4 * (c / 64) + x)) (fun x => A.dsl (4 * (c / 64) + x)) hj 0

theorem dvc_eq {j c : ℕ} (hj : j < 256) (hc : c < 128) :
    ∑ t ∈ Finset.range 32, (J t).dvt j c = A.dvc j c := by
  rw [Finset.sum_congr rfl fun t ht => dvt_eq (H t (Finset.mem_range.1 ht)) (Finset.mem_range.1 ht) (by omega) hc]
  exact fold_ctx (fun x f i => A.gh (4 * (c / 64) + x) i (c % 64)) (fun x => A.pc (4 * (c / 64) + x)) (fun x => A.pl (4 * (c / 64) + x)) hj 0

theorem dk_eq {s c : ℕ} (hs : s < 4096) (hc : c < 128) :
    acc (fun t => (J t).dkt (inp A t) t) 32 (s + 128) c = A.dk s c := by
  unfold acc
  rw [Finset.sum_congr rfl fun t ht => by
    rw [show (if 128 * t ≤ s + 128 ∧ s + 128 < 128 * t + 384 then (J t).dkt (inp A t) t (256 + (s + 128 - 128 * t)) c else 0)
      = (if 128 * t ≤ s + 128 ∧ s + 128 < 128 * t + 384 then ∑ x ∈ Finset.range 4, ∑ r ∈ Finset.range 128,
          A.q (128 * t + r) (64 * (4 * (c / 64) + x) + c % 64) / 8
            * win t (128 * t + r) (A.dsc (4 * (c / 64) + x) (128 * t + r)) (A.dsl (4 * (c / 64) + x) (128 * t + r)) (256 + (s + 128 - 128 * t)) else 0) by
        split_ifs with h
        · exact dkt_eq (H t (Finset.mem_range.1 ht)) (Finset.mem_range.1 ht) (by omega) hc
        · rfl]]
  exact fold_loc (fun x f i => A.q i (64 * (4 * (c / 64) + x) + c % 64) / 8) (fun x => A.dsc (4 * (c / 64) + x)) (fun x => A.dsl (4 * (c / 64) + x))
    (fun x i s hn => A.dsl_far hn) hs 0

theorem dv_eq {s c : ℕ} (hs : s < 4096) (hc : c < 128) :
    acc (fun t => (J t).dvt) 32 (s + 128) c = A.dv s c := by
  unfold acc
  rw [Finset.sum_congr rfl fun t ht => by
    rw [show (if 128 * t ≤ s + 128 ∧ s + 128 < 128 * t + 384 then (J t).dvt (256 + (s + 128 - 128 * t)) c else 0)
      = (if 128 * t ≤ s + 128 ∧ s + 128 < 128 * t + 384 then ∑ x ∈ Finset.range 4, ∑ r ∈ Finset.range 128,
          A.gh (4 * (c / 64) + x) (128 * t + r) (c % 64)
            * win t (128 * t + r) (A.pc (4 * (c / 64) + x) (128 * t + r)) (A.pl (4 * (c / 64) + x) (128 * t + r)) (256 + (s + 128 - 128 * t)) else 0) by
        split_ifs with h
        · exact dvt_eq (H t (Finset.mem_range.1 ht)) (Finset.mem_range.1 ht) (by omega) hc
        · rfl]]
  exact fold_loc (fun x f i => A.gh (4 * (c / 64) + x) i (c % 64)) (fun x => A.pc (4 * (c / 64) + x)) (fun x => A.pl (4 * (c / 64) + x))
    (fun x i s hn => A.pl_far hn) hs 0

theorem dsk_eq {h : ℕ} (hh : h < 8) :
    -∑ t ∈ Finset.range 32, ∑ i ∈ Finset.range 128, (J t).sd (2 * (h / 4) + h % 2) (128 * (h % 4 / 2) + i) = A.dsk h := by
  unfold Args.dsk
  rw [show (4096 : ℕ) = 128 * 32 from rfl, ← sum_blocks]
  refine congrArg _ (Finset.sum_congr rfl fun t ht => Finset.sum_congr rfl fun i hi => ?_)
  exact sd_eq (H t (Finset.mem_range.1 ht)) (Finset.mem_range.1 ht) hh (Finset.mem_range.1 hi)

end

end Cert.Attn
-- ==== Proof.Arrays.lean ====
/-
  The arrays the two calls read and leave, block by block.
-/
module

public import proofs.«01_k».proof.Proof.AlgBwd
public import proofs.«01_k».proof.Proof.FrameIdeal.Fold0

@[expose] public section

set_option maxRecDepth 16384

noncomputable section

namespace Cert.Attn

open Idealize.ShloMosaic Idealize.ShloMosaic.TcCoe Idealize.SL.Sem
open Idealize.ShloMosaic.Pipeline (Dat)
open Cert.KernelIdeal Cert.KernelIdeal.Gen Bwd

variable (V : (c : Dev nD) → (b : Ref sig .tc) → Buf (Elt Ideal) ((c : Thread nD τ).loc b))

/-- The entry arrays of the forward call, from the arguments. -/
structure Ent (A : Args) (c : Dev nD) : Prop where
  q0 : V c main_v8 = re2 (a := 4096) (b := 512) fun r d => if d % 128 < 64 then A.q r d / 8 else 0
  q1 : V c main_v10 = re2 (a := 4096) (b := 512) fun r d => if d % 128 < 64 then 0 else A.q r d / 8
  kp : V c main_v31 = re2 (a := 4352) (b := 128) (inp A 0).kp
  ksw : V c main_v32 = re2 (a := 4352) (b := 128) (inp A 0).ksw
  vp : V c main_v33 = re2 (a := 4352) (b := 128) (inp A 0).vp
  vsw : V c main_v34 = re2 (a := 4352) (b := 128) (inp A 0).vsw
  kc : V c main_v21 = re2 (a := 256) (b := 128) (inp A 0).kc
  kcsw : V c main_v25 = re2 (a := 256) (b := 128) (inp A 0).kcsw
  vc : V c main_v26 = re2 (a := 256) (b := 128) (inp A 0).vc
  vcsw : V c main_v30 = re2 (a := 256) (b := 128) (inp A 0).vcsw
  sk : V c main_arg5 = fun i => ((A.sk (i 0) : ℝ) : EReal)

theorem ix0_0 : ∀ t : Fin cfg0.N, win0_0.index t = ![t.val, 0] := (by decide +kernel : ∀ t : Fin grid0.N, _)

theorem b0_0 {A : Args} {c : Dev nD} (E : Ent V A c) (t : Fin cfg0.N) : iblk0 V c 0 t = re2 (inp A t).q0 := by
  funext y
  blk_simp [iblk0]
  rw [E.q0]
  show ((_ : ℝ) : EReal) = ((_ : ℝ) : EReal)
  have e0 : (((win0_0.blk t).view.emb y) 0 : ℕ) = t.val * 128 + (y 0 : ℕ) := by blk_simp [ix0_0 t]
  have e1 : (((win0_0.blk t).view.emb y) 1 : ℕ) = (y 1 : ℕ) := by blk_simp [ix0_0 t]
  rw [e0, e1, Nat.mul_comm]
  rfl

theorem ix0_1 : ∀ t : Fin cfg0.N, win0_1.index t = ![t.val, 0] := (by decide +kernel : ∀ t : Fin grid0.N, _)

theorem b0_1 {A : Args} {c : Dev nD} (E : Ent V A c) (t : Fin cfg0.N) : iblk0 V c 1 t = re2 (inp A t).q1 := by
  funext y
  blk_simp [iblk0]
  rw [E.q1]
  show ((_ : ℝ) : EReal) = ((_ : ℝ) : EReal)
  have e0 : (((win0_1.blk t).view.emb y) 0 : ℕ) = t.val * 128 + (y 0 : ℕ) := by blk_simp [ix0_1 t]
  have e1 : (((win0_1.blk t).view.emb y) 1 : ℕ) = (y 1 : ℕ) := by blk_simp [ix0_1 t]
  rw [e0, e1, Nat.mul_comm]
  rfl

theorem ix0_2 : ∀ t : Fin cfg0.N, win0_2.index t = ![0, 0] := (by decide +kernel : ∀ t : Fin grid0.N, _)

theorem b0_2 {A : Args} {c : Dev nD} (E : Ent V A c) (t : Fin cfg0.N) : iblk0 V c 2 t = re2 (inp A t).kp := by
  funext y
  blk_simp [iblk0]
  rw [E.kp]
  have e : (win0_2.blk t).view.emb y = y := by blk_ext [ix0_2 t]
  rw [e]
  rfl

theorem ix0_3 : ∀ t : Fin cfg0.N, win0_3.index t = ![0, 0] := (by decide +kernel : ∀ t : Fin grid0.N, _)

theorem b0_3 {A : Args} {c : Dev nD} (E : Ent V A c) (t : Fin cfg0.N) : iblk0 V c 3 t = re2 (inp A t).ksw := by
  funext y
  blk_simp [iblk0]
  rw [E.ksw]
  have e : (win0_3.blk t).view.emb y = y := by blk_ext [ix0_3 t]
  rw [e]
  rfl

theorem ix0_4 : ∀ t : Fin cfg0.N, win0_4.index t = ![0, 0] := (by decide +kernel : ∀ t : Fin grid0.N, _)

theorem b0_4 {A : Args} {c : Dev nD} (E : Ent V A c) (t : Fin cfg0.N) : iblk0 V c 4 t = re2 (inp A t).vp := by
  funext y
  blk_simp [iblk0]
  rw [E.vp]
  have e : (win0_4.blk t).view.emb y = y := by blk_ext [ix0_4 t]
  rw [e]
  rfl

theorem ix0_5 : ∀ t : Fin cfg0.N, win0_5.index t = ![0, 0] := (by decide +kernel : ∀ t : Fin grid0.N, _)

theorem b0_5 {A : Args} {c : Dev nD} (E : Ent V A c) (t : Fin cfg0.N) : iblk0 V c 5 t = re2 (inp A t).vsw := by
  funext y
  blk_simp [iblk0]
  rw [E.vsw]
  have e : (win0_5.blk t).view.emb y = y := by blk_ext [ix0_5 t]
  rw [e]
  rfl

theorem ix0_6 : ∀ t : Fin cfg0.N, win0_6.index t = ![0, 0] := (by decide +kernel : ∀ t : Fin grid0.N, _)

theorem b0_6 {A : Args} {c : Dev nD} (E : Ent V A c) (t : Fin cfg0.N) : iblk0 V c 6 t = re2 (inp A t).kc := by
  funext y
  blk_simp [iblk0]
  rw [E.kc]
  have e : (win0_6.blk t).view.emb y = y := by blk_ext [ix0_6 t]
  rw [e]
  rfl

theorem ix0_7 : ∀ t : Fin cfg0.N, win0_7.index t = ![0, 0] := (by decide +kernel : ∀ t : Fin grid0.N, _)

theorem b0_7 {A : Args} {c : Dev nD} (E : Ent V A c) (t : Fin cfg0.N) : iblk0 V c 7 t = re2 (inp A t).kcsw := by
  funext y
  blk_simp [iblk0]
  rw [E.kcsw]
  have e : (win0_7.blk t).view.emb y = y := by blk_ext [ix0_7 t]
  rw [e]
  rfl

theorem ix0_8 : ∀ t : Fin cfg0.N, win0_8.index t = ![0, 0] := (by decide +kernel : ∀ t : Fin grid0.N, _)

theorem b0_8 {A : Args} {c : Dev nD} (E : Ent V A c) (t : Fin cfg0.N) : iblk0 V c 8 t = re2 (inp A t).vc := by
  funext y
  blk_simp [iblk0]
  rw [E.vc]
  have e : (win0_8.blk t).view.emb y = y := by blk_ext [ix0_8 t]
  rw [e]
  rfl

theorem ix0_9 : ∀ t : Fin cfg0.N, win0_9.index t = ![0, 0] := (by decide +kernel : ∀ t : Fin grid0.N, _)

theorem b0_9 {A : Args} {c : Dev nD} (E : Ent V A c) (t : Fin cfg0.N) : iblk0 V c 9 t = re2 (inp A t).vcsw := by
  funext y
  blk_simp [iblk0]
  rw [E.vcsw]
  have e : (win0_9.blk t).view.emb y = y := by blk_ext [ix0_9 t]
  rw [e]
  rfl

theorem ix1_0 : ∀ t : Fin cfg1.N, win1_0.index t = ![t.val, 0] := (by decide +kernel : ∀ t : Fin grid1.N, _)

theorem b1_0 {A : Args} {c : Dev nD} (E : Ent V A c) (t : Fin cfg1.N) : iblk1 V c 0 t = re2 (inp A t).q0 := by
  funext y
  blk_simp [iblk1]
  rw [E.q0]
  show ((_ : ℝ) : EReal) = ((_ : ℝ) : EReal)
  have e0 : (((win1_0.blk t).view.emb y) 0 : ℕ) = t.val * 128 + (y 0 : ℕ) := by blk_simp [ix1_0 t]
  have e1 : (((win1_0.blk t).view.emb y) 1 : ℕ) = (y 1 : ℕ) := by blk_simp [ix1_0 t]
  rw [e0, e1, Nat.mul_comm]
  rfl

theorem ix1_1 : ∀ t : Fin cfg1.N, win1_1.index t = ![t.val, 0] := (by decide +kernel : ∀ t : Fin grid1.N, _)

theorem b1_1 {A : Args} {c : Dev nD} (E : Ent V A c) (t : Fin cfg1.N) : iblk1 V c 1 t = re2 (inp A t).q1 := by
  funext y
  blk_simp [iblk1]
  rw [E.q1]
  show ((_ : ℝ) : EReal) = ((_ : ℝ) : EReal)
  have e0 : (((win1_1.blk t).view.emb y) 0 : ℕ) = t.val * 128 + (y 0 : ℕ) := by blk_simp [ix1_1 t]
  have e1 : (((win1_1.blk t).view.emb y) 1 : ℕ) = (y 1 : ℕ) := by blk_simp [ix1_1 t]
  rw [e0, e1, Nat.mul_comm]
  rfl

theorem ix1_2 : ∀ t : Fin cfg1.N, win1_2.index t = ![0, 0] := (by decide +kernel : ∀ t : Fin grid1.N, _)

theorem b1_2 {A : Args} {c : Dev nD} (E : Ent V A c) (t : Fin cfg1.N) : iblk1 V c 2 t = re2 (inp A t).kp := by
  funext y
  blk_simp [iblk1]
  rw [E.kp]
  have e : (win1_2.blk t).view.emb y = y := by blk_ext [ix1_2 t]
  rw [e]
  rfl

theorem ix1_3 : ∀ t : Fin cfg1.N, win1_3.index t = ![0, 0] := (by decide +kernel : ∀ t : Fin grid1.N, _)

theorem b1_3 {A : Args} {c : Dev nD} (E : Ent V A c) (t : Fin cfg1.N) : iblk1 V c 3 t = re2 (inp A t).ksw := by
  funext y
  blk_simp [iblk1]
  rw [E.ksw]
  have e : (win1_3.blk t).view.emb y = y := by blk_ext [ix1_3 t]
  rw [e]
  rfl

theorem ix1_4 : ∀ t : Fin cfg1.N, win1_4.index t = ![0, 0] := (by decide +kernel : ∀ t : Fin grid1.N, _)

theorem b1_4 {A : Args} {c : Dev nD} (E : Ent V A c) (t : Fin cfg1.N) : iblk1 V c 4 t = re2 (inp A t).vp := by
  funext y
  blk_simp [iblk1]
  rw [E.vp]
  have e : (win1_4.blk t).view.emb y = y := by blk_ext [ix1_4 t]
  rw [e]
  rfl

theorem ix1_5 : ∀ t : Fin cfg1.N, win1_5.index t = ![0, 0] := (by decide +kernel : ∀ t : Fin grid1.N, _)

theorem b1_5 {A : Args} {c : Dev nD} (E : Ent V A c) (t : Fin cfg1.N) : iblk1 V c 5 t = re2 (inp A t).vsw := by
  funext y
  blk_simp [iblk1]
  rw [E.vsw]
  have e : (win1_5.blk t).view.emb y = y := by blk_ext [ix1_5 t]
  rw [e]
  rfl

theorem ix1_6 : ∀ t : Fin cfg1.N, win1_6.index t = ![0, 0] := (by decide +kernel : ∀ t : Fin grid1.N, _)

theorem b1_6 {A : Args} {c : Dev nD} (E : Ent V A c) (t : Fin cfg1.N) : iblk1 V c 6 t = re2 (inp A t).kc := by
  funext y
  blk_simp [iblk1]
  rw [E.kc]
  have e : (win1_6.blk t).view.emb y = y := by blk_ext [ix1_6 t]
  rw [e]
  rfl

theorem ix1_7 : ∀ t : Fin cfg1.N, win1_7.index t = ![0, 0] := (by decide +kernel : ∀ t : Fin grid1.N, _)

theorem b1_7 {A : Args} {c : Dev nD} (E : Ent V A c) (t : Fin cfg1.N) : iblk1 V c 7 t = re2 (inp A t).kcsw := by
  funext y
  blk_simp [iblk1]
  rw [E.kcsw]
  have e : (win1_7.blk t).view.emb y = y := by blk_ext [ix1_7 t]
  rw [e]
  rfl

theorem ix1_8 : ∀ t : Fin cfg1.N, win1_8.index t = ![0, 0] := (by decide +kernel : ∀ t : Fin grid1.N, _)

theorem b1_8 {A : Args} {c : Dev nD} (E : Ent V A c) (t : Fin cfg1.N) : iblk1 V c 8 t = re2 (inp A t).vc := by
  funext y
  blk_simp [iblk1]
  rw [E.vc]
  have e : (win1_8.blk t).view.emb y = y := by blk_ext [ix1_8 t]
  rw [e]
  rfl

theorem ix1_9 : ∀ t : Fin cfg1.N, win1_9.index t = ![0, 0] := (by decide +kernel : ∀ t : Fin grid1.N, _)

theorem b1_9 {A : Args} {c : Dev nD} (E : Ent V A c) (t : Fin cfg1.N) : iblk1 V c 9 t = re2 (inp A t).vcsw := by
  funext y
  blk_simp [iblk1]
  rw [E.vcsw]
  have e : (win1_9.blk t).view.emb y = y := by blk_ext [ix1_9 t]
  rw [e]
  rfl

theorem ix0_10 : ∀ t : Fin cfg0.N, win0_10.index t = ![0] := (by decide +kernel : ∀ t : Fin grid0.N, _)

theorem b0_10 {A : Args} {c : Dev nD} (E : Ent V A c) (t : Fin cfg0.N) : iblk0 V c 10 t = fun i => ((A.sk (i 0) : ℝ) : EReal) := by
  funext y
  blk_simp [iblk0]
  rw [E.sk]
  have e : (win0_10.blk t).view.emb y = y := by blk_ext [ix0_10 t]
  rw [e]

theorem ix0_11 : ∀ t : Fin cfg0.N, win0_11.index t = ![t.val, 0] := (by decide +kernel : ∀ t : Fin grid0.N, _)
theorem ix0_12 : ∀ t : Fin cfg0.N, win0_12.index t = ![t.val, 0, 0, 0] := (by decide +kernel : ∀ t : Fin grid0.N, _)
theorem ix0_13 : ∀ t : Fin cfg0.N, win0_13.index t = ![t.val, 0, 0, 0] := (by decide +kernel : ∀ t : Fin grid0.N, _)

/-- The exponentials the forward call saves. -/
def exs (A : Args) (M : ℕ → ℕ → ℕ → ℝ) (t n r k : ℕ) : ℝ := (inp A t).ge t (M t) n r k

/-- The row statistics the forward call saves. -/
def sts (A : Args) (M : ℕ → ℕ → ℕ → ℝ) (t n r l : ℕ) : ℝ :=
  if l < 64 then (inp A t).gi t (M t) n r else (inp A t).ges (M t) n r * (inp A t).gi t (M t) n r

set_option maxHeartbeats 2000000 in
/-- What the forward call leaves: the output, and for some row numbers `M` the exponentials and statistics. -/
theorem fwd_arrays {A : Args} {c : Dev nD} (E : Ent V A c) : ∃ M : ℕ → ℕ → ℕ → ℝ,
    (dat0 V c).arrAt 11 cfg0.N = re2 (a := 4096) (b := 512) A.o
    ∧ (dat0 V c).arrAt 12 cfg0.N = (fun i => ((exs A M (i 0) (i 1) (i 2) (i 3) : ℝ) : EReal))
    ∧ (dat0 V c).arrAt 13 cfg0.N = (fun i => ((sts A M (i 0) (i 1) (i 2) (i 3) : ℝ) : EReal)) := by
  choose M h1 h2 h3 using fun t : Fin cfg0.N => fo V c t (inp A t) (b0_0 V E t) (b0_1 V E t) (b0_2 V E t) (b0_3 V E t) (b0_4 V E t) (b0_5 V E t)
    (b0_6 V E t) (b0_7 V E t) (b0_8 V E t) (b0_9 V E t) (b0_10 V E t)
  let M' : ℕ → ℕ → ℕ → ℝ := fun t => if h : t < cfg0.N then M ⟨t, h⟩ else fun _ _ => 0
  have hM : ∀ t : Fin cfg0.N, M' t = M t := fun t => dif_pos t.isLt
  refine ⟨M', ?_, ?_, ?_⟩
  · refine (dat0 V c).arrAt_eq_of_covers 11 _ (by decide +kernel) fun t hf y => ?_
    blk_simp
    rw [after0_11, h1 t]
    show ((_ : ℝ) : EReal) = ((_ : ℝ) : EReal)
    have e0 : (((win0_11.blk t).view.emb y) 0 : ℕ) = t.val * 128 + (y 0 : ℕ) := by blk_simp [ix0_11 t]
    have e1 : (((win0_11.blk t).view.emb y) 1 : ℕ) = (y 1 : ℕ) := by blk_simp [ix0_11 t]
    rw [e0, e1, Nat.mul_comm]
    exact congrArg _ (out_eq A t (lt_of_lt_of_eq t.isLt N_0) (M t) (y 0).isLt (y 1).isLt)
  · refine (dat0 V c).arrAt_eq_of_covers 12 _ (by decide +kernel) fun t hf y => ?_
    refine (congrFun ((after0_12 V c t).trans (h2 t)) y).trans ?_
    show ((_ : ℝ) : EReal) = ((_ : ℝ) : EReal)
    have hy : (y 0 : ℕ) < 1 := (y 0).isLt
    have e0 : (((win0_12.blk t).view.emb y) 0 : ℕ) = t.val := by
      have : (((win0_12.blk t).view.emb y) 0 : ℕ) = t.val * 1 + (y 0 : ℕ) := by blk_simp [ix0_12 t]
      omega
    have e1 : (((win0_12.blk t).view.emb y) 1 : ℕ) = (y 1 : ℕ) := by blk_simp [ix0_12 t]
    have e2 : (((win0_12.blk t).view.emb y) 2 : ℕ) = (y 2 : ℕ) := by blk_simp [ix0_12 t]
    have e3 : (((win0_12.blk t).view.emb y) 3 : ℕ) = (y 3 : ℕ) := by blk_simp [ix0_12 t]
    rw [e0, e1, e2, e3]
    unfold exs
    rw [hM t]
  · refine (dat0 V c).arrAt_eq_of_covers 13 _ (by decide +kernel) fun t hf y => ?_
    refine (congrFun ((after0_13 V c t).trans (h3 t)) y).trans ?_
    show ((_ : ℝ) : EReal) = ((_ : ℝ) : EReal)
    have hy : (y 0 : ℕ) < 1 := (y 0).isLt
    have e0 : (((win0_13.blk t).view.emb y) 0 : ℕ) = t.val := by
      have : (((win0_13.blk t).view.emb y) 0 : ℕ) = t.val * 1 + (y 0 : ℕ) := by blk_simp [ix0_13 t]
      omega
    have e1 : (((win0_13.blk t).view.emb y) 1 : ℕ) = (y 1 : ℕ) := by blk_simp [ix0_13 t]
    have e2 : (((win0_13.blk t).view.emb y) 2 : ℕ) = (y 2 : ℕ) := by blk_simp [ix0_13 t]
    have e3 : (((win0_13.blk t).view.emb y) 3 : ℕ) = (y 3 : ℕ) := by blk_simp [ix0_13 t]
    rw [e0, e1, e2, e3]
    unfold sts
    rw [hM t]

/-- The entry arrays of the backward call. -/
structure Ent1 (A : Args) (M : ℕ → ℕ → ℕ → ℝ) (c : Dev nD) : Prop extends Ent V A c where
  ex : V c main_v35_1 = (fun i => ((exs A M (i 0) (i 1) (i 2) (i 3) : ℝ) : EReal))
  st : V c main_v35_2 = (fun i => ((sts A M (i 0) (i 1) (i 2) (i 3) : ℝ) : EReal))
  o : V c main_v35_0 = re2 (a := 4096) (b := 512) A.o
  g : V c main_arg6 = re2 (a := 4096) (b := 512) A.g

/-- The saved arrays at point `t`. -/
def sav (A : Args) (M : ℕ → ℕ → ℕ → ℝ) (t : ℕ) : Sav where
  E := exs A M t
  St := sts A M t
  o := fun r d => A.o (128 * t + r) d
  g := fun r d => A.g (128 * t + r) d

theorem good (A : Args) (M : ℕ → ℕ → ℕ → ℝ) (t : ℕ) (ht : t < 32) : Good A t (sav A M t) where
  hP := fun n hn r hr κ _ => p_eq A t n hn ht hr (M t)
  hS := fun n hn r hr => ps_eq A t n hn ht hr (M t)
  ho := fun _ _ _ _ => rfl
  hg := fun _ _ _ _ => rfl

theorem ix1_10 : ∀ t : Fin cfg1.N, win1_10.index t = ![t.val, 0, 0, 0] := (by decide +kernel : ∀ t : Fin grid1.N, _)
theorem ix1_11 : ∀ t : Fin cfg1.N, win1_11.index t = ![t.val, 0, 0, 0] := (by decide +kernel : ∀ t : Fin grid1.N, _)
theorem ix1_12 : ∀ t : Fin cfg1.N, win1_12.index t = ![t.val, 0] := (by decide +kernel : ∀ t : Fin grid1.N, _)
theorem ix1_13 : ∀ t : Fin cfg1.N, win1_13.index t = ![t.val, 0] := (by decide +kernel : ∀ t : Fin grid1.N, _)
theorem ix1_14 : ∀ t : Fin cfg1.N, win1_14.index t = ![t.val, 0] := (by decide +kernel : ∀ t : Fin grid1.N, _)

theorem b1_10 {A : Args} {M : ℕ → ℕ → ℕ → ℝ} {c : Dev nD} (E : Ent1 V A M c) (t : Fin cfg1.N) :
    iblk1 V c 10 t = fun i => (((sav A M t).E (i 1) (i 2) (i 3) : ℝ) : EReal) := by
  funext y
  blk_simp [iblk1]
  rw [E.ex]
  show ((_ : ℝ) : EReal) = ((_ : ℝ) : EReal)
  have hy : (y 0 : ℕ) < 1 := (y 0).isLt
  have e0 : (((win1_10.blk t).view.emb y) 0 : ℕ) = t.val := by
    have : (((win1_10.blk t).view.emb y) 0 : ℕ) = t.val * 1 + (y 0 : ℕ) := by blk_simp [ix1_10 t]
    omega
  have e1 : (((win1_10.blk t).view.emb y) 1 : ℕ) = (y 1 : ℕ) := by blk_simp [ix1_10 t]
  have e2 : (((win1_10.blk t).view.emb y) 2 : ℕ) = (y 2 : ℕ) := by blk_simp [ix1_10 t]
  have e3 : (((win1_10.blk t).view.emb y) 3 : ℕ) = (y 3 : ℕ) := by blk_simp [ix1_10 t]
  rw [e0, e1, e2, e3]
  rfl

theorem b1_11 {A : Args} {M : ℕ → ℕ → ℕ → ℝ} {c : Dev nD} (E : Ent1 V A M c) (t : Fin cfg1.N) :
    iblk1 V c 11 t = fun i => (((sav A M t).St (i 1) (i 2) (i 3) : ℝ) : EReal) := by
  funext y
  blk_simp [iblk1]
  rw [E.st]
  show ((_ : ℝ) : EReal) = ((_ : ℝ) : EReal)
  have hy : (y 0 : ℕ) < 1 := (y 0).isLt
  have e0 : (((win1_11.blk t).view.emb y) 0 : ℕ) = t.val := by
    have : (((win1_11.blk t).view.emb y) 0 : ℕ) = t.val * 1 + (y 0 : ℕ) := by blk_simp [ix1_11 t]
    omega
  have e1 : (((win1_11.blk t).view.emb y) 1 : ℕ) = (y 1 : ℕ) := by blk_simp [ix1_11 t]
  have e2 : (((win1_11.blk t).view.emb y) 2 : ℕ) = (y 2 : ℕ) := by blk_simp [ix1_11 t]
  have e3 : (((win1_11.blk t).view.emb y) 3 : ℕ) = (y 3 : ℕ) := by blk_simp [ix1_11 t]
  rw [e0, e1, e2, e3]
  rfl

theorem b1_12 {A : Args} {M : ℕ → ℕ → ℕ → ℝ} {c : Dev nD} (E : Ent1 V A M c) (t : Fin cfg1.N) :
    iblk1 V c 12 t = re2 (sav A M t).o := by
  funext y
  blk_simp [iblk1]
  rw [E.o]
  show ((_ : ℝ) : EReal) = ((_ : ℝ) : EReal)
  have e0 : (((win1_12.blk t).view.emb y) 0 : ℕ) = t.val * 128 + (y 0 : ℕ) := by blk_simp [ix1_12 t]
  have e1 : (((win1_12.blk t).view.emb y) 1 : ℕ) = (y 1 : ℕ) := by blk_simp [ix1_12 t]
  rw [e0, e1, Nat.mul_comm]
  rfl

theorem b1_13 {A : Args} {M : ℕ → ℕ → ℕ → ℝ} {c : Dev nD} (E : Ent1 V A M c) (t : Fin cfg1.N) :
    iblk1 V c 13 t = re2 (sav A M t).g := by
  funext y
  blk_simp [iblk1]
  rw [E.g]
  show ((_ : ℝ) : EReal) = ((_ : ℝ) : EReal)
  have e0 : (((win1_13.blk t).view.emb y) 0 : ℕ) = t.val * 128 + (y 0 : ℕ) := by blk_simp [ix1_13 t]
  have e1 : (((win1_13.blk t).view.emb y) 1 : ℕ) = (y 1 : ℕ) := by blk_simp [ix1_13 t]
  rw [e0, e1, Nat.mul_comm]
  rfl

theorem reads {A : Args} {M : ℕ → ℕ → ℕ → ℝ} {c : Dev nD} (E : Ent1 V A M c) (t : Fin cfg1.N) : Reads V c t (inp A t) (sav A M t) :=
  ⟨b1_0 V E.toEnt t, b1_1 V E.toEnt t, b1_2 V E.toEnt t, b1_3 V E.toEnt t, b1_4 V E.toEnt t, b1_5 V E.toEnt t, b1_6 V E.toEnt t, b1_7 V E.toEnt t,
    b1_8 V E.toEnt t, b1_9 V E.toEnt t, b1_10 V E t, b1_11 V E t, b1_12 V E t, b1_13 V E t⟩

theorem ix1_15 : ∀ t : Fin cfg1.N, win1_15.index t = ![0, 0] := (by decide +kernel : ∀ t : Fin grid1.N, _)
theorem ix1_16 : ∀ t : Fin cfg1.N, win1_16.index t = ![0, 0] := (by decide +kernel : ∀ t : Fin grid1.N, _)
theorem ix1_17 : ∀ t : Fin cfg1.N, win1_17.index t = ![0, 0] := (by decide +kernel : ∀ t : Fin grid1.N, _)
theorem ix1_18 : ∀ t : Fin cfg1.N, win1_18.index t = ![0, 0] := (by decide +kernel : ∀ t : Fin grid1.N, _)
theorem ix1_19 : ∀ t : Fin cfg1.N, win1_19.index t = ![0, 0] := (by decide +kernel : ∀ t : Fin grid1.N, _)

section

variable {A : Args} {M : ℕ → ℕ → ℕ → ℝ} {c : Dev nD} (E : Ent1 V A M c)

include E

theorem arr_dq : (dat1 V c).arrAt 14 cfg1.N = re2 (a := 4096) (b := 512) A.dq := by
  refine (dat1 V c).arrAt_eq_of_covers 14 _ (by decide +kernel) fun t hf y => ?_
  blk_simp
  have ht : t.val < 32 := lt_of_lt_of_eq t.isLt N_1
  have h : (outsAt1 V c t.val t.isLt).1 = re2 ((sav A M t).dqb (inp A t) t) := by
    by_cases hz : t.val % 32 = 0
    · exact bqA V c t _ _ (reads V E t) hz
    · exact bqB V c t _ _ (reads V E t) hz
  rw [after1_14, h]
  show ((_ : ℝ) : EReal) = ((_ : ℝ) : EReal)
  have e0 : (((win1_14.blk t).view.emb y) 0 : ℕ) = t.val * 128 + (y 0 : ℕ) := by blk_simp [ix1_14 t]
  have e1 : (((win1_14.blk t).view.emb y) 1 : ℕ) = (y 1 : ℕ) := by blk_simp [ix1_14 t]
  rw [e0, e1, Nat.mul_comm]
  exact congrArg _ (dqb_eq (good A M t ht) ht (y 0).isLt (y 1).isLt)

theorem fold_dk : ∀ (t : ℕ) (ht : t < cfg1.N), (outsAt1 V c t ht).2.1 = re2 (a := 4352) (b := 128) (acc (fun t => (sav A M t).dkt (inp A t) t) (t + 1))
  | 0, ht => by
    have h := bdkA V c ⟨0, ht⟩ _ _ (reads V E ⟨0, ht⟩) rfl
    rw [← upd_acc, acc_zero]
    exact h
  | t + 1, ht => by
    have ht' : t + 1 < 32 := lt_of_lt_of_eq ht N_1
    have h := bdkB V c ⟨t + 1, ht⟩ _ _ (reads V E ⟨t + 1, ht⟩) (by show ¬ (t + 1) % 32 = 0; omega) _ (fold_dk t (by omega))
    rw [← upd_acc]
    exact h

theorem arr_dk : (dat1 V c).arrAt 15 cfg1.N = re2 (a := 4352) (b := 128) (acc (fun t => (sav A M t).dkt (inp A t) t) 32) := by
  refine (dat1 V c).arrAt_eq_of_covers 15 _ (by decide +kernel) fun t hf y => ?_
  have ht : t.val < 32 := lt_of_lt_of_eq t.isLt N_1
  have hl := (flush1_15 t).mp hf
  blk_simp
  rw [after1_15, fold_dk V E t.val t.isLt, show t.val + 1 = 32 by omega]
  show ((_ : ℝ) : EReal) = ((_ : ℝ) : EReal)
  have e0 : (((win1_15.blk t).view.emb y) 0 : ℕ) = (y 0 : ℕ) := by blk_simp [ix1_15 t]
  have e1 : (((win1_15.blk t).view.emb y) 1 : ℕ) = (y 1 : ℕ) := by blk_simp [ix1_15 t]
  rw [e0, e1]

theorem fold_dv : ∀ (t : ℕ) (ht : t < cfg1.N), (outsAt1 V c t ht).2.2.1 = re2 (a := 4352) (b := 128) (acc (fun t => (sav A M t).dvt) (t + 1))
  | 0, ht => by
    have h := bdvA V c ⟨0, ht⟩ _ _ (reads V E ⟨0, ht⟩) rfl
    rw [← upd_acc, acc_zero]
    exact h
  | t + 1, ht => by
    have ht' : t + 1 < 32 := lt_of_lt_of_eq ht N_1
    have h := bdvB V c ⟨t + 1, ht⟩ _ _ (reads V E ⟨t + 1, ht⟩) (by show ¬ (t + 1) % 32 = 0; omega) _ (fold_dv t (by omega))
    rw [← upd_acc]
    exact h

theorem arr_dv : (dat1 V c).arrAt 16 cfg1.N = re2 (a := 4352) (b := 128) (acc (fun t => (sav A M t).dvt) 32) := by
  refine (dat1 V c).arrAt_eq_of_covers 16 _ (by decide +kernel) fun t hf y => ?_
  have ht : t.val < 32 := lt_of_lt_of_eq t.isLt N_1
  have hl := (flush1_16 t).mp hf
  blk_simp
  rw [after1_16, fold_dv V E t.val t.isLt, show t.val + 1 = 32 by omega]
  show ((_ : ℝ) : EReal) = ((_ : ℝ) : EReal)
  have e0 : (((win1_16.blk t).view.emb y) 0 : ℕ) = (y 0 : ℕ) := by blk_simp [ix1_16 t]
  have e1 : (((win1_16.blk t).view.emb y) 1 : ℕ) = (y 1 : ℕ) := by blk_simp [ix1_16 t]
  rw [e0, e1]

theorem fold_dkc : ∀ (t : ℕ) (ht : t < cfg1.N), (outsAt1 V c t ht).2.2.2.1 = re2 (a := 256) (b := 128) (fun k d => ∑ t ∈ Finset.range (t + 1), (sav A M t).dkt (inp A t) t k d)
  | 0, ht => by
    have h := bdkcA V c ⟨0, ht⟩ _ _ (reads V E ⟨0, ht⟩) rfl
    simp only [Finset.sum_range_succ, Finset.sum_range_zero]
    exact h
  | t + 1, ht => by
    have ht' : t + 1 < 32 := lt_of_lt_of_eq ht N_1
    have h := bdkcB V c ⟨t + 1, ht⟩ _ _ (reads V E ⟨t + 1, ht⟩) (by show ¬ (t + 1) % 32 = 0; omega) _ (fold_dkc t (by omega))
    simp only [Finset.sum_range_succ _ (t + 1)]
    exact h

theorem arr_dkc : (dat1 V c).arrAt 17 cfg1.N = re2 (a := 256) (b := 128) A.dkc := by
  refine (dat1 V c).arrAt_eq_of_covers 17 _ (by decide +kernel) fun t hf y => ?_
  have ht : t.val < 32 := lt_of_lt_of_eq t.isLt N_1
  have hl := (flush1_17 t).mp hf
  blk_simp
  rw [after1_17, fold_dkc V E t.val t.isLt, show t.val + 1 = 32 by omega]
  show ((_ : ℝ) : EReal) = ((_ : ℝ) : EReal)
  have e0 : (((win1_17.blk t).view.emb y) 0 : ℕ) = (y 0 : ℕ) := by blk_simp [ix1_17 t]
  have e1 : (((win1_17.blk t).view.emb y) 1 : ℕ) = (y 1 : ℕ) := by blk_simp [ix1_17 t]
  rw [e0, e1]
  exact congrArg _ (dkc_eq (fun t ht => good A M t ht) (y 0).isLt (y 1).isLt)

theorem fold_dvc : ∀ (t : ℕ) (ht : t < cfg1.N), (outsAt1 V c t ht).2.2.2.2.1 = re2 (a := 256) (b := 128) (fun k d => ∑ t ∈ Finset.range (t + 1), (sav A M t).dvt k d)
  | 0, ht => by
    have h := bdvcA V c ⟨0, ht⟩ _ _ (reads V E ⟨0, ht⟩) rfl
    simp only [Finset.sum_range_succ, Finset.sum_range_zero]
    exact h
  | t + 1, ht => by
    have ht' : t + 1 < 32 := lt_of_lt_of_eq ht N_1
    have h := bdvcB V c ⟨t + 1, ht⟩ _ _ (reads V E ⟨t + 1, ht⟩) (by show ¬ (t + 1) % 32 = 0; omega) _ (fold_dvc t (by omega))
    simp only [Finset.sum_range_succ _ (t + 1)]
    exact h

theorem arr_dvc : (dat1 V c).arrAt 18 cfg1.N = re2 (a := 256) (b := 128) A.dvc := by
  refine (dat1 V c).arrAt_eq_of_covers 18 _ (by decide +kernel) fun t hf y => ?_
  have ht : t.val < 32 := lt_of_lt_of_eq t.isLt N_1
  have hl := (flush1_18 t).mp hf
  blk_simp
  rw [after1_18, fold_dvc V E t.val t.isLt, show t.val + 1 = 32 by omega]
  show ((_ : ℝ) : EReal) = ((_ : ℝ) : EReal)
  have e0 : (((win1_18.blk t).view.emb y) 0 : ℕ) = (y 0 : ℕ) := by blk_simp [ix1_18 t]
  have e1 : (((win1_18.blk t).view.emb y) 1 : ℕ) = (y 1 : ℕ) := by blk_simp [ix1_18 t]
  rw [e0, e1]
  exact congrArg _ (dvc_eq (fun t ht => good A M t ht) (y 0).isLt (y 1).isLt)

theorem fold_dsk : ∀ (t : ℕ) (ht : t < cfg1.N), (outsAt1 V c t ht).2.2.2.2.2
    = re2 (a := 8) (b := 128) (fun h d => -∑ t ∈ Finset.range (t + 1), ∑ i ∈ Finset.range 128, (sav A M t).sd (2 * (h / 4) + h % 2) (128 * (h % 4 / 2) + i))
  | 0, ht => by
    have h := bdsinkA V c ⟨0, ht⟩ _ _ (reads V E ⟨0, ht⟩) rfl
    rw [h]
    funext y
    show (((0 : ℝ) - _ : ℝ) : EReal) = ((_ : ℝ) : EReal)
    rw [zero_sub]
    refine congrArg (fun x : ℝ => ((-x : ℝ) : EReal)) ?_
    rw [Nat.zero_add, Finset.sum_range_one]
  | t + 1, ht => by
    have ht' : t + 1 < 32 := lt_of_lt_of_eq ht N_1
    have h := bdsinkB V c ⟨t + 1, ht⟩ _ _ (reads V E ⟨t + 1, ht⟩) (by show ¬ (t + 1) % 32 = 0; omega) _ (fold_dsk t (by omega))
    simp only [Finset.sum_range_succ _ (t + 1), neg_add, ← sub_eq_add_neg]
    exact h

theorem arr_dsk : (dat1 V c).arrAt 19 cfg1.N = re2 (a := 8) (b := 128) (fun h _ => A.dsk h) := by
  refine (dat1 V c).arrAt_eq_of_covers 19 _ (by decide +kernel) fun t hf y => ?_
  have ht : t.val < 32 := lt_of_lt_of_eq t.isLt N_1
  have hl := (flush1_19 t).mp hf
  blk_simp
  rw [after1_19, fold_dsk V E t.val t.isLt, show t.val + 1 = 32 by omega]
  show ((_ : ℝ) : EReal) = ((_ : ℝ) : EReal)
  have e0 : (((win1_19.blk t).view.emb y) 0 : ℕ) = (y 0 : ℕ) := by blk_simp [ix1_19 t]
  rw [e0]
  exact congrArg _ (dsk_eq (fun t ht => good A M t ht) (y 0).isLt)

end

end Cert.Attn
-- ==== Proof.Host.lean ====
/-
  The arrays the forward call enters with, and the results read after the backward call.
-/
module

public import proofs.«01_k».proof.Proof.Arrays
public import Idealize.ShloMosaic.Lib.Claim
public import Idealize.ShloMosaic.Lib.StableHlo.ReadAt

@[expose] public section

set_option maxRecDepth 16384

noncomputable section

namespace Cert.Attn

open Idealize.ShloMosaic Idealize.ShloMosaic.TcCoe Idealize.SL.Sem
open Idealize.ShloMosaic.Pipeline (Dat)
open Cert.KernelIdeal Cert.KernelIdeal.Gen Bwd

variable (X : Valuation τ sig (Elt Ideal))

theorem st_v1 (i : S512.Idx) : StableHlo.after hostOps0_1 (StableHlo.after hostOps0 X) (Proc.devRef .tc main_v1) i = BitVec.ofNat 32 ((i 0 : ℕ) % 128) := by
  after_reads_at
  have h : id (constantI S_ 32 128#32) ix0 = 128#32 := rfl
  rw [h]
  exact (by decide +kernel : ∀ n : Fin 512, Scalar.select
      (IntOp.andi
        (IntOp.cmpi CmpIPredicate.ne
          (IntOp.cmpi CmpIPredicate.slt
            (IntOp.remsi ArithUnit.host (BitVec.ofNat 32 n)
              (Scalar.select (IntOp.cmpi CmpIPredicate.eq 128#32 0#32) (1#32) 128#32))
            0#32)
          (IntOp.cmpi CmpIPredicate.slt
            (Scalar.select (IntOp.cmpi CmpIPredicate.eq 128#32 0#32) (1#32) 128#32)
            0#32))
        (IntOp.cmpi CmpIPredicate.ne
          (IntOp.remsi ArithUnit.host (BitVec.ofNat 32 n)
            (Scalar.select (IntOp.cmpi CmpIPredicate.eq 128#32 0#32) (1#32) 128#32))
          0#32))
      (IntOp.addi
        (IntOp.remsi ArithUnit.host (BitVec.ofNat 32 n)
          (Scalar.select (IntOp.cmpi CmpIPredicate.eq 128#32 0#32) (1#32) 128#32))
        (Scalar.select (IntOp.cmpi CmpIPredicate.eq 128#32 0#32) (1#32) 128#32))
      (IntOp.remsi ArithUnit.host (BitVec.ofNat 32 n)
        (Scalar.select (IntOp.cmpi CmpIPredicate.eq 128#32 0#32) (1#32) 128#32)) =
    BitVec.ofNat 32 (n % 128)) (i 0)

theorem st_v4 (h : ∀ i : S512.Idx, X (Proc.devRef .tc main_v1) i = BitVec.ofNat 32 ((i 0 : ℕ) % 128)) (i : S1x512.Idx) :
    StableHlo.after hostOps0_2 X (Proc.devRef .tc main_v4) i = if (i 1 : ℕ) % 128 < 64 then 1#1 else 0#1 := by
  after_reads_at
  rw [h]
  exact (by decide +kernel : ∀ n : Fin 512, IntOp.cmpi CmpIPredicate.slt (BitVec.ofNat 32 (n % 128)) 64#32 = if (n : ℕ) % 128 < 64 then 1#1 else 0#1) (i 1)

theorem st_v6 {f : ℕ → ℕ → ℝ} (h : X (Proc.devRef .tc main_arg0) = re2 (a := 4096) (b := 512) f) :
    StableHlo.after hostOps0_2 X (Proc.devRef .tc main_v6) = re2 (a := 4096) (b := 512) fun r d => f r d / 8 := by
  funext i
  after_reads_at
  rw [h, eighth]
  show ((_ : ℝ) : EReal) * ((_ : ℝ) : EReal) = ((_ : ℝ) : EReal)
  rw [← EReal.coe_mul]
  exact congrArg _ (by ring)

theorem st_c1 : StableHlo.after hostOps0_2 X (Proc.devRef .tc main_cst_1) ix0 = (((0 : ℝ) : ℝ) : EReal) := by
  after_reads_at
  exact EReal.coe_zero.symm

theorem st_c2 : StableHlo.after hostOps0_4 X (Proc.devRef .tc main_cst_2) ix0 = (((0 : ℝ) : ℝ) : EReal) := by
  after_reads_at
  exact EReal.coe_zero.symm

theorem st_v7 {f : ℕ → ℕ → ℝ} (h : X (Proc.devRef .tc main_v6) = re2 (a := 4096) (b := 512) f)
    (h4 : ∀ i : S1x512.Idx, X (Proc.devRef .tc main_v4) i = if (i 1 : ℕ) % 128 < 64 then 1#1 else 0#1)
    (h1 : X (Proc.devRef .tc main_cst_1) ix0 = (((0 : ℝ) : ℝ) : EReal)) :
    StableHlo.after hostOps0_3 X (Proc.devRef .tc main_v7) = re2 (a := 4096) (b := 512) fun r d => if d % 128 < 64 then f r d else 0 := by
  funext i
  after_reads_at
  rw [h, h4, show id (X (Proc.devRef .tc main_cst_1)) ix0 = _ from h1]
  show Scalar.select (if (i 1 : ℕ) % 128 < 64 then 1#1 else 0#1) (re2 f i) (((0 : ℝ) : ℝ) : EReal) = ((if (i 1 : ℕ) % 128 < 64 then f (i 0) (i 1) else 0 : ℝ) : EReal)
  split <;> rfl

theorem st_v9 {f : ℕ → ℕ → ℝ} (h : X (Proc.devRef .tc main_v6) = re2 (a := 4096) (b := 512) f)
    (h4 : ∀ i : S1x512.Idx, X (Proc.devRef .tc main_v4) i = if (i 1 : ℕ) % 128 < 64 then 1#1 else 0#1)
    (h1 : X (Proc.devRef .tc main_cst_2) ix0 = (((0 : ℝ) : ℝ) : EReal)) :
    StableHlo.after hostOps0_5 X (Proc.devRef .tc main_v9) = re2 (a := 4096) (b := 512) fun r d => if d % 128 < 64 then 0 else f r d := by
  funext i
  after_reads_at
  rw [h, h4, show id (X (Proc.devRef .tc main_cst_2)) ix0 = _ from h1]
  show Scalar.select (if (i 1 : ℕ) % 128 < 64 then 1#1 else 0#1) (((0 : ℝ) : ℝ) : EReal) (re2 f i) = ((if (i 1 : ℕ) % 128 < 64 then 0 else f (i 0) (i 1) : ℝ) : EReal)
  split <;> rfl

theorem st_v8 : StableHlo.after hostOps0_4 X (Proc.devRef .tc main_v8) = X (Proc.devRef .tc main_v7) := by
  funext i
  after_reads_at

theorem st_v10 : StableHlo.after hostOps0_6 X (Proc.devRef .tc main_v10) = X (Proc.devRef .tc main_v9) := by
  funext i
  after_reads_at

theorem st_v11 : StableHlo.after hostOps0_6 X (Proc.devRef .tc main_v11) = X (Proc.devRef .tc main_arg1) := by
  funext i
  after_reads_at

theorem st_v16 : StableHlo.after hostOps0_6 X (Proc.devRef .tc main_v16) = X (Proc.devRef .tc main_arg2) := by
  funext i
  after_reads_at

theorem st_v21 : StableHlo.after hostOps0_6 X (Proc.devRef .tc main_v21) = X (Proc.devRef .tc main_arg3) := by
  funext i
  after_reads_at

theorem st_v26 : StableHlo.after hostOps0_6 X (Proc.devRef .tc main_v26) = X (Proc.devRef .tc main_arg4) := by
  funext i
  after_reads_at

theorem st_v15 {f : ℕ → ℕ → ℝ} (h : X (Proc.devRef .tc main_arg1) = re2 (a := 4096) (b := 128) f) :
    StableHlo.after hostOps0_6 X (Proc.devRef .tc main_v15) = re2 (a := 4096) (b := 128) fun r d => f r ((d + 64) % 128) := by
  funext i
  have hi : (i 1 : ℕ) < 128 := (i 1).isLt
  after_reads_at
  split
  · rename_i h64
    after_reads_at
    rw [h]
    show ((f (i 0) (64 + (i 1 : ℕ)) : ℝ) : EReal) = ((f (i 0) (((i 1 : ℕ) + 64) % 128) : ℝ) : EReal)
    rw [show ((i 1 : ℕ) + 64) % 128 = 64 + (i 1 : ℕ) by omega]
  · rename_i h64
    after_reads_at
    rw [h]
    show ((f (i 0) ((i 1 : ℕ) - 64) : ℝ) : EReal) = ((f (i 0) (((i 1 : ℕ) + 64) % 128) : ℝ) : EReal)
    rw [show ((i 1 : ℕ) + 64) % 128 = (i 1 : ℕ) - 64 by omega]

theorem st_v20 {f : ℕ → ℕ → ℝ} (h : X (Proc.devRef .tc main_arg2) = re2 (a := 4096) (b := 128) f) :
    StableHlo.after hostOps0_6 X (Proc.devRef .tc main_v20) = re2 (a := 4096) (b := 128) fun r d => f r ((d + 64) % 128) := by
  funext i
  have hi : (i 1 : ℕ) < 128 := (i 1).isLt
  after_reads_at
  split
  · rename_i h64
    after_reads_at
    rw [h]
    show ((f (i 0) (64 + (i 1 : ℕ)) : ℝ) : EReal) = ((f (i 0) (((i 1 : ℕ) + 64) % 128) : ℝ) : EReal)
    rw [show ((i 1 : ℕ) + 64) % 128 = 64 + (i 1 : ℕ) by omega]
  · rename_i h64
    after_reads_at
    rw [h]
    show ((f (i 0) ((i 1 : ℕ) - 64) : ℝ) : EReal) = ((f (i 0) (((i 1 : ℕ) + 64) % 128) : ℝ) : EReal)
    rw [show ((i 1 : ℕ) + 64) % 128 = (i 1 : ℕ) - 64 by omega]

theorem st_v25 {f : ℕ → ℕ → ℝ} (h : X (Proc.devRef .tc main_arg3) = re2 (a := 256) (b := 128) f) :
    StableHlo.after hostOps0_6 X (Proc.devRef .tc main_v25) = re2 (a := 256) (b := 128) fun r d => f r ((d + 64) % 128) := by
  funext i
  have hi : (i 1 : ℕ) < 128 := (i 1).isLt
  after_reads_at
  split
  · rename_i h64
    after_reads_at
    rw [h]
    show ((f (i 0) (64 + (i 1 : ℕ)) : ℝ) : EReal) = ((f (i 0) (((i 1 : ℕ) + 64) % 128) : ℝ) : EReal)
    rw [show ((i 1 : ℕ) + 64) % 128 = 64 + (i 1 : ℕ) by omega]
  · rename_i h64
    after_reads_at
    rw [h]
    show ((f (i 0) ((i 1 : ℕ) - 64) : ℝ) : EReal) = ((f (i 0) (((i 1 : ℕ) + 64) % 128) : ℝ) : EReal)
    rw [show ((i 1 : ℕ) + 64) % 128 = (i 1 : ℕ) - 64 by omega]

theorem st_v30 {f : ℕ → ℕ → ℝ} (h : X (Proc.devRef .tc main_arg4) = re2 (a := 256) (b := 128) f) :
    StableHlo.after hostOps0_6 X (Proc.devRef .tc main_v30) = re2 (a := 256) (b := 128) fun r d => f r ((d + 64) % 128) := by
  funext i
  have hi : (i 1 : ℕ) < 128 := (i 1).isLt
  after_reads_at
  split
  · rename_i h64
    after_reads_at
    rw [h]
    show ((f (i 0) (64 + (i 1 : ℕ)) : ℝ) : EReal) = ((f (i 0) (((i 1 : ℕ) + 64) % 128) : ℝ) : EReal)
    rw [show ((i 1 : ℕ) + 64) % 128 = 64 + (i 1 : ℕ) by omega]
  · rename_i h64
    after_reads_at
    rw [h]
    show ((f (i 0) ((i 1 : ℕ) - 64) : ℝ) : EReal) = ((f (i 0) (((i 1 : ℕ) + 64) % 128) : ℝ) : EReal)
    rw [show ((i 1 : ℕ) + 64) % 128 = (i 1 : ℕ) - 64 by omega]

theorem st_v31 {f : ℕ → ℕ → ℝ} (h : X (Proc.devRef .tc main_v11) = re2 (a := 4096) (b := 128) f) (h0 : ∀ i, X (Proc.devRef .tc main_c_3) i = 0#32) :
    StableHlo.after hostOps0_7 X (Proc.devRef .tc main_v31) = re2 (a := 4352) (b := 128) fun r d => if 128 ≤ r ∧ r < 4224 then f (r - 128) d else 0 := by
  funext i
  after_reads_at
  rw [h, h0]
  have z : (FloatOps.sitofp FTy.bf16 0#32 : Ideal .bf16) = ((0 : ℝ) : EReal) := by
    show (((0#32 : BitVec 32).toInt : ℝ) : EReal) = _
    simp
  rw [z]
  show _ = (((if 128 ≤ (i 0 : ℕ) ∧ (i 0 : ℕ) < 4224 then f ((i 0 : ℕ) - 128) (i 1) else 0 : ℝ)) : EReal)
  by_cases hc : 128 ≤ (i 0 : ℕ) ∧ (i 0 : ℕ) < 4224
  · rw [dif_pos ⟨hc.1, by omega⟩, if_pos hc]
    rfl
  · rw [dif_neg (by omega), if_neg hc]

theorem st_v32 {f : ℕ → ℕ → ℝ} (h : X (Proc.devRef .tc main_v15) = re2 (a := 4096) (b := 128) f) (h0 : ∀ i, X (Proc.devRef .tc main_c_4) i = 0#32) :
    StableHlo.after hostOps0_9 X (Proc.devRef .tc main_v32) = re2 (a := 4352) (b := 128) fun r d => if 128 ≤ r ∧ r < 4224 then f (r - 128) d else 0 := by
  funext i
  after_reads_at
  rw [h, h0]
  have z : (FloatOps.sitofp FTy.bf16 0#32 : Ideal .bf16) = ((0 : ℝ) : EReal) := by
    show (((0#32 : BitVec 32).toInt : ℝ) : EReal) = _
    simp
  rw [z]
  show _ = (((if 128 ≤ (i 0 : ℕ) ∧ (i 0 : ℕ) < 4224 then f ((i 0 : ℕ) - 128) (i 1) else 0 : ℝ)) : EReal)
  by_cases hc : 128 ≤ (i 0 : ℕ) ∧ (i 0 : ℕ) < 4224
  · rw [dif_pos ⟨hc.1, by omega⟩, if_pos hc]
    rfl
  · rw [dif_neg (by omega), if_neg hc]

theorem st_v33 {f : ℕ → ℕ → ℝ} (h : X (Proc.devRef .tc main_v16) = re2 (a := 4096) (b := 128) f) (h0 : ∀ i, X (Proc.devRef .tc main_c_5) i = 0#32) :
    StableHlo.after hostOps0_11 X (Proc.devRef .tc main_v33) = re2 (a := 4352) (b := 128) fun r d => if 128 ≤ r ∧ r < 4224 then f (r - 128) d else 0 := by
  funext i
  after_reads_at
  rw [h, h0]
  have z : (FloatOps.sitofp FTy.bf16 0#32 : Ideal .bf16) = ((0 : ℝ) : EReal) := by
    show (((0#32 : BitVec 32).toInt : ℝ) : EReal) = _
    simp
  rw [z]
  show _ = (((if 128 ≤ (i 0 : ℕ) ∧ (i 0 : ℕ) < 4224 then f ((i 0 : ℕ) - 128) (i 1) else 0 : ℝ)) : EReal)
  by_cases hc : 128 ≤ (i 0 : ℕ) ∧ (i 0 : ℕ) < 4224
  · rw [dif_pos ⟨hc.1, by omega⟩, if_pos hc]
    rfl
  · rw [dif_neg (by omega), if_neg hc]

theorem st_v34 {f : ℕ → ℕ → ℝ} (h : X (Proc.devRef .tc main_v20) = re2 (a := 4096) (b := 128) f) (h0 : ∀ i, X (Proc.devRef .tc main_c_6) i = 0#32) :
    StableHlo.after hostOps0_13 X (Proc.devRef .tc main_v34) = re2 (a := 4352) (b := 128) fun r d => if 128 ≤ r ∧ r < 4224 then f (r - 128) d else 0 := by
  funext i
  after_reads_at
  rw [h, h0]
  have z : (FloatOps.sitofp FTy.bf16 0#32 : Ideal .bf16) = ((0 : ℝ) : EReal) := by
    show (((0#32 : BitVec 32).toInt : ℝ) : EReal) = _
    simp
  rw [z]
  show _ = (((if 128 ≤ (i 0 : ℕ) ∧ (i 0 : ℕ) < 4224 then f ((i 0 : ℕ) - 128) (i 1) else 0 : ℝ)) : EReal)
  by_cases hc : 128 ≤ (i 0 : ℕ) ∧ (i 0 : ℕ) < 4224
  · rw [dif_pos ⟨hc.1, by omega⟩, if_pos hc]
    rfl
  · rw [dif_neg (by omega), if_neg hc]

theorem st_c_3 (i) : StableHlo.after hostOps0_6 X (Proc.devRef .tc main_c_3) i = 0#32 := by
  after_reads_at

theorem st_c_4 (i) : StableHlo.after hostOps0_8 X (Proc.devRef .tc main_c_4) i = 0#32 := by
  after_reads_at

theorem st_c_5 (i) : StableHlo.after hostOps0_10 X (Proc.devRef .tc main_c_5) i = 0#32 := by
  after_reads_at

theorem st_c_6 (i) : StableHlo.after hostOps0_12 X (Proc.devRef .tc main_c_6) i = 0#32 := by
  after_reads_at

theorem st_v37 : StableHlo.after hostOps2 X (Proc.devRef .tc main_v37) = X (Proc.devRef .tc main_v35_0) := by
  funext i
  after_reads_at

theorem st_v38 {f : ℕ → ℕ → ℝ} (h : X (Proc.devRef .tc main_v36_1) = re2 (a := 4352) (b := 128) f) :
    StableHlo.after hostOps2 X (Proc.devRef .tc main_v38) = re2 (a := 4096) (b := 128) fun r d => f (r + 128) d := by
  funext i
  after_reads_at
  rw [h]
  show ((f (128 + (i 0 : ℕ)) (i 1) : ℝ) : EReal) = ((f ((i 0 : ℕ) + 128) (i 1) : ℝ) : EReal)
  rw [Nat.add_comm]

theorem st_v39 {f : ℕ → ℕ → ℝ} (h : X (Proc.devRef .tc main_v36_2) = re2 (a := 4352) (b := 128) f) :
    StableHlo.after hostOps2 X (Proc.devRef .tc main_v39) = re2 (a := 4096) (b := 128) fun r d => f (r + 128) d := by
  funext i
  after_reads_at
  rw [h]
  show ((f (128 + (i 0 : ℕ)) (i 1) : ℝ) : EReal) = ((f ((i 0 : ℕ) + 128) (i 1) : ℝ) : EReal)
  rw [Nat.add_comm]

theorem st_v41 {f : ℕ → ℕ → ℝ} (h : X (Proc.devRef .tc main_v36_5) = re2 (a := 8) (b := 128) f) :
    StableHlo.after hostOps2 X (Proc.devRef .tc main_v41) = fun i => ((f (i 0) 0 : ℝ) : EReal) := by
  funext i
  after_reads_at
  rw [h]
  rfl

/-- The entry memory holds the arguments `A`. -/
structure IsArgs (A : Args) (m : (ℓ : Loc nD τ sig) → Buf (Elt Ideal) ℓ) (c : Dev nD) : Prop where
  q : m ((c.tc : Thread nD τ).loc main_arg0) = re2 (a := 4096) (b := 512) A.q
  k : m ((c.tc : Thread nD τ).loc main_arg1) = re2 (a := 4096) (b := 128) A.k
  v : m ((c.tc : Thread nD τ).loc main_arg2) = re2 (a := 4096) (b := 128) A.v
  kc : m ((c.tc : Thread nD τ).loc main_arg3) = re2 (a := 256) (b := 128) A.kc
  vc : m ((c.tc : Thread nD τ).loc main_arg4) = re2 (a := 256) (b := 128) A.vc
  sk : m ((c.tc : Thread nD τ).loc main_arg5) = fun i => ((A.sk (i 0) : ℝ) : EReal)
  g : m ((c.tc : Thread nD τ).loc main_arg6) = re2 (a := 4096) (b := 512) A.g

section

variable {A : Args} (m : (ℓ : Loc nD τ sig) → Buf (Elt Ideal) ℓ) (ρ : Dev nD → PrngReg) (c : Dev nD) (H : IsArgs A m c)

theorem w3_v4 (i : S1x512.Idx) : W3 m ρ c (Proc.devRef .tc main_v4) i = if (i 1 : ℕ) % 128 < 64 then 1#1 else 0#1 :=
  st_v4 (W2 m ρ c) (st_v1 (W0 m ρ c)) i

include H

theorem w3_v6 : W3 m ρ c (Proc.devRef .tc main_v6) = re2 (a := 4096) (b := 512) fun r d => A.q r d / 8 :=
  st_v6 (W2 m ρ c) ((W2_args m ρ c main_arg0 (by decide)).trans H.q)

theorem w14_v8 : W14 m ρ c (Proc.devRef .tc main_v8) = re2 (a := 4096) (b := 512) fun r d => if d % 128 < 64 then A.q r d / 8 else 0 :=
  ((W14_of m ρ c main_v8 (by decide)).trans ((W13_of m ρ c main_v8 (by decide)).trans ((W12_of m ρ c main_v8 (by decide)).trans ((W11_of m ρ c main_v8 (by decide)).trans ((W10_of m ρ c main_v8 (by decide)).trans ((W9_of m ρ c main_v8 (by decide)).trans ((W8_of m ρ c main_v8 (by decide)).trans ((W7_of m ρ c main_v8 (by decide)).trans (W6_of m ρ c main_v8 (by decide)))))))))).trans ((st_v8 (W4 m ρ c)).trans (st_v7 (W3 m ρ c) (w3_v6 m ρ c H) (w3_v4 m ρ c) (st_c1 (W2 m ρ c))))

theorem w14_v10 : W14 m ρ c (Proc.devRef .tc main_v10) = re2 (a := 4096) (b := 512) fun r d => if d % 128 < 64 then 0 else A.q r d / 8 :=
  ((W14_of m ρ c main_v10 (by decide)).trans ((W13_of m ρ c main_v10 (by decide)).trans ((W12_of m ρ c main_v10 (by decide)).trans ((W11_of m ρ c main_v10 (by decide)).trans ((W10_of m ρ c main_v10 (by decide)).trans ((W9_of m ρ c main_v10 (by decide)).trans (W8_of m ρ c main_v10 (by decide)))))))).trans ((st_v10 (W6 m ρ c)).trans (st_v9 (W5 m ρ c) (((W5_of m ρ c main_v6 (by decide)).trans (W4_of m ρ c main_v6 (by decide))).trans (w3_v6 m ρ c H)) (fun i => (congrFun ((W5_of m ρ c main_v4 (by decide)).trans (W4_of m ρ c main_v4 (by decide))) i).trans (w3_v4 m ρ c i)) (st_c2 (W4 m ρ c))))

theorem w7_v11 : W7 m ρ c (Proc.devRef .tc main_v11) = re2 (a := 4096) (b := 128) A.k :=
  (st_v11 (W6 m ρ c)).trans ((W6_args m ρ c main_arg1 (by decide)).trans H.k)

theorem w7_v16 : W7 m ρ c (Proc.devRef .tc main_v16) = re2 (a := 4096) (b := 128) A.v :=
  (st_v16 (W6 m ρ c)).trans ((W6_args m ρ c main_arg2 (by decide)).trans H.v)

theorem w7_v15 : W7 m ρ c (Proc.devRef .tc main_v15) = re2 (a := 4096) (b := 128) (fun r d => A.k r ((d + 64) % 128)) :=
  st_v15 (W6 m ρ c) ((W6_args m ρ c main_arg1 (by decide)).trans H.k)

theorem w7_v20 : W7 m ρ c (Proc.devRef .tc main_v20) = re2 (a := 4096) (b := 128) (fun r d => A.v r ((d + 64) % 128)) :=
  st_v20 (W6 m ρ c) ((W6_args m ρ c main_arg2 (by decide)).trans H.v)

theorem w14_v21 : W14 m ρ c (Proc.devRef .tc main_v21) = re2 (a := 256) (b := 128) A.kc :=
  ((W14_of m ρ c main_v21 (by decide)).trans ((W13_of m ρ c main_v21 (by decide)).trans ((W12_of m ρ c main_v21 (by decide)).trans ((W11_of m ρ c main_v21 (by decide)).trans ((W10_of m ρ c main_v21 (by decide)).trans ((W9_of m ρ c main_v21 (by decide)).trans (W8_of m ρ c main_v21 (by decide)))))))).trans ((st_v21 (W6 m ρ c)).trans ((W6_args m ρ c main_arg3 (by decide)).trans H.kc))

theorem w14_v26 : W14 m ρ c (Proc.devRef .tc main_v26) = re2 (a := 256) (b := 128) A.vc :=
  ((W14_of m ρ c main_v26 (by decide)).trans ((W13_of m ρ c main_v26 (by decide)).trans ((W12_of m ρ c main_v26 (by decide)).trans ((W11_of m ρ c main_v26 (by decide)).trans ((W10_of m ρ c main_v26 (by decide)).trans ((W9_of m ρ c main_v26 (by decide)).trans (W8_of m ρ c main_v26 (by decide)))))))).trans ((st_v26 (W6 m ρ c)).trans ((W6_args m ρ c main_arg4 (by decide)).trans H.vc))

theorem w14_v25 : W14 m ρ c (Proc.devRef .tc main_v25) = re2 (a := 256) (b := 128) (fun r d => A.kc r ((d + 64) % 128)) :=
  ((W14_of m ρ c main_v25 (by decide)).trans ((W13_of m ρ c main_v25 (by decide)).trans ((W12_of m ρ c main_v25 (by decide)).trans ((W11_of m ρ c main_v25 (by decide)).trans ((W10_of m ρ c main_v25 (by decide)).trans ((W9_of m ρ c main_v25 (by decide)).trans (W8_of m ρ c main_v25 (by decide)))))))).trans (st_v25 (W6 m ρ c) ((W6_args m ρ c main_arg3 (by decide)).trans H.kc))

theorem w14_v30 : W14 m ρ c (Proc.devRef .tc main_v30) = re2 (a := 256) (b := 128) (fun r d => A.vc r ((d + 64) % 128)) :=
  ((W14_of m ρ c main_v30 (by decide)).trans ((W13_of m ρ c main_v30 (by decide)).trans ((W12_of m ρ c main_v30 (by decide)).trans ((W11_of m ρ c main_v30 (by decide)).trans ((W10_of m ρ c main_v30 (by decide)).trans ((W9_of m ρ c main_v30 (by decide)).trans (W8_of m ρ c main_v30 (by decide)))))))).trans (st_v30 (W6 m ρ c) ((W6_args m ρ c main_arg4 (by decide)).trans H.vc))

theorem w14_v31 : W14 m ρ c (Proc.devRef .tc main_v31) = re2 (a := 4352) (b := 128) (inp A 0).kp :=
  ((W14_of m ρ c main_v31 (by decide)).trans ((W13_of m ρ c main_v31 (by decide)).trans ((W12_of m ρ c main_v31 (by decide)).trans ((W11_of m ρ c main_v31 (by decide)).trans ((W10_of m ρ c main_v31 (by decide)).trans (W9_of m ρ c main_v31 (by decide))))))).trans (st_v31 (W7 m ρ c) (w7_v11 m ρ c H) (st_c_3 (W6 m ρ c)))

theorem w14_v32 : W14 m ρ c (Proc.devRef .tc main_v32) = re2 (a := 4352) (b := 128) (inp A 0).ksw :=
  ((W14_of m ρ c main_v32 (by decide)).trans ((W13_of m ρ c main_v32 (by decide)).trans ((W12_of m ρ c main_v32 (by decide)).trans (W11_of m ρ c main_v32 (by decide))))).trans (st_v32 (W9 m ρ c) (((W9_of m ρ c main_v15 (by decide)).trans (W8_of m ρ c main_v15 (by decide))).trans (w7_v15 m ρ c H)) (st_c_4 (W8 m ρ c)))

theorem w14_v33 : W14 m ρ c (Proc.devRef .tc main_v33) = re2 (a := 4352) (b := 128) (inp A 0).vp :=
  ((W14_of m ρ c main_v33 (by decide)).trans (W13_of m ρ c main_v33 (by decide))).trans (st_v33 (W11 m ρ c) (((W11_of m ρ c main_v16 (by decide)).trans ((W10_of m ρ c main_v16 (by decide)).trans ((W9_of m ρ c main_v16 (by decide)).trans (W8_of m ρ c main_v16 (by decide))))).trans (w7_v16 m ρ c H)) (st_c_5 (W10 m ρ c)))

theorem w14_v34 : W14 m ρ c (Proc.devRef .tc main_v34) = re2 (a := 4352) (b := 128) (inp A 0).vsw :=
  st_v34 (W13 m ρ c) (((W13_of m ρ c main_v20 (by decide)).trans ((W12_of m ρ c main_v20 (by decide)).trans ((W11_of m ρ c main_v20 (by decide)).trans ((W10_of m ρ c main_v20 (by decide)).trans ((W9_of m ρ c main_v20 (by decide)).trans (W8_of m ρ c main_v20 (by decide))))))).trans (w7_v20 m ρ c H)) (st_c_6 (W12 m ρ c))

theorem ent14 : Ent (V14 m ρ) A c :=
  ⟨w14_v8 m ρ c H, w14_v10 m ρ c H, w14_v31 m ρ c H, w14_v32 m ρ c H, w14_v33 m ρ c H, w14_v34 m ρ c H, w14_v21 m ρ c H, w14_v25 m ρ c H,
    w14_v26 m ρ c H, w14_v30 m ρ c H, (W14_args m ρ c main_arg5 (by decide)).trans H.sk⟩

/-- The arrays the backward call enters with, for some row numbers. -/
theorem ent15 : ∃ M : ℕ → ℕ → ℕ → ℝ, Ent1 (V15 m ρ) A M c := by
  have E := ent14 m ρ c H
  obtain ⟨M, h1, h2, h3⟩ := fwd_arrays (V14 m ρ) E
  refine ⟨M, ⟨⟨?_, ?_, ?_, ?_, ?_, ?_, ?_, ?_, ?_, ?_, ?_⟩, ?_, ?_, ?_, ?_⟩⟩
  · exact (W15_of m ρ c main_v8 (by decide +kernel)).trans E.q0
  · exact (W15_of m ρ c main_v10 (by decide +kernel)).trans E.q1
  · exact (W15_of m ρ c main_v31 (by decide +kernel)).trans E.kp
  · exact (W15_of m ρ c main_v32 (by decide +kernel)).trans E.ksw
  · exact (W15_of m ρ c main_v33 (by decide +kernel)).trans E.vp
  · exact (W15_of m ρ c main_v34 (by decide +kernel)).trans E.vsw
  · exact (W15_of m ρ c main_v21 (by decide +kernel)).trans E.kc
  · exact (W15_of m ρ c main_v25 (by decide +kernel)).trans E.kcsw
  · exact (W15_of m ρ c main_v26 (by decide +kernel)).trans E.vc
  · exact (W15_of m ρ c main_v30 (by decide +kernel)).trans E.vcsw
  · exact (W15_of m ρ c main_arg5 (by decide +kernel)).trans E.sk
  · exact (W15_arr m ρ c 12).trans h2
  · exact (W15_arr m ρ c 13).trans h3
  · exact (W15_arr m ρ c 11).trans h1
  · exact (W15_args m ρ c main_arg6 (by decide)).trans H.g

/-- What the program's results hold after its last operation. -/
theorem results :
    W17 m ρ c (Proc.devRef .tc main_v37) = re2 (a := 4096) (b := 512) A.o
    ∧ W17 m ρ c (Proc.devRef .tc main_v36_0) = re2 (a := 4096) (b := 512) A.dq
    ∧ W17 m ρ c (Proc.devRef .tc main_v38) = re2 (a := 4096) (b := 128) A.dk
    ∧ W17 m ρ c (Proc.devRef .tc main_v39) = re2 (a := 4096) (b := 128) A.dv
    ∧ W17 m ρ c (Proc.devRef .tc main_v36_3) = re2 (a := 256) (b := 128) A.dkc
    ∧ W17 m ρ c (Proc.devRef .tc main_v36_4) = re2 (a := 256) (b := 128) A.dvc
    ∧ W17 m ρ c (Proc.devRef .tc main_v41) = fun i => ((A.dsk (i 0) : ℝ) : EReal) := by
  obtain ⟨M, E⟩ := ent15 m ρ c H
  refine ⟨?_, ?_, ?_, ?_, ?_, ?_, ?_⟩
  · exact (st_v37 (W16 m ρ c)).trans ((W16_of m ρ c main_v35_0 (by decide +kernel)).trans E.o)
  · exact (W17_of m ρ c main_v36_0 (by decide)).trans ((W16_arr m ρ c 14).trans (arr_dq (V15 m ρ) E))
  · refine (st_v38 (W16 m ρ c) ((W16_arr m ρ c 15).trans (arr_dk (V15 m ρ) E))).trans ?_
    funext i
    exact congrArg (fun x : ℝ => (x : EReal)) (dk_eq (fun t ht => good A M t ht) (i 0).isLt (i 1).isLt)
  · refine (st_v39 (W16 m ρ c) ((W16_arr m ρ c 16).trans (arr_dv (V15 m ρ) E))).trans ?_
    funext i
    exact congrArg (fun x : ℝ => (x : EReal)) (dv_eq (fun t ht => good A M t ht) (i 0).isLt (i 1).isLt)
  · exact (W17_of m ρ c main_v36_3 (by decide)).trans ((W16_arr m ρ c 17).trans (arr_dkc (V15 m ρ) E))
  · exact (W17_of m ρ c main_v36_4 (by decide)).trans ((W16_arr m ρ c 18).trans (arr_dvc (V15 m ρ) E))
  · exact st_v41 (W16 m ρ c) ((W16_arr m ρ c 19).trans (arr_dsk (V15 m ρ) E))

end

end Cert.Attn
-- ==== Proof.Values.lean ====
/-
  The kernel's run over arrays of reals: every execution ends with the model's results.
-/
module

public import proofs.«01_k».proof.Proof.Run
public import proofs.«01_k».proof.Proof.Host

@[expose] public section

set_option maxRecDepth 16384

noncomputable section

namespace Cert.KernelIdeal.Gen

open Idealize.ShloMosaic Idealize.ShloMosaic.TcCoe Idealize.SL.Sem Cert.Attn

variable (m : (ℓ : Loc nD τ sig) → Buf (Elt Ideal) ℓ) (ρ : Dev nD → PrngReg)

/-- The results and the arguments at the end, each the last boundary's contents. -/
theorem run_results : θ_run defs (onTc (τ := τ) (main (F := Ideal))) ⟨m, fun _ => 0, ρ⟩ (fun r => ∀ c : Dev nD,
      (r.2.mem ((c.tc : Thread nD τ).loc main_v37) = W17 m ρ c (Proc.devRef .tc main_v37)
      ∧ r.2.mem ((c.tc : Thread nD τ).loc main_v36_0) = W17 m ρ c (Proc.devRef .tc main_v36_0)
      ∧ r.2.mem ((c.tc : Thread nD τ).loc main_v38) = W17 m ρ c (Proc.devRef .tc main_v38)
      ∧ r.2.mem ((c.tc : Thread nD τ).loc main_v39) = W17 m ρ c (Proc.devRef .tc main_v39)
      ∧ r.2.mem ((c.tc : Thread nD τ).loc main_v36_3) = W17 m ρ c (Proc.devRef .tc main_v36_3)
      ∧ r.2.mem ((c.tc : Thread nD τ).loc main_v36_4) = W17 m ρ c (Proc.devRef .tc main_v36_4)
      ∧ r.2.mem ((c.tc : Thread nD τ).loc main_v41) = W17 m ρ c (Proc.devRef .tc main_v41))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨⟨h c _ (mem_uc main_v37 (by decide)), h c _ (mem_uc main_v36_0 (by decide)),
      h c _ (mem_uc main_v38 (by decide)), h c _ (mem_uc main_v39 (by decide)), h c _ (mem_uc main_v36_3 (by decide)),
      h c _ (mem_uc main_v36_4 (by decide)), h c _ (mem_uc main_v41 (by decide))⟩,
      (h c _ (mem_uc main_arg0 (by decide))).trans (W17_main_arg0 m ρ c),
      (h c _ (mem_uc main_arg1 (by decide))).trans (W17_main_arg1 m ρ c),
      (h c _ (mem_uc main_arg2 (by decide))).trans (W17_main_arg2 m ρ c),
      (h c _ (mem_uc main_arg3 (by decide))).trans (W17_main_arg3 m ρ c),
      (h c _ (mem_uc main_arg4 (by decide))).trans (W17_main_arg4 m ρ c),
      (h c _ (mem_uc main_arg5 (by decide))).trans (W17_main_arg5 m ρ c),
      (h c _ (mem_uc main_arg6 (by decide))).trans (W17_main_arg6 m ρ c)⟩) (run_last (F := Ideal) m ρ)

end Cert.KernelIdeal.Gen

end
-- ==== Proof.Ref.lean ====
/-
  The reference's results, over the reals.

  The reference computes scores of every query against the sink, 256 context positions and 4096 positions, masks the positions too far
  away with −∞, takes a softmax, and its gradient is the one of automatic differentiation.  Every array it computes, at an index, is the
  real number the model names; the maximum subtracted before the exponentials is some real number, and cancels.
-/
module

public import proofs.«01_k».proof.Proof.Model
public import proofs.«01_k».proof.Proof.Gen.ReferenceIdeal.Read
public import Idealize.ShloMosaic.Lib.Claim
public import Idealize.ShloMosaic.Lib.Pointwise
public import Idealize.ShloMosaic.Lib.Tactic.WordOmega

@[expose] public section

set_option maxRecDepth 16384

noncomputable section

namespace Cert.Attn.Ref

open Idealize.ShloMosaic Idealize.ShloMosaic.TcCoe Idealize.SL.Sem
open Cert.ReferenceIdeal Cert.ReferenceIdeal.Gen Cert.ReferenceIdeal.Read

/-- A row of 4353 entries: one for the sink, 256 of the context, 4096 of the sequence. -/
def by3 {α : Type} (a : α) (b c : ℕ → α) (e : ℕ) : α := if e < 1 then a else if e - 1 < 256 then b (e - 1) else c (e - 1 - 256)

theorem by3_sink {α : Type} (a : α) (b c : ℕ → α) {e : ℕ} (h : e < 1) : by3 a b c e = a := if_pos h

theorem by3_ctx {α : Type} (a : α) (b c : ℕ → α) {e j : ℕ} (h : e = 1 + j) (hj : j < 256) : by3 a b c e = b j := by
  have e1 : e - 1 = j := by omega
  rw [by3, if_neg (by omega), e1, if_pos hj]

theorem by3_loc {α : Type} (a : α) (b c : ℕ → α) {e s : ℕ} (h : e = 257 + s) : by3 a b c e = c s := by
  have e1 : e - 1 - 256 = s := by omega
  rw [by3, if_neg (by omega), if_neg (by omega), e1]

theorem by3_sum (a : ℝ) (b c : ℕ → ℝ) : ∑ e ∈ Finset.range 4353, by3 a b c e
    = a + ∑ j ∈ Finset.range 256, b j + ∑ s ∈ Finset.range 4096, c s := by
  have h : (4353 : ℕ) = 1 + 256 + 4096 := by norm_num
  rw [h, Finset.sum_range_add, Finset.sum_range_add]
  refine congrArg₂ (· + ·) (congrArg₂ (· + ·) ?_ ?_) ?_
  · rw [Finset.sum_range_one]; exact by3_sink a b c (by norm_num)
  · exact Finset.sum_congr rfl fun j hj => by3_ctx a b c rfl (Finset.mem_range.mp hj)
  · exact Finset.sum_congr rfl fun s _ => by3_loc a b c (by omega)

variable (A : Args)

/-- The arguments, as the reference's arrays. -/
abbrev X0 : (⟨S4096x512, .f32⟩ : BufTy).Contents (Elt Ideal) := re2 (a := 4096) (b := 512) A.q
abbrev X1 : (⟨S4096x128, .f32⟩ : BufTy).Contents (Elt Ideal) := re2 (a := 4096) (b := 128) A.k
abbrev X2 : (⟨S4096x128, .f32⟩ : BufTy).Contents (Elt Ideal) := re2 (a := 4096) (b := 128) A.v
abbrev X3 : (⟨S256x128, .f32⟩ : BufTy).Contents (Elt Ideal) := re2 (a := 256) (b := 128) A.kc
abbrev X4 : (⟨S256x128, .f32⟩ : BufTy).Contents (Elt Ideal) := re2 (a := 256) (b := 128) A.vc
abbrev X5 : (⟨S8, .f32⟩ : BufTy).Contents (Elt Ideal) := fun i => ((A.sk (i 0) : ℝ) : EReal)
abbrev X6 : (⟨S4096x512, .f32⟩ : BufTy).Contents (Elt Ideal) := re2 (a := 4096) (b := 512) A.g

/-- The head of group `a` and member `b`. -/
abbrev hd (a b : ℕ) : ℕ := 4 * a + b

theorem hd_div {a b : ℕ} (h : b < 4) : hd a b / 4 = a := by unfold hd; omega

/-! The arguments, split in heads. -/

theorem r0 (i : S4096x2x4x64.Idx) : val_main_v0 (F := Ideal) (X0 A) i = ((A.q (i 0) (64 * hd (i 1) (i 2) + (i 3)) : ℝ) : EReal) := by
  have h0 : (i 0).val < 4096 := (i 0).isLt
  have h1 : (i 1).val < 2 := (i 1).isLt
  have h2 : (i 2).val < 4 := (i 2).isLt
  have h3 : (i 3).val < 64 := (i 3).isLt
  refine (val_main_v0_apply (F := Ideal) _ i).trans (congrArg₂ (fun x y => ((A.q x y : ℝ) : EReal)) ?_ ?_)
  · show ((((i 0).val * 2 + (i 1).val) * 4 + (i 2).val) * 64 + (i 3).val) / 512 = (i 0).val; omega
  · show ((((i 0).val * 2 + (i 1).val) * 4 + (i 2).val) * 64 + (i 3).val) % 512 = 64 * (4 * (i 1).val + (i 2).val) + (i 3).val; omega

theorem r63 (i : S4096x2x4x64.Idx) : val_main_v63 (F := Ideal) (X6 A) i = ((A.gh (hd (i 1) (i 2)) (i 0) (i 3) : ℝ) : EReal) := by
  have h0 : (i 0).val < 4096 := (i 0).isLt
  have h1 : (i 1).val < 2 := (i 1).isLt
  have h2 : (i 2).val < 4 := (i 2).isLt
  have h3 : (i 3).val < 64 := (i 3).isLt
  refine (val_main_v63_apply (F := Ideal) _ i).trans (congrArg₂ (fun x y => ((A.g x y : ℝ) : EReal)) ?_ ?_)
  · show ((((i 0).val * 2 + (i 1).val) * 4 + (i 2).val) * 64 + (i 3).val) / 512 = (i 0).val; omega
  · show ((((i 0).val * 2 + (i 1).val) * 4 + (i 2).val) * 64 + (i 3).val) % 512 = 64 * (4 * (i 1).val + (i 2).val) + (i 3).val; omega

theorem r1 (i : S2x4.Idx) : val_main_v1 (F := Ideal) (X5 A) i = ((A.sk (hd (i 0) (i 1)) : ℝ) : EReal) := by
  refine (val_main_v1_apply (F := Ideal) _ i).trans (congrArg (fun x => ((A.sk x : ℝ) : EReal)) ?_)
  show (i 0).val * 4 + (i 1).val = 4 * (i 0).val + (i 1).val; omega

theorem r2 (i : S4096x2x64.Idx) : val_main_v2 (F := Ideal) (X1 A) i = ((A.k (i 0) (64 * (i 1) + (i 2)) : ℝ) : EReal) := by
  have h0 : (i 0).val < 4096 := (i 0).isLt
  have h1 : (i 1).val < 2 := (i 1).isLt
  have h2 : (i 2).val < 64 := (i 2).isLt
  refine (val_main_v2_apply (F := Ideal) _ i).trans (congrArg₂ (fun x y => ((A.k x y : ℝ) : EReal)) ?_ ?_)
  · show (((i 0).val * 2 + (i 1).val) * 64 + (i 2).val) / 128 = (i 0).val; omega
  · show (((i 0).val * 2 + (i 1).val) * 64 + (i 2).val) % 128 = 64 * (i 1).val + (i 2).val; omega

theorem r3 (i : S4096x2x64.Idx) : val_main_v3 (F := Ideal) (X2 A) i = ((A.v (i 0) (64 * (i 1) + (i 2)) : ℝ) : EReal) := by
  have h0 : (i 0).val < 4096 := (i 0).isLt
  have h1 : (i 1).val < 2 := (i 1).isLt
  have h2 : (i 2).val < 64 := (i 2).isLt
  refine (val_main_v3_apply (F := Ideal) _ i).trans (congrArg₂ (fun x y => ((A.v x y : ℝ) : EReal)) ?_ ?_)
  · show (((i 0).val * 2 + (i 1).val) * 64 + (i 2).val) / 128 = (i 0).val; omega
  · show (((i 0).val * 2 + (i 1).val) * 64 + (i 2).val) % 128 = 64 * (i 1).val + (i 2).val; omega

theorem r4 (i : S256x2x64.Idx) : val_main_v4 (F := Ideal) (X3 A) i = ((A.kc (i 0) (64 * (i 1) + (i 2)) : ℝ) : EReal) := by
  have h0 : (i 0).val < 256 := (i 0).isLt
  have h1 : (i 1).val < 2 := (i 1).isLt
  have h2 : (i 2).val < 64 := (i 2).isLt
  refine (val_main_v4_apply (F := Ideal) _ i).trans (congrArg₂ (fun x y => ((A.kc x y : ℝ) : EReal)) ?_ ?_)
  · show (((i 0).val * 2 + (i 1).val) * 64 + (i 2).val) / 128 = (i 0).val; omega
  · show (((i 0).val * 2 + (i 1).val) * 64 + (i 2).val) % 128 = 64 * (i 1).val + (i 2).val; omega

theorem r5 (i : S256x2x64.Idx) : val_main_v5 (F := Ideal) (X4 A) i = ((A.vc (i 0) (64 * (i 1) + (i 2)) : ℝ) : EReal) := by
  have h0 : (i 0).val < 256 := (i 0).isLt
  have h1 : (i 1).val < 2 := (i 1).isLt
  have h2 : (i 2).val < 64 := (i 2).isLt
  refine (val_main_v5_apply (F := Ideal) _ i).trans (congrArg₂ (fun x y => ((A.vc x y : ℝ) : EReal)) ?_ ?_)
  · show (((i 0).val * 2 + (i 1).val) * 64 + (i 2).val) / 128 = (i 0).val; omega
  · show (((i 0).val * 2 + (i 1).val) * 64 + (i 2).val) % 128 = 64 * (i 1).val + (i 2).val; omega

/-! The mask. -/

theorem r14 (i : S4096x4096.Idx) : val_main_v14 (F := Ideal) i = if near (i 0) (i 1) then 1#1 else 0#1 := by
  have h0 : (i 0).val < 4096 := (i 0).isLt
  have h1 : (i 1).val < 4096 := (i 1).isLt
  rw [val_main_v14_apply, val_main_v12_apply, val_main_v11_apply, val_main_v9_apply, val_main_v10_apply, val_main_v7_apply,
    val_main_v8_apply, val_main_v6_apply, val_main_v6_apply, val_main_v13_apply, val_main_c_apply]
  show IntOp.cmpi .sle (IntOp.absi (IntOp.subi (BitVec.ofNat 32 (i 0).val) (BitVec.ofNat 32 (i 1).val))) 128#32 = _
  generalize (i 0).val = a at h0 ⊢
  generalize (i 1).val = b at h1 ⊢
  have hdi : (IntOp.subi (BitVec.ofNat 32 a) (BitVec.ofNat 32 b)).toInt = (a : ℤ) - b := by
    simp only [IntOp.subi, BitVec.toInt_sub, BitVec.toInt_ofNat', Int.bmod_sub_bmod, Int.sub_bmod_bmod]
    rw [Int.bmod_eq_of_le (by push_cast; omega) (by push_cast; omega)]
  generalize IntOp.subi (BitVec.ofNat 32 a) (BitVec.ofNat 32 b) = d at hdi ⊢
  have ha : (IntOp.absi d).toInt = |d.toInt| := by
    unfold IntOp.absi
    rw [BitVec.msb_eq_toInt]
    by_cases h : d.toInt < 0
    · rw [if_pos (by simpa using h), abs_of_neg h]; word_omega
    · rw [if_neg (by simpa using h), abs_of_nonneg (by omega)]
  have e2 : (128#32 : BitVec 32).toInt = 128 := rfl
  rw [WordCmp.cmpi_sle_eq, ha, hdi, e2]
  have hb : ∀ b : Bool, BitVec.ofBool b = if b then 1#1 else 0#1 := by decide
  rw [hb]
  congr 1
  simp only [decide_eq_true_eq, abs_le, near, eq_iff_iff]
  omega

theorem r21_1 (i : S2x4x4096x4096.Idx) : val_main_v21_1 (F := Ideal) i = if near (i 2) (i 3) then 1#1 else 0#1 :=
  (val_main_v21_1_apply (F := Ideal) i).trans (r14 _)

/-! The scores. -/

theorem eighth : Ideal.ofBits .f32 0x3E000000#32 = ((1 / 8 : ℝ) : EReal) := by
  simp [Ideal.ofBits, Ideal.ieee, -EReal.coe_mul]; norm_num

theorem zeroBits : Ideal.ofBits .f32 0x00000000#32 = ((0 : ℝ) : EReal) := by
  rw [EReal.coe_zero]; simp
theorem oneBits : Ideal.ofBits .f32 0x3F800000#32 = ((1 : ℝ) : EReal) := by
  rw [EReal.coe_one]; simp
theorem botBits : Ideal.ofBits .f32 0xFF800000#32 = ⊥ := by decide +kernel

theorem r17 (i : S2x4096x4096x4.Idx) : val_main_v17 (F := Ideal) (X0 A) (X1 A) i
    = ((∑ d ∈ Finset.range 64, A.k (i 1) (64 * (i 0) + d) * A.q (i 2) (64 * hd (i 0) (i 3) + d) : ℝ) : EReal) :=
  (val_main_v17_apply _ _ i).trans ((Finset.sum_congr rfl fun k _ =>
    (congrArg₂ (· * ·) (r2 A _) (r0 A _)).trans (EReal.coe_mul _ _).symm).trans
      (sum_fin fun d => A.k (i 1) (64 * (i 0) + d) * A.q (i 2) (64 * hd (i 0) (i 3) + d)))

theorem r22 (i : S2x256x4096x4.Idx) : val_main_v22 (F := Ideal) (X0 A) (X3 A) i
    = ((∑ d ∈ Finset.range 64, A.kc (i 1) (64 * (i 0) + d) * A.q (i 2) (64 * hd (i 0) (i 3) + d) : ℝ) : EReal) :=
  (val_main_v22_apply _ _ i).trans ((Finset.sum_congr rfl fun k _ =>
    (congrArg₂ (· * ·) (r4 A _) (r0 A _)).trans (EReal.coe_mul _ _).symm).trans
      (sum_fin fun d => A.kc (i 1) (64 * (i 0) + d) * A.q (i 2) (64 * hd (i 0) (i 3) + d)))

theorem scl_eq (a b i s : ℕ) (hb : b < 4) :
    (∑ d ∈ Finset.range 64, A.k s (64 * a + d) * A.q i (64 * hd a b + d)) * (1 / 8) = A.scl (hd a b) i s := by
  rw [Args.scl, hd_div hb, Finset.sum_mul]; exact Finset.sum_congr rfl fun _ _ => by ring

theorem scc_eq (a b i s : ℕ) (hb : b < 4) :
    (∑ d ∈ Finset.range 64, A.kc s (64 * a + d) * A.q i (64 * hd a b + d)) * (1 / 8) = A.scc (hd a b) i s := by
  rw [Args.scc, hd_div hb, Finset.sum_mul]; exact Finset.sum_congr rfl fun _ _ => by ring

theorem r19 (i : S2x4x4096x4096.Idx) : val_main_v19 (F := Ideal) i = ((1 / 8 : ℝ) : EReal) :=
  (val_main_v19_apply (F := Ideal) i).trans ((val_main_cst_apply (F := Ideal) _).trans eighth)
theorem r24 (i : S2x4x4096x256.Idx) : val_main_v24 (F := Ideal) i = ((1 / 8 : ℝ) : EReal) :=
  (val_main_v24_apply (F := Ideal) i).trans ((val_main_cst_1_apply (F := Ideal) _).trans eighth)
theorem r90 (i : S2x4x4096x256.Idx) : val_main_v90 (F := Ideal) i = ((1 / 8 : ℝ) : EReal) :=
  (val_main_v90_apply (F := Ideal) i).trans ((val_main_cst_16_apply (F := Ideal) _).trans eighth)
theorem r98 (i : S2x4x4096x4096.Idx) : val_main_v98 (F := Ideal) i = ((1 / 8 : ℝ) : EReal) :=
  (val_main_v98_apply (F := Ideal) i).trans ((val_main_cst_17_apply (F := Ideal) _).trans eighth)

theorem r20 (i : S2x4x4096x4096.Idx) : val_main_v20 (F := Ideal) (X0 A) (X1 A) i = ((A.scl (hd (i 0) (i 1)) (i 2) (i 3) : ℝ) : EReal) :=
  (val_main_v20_apply (F := Ideal) _ _ i).trans ((congrArg₂ (· * ·)
    ((val_main_v18_apply (F := Ideal) _ _ i).trans (r17 A _)) (r19 i)).trans ((EReal.coe_mul _ _).symm.trans
      (congrArg (fun x : ℝ => (x : EReal)) (scl_eq A _ _ _ _ (i 1).isLt))))

theorem r25 (i : S2x4x4096x256.Idx) : val_main_v25 (F := Ideal) (X0 A) (X3 A) i = ((A.scc (hd (i 0) (i 1)) (i 2) (i 3) : ℝ) : EReal) :=
  (val_main_v25_apply (F := Ideal) _ _ i).trans ((congrArg₂ (· * ·)
    ((val_main_v23_apply (F := Ideal) _ _ i).trans (r22 A _)) (r24 i)).trans ((EReal.coe_mul _ _).symm.trans
      (congrArg (fun x : ℝ => (x : EReal)) (scc_eq A _ _ _ _ (i 1).isLt))))

/-- The masked score of query `i` and position `s`. -/
def ml (h i s : ℕ) : EReal := if near i s then ((A.scl h i s : ℝ) : EReal) else ⊥

theorem r21_0 (i : S2x4x4096x4096.Idx) : val_main_v21_0 (F := Ideal) (X0 A) (X1 A) i = ml A (hd (i 0) (i 1)) (i 2) (i 3) := by
  have e : val_main_call0_v2 (F := Ideal) i = ⊥ := (val_main_call0_v2_apply (F := Ideal) i).trans
    ((val_main_call0_v0_apply (F := Ideal) _).trans ((val_main_cst_0_apply (F := Ideal) _).trans botBits))
  rw [val_main_v21_0_apply, e, r20, r21_1, ml]
  split_ifs <;> rfl

/-- The row of scores. -/
def sv (h i : ℕ) : ℕ → EReal :=
  by3 ((A.sk h : ℝ) : EReal) (fun j => ((A.scc h i j : ℝ) : EReal)) (fun s => ml A h i s)

theorem r26 (i : S2x4x4096x4353.Idx) : val_main_v26 (F := Ideal) (X0 A) (X1 A) (X3 A) (X5 A) i = sv A (hd (i 0) (i 1)) (i 2) (i 3) := by
  unfold val_main_v26
  pointwise
  unfold sv by3
  by_cases h1 : (i 3 : ℕ) < 1
  · rw [dif_pos h1, if_pos h1]
    exact (val_main_v16_apply (F := Ideal) _ _).trans ((val_main_v15_apply (F := Ideal) _ _).trans (r1 A _))
  rw [dif_neg h1, if_neg h1]
  by_cases h2 : (i 3 : ℕ) - 1 < 256
  · rw [dif_pos h2, if_pos h2]; exact r25 A _
  · rw [dif_neg h2, if_neg h2]; exact r21_0 A _

theorem sv_ne_top (h i e : ℕ) : sv A h i e ≠ ⊤ := by
  unfold sv by3 ml
  dsimp only
  split_ifs
  · exact EReal.coe_ne_top _
  · exact EReal.coe_ne_top _
  · exact EReal.coe_ne_top _
  · exact bot_ne_top

/-- The largest score of a row. -/
def mx (h i : ℕ) : ℝ := (Finset.univ.fold max ⊥ fun e : Fin 4353 => sv A h i e).toReal

theorem mx_eq (h i : ℕ) : (Finset.univ.fold max ⊥ fun e : Fin 4353 => sv A h i e) = ((mx A h i : ℝ) : EReal) := by
  refine (EReal.coe_toReal (fold_max _ fun e => sv_ne_top A h i e) ?_).symm
  have : ((A.sk h : ℝ) : EReal) ≤ Finset.univ.fold max ⊥ fun e : Fin 4353 => sv A h i e :=
    (Finset.le_fold_max _).mpr (Or.inr ⟨0, Finset.mem_univ _, le_of_eq (by3_sink _ _ _ (by norm_num)).symm⟩)
  intro hb
  rw [hb] at this
  exact EReal.coe_ne_bot _ (le_bot_iff.mp this)

theorem r27 (i : S2x4x4096.Idx) : val_main_v27 (F := Ideal) (X0 A) (X1 A) (X3 A) (X5 A) i = ((mx A (hd (i 0) (i 1)) (i 2) : ℝ) : EReal) := by
  unfold val_main_v27
  pointwise
  rw [show val_main_cst_2 (F := Ideal) (Shape.Idx.first h_S_) = ⊥ from (val_main_cst_2_apply (F := Ideal) _).trans botBits]
  refine Eq.trans ?_ (mx_eq A (hd (i 0) (i 1)) (i 2))
  exact congrArg (fun f => Finset.univ.fold max (⊥ : EReal) f) (funext fun e => r26 A _)

theorem r34 (i : S2x4x4096.Idx) : val_main_v34 (F := Ideal) (X0 A) (X1 A) (X3 A) (X5 A) i = ((mx A (hd (i 0) (i 1)) (i 2) : ℝ) : EReal) := by
  rw [val_main_v34_apply, r27]
  rw [show val_main_v33 (F := Ideal) i = ⊥ from (val_main_v33_apply (F := Ideal) _).trans ((val_main_cst_4_apply (F := Ideal) _).trans botBits)]
  exact max_eq_right bot_le

theorem r45 (i : S2x4x4096x4353.Idx) : val_main_v45 (F := Ideal) (X0 A) (X1 A) (X3 A) (X5 A) i = ((mx A (hd (i 0) (i 1)) (i 2) : ℝ) : EReal) :=
  (val_main_v45_apply (F := Ideal) _ _ _ _ i).trans ((val_main_v44_apply (F := Ideal) _ _ _ _ _).trans (r34 A _))

/-! The probabilities. -/

/-- The row of exponentials. -/
def w (h i : ℕ) : ℕ → ℝ := by3 (A.xs h) (fun j => A.xc h i j) (fun s => A.xl h i s)

/-- The factor the subtracted maximum puts on them. -/
def em (h i : ℕ) : ℝ := Real.exp (-mx A h i)

theorem em_ne (h i : ℕ) : em A h i ≠ 0 := (Real.exp_pos _).ne'

theorem r47 (i : S2x4x4096x4353.Idx) : val_main_v47 (F := Ideal) (X0 A) (X1 A) (X3 A) (X5 A) i = ((w A (hd (i 0) (i 1)) (i 2) (i 3) * em A (hd (i 0) (i 1)) (i 2) : ℝ) : EReal) := by
  rw [val_main_v47_apply, val_main_v46_apply, r45, r26]
  have e : ∀ x m : ℝ, FloatOps.hostUnary (F := Ideal) (φ := .f32) .exp (FloatOps.subf (F := Ideal) (φ := .f32) ((x : ℝ) : EReal) ((m : ℝ) : EReal))
      = ((Real.exp x * Real.exp (-m) : ℝ) : EReal) := by
    intro x m
    rw [← Real.exp_add, ← sub_eq_add_neg]
    show Ideal.exp (((x : ℝ) : EReal) - ((m : ℝ) : EReal)) = _
    rw [← EReal.coe_sub]; rfl
  unfold sv w by3 ml em
  dsimp only
  split_ifs with h1 h2 h3
  · exact e _ _
  · exact e _ _
  · rw [Args.xl, if_pos h3]; exact e _ _
  · rw [Args.xl, if_neg h3, zero_mul]
    show Ideal.exp (⊥ - ((mx A (hd (i 0) (i 1)) (i 2) : ℝ) : EReal)) = _
    rw [EReal.bot_sub]; rfl

theorem w_sum (h i : ℕ) : ∑ e ∈ Finset.range 4353, w A h i e = A.z h i := by rw [w, by3_sum, Args.z]

/-- The sum of the exponentials the reference computes. -/
def zm (h i : ℕ) : ℝ := A.z h i * em A h i

theorem zm_ne (h i : ℕ) : zm A h i ≠ 0 := mul_ne_zero (A.z_pos h i).ne' (em_ne A h i)

theorem r48 (i : S2x4x4096.Idx) : val_main_v48 (F := Ideal) (X0 A) (X1 A) (X3 A) (X5 A) i = ((zm A (hd (i 0) (i 1)) (i 2) : ℝ) : EReal) := by
  rw [val_main_v48_apply, show val_main_cst_10 (F := Ideal) (Shape.Idx.first h_S_) = ((0 : ℝ) : EReal) from
    (val_main_cst_10_apply (F := Ideal) _).trans zeroBits, EReal.coe_zero, zero_add]
  refine ((Finset.sum_congr rfl fun k _ => r47 A _).trans
    (sum_fin fun e => w A (hd (i 0) (i 1)) (i 2) e * em A (hd (i 0) (i 1)) (i 2))).trans ?_
  rw [← Finset.sum_mul, w_sum, zm]

theorem r49 (i : S2x4x4096x1.Idx) : val_main_v49 (F := Ideal) (X0 A) (X1 A) (X3 A) (X5 A) i = ((zm A (hd (i 0) (i 1)) (i 2) : ℝ) : EReal) :=
  (val_main_v49_apply (F := Ideal) _ _ _ _ i).trans (r48 A _)

theorem r51 (i : S2x4x4096x4353.Idx) : val_main_v51 (F := Ideal) (X0 A) (X1 A) (X3 A) (X5 A) i
    = ((w A (hd (i 0) (i 1)) (i 2) (i 3) / A.z (hd (i 0) (i 1)) (i 2) : ℝ) : EReal) := by
  rw [val_main_v51_apply, val_main_v50_apply, r47, r49]
  refine (div_real _ (zm_ne A _ _)).trans (congrArg (fun x : ℝ => (x : EReal)) ?_)
  exact mul_div_mul_right _ _ (em_ne A _ _)

theorem r54 (i : S2x4x4096x1.Idx) : val_main_v54 (F := Ideal) (X0 A) (X1 A) (X3 A) (X5 A) i
    = ((1 / (zm A (hd (i 0) (i 1)) (i 2) * zm A (hd (i 0) (i 1)) (i 2)) : ℝ) : EReal) := by
  rw [val_main_v54_apply, val_main_v52_apply, r49, show val_main_v53 (F := Ideal) i = ((1 : ℝ) : EReal) from
    (val_main_v53_apply (F := Ideal) _).trans ((val_main_cst_11_apply (F := Ideal) _).trans oneBits)]
  refine (congrArg (Ideal.div _) (EReal.coe_mul _ _).symm).trans (div_real _ (mul_ne_zero (zm_ne A _ _) (zm_ne A _ _)))

theorem r55 (i : S2x4x4096x256.Idx) : val_main_v55 (F := Ideal) (X0 A) (X1 A) (X3 A) (X5 A) i = ((A.pc (hd (i 0) (i 1)) (i 2) (i 3) : ℝ) : EReal) := by
  refine (val_main_v55_apply (F := Ideal) _ _ _ _ i).trans ((r51 A _).trans ?_)
  exact congrArg (fun x : ℝ => ((x / A.z (hd (i 0) (i 1)) (i 2) : ℝ) : EReal)) (by3_ctx _ _ _ rfl (i 3).isLt)

theorem r58 (i : S2x4x4096x4096.Idx) : val_main_v58 (F := Ideal) (X0 A) (X1 A) (X3 A) (X5 A) i = ((A.pl (hd (i 0) (i 1)) (i 2) (i 3) : ℝ) : EReal) := by
  refine (val_main_v58_apply (F := Ideal) _ _ _ _ i).trans ((r51 A _).trans ?_)
  exact congrArg (fun x : ℝ => ((x / A.z (hd (i 0) (i 1)) (i 2) : ℝ) : EReal)) (by3_loc _ _ _ rfl)

/-! The output. -/

theorem r56 (i : S2x64x4x4096.Idx) : val_main_v56 (F := Ideal) (X0 A) (X1 A) (X3 A) (X4 A) (X5 A) i
    = ((∑ j ∈ Finset.range 256, A.vc j (64 * (i 0) + (i 1)) * A.pc (hd (i 0) (i 2)) (i 3) j : ℝ) : EReal) :=
  (val_main_v56_apply _ _ _ _ _ i).trans ((Finset.sum_congr rfl fun k _ =>
    (congrArg₂ (· * ·) (r5 A _) (r55 A _)).trans (EReal.coe_mul _ _).symm).trans
      (sum_fin fun j => A.vc j (64 * (i 0) + (i 1)) * A.pc (hd (i 0) (i 2)) (i 3) j))

theorem r59 (i : S2x64x4x4096.Idx) : val_main_v59 (F := Ideal) (X0 A) (X1 A) (X2 A) (X3 A) (X5 A) i
    = ((∑ s ∈ Finset.range 4096, A.v s (64 * (i 0) + (i 1)) * A.pl (hd (i 0) (i 2)) (i 3) s : ℝ) : EReal) :=
  (val_main_v59_apply _ _ _ _ _ i).trans ((Finset.sum_congr rfl fun k _ =>
    (congrArg₂ (· * ·) (r3 A _) (r58 A _)).trans (EReal.coe_mul _ _).symm).trans
      (sum_fin fun s => A.v s (64 * (i 0) + (i 1)) * A.pl (hd (i 0) (i 2)) (i 3) s))

theorem od_eq (a b i d : ℕ) (hb : b < 4) :
    (∑ j ∈ Finset.range 256, A.vc j (64 * a + d) * A.pc (hd a b) i j) + (∑ s ∈ Finset.range 4096, A.v s (64 * a + d) * A.pl (hd a b) i s)
      = A.od (hd a b) i d := by
  rw [Args.od, hd_div hb]
  exact congrArg₂ (· + ·) (Finset.sum_congr rfl fun _ _ => mul_comm _ _) (Finset.sum_congr rfl fun _ _ => mul_comm _ _)

theorem r61 (i : S4096x2x4x64.Idx) : val_main_v61 (F := Ideal) (X0 A) (X1 A) (X2 A) (X3 A) (X4 A) (X5 A) i = ((A.od (hd (i 1) (i 2)) (i 0) (i 3) : ℝ) : EReal) :=
  (val_main_v61_apply (F := Ideal) _ _ _ _ _ _ i).trans ((congrArg₂ (· + ·)
    ((val_main_v57_apply (F := Ideal) _ _ _ _ _ i).trans (r56 A _))
    ((val_main_v60_apply (F := Ideal) _ _ _ _ _ i).trans (r59 A _))).trans ((EReal.coe_add _ _).symm.trans
      (congrArg (fun x : ℝ => (x : EReal)) (od_eq A _ _ _ _ (i 2).isLt))))

theorem r62 : val_main_v62 (F := Ideal) (X0 A) (X1 A) (X2 A) (X3 A) (X4 A) (X5 A) = re2 (a := 4096) (b := 512) A.o := by
  funext i
  have h0 : (i 0).val < 4096 := (i 0).isLt
  have h1 : (i 1).val < 512 := (i 1).isLt
  refine (val_main_v62_apply (F := Ideal) _ _ _ _ _ _ i).trans ((r61 A _).trans ?_)
  show ((A.od (4 * (((i 0).val * 512 + (i 1).val) / 256 % 2) + ((i 0).val * 512 + (i 1).val) / 64 % 4)
    (((i 0).val * 512 + (i 1).val) / 512) (((i 0).val * 512 + (i 1).val) % 64) : ℝ) : EReal)
    = ((A.od ((i 1).val / 64) (i 0).val ((i 1).val % 64) : ℝ) : EReal)
  have e1 : 4 * (((i 0).val * 512 + (i 1).val) / 256 % 2) + ((i 0).val * 512 + (i 1).val) / 64 % 4 = (i 1).val / 64 := by omega
  have e2 : ((i 0).val * 512 + (i 1).val) / 512 = (i 0).val := by omega
  have e3 : ((i 0).val * 512 + (i 1).val) % 64 = (i 1).val % 64 := by omega
  rw [e1, e2, e3]

/-! The gradients of the probabilities. -/

/-- A double sum of reals. -/
theorem sum2 {m n : ℕ} (f : ℕ → ℕ → ℝ) : (∑ a : Fin m, ∑ b : Fin n, ((f a b : ℝ) : EReal))
    = ((∑ a ∈ Finset.range m, ∑ b ∈ Finset.range n, f a b : ℝ) : EReal) :=
  (Finset.sum_congr rfl fun (a : Fin m) _ => sum_fin (n := n) (f a)).trans (sum_fin (n := m) fun a => ∑ b ∈ Finset.range n, f a b)

theorem r64 (i : S2x64x4x4096.Idx) : val_main_v64 (F := Ideal) (X6 A) i = ((A.gh (hd (i 0) (i 2)) (i 3) (i 1) : ℝ) : EReal) :=
  (val_main_v64_apply (F := Ideal) _ i).trans (r63 A _)
theorem r69 (i : S2x64x4x4096.Idx) : val_main_v69 (F := Ideal) (X6 A) i = ((A.gh (hd (i 0) (i 2)) (i 3) (i 1) : ℝ) : EReal) :=
  (val_main_v69_apply (F := Ideal) _ i).trans (r63 A _)

theorem r65 (i : S2x4x4096x4096.Idx) : val_main_v65 (F := Ideal) (X2 A) (X6 A) i = ((A.dpl (hd (i 0) (i 1)) (i 2) (i 3) : ℝ) : EReal) := by
  refine (val_main_v65_apply _ _ i).trans ((Finset.sum_congr rfl fun k _ =>
    (congrArg₂ (· * ·) (r64 A _) (r3 A _)).trans (EReal.coe_mul _ _).symm).trans
      ((sum_fin fun d => A.gh (hd (i 0) (i 1)) (i 2) d * A.v (i 3) (64 * (i 0) + d)).trans ?_))
  rw [Args.dpl, hd_div (i 1).isLt]

theorem r70 (i : S2x4x4096x256.Idx) : val_main_v70 (F := Ideal) (X4 A) (X6 A) i = ((A.dpc (hd (i 0) (i 1)) (i 2) (i 3) : ℝ) : EReal) := by
  refine (val_main_v70_apply _ _ i).trans ((Finset.sum_congr rfl fun k _ =>
    (congrArg₂ (· * ·) (r69 A _) (r5 A _)).trans (EReal.coe_mul _ _).symm).trans
      ((sum_fin fun d => A.gh (hd (i 0) (i 1)) (i 2) d * A.vc (i 3) (64 * (i 0) + d)).trans ?_))
  rw [Args.dpc, hd_div (i 1).isLt]

theorem r66 (i : S2x64x4096.Idx) : val_main_v66 (F := Ideal) (X0 A) (X1 A) (X3 A) (X5 A) (X6 A) i
    = ((∑ x ∈ Finset.range 4, ∑ t ∈ Finset.range 4096, A.gh (hd (i 0) x) t (i 1) * A.pl (hd (i 0) x) t (i 2) : ℝ) : EReal) := by
  unfold val_main_v66
  pointwise
  exact (Finset.sum_congr rfl fun a _ => Finset.sum_congr rfl fun b _ =>
    (congrArg₂ (· * ·) (r64 A _) (r58 A _)).trans (EReal.coe_mul _ _).symm).trans
      (sum2 fun x t => A.gh (hd (i 0) x) t (i 1) * A.pl (hd (i 0) x) t (i 2))

theorem r71 (i : S2x64x256.Idx) : val_main_v71 (F := Ideal) (X0 A) (X1 A) (X3 A) (X5 A) (X6 A) i
    = ((∑ x ∈ Finset.range 4, ∑ t ∈ Finset.range 4096, A.gh (hd (i 0) x) t (i 1) * A.pc (hd (i 0) x) t (i 2) : ℝ) : EReal) := by
  unfold val_main_v71
  pointwise
  exact (Finset.sum_congr rfl fun a _ => Finset.sum_congr rfl fun b _ =>
    (congrArg₂ (· * ·) (r69 A _) (r55 A _)).trans (EReal.coe_mul _ _).symm).trans
      (sum2 fun x t => A.gh (hd (i 0) x) t (i 1) * A.pc (hd (i 0) x) t (i 2))

/-- The row of the gradients of the probabilities, none at the sink. -/
def dpw (h i : ℕ) : ℕ → ℝ := by3 0 (fun j => A.dpc h i j) (fun s => A.dpl h i s)

theorem r68 (i : S2x4x4096x4353.Idx) : val_main_v68 (F := Ideal) (X2 A) (X6 A) i
    = ((by3 0 (fun _ => 0) (fun s => A.dpl (hd (i 0) (i 1)) (i 2) s) (i 3) : ℝ) : EReal) := by
  unfold val_main_v68
  pointwise
  have h3 : (i 3).val < 4353 := (i 3).isLt
  by_cases h : 257 ≤ (i 3).val ∧ (i 3).val - 257 < 4096
  · rw [dif_pos h, by3_loc _ _ _ (show (i 3).val = 257 + ((i 3).val - 257) by omega)]
    exact r65 A _
  · rw [dif_neg h]
    refine ((val_main_cst_12_apply (F := Ideal) _).trans zeroBits).trans (congrArg (fun x : ℝ => (x : EReal)) ?_)
    unfold by3
    split_ifs
    · rfl
    · rfl
    · omega

theorem r73 (i : S2x4x4096x4353.Idx) : val_main_v73 (F := Ideal) (X4 A) (X6 A) i
    = ((by3 0 (fun j => A.dpc (hd (i 0) (i 1)) (i 2) j) (fun _ => 0) (i 3) : ℝ) : EReal) := by
  unfold val_main_v73
  pointwise
  have h3 : (i 3).val < 4353 := (i 3).isLt
  by_cases h : 1 ≤ (i 3).val ∧ (i 3).val - 1 < 256
  · rw [dif_pos h, by3_ctx _ _ _ (show (i 3).val = 1 + ((i 3).val - 1) by omega) h.2]
    exact r70 A _
  · rw [dif_neg h]
    refine ((val_main_cst_13_apply (F := Ideal) _).trans zeroBits).trans (congrArg (fun x : ℝ => (x : EReal)) ?_)
    unfold by3
    split_ifs
    · rfl
    · omega
    · rfl

theorem r74 (i : S2x4x4096x4353.Idx) : val_main_v74 (F := Ideal) (X2 A) (X4 A) (X6 A) i = ((dpw A (hd (i 0) (i 1)) (i 2) (i 3) : ℝ) : EReal) := by
  rw [val_main_v74_apply, r68, r73]
  refine (EReal.coe_add _ _).symm.trans (congrArg (fun x : ℝ => (x : EReal)) ?_)
  unfold dpw by3
  split_ifs <;> simp

/-! The gradients of the scores. -/

theorem dp_sum (h i : ℕ) : ∑ e ∈ Finset.range 4353, dpw A h i e * w A h i e = A.dd h i * A.z h i := by
  have e : ∀ e, dpw A h i e * w A h i e
      = by3 0 (fun j => A.dpc h i j * A.xc h i j) (fun s => A.dpl h i s * A.xl h i s) e := by
    intro e
    unfold dpw w by3
    split_ifs <;> simp
  have hz := (A.z_pos h i).ne'
  rw [Finset.sum_congr rfl fun k _ => e k, by3_sum, A.dd_eq, zero_add, add_mul, Finset.sum_mul, Finset.sum_mul]
  refine congrArg₂ (· + ·) (Finset.sum_congr rfl fun j _ => ?_) (Finset.sum_congr rfl fun j _ => ?_)
  · rw [Args.pc, mul_assoc, div_mul_cancel₀ _ hz]
  · rw [Args.pl, mul_assoc, div_mul_cancel₀ _ hz]

/-- One term of the sum the softmax's gradient subtracts. -/
def tw (h i e : ℕ) : ℝ := dpw A h i e * (1 / (zm A h i * zm A h i)) * (w A h i e * em A h i)

theorem r77 (i : S2x4x4096x4353.Idx) : val_main_v77 (F := Ideal) (X0 A) (X1 A) (X2 A) (X3 A) (X4 A) (X5 A) (X6 A) i
    = ((tw A (hd (i 0) (i 1)) (i 2) (i 3) : ℝ) : EReal) := by
  rw [val_main_v77_apply, val_main_v76_apply, val_main_v75_apply, r74, r54, r47]
  have e : ∀ a b c : ℝ, ((a : ℝ) : EReal) * ((b : ℝ) : EReal) * ((c : ℝ) : EReal) = ((a * b * c : ℝ) : EReal) := fun a b c => by
    rw [EReal.coe_mul, EReal.coe_mul]
  exact e _ _ _

theorem r78 (i : S2x4x4096.Idx) : val_main_v78 (F := Ideal) (X0 A) (X1 A) (X2 A) (X3 A) (X4 A) (X5 A) (X6 A) i
    = ((A.dd (hd (i 0) (i 1)) (i 2) / zm A (hd (i 0) (i 1)) (i 2) : ℝ) : EReal) := by
  rw [val_main_v78_apply, show val_main_cst_14 (F := Ideal) (Shape.Idx.first h_S_) = ((0 : ℝ) : EReal) from
    (val_main_cst_14_apply (F := Ideal) _).trans zeroBits, EReal.coe_zero, zero_add]
  have e : ∀ k : Fin 4353, val_main_v77 (F := Ideal) (X0 A) (X1 A) (X2 A) (X3 A) (X4 A) (X5 A) (X6 A) (idx_main_v78 i k) = ((tw A (hd (i 0) (i 1)) (i 2) k : ℝ) : EReal) := fun k => r77 A _
  rw [Finset.sum_congr rfl fun k _ => e k, sum_fin fun e => tw A (hd (i 0) (i 1)) (i 2) e]
  refine congrArg (fun x : ℝ => (x : EReal)) ?_
  clear e
  generalize hd (i 0) (i 1) = h
  generalize ((i 2).val) = t
  have hz := (A.z_pos h t).ne'
  have he := em_ne A h t
  have e : ∀ e, tw A h t e
      = dpw A h t e * w A h t e * (1 / (zm A h t * zm A h t) * em A h t) := fun e => by rw [tw]; ring
  rw [Finset.sum_congr rfl fun k _ => e k, ← Finset.sum_mul, dp_sum, zm]
  field_simp

theorem r80 (i : S2x4x4096x1.Idx) : val_main_v80 (F := Ideal) (X0 A) (X1 A) (X2 A) (X3 A) (X4 A) (X5 A) (X6 A) i
    = ((-(A.dd (hd (i 0) (i 1)) (i 2) / zm A (hd (i 0) (i 1)) (i 2)) : ℝ) : EReal) := by
  have h0 : (i 0).val < 2 := (i 0).isLt
  have h1 : (i 1).val < 4 := (i 1).isLt
  have h2 : (i 2).val < 4096 := (i 2).isLt
  have h3 : (i 3).val < 1 := (i 3).isLt
  rw [val_main_v80_apply, val_main_v79_apply, r78]
  refine (EReal.coe_neg _).symm.trans (congrArg (fun x : ℝ => (x : EReal)) ?_)
  have e1 : ((((i 0).val * 4 + (i 1).val) * 4096 + (i 2).val) * 1 + (i 3).val) / 16384 = (i 0).val := by omega
  have e2 : ((((i 0).val * 4 + (i 1).val) * 4096 + (i 2).val) * 1 + (i 3).val) / 4096 % 4 = (i 1).val := by omega
  have e3 : ((((i 0).val * 4 + (i 1).val) * 4096 + (i 2).val) * 1 + (i 3).val) % 4096 = (i 2).val := by omega
  exact congrArg₂ (fun h t => -(A.dd h t / zm A h t)) (congrArg₂ hd e1 e2) e3

theorem r83 (i : S2x4x4096.Idx) : val_main_v83 (F := Ideal) (X0 A) (X1 A) (X2 A) (X3 A) (X4 A) (X5 A) (X6 A) i
    = ((-(A.dd (hd (i 0) (i 1)) (i 2) / zm A (hd (i 0) (i 1)) (i 2)) : ℝ) : EReal) := by
  rw [val_main_v83_apply, show val_main_cst_15 (F := Ideal) (Shape.Idx.first h_S_) = ((0 : ℝ) : EReal) from
    (val_main_cst_15_apply (F := Ideal) _).trans zeroBits, EReal.coe_zero, zero_add]
  exact (Fintype.sum_unique _).trans (r80 A _)

/-- The row of the gradients of the scores. -/
def dsw (h i e : ℕ) : ℝ := w A h i e / A.z h i * (dpw A h i e - A.dd h i)

theorem r86 (i : S2x4x4096x4353.Idx) : val_main_v86 (F := Ideal) (X0 A) (X1 A) (X2 A) (X3 A) (X4 A) (X5 A) (X6 A) i = ((dsw A (hd (i 0) (i 1)) (i 2) (i 3) : ℝ) : EReal) := by
  rw [val_main_v86_apply, val_main_v85_apply, val_main_v82_apply, val_main_v81_apply, val_main_v84_apply, r74, r49, r83, r47]
  have e : ∀ a b c d : ℝ, b ≠ 0 → (Ideal.div ((a : ℝ) : EReal) ((b : ℝ) : EReal) + ((c : ℝ) : EReal)) * ((d : ℝ) : EReal)
      = (((a / b + c) * d : ℝ) : EReal) := fun a b c d h => by rw [div_real a h, ← EReal.coe_add, ← EReal.coe_mul]
  refine (e _ _ _ _ (zm_ne A _ _)).trans (congrArg (fun x : ℝ => (x : EReal)) ?_)
  show (dpw A (hd (i 0) (i 1)) (i 2) (i 3) / zm A (hd (i 0) (i 1)) (i 2) + -(A.dd (hd (i 0) (i 1)) (i 2) / zm A (hd (i 0) (i 1)) (i 2)))
    * (w A (hd (i 0) (i 1)) (i 2) (i 3) * em A (hd (i 0) (i 1)) (i 2)) = dsw A (hd (i 0) (i 1)) (i 2) (i 3)
  generalize hd (i 0) (i 1) = h
  generalize ((i 2 : Fin _) : ℕ) = t
  have hz := (A.z_pos h t).ne'
  have he := em_ne A h t
  rw [dsw, zm]
  field_simp
  ring

theorem r87 (i : S2x4x4096x1.Idx) : val_main_v87 (F := Ideal) (X0 A) (X1 A) (X2 A) (X3 A) (X4 A) (X5 A) (X6 A) i
    = ((-(A.ps (hd (i 0) (i 1)) (i 2) * A.dd (hd (i 0) (i 1)) (i 2)) : ℝ) : EReal) := by
  refine (val_main_v87_apply (F := Ideal) _ _ _ _ _ _ _ i).trans ((r86 A _).trans (congrArg (fun x : ℝ => (x : EReal)) ?_))
  show dsw A (hd (i 0) (i 1)) (i 2) (i 3) = _
  rw [dsw, w, dpw, by3_sink _ _ _ (i 3).isLt, by3_sink _ _ _ (i 3).isLt, Args.ps]
  ring

theorem r88 (i : S2x4x4096x256.Idx) : val_main_v88 (F := Ideal) (X0 A) (X1 A) (X2 A) (X3 A) (X4 A) (X5 A) (X6 A) i = ((A.dsc (hd (i 0) (i 1)) (i 2) (i 3) : ℝ) : EReal) := by
  refine (val_main_v88_apply (F := Ideal) _ _ _ _ _ _ _ i).trans ((r86 A _).trans (congrArg (fun x : ℝ => (x : EReal)) ?_))
  show dsw A (hd (i 0) (i 1)) (i 2) (1 + (i 3).val) = _
  rw [dsw, w, dpw, by3_ctx _ _ _ rfl (i 3).isLt, by3_ctx _ _ _ rfl (i 3).isLt, Args.dsc, Args.pc]

theorem r89 (i : S2x4x4096x4096.Idx) : val_main_v89 (F := Ideal) (X0 A) (X1 A) (X2 A) (X3 A) (X4 A) (X5 A) (X6 A) i = ((A.dsl (hd (i 0) (i 1)) (i 2) (i 3) : ℝ) : EReal) := by
  refine (val_main_v89_apply (F := Ideal) _ _ _ _ _ _ _ i).trans ((r86 A _).trans (congrArg (fun x : ℝ => (x : EReal)) ?_))
  show dsw A (hd (i 0) (i 1)) (i 2) (257 + (i 3).val) = _
  rw [dsw, w, dpw, by3_loc _ _ _ rfl, by3_loc _ _ _ rfl, Args.dsl, Args.pl]

theorem r97 (i : S2x4x4096x4096.Idx) : val_main_v97 (F := Ideal) (X0 A) (X1 A) (X2 A) (X3 A) (X4 A) (X5 A) (X6 A) i = ((A.dsl (hd (i 0) (i 1)) (i 2) (i 3) : ℝ) : EReal) := by
  have e : val_main_call1_v0 (F := Ideal) i = ((0 : ℝ) : EReal) :=
    (val_main_call1_v0_apply (F := Ideal) i).trans ((val_main_call1_cst_apply (F := Ideal) _).trans zeroBits)
  rw [val_main_v97_apply, e, r89, r21_1]
  by_cases h : near (i 2) (i 3)
  · rw [if_pos h]; rfl
  · rw [if_neg h, A.dsl_far h]; rfl

theorem r92 (i : S2x256x4096x4.Idx) : val_main_v92 (F := Ideal) (X0 A) (X1 A) (X2 A) (X3 A) (X4 A) (X5 A) (X6 A) i = ((A.dsc (hd (i 0) (i 3)) (i 2) (i 1) * (1 / 8) : ℝ) : EReal) := by
  rw [val_main_v92_apply, val_main_v91_apply, r88, r90]
  exact (EReal.coe_mul _ _).symm

theorem r100 (i : S2x4096x4096x4.Idx) : val_main_v100 (F := Ideal) (X0 A) (X1 A) (X2 A) (X3 A) (X4 A) (X5 A) (X6 A) i = ((A.dsl (hd (i 0) (i 3)) (i 2) (i 1) * (1 / 8) : ℝ) : EReal) := by
  rw [val_main_v100_apply, val_main_v99_apply, r97, r98]
  exact (EReal.coe_mul _ _).symm

/-! The gradients of the queries, the keys and the values. -/

theorem r93 (i : S2x4096x4x64.Idx) : val_main_v93 (F := Ideal) (X0 A) (X1 A) (X2 A) (X3 A) (X4 A) (X5 A) (X6 A) i
    = ((∑ j ∈ Finset.range 256, A.dsc (hd (i 0) (i 2)) (i 1) j * (1 / 8) * A.kc j (64 * (i 0) + (i 3)) : ℝ) : EReal) :=
  (val_main_v93_apply _ _ _ _ _ _ _ i).trans ((Finset.sum_congr rfl fun k _ =>
    (congrArg₂ (· * ·) (r92 A _) (r4 A _)).trans (EReal.coe_mul _ _).symm).trans
      (sum_fin fun j => A.dsc (hd (i 0) (i 2)) (i 1) j * (1 / 8) * A.kc j (64 * (i 0) + (i 3))))

theorem r101 (i : S2x4096x4x64.Idx) : val_main_v101 (F := Ideal) (X0 A) (X1 A) (X2 A) (X3 A) (X4 A) (X5 A) (X6 A) i
    = ((∑ s ∈ Finset.range 4096, A.dsl (hd (i 0) (i 2)) (i 1) s * (1 / 8) * A.k s (64 * (i 0) + (i 3)) : ℝ) : EReal) :=
  (val_main_v101_apply _ _ _ _ _ _ _ i).trans ((Finset.sum_congr rfl fun k _ =>
    (congrArg₂ (· * ·) (r100 A _) (r2 A _)).trans (EReal.coe_mul _ _).symm).trans
      (sum_fin fun s => A.dsl (hd (i 0) (i 2)) (i 1) s * (1 / 8) * A.k s (64 * (i 0) + (i 3))))

theorem dqd_eq (a b i d : ℕ) (hb : b < 4) :
    (∑ j ∈ Finset.range 256, A.dsc (hd a b) i j * (1 / 8) * A.kc j (64 * a + d))
      + (∑ s ∈ Finset.range 4096, A.dsl (hd a b) i s * (1 / 8) * A.k s (64 * a + d)) = A.dqd (hd a b) i d := by
  rw [Args.dqd, hd_div hb, add_div, Finset.sum_div, Finset.sum_div]
  exact congrArg₂ (· + ·) (Finset.sum_congr rfl fun _ _ => by ring) (Finset.sum_congr rfl fun _ _ => by ring)

theorem r103 (i : S4096x2x4x64.Idx) : val_main_v103 (F := Ideal) (X0 A) (X1 A) (X2 A) (X3 A) (X4 A) (X5 A) (X6 A) i = ((A.dqd (hd (i 1) (i 2)) (i 0) (i 3) : ℝ) : EReal) :=
  (val_main_v103_apply (F := Ideal) _ _ _ _ _ _ _ i).trans ((congrArg₂ (· + ·)
    ((val_main_v94_apply (F := Ideal) _ _ _ _ _ _ _ i).trans (r93 A _))
    ((val_main_v102_apply (F := Ideal) _ _ _ _ _ _ _ i).trans (r101 A _))).trans ((EReal.coe_add _ _).symm.trans
      (congrArg (fun x : ℝ => (x : EReal)) (dqd_eq A _ _ _ _ (i 2).isLt))))

theorem r114 : val_main_v114 (F := Ideal) (X0 A) (X1 A) (X2 A) (X3 A) (X4 A) (X5 A) (X6 A) = re2 (a := 4096) (b := 512) A.dq := by
  funext i
  have h0 : (i 0).val < 4096 := (i 0).isLt
  have h1 : (i 1).val < 512 := (i 1).isLt
  refine (val_main_v114_apply (F := Ideal) _ _ _ _ _ _ _ i).trans ((r103 A _).trans ?_)
  show ((A.dqd (4 * (((i 0).val * 512 + (i 1).val) / 256 % 2) + ((i 0).val * 512 + (i 1).val) / 64 % 4)
    (((i 0).val * 512 + (i 1).val) / 512) (((i 0).val * 512 + (i 1).val) % 64) : ℝ) : EReal)
    = ((A.dqd ((i 1).val / 64) (i 0).val ((i 1).val % 64) : ℝ) : EReal)
  have e1 : 4 * (((i 0).val * 512 + (i 1).val) / 256 % 2) + ((i 0).val * 512 + (i 1).val) / 64 % 4 = (i 1).val / 64 := by omega
  have e2 : ((i 0).val * 512 + (i 1).val) / 512 = (i 0).val := by omega
  have e3 : ((i 0).val * 512 + (i 1).val) % 64 = (i 1).val % 64 := by omega
  rw [e1, e2, e3]

theorem r95 (i : S2x256x64.Idx) : val_main_v95 (F := Ideal) (X0 A) (X1 A) (X2 A) (X3 A) (X4 A) (X5 A) (X6 A) i
    = ((∑ x ∈ Finset.range 4, ∑ t ∈ Finset.range 4096,
      A.q t (64 * hd (i 0) x + (i 2)) / 8 * A.dsc (hd (i 0) x) t (i 1) : ℝ) : EReal) := by
  unfold val_main_v95
  pointwise
  refine (Finset.sum_congr rfl fun a _ => Finset.sum_congr rfl fun b _ =>
    (congrArg₂ (· * ·) (r92 A _) (r0 A _)).trans (EReal.coe_mul _ _).symm).trans
      ((sum2 fun t x => A.dsc (hd (i 0) x) t (i 1) * (1 / 8) * A.q t (64 * hd (i 0) x + (i 2))).trans
        (congrArg (fun x : ℝ => (x : EReal)) ?_))
  rw [Finset.sum_comm]
  exact Finset.sum_congr rfl fun x _ => Finset.sum_congr rfl fun t _ => by ring

theorem r104 (i : S2x4096x64.Idx) : val_main_v104 (F := Ideal) (X0 A) (X1 A) (X2 A) (X3 A) (X4 A) (X5 A) (X6 A) i
    = ((∑ x ∈ Finset.range 4, ∑ t ∈ Finset.range 4096,
      A.q t (64 * hd (i 0) x + (i 2)) / 8 * A.dsl (hd (i 0) x) t (i 1) : ℝ) : EReal) := by
  unfold val_main_v104
  pointwise
  refine (Finset.sum_congr rfl fun a _ => Finset.sum_congr rfl fun b _ =>
    (congrArg₂ (· * ·) (r100 A _) (r0 A _)).trans (EReal.coe_mul _ _).symm).trans
      ((sum2 fun t x => A.dsl (hd (i 0) x) t (i 1) * (1 / 8) * A.q t (64 * hd (i 0) x + (i 2))).trans
        (congrArg (fun x : ℝ => (x : EReal)) ?_))
  rw [Finset.sum_comm]
  exact Finset.sum_congr rfl fun x _ => Finset.sum_congr rfl fun t _ => by ring

theorem r109 : val_main_v109 (F := Ideal) (X0 A) (X1 A) (X3 A) (X5 A) (X6 A) = re2 (a := 256) (b := 128) A.dvc := by
  funext i
  have h0 : (i 0).val < 256 := (i 0).isLt
  have h1 : (i 1).val < 128 := (i 1).isLt
  refine (val_main_v109_apply (F := Ideal) _ _ _ _ _ i).trans ((val_main_v72_apply (F := Ideal) _ _ _ _ _ _).trans ((r71 A _).trans
    (congrArg (fun x : ℝ => (x : EReal)) ?_)))
  have e1 : ((i 0).val * 128 + (i 1).val) / 64 % 2 = (i 1).val / 64 := by omega
  have e2 : ((i 0).val * 128 + (i 1).val) / 128 = (i 0).val := by omega
  have e3 : ((i 0).val * 128 + (i 1).val) % 64 = (i 1).val % 64 := by omega
  have e : ∀ a b c a' b' c' : ℕ, a = a' → b = b' → c = c' →
      ∑ x ∈ Finset.range 4, ∑ t ∈ Finset.range 4096, A.gh (hd a x) t c * A.pc (hd a x) t b
        = ∑ x ∈ Finset.range 4, ∑ t ∈ Finset.range 4096, A.gh (hd a' x) t c' * A.pc (hd a' x) t b' := by
    rintro a b c _ _ _ rfl rfl rfl; rfl
  exact e _ _ _ _ _ _ e1 e2 e3

theorem r111 : val_main_v111 (F := Ideal) (X0 A) (X1 A) (X3 A) (X5 A) (X6 A) = re2 (a := 4096) (b := 128) A.dv := by
  funext i
  have h0 : (i 0).val < 4096 := (i 0).isLt
  have h1 : (i 1).val < 128 := (i 1).isLt
  refine (val_main_v111_apply (F := Ideal) _ _ _ _ _ i).trans ((val_main_v67_apply (F := Ideal) _ _ _ _ _ _).trans ((r66 A _).trans
    (congrArg (fun x : ℝ => (x : EReal)) ?_)))
  have e1 : ((i 0).val * 128 + (i 1).val) / 64 % 2 = (i 1).val / 64 := by omega
  have e2 : ((i 0).val * 128 + (i 1).val) / 128 = (i 0).val := by omega
  have e3 : ((i 0).val * 128 + (i 1).val) % 64 = (i 1).val % 64 := by omega
  have e : ∀ a b c a' b' c' : ℕ, a = a' → b = b' → c = c' →
      ∑ x ∈ Finset.range 4, ∑ t ∈ Finset.range 4096, A.gh (hd a x) t c * A.pl (hd a x) t b
        = ∑ x ∈ Finset.range 4, ∑ t ∈ Finset.range 4096, A.gh (hd a' x) t c' * A.pl (hd a' x) t b' := by
    rintro a b c _ _ _ rfl rfl rfl; rfl
  exact e _ _ _ _ _ _ e1 e2 e3

theorem r110 : val_main_v110 (F := Ideal) (X0 A) (X1 A) (X2 A) (X3 A) (X4 A) (X5 A) (X6 A) = re2 (a := 256) (b := 128) A.dkc := by
  funext i
  have h0 : (i 0).val < 256 := (i 0).isLt
  have h1 : (i 1).val < 128 := (i 1).isLt
  refine (val_main_v110_apply (F := Ideal) _ _ _ _ _ _ _ i).trans ((val_main_v96_apply (F := Ideal) _ _ _ _ _ _ _ _).trans ((r95 A _).trans
    (congrArg (fun x : ℝ => (x : EReal)) ?_)))
  have e1 : ((i 0).val * 128 + (i 1).val) / 64 % 2 = (i 1).val / 64 := by omega
  have e2 : ((i 0).val * 128 + (i 1).val) / 128 = (i 0).val := by omega
  have e3 : ((i 0).val * 128 + (i 1).val) % 64 = (i 1).val % 64 := by omega
  have e : ∀ a b c a' b' c' : ℕ, a = a' → b = b' → c = c' →
      ∑ x ∈ Finset.range 4, ∑ t ∈ Finset.range 4096, A.q t (64 * hd a x + c) / 8 * A.dsc (hd a x) t b
        = ∑ x ∈ Finset.range 4, ∑ t ∈ Finset.range 4096, A.q t (64 * hd a' x + c') / 8 * A.dsc (hd a' x) t b' := by
    rintro a b c _ _ _ rfl rfl rfl; rfl
  exact e _ _ _ _ _ _ e1 e2 e3

theorem r112 : val_main_v112 (F := Ideal) (X0 A) (X1 A) (X2 A) (X3 A) (X4 A) (X5 A) (X6 A) = re2 (a := 4096) (b := 128) A.dk := by
  funext i
  have h0 : (i 0).val < 4096 := (i 0).isLt
  have h1 : (i 1).val < 128 := (i 1).isLt
  refine (val_main_v112_apply (F := Ideal) _ _ _ _ _ _ _ i).trans ((val_main_v105_apply (F := Ideal) _ _ _ _ _ _ _ _).trans ((r104 A _).trans
    (congrArg (fun x : ℝ => (x : EReal)) ?_)))
  have e1 : ((i 0).val * 128 + (i 1).val) / 64 % 2 = (i 1).val / 64 := by omega
  have e2 : ((i 0).val * 128 + (i 1).val) / 128 = (i 0).val := by omega
  have e3 : ((i 0).val * 128 + (i 1).val) % 64 = (i 1).val % 64 := by omega
  have e : ∀ a b c a' b' c' : ℕ, a = a' → b = b' → c = c' →
      ∑ x ∈ Finset.range 4, ∑ t ∈ Finset.range 4096, A.q t (64 * hd a x + c) / 8 * A.dsl (hd a x) t b
        = ∑ x ∈ Finset.range 4, ∑ t ∈ Finset.range 4096, A.q t (64 * hd a' x + c') / 8 * A.dsl (hd a' x) t b' := by
    rintro a b c _ _ _ rfl rfl rfl; rfl
  exact e _ _ _ _ _ _ e1 e2 e3

/-! The gradients of the sinks. -/

theorem r106 (i : S2x4.Idx) : val_main_v106 (F := Ideal) (X0 A) (X1 A) (X2 A) (X3 A) (X4 A) (X5 A) (X6 A) i = ((A.dsk (hd (i 0) (i 1)) : ℝ) : EReal) := by
  unfold val_main_v106
  pointwise
  rw [show val_main_cst_18 (F := Ideal) (Shape.Idx.first h_S_) = ((0 : ℝ) : EReal) from
    (val_main_cst_18_apply (F := Ideal) _).trans zeroBits, EReal.coe_zero, zero_add]
  have e : ∀ (a : Fin 4096) (b : Fin 1), val_main_v87 (F := Ideal) (X0 A) (X1 A) (X2 A) (X3 A) (X4 A) (X5 A) (X6 A) (ix4 (i 0) (i 1) a b)
      = ((-(A.ps (hd (i 0) (i 1)) a * A.dd (hd (i 0) (i 1)) a) : ℝ) : EReal) := fun a b => r87 A _
  refine (Finset.sum_congr rfl fun a _ => Finset.sum_congr rfl fun b _ => e a b).trans
    ((sum2 (m := 4096) (n := 1) fun t _ => -(A.ps (hd (i 0) (i 1)) t * A.dd (hd (i 0) (i 1)) t)).trans
      (congrArg (fun x : ℝ => (x : EReal)) ?_))
  rw [Args.dsk, ← Finset.sum_neg_distrib]
  exact Finset.sum_congr rfl fun t _ => Finset.sum_range_one _

theorem r108 (i : S2x4.Idx) : val_main_v108 (F := Ideal) (X0 A) (X1 A) (X2 A) (X3 A) (X4 A) (X5 A) (X6 A) i = ((A.dsk (hd (i 0) (i 1)) : ℝ) : EReal) := by
  unfold val_main_v108
  pointwise
  rw [show val_main_cst_19 (F := Ideal) (Shape.Idx.first h_S_) = ((0 : ℝ) : EReal) from
    (val_main_cst_19_apply (F := Ideal) _).trans zeroBits, EReal.coe_zero, zero_add]
  exact (Fintype.sum_unique _).trans ((Fintype.sum_unique _).trans
    ((val_main_v107_apply (F := Ideal) _ _ _ _ _ _ _ _).trans (r106 A _)))

theorem r113 : val_main_v113 (F := Ideal) (X0 A) (X1 A) (X2 A) (X3 A) (X4 A) (X5 A) (X6 A) = fun i => ((A.dsk (i 0) : ℝ) : EReal) := by
  funext i
  refine (val_main_v113_apply (F := Ideal) _ _ _ _ _ _ _ i).trans ((r108 A _).trans
    (congrArg (fun x => ((A.dsk x : ℝ) : EReal)) ?_))
  show 4 * ((i 0).val / 4) + (i 0).val % 4 = (i 0).val
  omega

end Cert.Attn.Ref
-- ==== Proof.Finite.lean ====
/-
  Arguments whose entries are all finite are arrays of reals.
-/
module

public import proofs.«01_k».proof.Proof.Model
public import proofs.«01_k».proof.Pre_attention_finite
public import Idealize.ShloMosaic.Lib.ReduceAll
public import Idealize.ShloMosaic.Lib.Pointwise

@[expose] public section

set_option maxRecDepth 16384

noncomputable section

namespace Cert.Attn

open Idealize.ShloMosaic

/-- The reals of a matrix. -/
def toMat {a b : ℕ} (x : (⟨2, ![a, b]⟩ : Shape).Idx → EReal) : ℕ → ℕ → ℝ :=
  fun i j => if h : i < a ∧ j < b then (x (ix2 ⟨i, h.1⟩ ⟨j, h.2⟩)).toReal else 0

theorem toMat_eq {a b : ℕ} (x : (⟨2, ![a, b]⟩ : Shape).Idx → EReal) (h : ∀ i, x i ≠ ⊤ ∧ x i ≠ ⊥) : x = re2 (toMat x) := by
  funext i
  have hi : ix2 (i 0) (i 1) = i := by
    funext k
    exact Fin.cases rfl (fun k => Fin.cases rfl (fun k => k.elim0) k) k
  have h0 : (i 0 : ℕ) < a := (i 0).isLt
  have h1 : (i 1 : ℕ) < b := (i 1).isLt
  show x i = ((toMat x (i 0) (i 1) : ℝ) : EReal)
  rw [toMat, dif_pos ⟨h0, h1⟩]
  exact (EReal.coe_toReal (h i).1 (h i).2).symm.trans (congrArg (fun j => (((x j).toReal : ℝ) : EReal)) hi.symm)

/-- The reals of a vector. -/
def toVec {a : ℕ} (x : (⟨1, ![a]⟩ : Shape).Idx → EReal) : ℕ → ℝ :=
  fun i => if h : i < a then (x (ix1 ⟨i, h⟩)).toReal else 0

theorem toVec_eq {a : ℕ} (x : (⟨1, ![a]⟩ : Shape).Idx → EReal) (h : ∀ i, x i ≠ ⊤ ∧ x i ≠ ⊥) :
    x = fun i => ((toVec x (i 0) : ℝ) : EReal) := by
  funext i
  have hi : ix1 (i 0) = i := by
    funext k
    exact Fin.cases rfl (fun k => k.elim0) k
  have h0 : (i 0 : ℕ) < a := (i 0).isLt
  rw [toVec, dif_pos h0]
  exact (EReal.coe_toReal (h i).1 (h i).2).symm.trans (congrArg (fun j => (((x j).toReal : ℝ) : EReal)) hi.symm)

theorem topBits : Ideal.ofBits .f32 0x7F800000#32 = ⊤ := by decide +kernel

/-- A value whose magnitude is below +∞ is finite. -/
theorem finite_of_abs {x : EReal} (h : Ideal.cmp .olt (max x (-x)) ⊤ = 1#1) : x ≠ ⊤ ∧ x ≠ ⊥ := by
  induction x using EReal.rec with
  | bot => simp [Ideal.cmp] at h
  | top => simp [Ideal.cmp] at h
  | coe y => exact ⟨EReal.coe_ne_top _, EReal.coe_ne_bot _⟩

theorem finite_all [Cert.Pre_attention_finite.Facts] (x0 x1 x2 x3 x4 x5 x6)
    (h : Cert.Pre_attention_finite.fn (F := Ideal) x0 x1 x2 x3 x4 x5 x6 = fun _ => 1#1) :
    (∀ i, x0 i ≠ ⊤ ∧ x0 i ≠ ⊥) ∧ (∀ i, x1 i ≠ ⊤ ∧ x1 i ≠ ⊥) ∧ (∀ i, x2 i ≠ ⊤ ∧ x2 i ≠ ⊥) ∧ (∀ i, x3 i ≠ ⊤ ∧ x3 i ≠ ⊥)
      ∧ (∀ i, x4 i ≠ ⊤ ∧ x4 i ≠ ⊥) ∧ (∀ i, x5 i ≠ ⊤ ∧ x5 i ≠ ⊥) ∧ (∀ i, x6 i ≠ ⊤ ∧ x6 i ≠ ⊥) := by
  have h' := congrFun h ix0
  dsimp only [Cert.Pre_attention_finite.fn, Cert.Pre_attention_finite.fn_part1] at h'
  obtain ⟨h', h6⟩ := IntOp.andi_eq_one.1 h'
  obtain ⟨h', h5⟩ := IntOp.andi_eq_one.1 h'
  obtain ⟨h', h4⟩ := IntOp.andi_eq_one.1 h'
  obtain ⟨h', h3⟩ := IntOp.andi_eq_one.1 h'
  obtain ⟨h', h2⟩ := IntOp.andi_eq_one.1 h'
  obtain ⟨h0, h1⟩ := IntOp.andi_eq_one.1 h'
  have key : ∀ {x : EReal}, Ideal.cmp .olt (max x (-x)) (Ideal.ofBits .f32 0x7F800000#32) = 1#1 → x ≠ ⊤ ∧ x ≠ ⊥ := by
    intro x hx; rw [topBits] at hx; exact finite_of_abs hx
  haveI : Subsingleton Cert.Pre_attention_finite.S_.Idx := ⟨fun a b => funext fun k => k.elim0⟩
  exact ⟨fun i => key (Host.reduce_andi_all _ _ _ _ _ h0 i), fun i => key (Host.reduce_andi_all _ _ _ _ _ h1 i),
    fun i => key (Host.reduce_andi_all _ _ _ _ _ h2 i), fun i => key (Host.reduce_andi_all _ _ _ _ _ h3 i),
    fun i => key (Host.reduce_andi_all _ _ _ _ _ h4 i), fun i => key (Host.reduce_andi_all _ _ _ _ _ h5 i),
    fun i => key (Host.reduce_andi_all _ _ _ _ _ h6 i)⟩

end Cert.Attn
-- ==== Proof.En.lean ====
/-
  Arrays of extended reals, read through natural numbers.

  The products of the step are cut into tiles of rows.  Their entries are named here by functions of natural numbers, so
  that a tile of an array is that function at shifted arguments, and a sum over tiles is one sum over a longer range.
-/
module

public import Idealize.ShloMosaic.Lib.Pointwise
public import Idealize.ShloMosaic.Lib.IdealHost

@[expose] public section

noncomputable section

namespace Cert.En

open Idealize.ShloMosaic

/-- The matrix whose entry at `(i, j)` is `f i j`. -/
def en2 {a b : ℕ} (f : ℕ → ℕ → EReal) : (⟨2, ![a, b]⟩ : Shape).Idx → EReal := fun i => f (i 0) (i 1)

/-- The array of rank three whose entry at `(i, j, k)` is `f i j k`. -/
def en3 {a b c : ℕ} (f : ℕ → ℕ → ℕ → EReal) : (⟨3, ![a, b, c]⟩ : Shape).Idx → EReal := fun i => f (i 0) (i 1) (i 2)

theorem en2_ix2 {a b : ℕ} (f : ℕ → ℕ → EReal) (i : Fin a) (j : Fin b) : en2 (a := a) (b := b) f (ix2 i j) = f i j := rfl

theorem en3_ix3 {a b c : ℕ} (f : ℕ → ℕ → ℕ → EReal) (i : Fin a) (j : Fin b) (k : Fin c) :
    en3 (a := a) (b := b) (c := c) f (ix3 i j k) = f i j k := rfl

/-- A matrix's entries as a function of natural numbers, zero outside. -/
def at2 {a b : ℕ} (X : (⟨2, ![a, b]⟩ : Shape).Idx → EReal) : ℕ → ℕ → EReal := fun i j =>
  if h : i < a ∧ j < b then X (ix2 ⟨i, h.1⟩ ⟨j, h.2⟩) else 0

/-- The entries of an array of rank three as a function of natural numbers, zero outside. -/
def at3 {a b c : ℕ} (X : (⟨3, ![a, b, c]⟩ : Shape).Idx → EReal) : ℕ → ℕ → ℕ → EReal := fun i j k =>
  if h : i < a ∧ j < b ∧ k < c then X (ix3 ⟨i, h.1⟩ ⟨j, h.2.1⟩ ⟨k, h.2.2⟩) else 0

theorem en2_at2 {a b : ℕ} (X : (⟨2, ![a, b]⟩ : Shape).Idx → EReal) : en2 (at2 X) = X := by
  funext i
  show at2 X (i 0) (i 1) = _
  unfold at2
  rw [dif_pos ⟨(i 0).isLt, (i 1).isLt⟩]
  exact congrArg X (ix2_eta i)

theorem en3_at3 {a b c : ℕ} (X : (⟨3, ![a, b, c]⟩ : Shape).Idx → EReal) : en3 (at3 X) = X := by
  funext i
  show at3 X (i 0) (i 1) (i 2) = _
  unfold at3
  rw [dif_pos ⟨(i 0).isLt, (i 1).isLt, (i 2).isLt⟩]
  exact congrArg X (ix3_eta i)

/-- The first `n + 1` tiles of `w` terms are the first `n` and one more. -/
theorem sum_tile (f : ℕ → EReal) (w n : ℕ) :
    (∑ k ∈ Finset.range (w * (n + 1)), f k) = (∑ k ∈ Finset.range (w * n), f k) + ∑ k ∈ Finset.range w, f (w * n + k) := by
  rw [Nat.mul_add_one, Finset.sum_range_add]

end Cert.En
-- ==== Proof.Down.lean ====
/-
  The second product of the network with its loss: the residual, its gradients, and the sums over all tokens that the call adds up, over eight tiles of tokens.
-/
module

public import proofs.«01_k».proof.Proof.En
public import proofs.«01_k».proof.Proof.Gen.Kernel2Ideal
public import proofs.«01_k».proof.Proof.Gen.Kernel2Ideal.Frame
public import proofs.«01_k».proof.Proof.Gen.Kernel2Ideal.Value
public import Idealize.ShloMosaic.Lib.Pipeline.ReadBack
public import Idealize.ShloMosaic.Lib.WritesUnit
public import Idealize.ShloMosaic.Lib.Tactic
public import Idealize.ShloMosaic.Lib.Pipeline.ValueKit

@[expose] public section

set_option maxRecDepth 16384

noncomputable section

namespace Cert.Down

open Idealize.ShloMosaic Idealize.ShloMosaic.TcCoe Idealize.SL.Sem
open Cert.Kernel2Ideal Cert.Kernel2Ideal.Gen Cert.Kernel2Ideal.Value Cert.En

/-! The arrays of the call: tiles of tokens, the weight, rows, and the whole arrays. -/

abbrev tile (f : ℕ → ℕ → EReal) := en2 (a := 512) (b := 1024) f
abbrev hidden (f : ℕ → ℕ → EReal) := en2 (a := 512) (b := 2816) f
abbrev weight (f : ℕ → ℕ → EReal) := en2 (a := 2816) (b := 1024) f
abbrev row1 (f : ℕ → ℕ → EReal) := en2 (a := 1) (b := 1024) f
abbrev rows (f : ℕ → ℕ → EReal) := en2 (a := 8) (b := 1024) f
abbrev full (f : ℕ → ℕ → EReal) := en2 (a := 4096) (b := 1024) f
abbrev fullh (f : ℕ → ℕ → EReal) := en2 (a := 4096) (b := 2816) f

/-- The product with the narrowing weight. -/
def dn (a w : ℕ → ℕ → EReal) : ℕ → ℕ → EReal := fun r k => ∑ j ∈ Finset.range 2816, a r j * w j k

/-- The residual of the loss. -/
def err (a w x g y : ℕ → ℕ → EReal) : ℕ → ℕ → EReal := fun r k => x r k + g 0 k * dn a w r k - y r k

/-- The gradient at the network's output. -/
def dy (a w x g y : ℕ → ℕ → EReal) : ℕ → ℕ → EReal := fun r k => err a w x g y r k * ((1 / 1024 : ℝ) : EReal)

/-- The gradient at the second product. -/
def ddn (a w x g y : ℕ → ℕ → EReal) : ℕ → ℕ → EReal := fun r k => dy a w x g y r k * g 0 k

/-- The gradient at the activations. -/
def dact (a w x g y : ℕ → ℕ → EReal) : ℕ → ℕ → EReal := fun r j => ∑ k ∈ Finset.range 1024, ddn a w x g y r k * w j k

/-- The sums over the first `n` tokens: the gate's gradient and the squares of the residual. -/
def sums (a w x g y : ℕ → ℕ → EReal) (n : ℕ) : ℕ → ℕ → EReal := fun r k =>
  if r = 0 then ∑ s ∈ Finset.range n, dy a w x g y s k * dn a w s k
  else if r = 1 then ∑ s ∈ Finset.range n, err a w x g y s k * err a w x g y s k
  else 0

/-- One tile more of the two sums, over the rows before. -/
def step (a w x g y p : ℕ → ℕ → EReal) : ℕ → ℕ → EReal := fun r k =>
  if r = 0 then p 0 k + ∑ s ∈ Finset.range 512, dy a w x g y s k * dn a w s k
  else if r = 1 then p 1 k + ∑ s ∈ Finset.range 512, err a w x g y s k * err a w x g y s k
  else p r k

/-- The mean over the columns. -/
theorem bits : Ideal.ofBits .f32 0x3A800000#32 = ((1 / 1024 : ℝ) : EReal) := by
  simp [Ideal.ofBits, Ideal.ieee, -EReal.coe_mul]
  norm_num

section Pay

variable (a w x g y : ℕ → ℕ → EReal)

theorem pay3 : k0_pay3 (F := Ideal) = rows (fun _ _ => 0) := by
  funext j
  idx_vars j
  pointwise [k0_pay3]
  rfl

theorem pay4 : k0_pay4 (F := Ideal) (hidden a) (weight w) = tile (dn a w) := by
  funext j
  idx_vars j
  pointwise [k0_pay4]
  simp only [en2_ix2, Finset.sum_range, dn]

theorem pay5 : k0_pay5 (F := Ideal) (hidden a) (weight w) (tile x)
      (row1 g) (tile y) = tile (err a w x g y) := by
  unfold k0_pay5
  rw [pay4]
  funext j
  idx_vars j
  pointwise []
  rfl

theorem pay6 : k0_pay6 (F := Ideal) (hidden a) (weight w) (tile x)
      (row1 g) (tile y) = tile (dy a w x g y) := by
  unfold k0_pay6
  rw [pay5]
  funext j
  idx_vars j
  pointwise []
  simp only [en2_ix2, dy]
  exact congrArg _ bits

theorem pay7 : k0_pay7 (F := Ideal) (hidden a) (weight w) (tile x)
      (row1 g) (tile y) (row1 g) = tile (ddn a w x g y) := by
  unfold k0_pay7
  rw [pay6]
  funext j
  idx_vars j
  pointwise []
  rfl

theorem pay8 : k0_pay8 (F := Ideal) (hidden a) (weight w) (tile x)
      (row1 g) (tile y) (row1 g) (weight w)
      = hidden (dact a w x g y) := by
  unfold k0_pay8
  rw [pay7]
  funext j
  idx_vars j
  pointwise []
  simp only [en2_ix2, Finset.sum_range, dact]

theorem pay10 : k0_pay10 (F := Ideal) (hidden a) (weight w) (tile x)
      (row1 g) (tile y) = tile (fun r k => dy a w x g y r k * dn a w r k) := by
  unfold k0_pay10
  rw [pay6, pay4]
  funext j
  idx_vars j
  pointwise []
  rfl

theorem pay9 (p : ℕ → ℕ → EReal) : k0_pay9 (F := Ideal) (row1 p) = row1 p := by
  funext j
  idx_vars j
  pointwise [k0_pay9]

theorem pay1 (p : ℕ → ℕ → EReal) (v : ℕ → ℕ → EReal) : k0_pay1 (F := Ideal) (row1 p) (tile v)
    = row1 (fun r k => p r k + ∑ s ∈ Finset.range 512, v s k) := by
  funext j
  idx_vars j
  pointwise [k0_pay1]
  simp only [en2_ix2, Finset.sum_range]

theorem pay2 (p : ℕ → ℕ → EReal) (v : ℕ → ℕ → EReal) : k0_pay2 (F := Ideal) (tile v) (row1 p)
    = row1 (fun r k => p r k + ∑ s ∈ Finset.range 512, v s k * v s k) := by
  funext j
  idx_vars j
  pointwise [k0_pay2]
  simp only [en2_ix2, Finset.sum_range]

end Pay

theorem hz2 : (![0, 0] : Fin 2 → Nat) = fun _ => 0 := funext fun a => by fin_cases a <;> rfl

/-- A row read out of an array of eight rows. -/
theorem ld_row (p : ℕ → ℕ → EReal) (o : ℕ) (inb) :
    View.ld (Val := Elt Ideal) (e' := .f32) (rows p) (Rect.unit (s := S8x1024) ![o, 0] ![1, 1024] inb) = row1 (fun r k => p (o + r) k) := by
  funext z
  show p (o + 1 * (z 0 : ℕ)) (0 + 1 * (z 1 : ℕ)) = p (o + (z 0 : ℕ)) (z 1 : ℕ)
  rw [Nat.one_mul, Nat.one_mul, Nat.zero_add]

/-- A row written over an array of eight rows. -/
theorem read_row {sp : Space} (v : View sig .tc sp S8x1024 .f32) (f : v.ty.Contents (Elt Ideal)) (o : ℕ)
    (inb) (w X : ℕ → ℕ → EReal) (L : List (View.Piece (Elt Ideal) S8x1024 .f32)) (y : S8x1024.Idx)
    (hw : w 0 (y 1 : ℕ) = X o (y 1 : ℕ))
    (hX : (y 0 : ℕ) ≠ o → v.read (Elt Ideal) (v.writes (Elt Ideal) f L) y = X (y 0 : ℕ) (y 1 : ℕ)) :
    v.read (Elt Ideal) (v.writes (Elt Ideal) f
        ((⟨Rect.unit (s := S8x1024) ![o, 0] ![1, 1024] inb, row1 w⟩ : View.Piece (Elt Ideal) S8x1024 .f32) :: L)) y
      = X (y 0 : ℕ) (y 1 : ℕ) := by
  rw [View.read_writes_cons_rows (o := o) (W := 1) v f inb _ L y rfl rfl rfl]
  split_ifs with h
  · show w _ _ = X _ _
    have e0 : (y 0 : ℕ) = o := by omega
    rw [Rect.unitLocal_val, Rect.unitLocal_val]
    simp only [Matrix.cons_val_zero, Matrix.cons_val_one]
    rw [e0, Nat.sub_self, Nat.sub_zero, hw]
  · exact hX (by omega)

/-- A row read back out of an array stored whole. -/
theorem cov_one {sp : Space} (v : View sig .tc sp S8x1024 .f32) (p : ℕ → ℕ → EReal) (o : ℕ) (inb) :
    v.readCov (Val := Elt Ideal) [(⟨Rect.unit (s := S8x1024) ![0, 0] ![8, 1024] inb_S8x1024_S8x1024_0_0, rows p⟩ : View.Piece (Elt Ideal) S8x1024 .f32)]
      (Rect.unit (s := S8x1024) ![o, 0] ![1, 1024] inb).toLoadRect = row1 (fun r k => p (o + r) k) := by
  rw [View.readCov_eq_canon_ld _ _ _ (fun y => ⟨_, List.mem_singleton_self _, View.mem_set_unit_zero hz2 inb_S8x1024_S8x1024_0_0 y⟩),
    View.canon_unit_zero (S := S8x1024) hz2, ld_row]

/-- The second row read back, after the first was stored over an array stored whole. -/
theorem cov_two {sp : Space} (v : View sig .tc sp S8x1024 .f32) (p u : ℕ → ℕ → EReal) :
    v.readCov (Val := Elt Ideal) [(⟨Rect.unit (s := S8x1024) ![0, 0] ![1, 1024] inb_S8x1024_S1x1024_0_0, row1 u⟩ : View.Piece (Elt Ideal) S8x1024 .f32),
        ⟨Rect.unit (s := S8x1024) ![0, 0] ![8, 1024] inb_S8x1024_S8x1024_0_0, rows p⟩]
      (Rect.unit (s := S8x1024) ![1, 0] ![1, 1024] inb_S8x1024_S1x1024_1_0).toLoadRect = row1 (fun r k => p (1 + r) k) := by
  rw [View.readCov_eq_canon_ld _ _ _ (fun y => ⟨_, List.mem_cons_of_mem _ (List.mem_singleton_self _), View.mem_set_unit_zero hz2 inb_S8x1024_S8x1024_0_0 y⟩)]
  have e : View.canon [(⟨Rect.unit (s := S8x1024) ![0, 0] ![1, 1024] inb_S8x1024_S1x1024_0_0, row1 u⟩ : View.Piece (Elt Ideal) S8x1024 .f32),
        ⟨Rect.unit (s := S8x1024) ![0, 0] ![8, 1024] inb_S8x1024_S8x1024_0_0, rows p⟩]
      = rows (fun r k => if r = 0 then u 0 k else p r k) := by
    funext q
    rw [← View.read_writes_junk_apply_eq_canon VO0_8]
    refine read_row _ _ 0 _ _ (fun r k => if r = 0 then u 0 k else p r k) _ q (by rfl) fun b0 => ?_
    rw [View.read_writes_junk_apply_eq_canon VO0_8, View.canon_unit_zero (S := S8x1024) hz2]
    exact (if_neg b0).symm
  rw [e, ld_row]
  refine congrArg row1 (funext fun r => funext fun k => ?_)
  exact if_neg (by omega)

section Case

variable (c : Dev nD) (i : grid0.Coords) (a1 : Memref sig .tc .vmem S512x2816 .bf16) (h1 : a1.IsWhole)
  (a2 : Memref sig .tc .vmem S2816x1024 .bf16) (h2 : a2.IsWhole) (a3 : Memref sig .tc .vmem S512x1024 .f32) (h3 : a3.IsWhole)
  (a4 : Memref sig .tc .vmem S1x1024 .f32) (h4 : a4.IsWhole) (a5 : Memref sig .tc .vmem S512x1024 .f32) (h5 : a5.IsWhole)
  (a6 : Memref sig .tc .vmem S512x1024 .f32) (h6 : a6.IsWhole) (a7 : Memref sig .tc .vmem S512x2816 .bf16) (h7 : a7.IsWhole)
  (a8 : Memref sig .tc .vmem S512x1024 .bf16) (h8 : a8.IsWhole) (a9 : Memref sig .tc .vmem S8x1024 .f32) (h9 : a9.IsWhole)
  (x0 : Vec Ideal S512x2816 .bf16) (x1 : Vec Ideal S2816x1024 .bf16) (x2 : Vec Ideal S512x1024 .f32) (x3 : Vec Ideal S1x1024 .f32)
  (x4 : Vec Ideal S512x1024 .f32) (xo : Vec Ideal S8x1024 .f32)

theorem out_A_5 (hc0 : cond0_0 i) :
    out0_A_5 (F := Ideal) c i a1 h1 a2 h2 a3 h3 a4 h4 a5 h5 a6 h6 a7 h7 a8 h8 a9 h9 hc0 x0 x1 x2 x3 x4 = k0_pay6 (F := Ideal) x0 x1 x2 x3 x4 := by
  unfold out0_A_5
  rw [View.read_writes_eq_canon _ _ _ (cover0_A_5 c i a1 h1 a2 h2 a3 h3 a4 h4 a5 h5 a6 h6 a7 h7 a8 h8 a9 h9 hc0 x0 x1 x2 x3 x4)]
  unfold kernelRun0_A
  dsimp only
  sl_unfold_words
  rw [View.canon_unit_zero hz2]
  simp only [View.readAt_eq_ld, h1.read_unread, h2.read_unread, h3.read_unread, h4.read_unread, h5.read_unread, View.ld_unit_zero (S := S512x2816) hz2, View.ld_unit_zero (S := S2816x1024) hz2, View.ld_unit_zero (S := S512x1024) hz2, View.ld_unit_zero (S := S1x1024) hz2]

theorem out_A_6 (hc0 : cond0_0 i) :
    out0_A_6 (F := Ideal) c i a1 h1 a2 h2 a3 h3 a4 h4 a5 h5 a6 h6 a7 h7 a8 h8 a9 h9 hc0 x0 x1 x2 x3 x4 = k0_pay8 (F := Ideal) x0 x1 x2 x3 x4 x3 x1 := by
  unfold out0_A_6
  rw [View.read_writes_eq_canon _ _ _ (cover0_A_6 c i a1 h1 a2 h2 a3 h3 a4 h4 a5 h5 a6 h6 a7 h7 a8 h8 a9 h9 hc0 x0 x1 x2 x3 x4)]
  unfold kernelRun0_A
  dsimp only
  sl_unfold_words
  rw [View.canon_unit_zero hz2]
  simp only [View.readAt_eq_ld, h1.read_unread, h2.read_unread, h3.read_unread, h4.read_unread, h5.read_unread, View.ld_unit_zero (S := S512x2816) hz2, View.ld_unit_zero (S := S2816x1024) hz2, View.ld_unit_zero (S := S512x1024) hz2, View.ld_unit_zero (S := S1x1024) hz2]

theorem out_A_7 (hc0 : cond0_0 i) :
    out0_A_7 (F := Ideal) c i a1 h1 a2 h2 a3 h3 a4 h4 a5 h5 a6 h6 a7 h7 a8 h8 a9 h9 hc0 x0 x1 x2 x3 x4 = k0_pay7 (F := Ideal) x0 x1 x2 x3 x4 x3 := by
  unfold out0_A_7
  rw [View.read_writes_eq_canon _ _ _ (cover0_A_7 c i a1 h1 a2 h2 a3 h3 a4 h4 a5 h5 a6 h6 a7 h7 a8 h8 a9 h9 hc0 x0 x1 x2 x3 x4)]
  unfold kernelRun0_A
  dsimp only
  sl_unfold_words
  rw [View.canon_unit_zero hz2]
  simp only [View.readAt_eq_ld, h1.read_unread, h2.read_unread, h3.read_unread, h4.read_unread, h5.read_unread, View.ld_unit_zero (S := S512x2816) hz2, View.ld_unit_zero (S := S2816x1024) hz2, View.ld_unit_zero (S := S512x1024) hz2, View.ld_unit_zero (S := S1x1024) hz2]

theorem out_B_5 (hc0 : ¬cond0_0 i) :
    out0_B_5 (F := Ideal) c i a1 h1 a2 h2 a3 h3 a4 h4 a5 h5 a6 h6 a7 h7 a8 h8 a9 h9 hc0 x0 x1 x2 x3 x4 xo = k0_pay6 (F := Ideal) x0 x1 x2 x3 x4 := by
  unfold out0_B_5
  rw [View.read_writes_eq_canon _ _ _ (cover0_B_5 c i a1 h1 a2 h2 a3 h3 a4 h4 a5 h5 a6 h6 a7 h7 a8 h8 a9 h9 hc0 x0 x1 x2 x3 x4 xo)]
  unfold kernelRun0_B
  dsimp only
  sl_unfold_words
  rw [View.canon_unit_zero hz2]
  simp only [View.readAt_eq_ld, h1.read_unread, h2.read_unread, h3.read_unread, h4.read_unread, h5.read_unread, View.ld_unit_zero (S := S512x2816) hz2, View.ld_unit_zero (S := S2816x1024) hz2, View.ld_unit_zero (S := S512x1024) hz2, View.ld_unit_zero (S := S1x1024) hz2]

theorem out_B_6 (hc0 : ¬cond0_0 i) :
    out0_B_6 (F := Ideal) c i a1 h1 a2 h2 a3 h3 a4 h4 a5 h5 a6 h6 a7 h7 a8 h8 a9 h9 hc0 x0 x1 x2 x3 x4 xo = k0_pay8 (F := Ideal) x0 x1 x2 x3 x4 x3 x1 := by
  unfold out0_B_6
  rw [View.read_writes_eq_canon _ _ _ (cover0_B_6 c i a1 h1 a2 h2 a3 h3 a4 h4 a5 h5 a6 h6 a7 h7 a8 h8 a9 h9 hc0 x0 x1 x2 x3 x4 xo)]
  unfold kernelRun0_B
  dsimp only
  sl_unfold_words
  rw [View.canon_unit_zero hz2]
  simp only [View.readAt_eq_ld, h1.read_unread, h2.read_unread, h3.read_unread, h4.read_unread, h5.read_unread, View.ld_unit_zero (S := S512x2816) hz2, View.ld_unit_zero (S := S2816x1024) hz2, View.ld_unit_zero (S := S512x1024) hz2, View.ld_unit_zero (S := S1x1024) hz2]

theorem out_B_7 (hc0 : ¬cond0_0 i) :
    out0_B_7 (F := Ideal) c i a1 h1 a2 h2 a3 h3 a4 h4 a5 h5 a6 h6 a7 h7 a8 h8 a9 h9 hc0 x0 x1 x2 x3 x4 xo = k0_pay7 (F := Ideal) x0 x1 x2 x3 x4 x3 := by
  unfold out0_B_7
  rw [View.read_writes_eq_canon _ _ _ (cover0_B_7 c i a1 h1 a2 h2 a3 h3 a4 h4 a5 h5 a6 h6 a7 h7 a8 h8 a9 h9 hc0 x0 x1 x2 x3 x4 xo)]
  unfold kernelRun0_B
  dsimp only
  sl_unfold_words
  rw [View.canon_unit_zero hz2]
  simp only [View.readAt_eq_ld, h1.read_unread, h2.read_unread, h3.read_unread, h4.read_unread, h5.read_unread, View.ld_unit_zero (S := S512x2816) hz2, View.ld_unit_zero (S := S2816x1024) hz2, View.ld_unit_zero (S := S512x1024) hz2, View.ld_unit_zero (S := S1x1024) hz2]

theorem out_B_8 (hc0 : ¬cond0_0 i) (a w x g y p : ℕ → ℕ → EReal) :
    out0_B_8 (F := Ideal) c i a1 h1 a2 h2 a3 h3 a4 h4 a5 h5 a6 h6 a7 h7 a8 h8 a9 h9 hc0 (hidden a) (weight w) (tile x)
      (row1 g) (tile y) (rows p) = rows (step a w x g y p) := by
  unfold out0_B_8 kernelRun0_B
  dsimp only
  sl_unfold_words
  simp only [View.readAt_eq_ld, h1.read_unread, h2.read_unread, h3.read_unread, h4.read_unread, h5.read_unread, h9.read_unread, View.ld_unit_zero (S := S512x2816) hz2, View.ld_unit_zero (S := S2816x1024) hz2, View.ld_unit_zero (S := S512x1024) hz2, View.ld_unit_zero (S := S1x1024) hz2]
  rw [ld_row, ld_row, pay5, pay10, pay9, pay1, pay2]
  funext q
  refine read_row _ _ 1 _ _ (step a w x g y p) _ q (by rfl) fun b1 => ?_
  refine read_row _ _ 0 _ _ (step a w x g y p) _ q (by rfl) fun b0 => ?_
  rw [View.writes_nil, h9.read_unread]
  show p _ _ = _
  unfold step
  rw [if_neg b0, if_neg b1]

theorem out_A_8 (hc0 : cond0_0 i) (a w x g y : ℕ → ℕ → EReal) :
    out0_A_8 (F := Ideal) c i a1 h1 a2 h2 a3 h3 a4 h4 a5 h5 a6 h6 a7 h7 a8 h8 a9 h9 hc0 (hidden a) (weight w) (tile x)
      (row1 g) (tile y) = rows (step a w x g y fun _ _ => 0) := by
  unfold out0_A_8 kernelRun0_A
  dsimp only
  sl_unfold_words
  simp only [View.readAt_eq_ld, h1.read_unread, h2.read_unread, h3.read_unread, h4.read_unread, h5.read_unread, h9.read_unread, View.ld_unit_zero (S := S512x2816) hz2, View.ld_unit_zero (S := S2816x1024) hz2, View.ld_unit_zero (S := S512x1024) hz2, View.ld_unit_zero (S := S1x1024) hz2]
  rw [pay3, cov_one, pay9, pay5, pay10, pay1, cov_two, pay2]
  funext q
  refine read_row _ _ 1 _ _ (step a w x g y fun _ _ => 0) _ q (by rfl) fun b1 => ?_
  refine read_row _ _ 0 _ _ (step a w x g y fun _ _ => 0) _ q (by rfl) fun b0 => ?_
  rw [View.read_writes_junk_apply_eq_canon VO0_8, View.canon_unit_zero (S := S8x1024) hz2]
  unfold step
  rw [if_neg b0, if_neg b1]
  rfl

end Case

variable (m : (ℓ : Loc nD τ sig) → Buf (Elt Ideal) ℓ)

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)
theorem idx7 : ∀ t : Fin cfg0.N, win0_7.index t (0 : Fin 2) = t.val ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)

/-- The arguments' entries. -/
structure IsArgs (c : Dev nD) (a w x g y : ℕ → ℕ → EReal) : Prop where
  a : m ((c : Thread nD τ).loc main_arg0) = fullh a
  w : m ((c : Thread nD τ).loc main_arg1) = weight w
  x : m ((c : Thread nD τ).loc main_arg2) = full x
  g : m ((c : Thread nD τ).loc main_arg3) = row1 g
  y : m ((c : Thread nD τ).loc main_arg4) = full y

variable {m} {c : Dev nD} {a w x g y : ℕ → ℕ → EReal} (H : IsArgs m c a w x g y)
include H

theorem blk0 (t : Fin cfg0.N) : iblk m c 0 t = hidden (fun s k => a (512 * t.val + s) k) := by
  funext z
  unfold iblk
  rw [View.read_apply]
  show m ((c : Thread nD τ).loc main_arg0) (((cfg0.win 0).blk t).view.emb z) = a (512 * t.val + (z 0 : ℕ)) (z 1 : ℕ)
  obtain ⟨e0, e1⟩ := idx0 t
  rw [H.a]
  show a (win0_0.index t (0 : Fin 2) * 512 + 1 * (z 0).val) (win0_0.index t (1 : Fin 2) * 2816 + 1 * (z 1).val) = _
  rw [e0, e1]
  exact congrArg₂ a (by omega) (by omega)

theorem blk1 (t : Fin cfg0.N) : iblk m c 1 t = weight w := by
  funext z
  unfold iblk
  rw [View.read_apply]
  show m ((c : Thread nD τ).loc main_arg1) (((cfg0.win 1).blk t).view.emb z) = w ((z 0 : ℕ)) (z 1 : ℕ)
  obtain ⟨e0, e1⟩ := idx1 t
  rw [H.w]
  show w (win0_1.index t (0 : Fin 2) * 2816 + 1 * (z 0).val) (win0_1.index t (1 : Fin 2) * 1024 + 1 * (z 1).val) = _
  rw [e0, e1]
  exact congrArg₂ w (by omega) (by omega)

theorem blk2 (t : Fin cfg0.N) : iblk m c 2 t = tile (fun s k => x (512 * t.val + s) k) := by
  funext z
  unfold iblk
  rw [View.read_apply]
  show m ((c : Thread nD τ).loc main_arg2) (((cfg0.win 2).blk t).view.emb z) = x (512 * t.val + (z 0 : ℕ)) (z 1 : ℕ)
  obtain ⟨e0, e1⟩ := idx2 t
  rw [H.x]
  show x (win0_2.index t (0 : Fin 2) * 512 + 1 * (z 0).val) (win0_2.index t (1 : Fin 2) * 1024 + 1 * (z 1).val) = _
  rw [e0, e1]
  exact congrArg₂ x (by omega) (by omega)

theorem blk3 (t : Fin cfg0.N) : iblk m c 3 t = row1 g := by
  funext z
  unfold iblk
  rw [View.read_apply]
  show m ((c : Thread nD τ).loc main_arg3) (((cfg0.win 3).blk t).view.emb z) = g ((z 0 : ℕ)) (z 1 : ℕ)
  obtain ⟨e0, e1⟩ := idx3 t
  rw [H.g]
  show g (win0_3.index t (0 : Fin 2) * 1 + 1 * (z 0).val) (win0_3.index t (1 : Fin 2) * 1024 + 1 * (z 1).val) = _
  rw [e0, e1]
  exact congrArg₂ g (by omega) (by omega)

theorem blk4 (t : Fin cfg0.N) : iblk m c 4 t = tile (fun s k => y (512 * t.val + s) k) := by
  funext z
  unfold iblk
  rw [View.read_apply]
  show m ((c : Thread nD τ).loc main_arg4) (((cfg0.win 4).blk t).view.emb z) = y (512 * t.val + (z 0 : ℕ)) (z 1 : ℕ)
  obtain ⟨e0, e1⟩ := idx4 t
  rw [H.y]
  show y (win0_4.index t (0 : Fin 2) * 512 + 1 * (z 0).val) (win0_4.index t (1 : Fin 2) * 1024 + 1 * (z 1).val) = _
  rw [e0, e1]
  exact congrArg₂ y (by omega) (by omega)

/-- The sums after point `n`. -/
theorem carried : ∀ (n : ℕ) (hn : n < cfg0.N),
    (outsAt0 m c n hn).2.2.2 = rows (sums a w x g y (512 * (n + 1))) := by
  intro n
  induction n with
  | zero =>
    intro hn
    rw [outsAt0_A m c ⟨0, hn⟩ (by rfl)]
    dsimp only
    rw [blk0 H, blk1 H, blk2 H, blk3 H, blk4 H, out_A_8]
    refine congrArg rows (funext fun r => funext fun k => ?_)
    unfold step sums
    simp only [Nat.mul_zero, Nat.zero_add, zero_add, Nat.mul_one]
  | succ n ih =>
    intro hn
    have ih := ih (by omega)
    have hN : n + 1 < 8 := lt_of_lt_of_eq hn (show cfg0.N = 8 from N_0)
    rw [outsAt0_B m c ⟨n + 1, hn⟩ (by dsimp only; omega)]
    dsimp only
    simp only [Nat.add_sub_cancel]
    rw [ih, blk0 H, blk1 H, blk2 H, blk3 H, blk4 H, out_B_8]
    refine congrArg rows (funext fun r => funext fun k => ?_)
    unfold step sums
    rw [sum_tile _ 512 (n + 1), sum_tile _ 512 (n + 1)]
    by_cases b0 : r = 0
    · subst b0
      rw [if_pos rfl, if_pos rfl, if_pos rfl]
      rfl
    · by_cases b1 : r = 1
      · subst b1
        rw [if_neg b0, if_pos rfl, if_neg b0, if_pos rfl, if_neg b0, if_pos rfl]
        rfl
      · rw [if_neg b0, if_neg b1, if_neg b0, if_neg b1, if_neg b0, if_neg b1]

theorem tiles (n : ℕ) (hn : n < cfg0.N) :
    (outsAt0 m c n hn).1 = tile (fun s k => dy a w x g y (512 * n + s) k)
    ∧ (outsAt0 m c n hn).2.1 = hidden (fun s k => dact a w x g y (512 * n + s) k)
    ∧ (outsAt0 m c n hn).2.2.1 = tile (fun s k => ddn a w x g y (512 * n + s) k) := by
  by_cases h : n % 8 = 0
  · rw [outsAt0_A m c ⟨n, hn⟩ h]
    dsimp only
    rw [out_A_5, out_A_6, out_A_7, blk0 H, blk1 H, blk2 H, blk3 H, blk4 H, pay6, pay7, pay8]
    exact ⟨rfl, rfl, rfl⟩
  · rw [outsAt0_B m c ⟨n, hn⟩ h]
    dsimp only
    rw [out_B_5, out_B_6, out_B_7, blk0 H, blk1 H, blk2 H, blk3 H, blk4 H, pay6, pay7, pay8]
    exact ⟨rfl, rfl, rfl⟩

theorem result5 : (dats m 0 c).arrAt 5 cfg0.N = full (dy a w x g y) := by
  refine (dats m 0 c).arrAt_eq_of_covers 5 _ (by decide +kernel) fun t hf z => ?_
  blk_simp
  rw [after0_5, (tiles H t.val t.isLt).1]
  obtain ⟨e0, e1⟩ := idx5 t
  show dy a w x g y (512 * t.val + (z 0 : ℕ)) (z 1 : ℕ) = dy a w x g y (win0_5.index t (0 : Fin 2) * 512 + 1 * (z 0).val) (win0_5.index t (1 : Fin 2) * 1024 + 1 * (z 1).val)
  rw [e0, e1]
  exact congrArg₂ (dy a w x g y) (by omega) (by omega)

theorem result6 : (dats m 0 c).arrAt 6 cfg0.N = fullh (dact a w x g y) := by
  refine (dats m 0 c).arrAt_eq_of_covers 6 _ (by decide +kernel) fun t hf z => ?_
  blk_simp
  rw [after0_6, (tiles H t.val t.isLt).2.1]
  obtain ⟨e0, e1⟩ := idx6 t
  show dact a w x g y (512 * t.val + (z 0 : ℕ)) (z 1 : ℕ) = dact a w x g y (win0_6.index t (0 : Fin 2) * 512 + 1 * (z 0).val) (win0_6.index t (1 : Fin 2) * 2816 + 1 * (z 1).val)
  rw [e0, e1]
  exact congrArg₂ (dact a w x g y) (by omega) (by omega)

theorem result7 : (dats m 0 c).arrAt 7 cfg0.N = full (ddn a w x g y) := by
  refine (dats m 0 c).arrAt_eq_of_covers 7 _ (by decide +kernel) fun t hf z => ?_
  blk_simp
  rw [after0_7, (tiles H t.val t.isLt).2.2]
  obtain ⟨e0, e1⟩ := idx7 t
  show ddn a w x g y (512 * t.val + (z 0 : ℕ)) (z 1 : ℕ) = ddn a w x g y (win0_7.index t (0 : Fin 2) * 512 + 1 * (z 0).val) (win0_7.index t (1 : Fin 2) * 1024 + 1 * (z 1).val)
  rw [e0, e1]
  exact congrArg₂ (ddn a w x g y) (by omega) (by omega)

theorem result8 : (dats m 0 c).arrAt 8 cfg0.N = rows (sums a w x g y 4096) := by
  refine (dats m 0 c).arrAt_eq_of_covers 8 _ (by decide +kernel) fun t hf z => ?_
  have hl := (flush0_8 t).mp hf
  have ht : t.val < 8 := lt_of_lt_of_eq t.isLt (show cfg0.N = 8 from N_0)
  blk_simp
  rw [after0_8, carried H t.val t.isLt, show 512 * (t.val + 1) = 4096 by omega]
  obtain ⟨e0, e1⟩ := idx8 t
  show sums a w x g y 4096 (z 0 : ℕ) (z 1 : ℕ) = sums a w x g y 4096 (win0_8.index t (0 : Fin 2) * 8 + 1 * (z 0).val) (win0_8.index t (1 : Fin 2) * 1024 + 1 * (z 1).val)
  rw [e0, e1]
  exact congrArg₂ (sums a w x g y 4096) (by omega) (by omega)

end Cert.Down
-- ==== Proof.DownRef.lean ====
/-
  The reference's second product and loss: the same residual, gradients and sums over all tokens at once.
-/
module

public import proofs.«01_k».proof.Proof.Down
public import proofs.«01_k».proof.Proof.Re
public import proofs.«01_k».proof.Proof.Gen.Reference2Ideal
public import proofs.«01_k».proof.Proof.Gen.Reference2Ideal.Run
public import proofs.«01_k».proof.Proof.Gen.Reference2Ideal.Read
public import proofs.«01_k».proof.Defs
public import Idealize.ShloMosaic.Adequacy
public import Idealize.ShloMosaic.Init
public import Idealize.ShloMosaic.Lib.Quiescent

@[expose] public section

set_option maxRecDepth 16384

noncomputable section

namespace Cert.Down

open Idealize.ShloMosaic Idealize.ShloMosaic.TcCoe Idealize.SL.Sem
open Cert.En

namespace Ref

open Cert.Reference2Ideal Cert.Reference2Ideal.Gen Cert.Reference2Ideal.Read

variable (a w x g y : ℕ → ℕ → EReal)

theorem half : Ideal.ofBits .f32 0x3F000000#32 = ((1 / 2 : ℝ) : EReal) := by
  simp [Ideal.ofBits, Ideal.ieee, -EReal.coe_mul]
  norm_num

theorem one : Ideal.ofBits .f32 0x3F800000#32 = ((1 : ℝ) : EReal) := by
  simp [Ideal.ofBits, Ideal.ieee, -EReal.coe_mul]
  norm_num

theorem two : Ideal.ofBits .f32 0x40000000#32 = ((2 : ℝ) : EReal) := by
  simp [Ideal.ofBits, Ideal.ieee, -EReal.coe_mul]
  norm_num

theorem many : Ideal.ofBits .f32 0x44800000#32 = ((1024 : ℝ) : EReal) := by
  simp [Ideal.ofBits, Ideal.ieee, -EReal.coe_mul]
  norm_num

theorem r2 : val_main_v2 (F := Ideal) (fullh a) (weight w) = full (dn a w) := by
  funext i
  rw [val_main_v2_apply]
  show _ = ∑ j ∈ Finset.range 2816, a (i 0).val j * w j (i 1).val
  rw [Finset.sum_range]
  refine Finset.sum_congr rfl fun k _ => ?_
  rw [val_main_v0_apply, val_main_v1_apply]
  rfl

theorem r6 : val_main_v6 (F := Ideal) (fullh a) (weight w) (full x) (row1 g) (full y)
    = full (err a w x g y) := by
  funext i
  rw [val_main_v6_apply, val_main_v5_apply, val_main_v4_apply, val_main_v3_apply, r2]
  rfl

theorem r29 : val_main_v29 (F := Ideal) (fullh a) (weight w) (full x) (row1 g) (full y)
    = full (err a w x g y) := by
  funext i
  rw [val_main_v29_apply, val_main_v28_apply, val_main_v27_apply, val_main_v26_apply, r2]
  rfl

theorem scale (e : EReal) : ((1 / 2048 : ℝ) : EReal) * (((2 : ℝ) : EReal) * e) = e * ((1 / 1024 : ℝ) : EReal) := by
  rw [← mul_assoc, ← EReal.coe_mul, mul_comm]
  norm_num

theorem r18 (i : S4096.Idx) : val_main_v18 (F := Ideal) i = ((1 / 2048 : ℝ) : EReal) := by
  rw [val_main_v18_apply, val_main_v16_apply, val_main_v17_apply, val_main_v15_apply, val_main_cst_4_apply, val_main_cst_5_apply, val_main_cst_6_apply]
  show Ideal.div (Ideal.ofBits .f32 0x3F000000#32 * Ideal.ofBits .f32 0x3F800000#32) (Ideal.ofBits .f32 0x44800000#32) = _
  rw [half, one, many, ← EReal.coe_mul, Cert.Attn.div_real _ (by norm_num)]
  norm_num

theorem r20 : val_main_v20 (F := Ideal) (fullh a) (weight w) (full x) (row1 g) (full y)
    = full (dy a w x g y) := by
  funext i
  rw [val_main_v20_apply, val_main_v19_apply, r18, val_main_v9_apply, r6, val_main_v8_apply, val_main_cst_apply]
  show ((1 / 2048 : ℝ) : EReal) * (Ideal.ofBits .f32 0x40000000#32 * err a w x g y _ _) = _
  rw [two, scale]
  rfl

theorem r22 : val_main_v22 (F := Ideal) (fullh a) (weight w) (full x) (row1 g) (full y)
    = full (ddn a w x g y) := by
  funext i
  rw [val_main_v22_apply, val_main_v21_apply, r20]
  exact mul_comm _ _

theorem r35 : val_main_v35 (F := Ideal) (fullh a) (weight w) (full x) (row1 g) (full y)
    = full (ddn a w x g y) := by
  funext i
  rw [val_main_v35_apply, r22]
  rfl

theorem r34 : val_main_v34 (F := Ideal) (fullh a) (weight w) (full x) (row1 g) (full y)
    = fullh (dact a w x g y) := by
  funext i
  rw [val_main_v34_apply, val_main_v33_apply, r22]
  show _ = ∑ k ∈ Finset.range 1024, ddn a w x g y (i 0).val k * w (i 1).val k
  rw [Finset.sum_range]
  refine Finset.sum_congr rfl fun k _ => ?_
  rw [val_main_v1_apply]
  rfl

theorem zeroBits : Ideal.ofBits .f32 0x00000000#32 = 0 := by
  simp [Ideal.ofBits, Ideal.ieee]

theorem r25 (i : S1x1024.Idx) : val_main_v25 (F := Ideal) (fullh a) (weight w) (full x) (row1 g) (full y) i
    = ∑ s ∈ Finset.range 4096, dy a w x g y s (i 1).val * dn a w s (i 1).val := by
  rw [val_main_v25_apply, val_main_v24_apply, val_main_cst_7_apply, Finset.sum_range]
  show Ideal.ofBits .f32 0x00000000#32 + _ = _
  rw [zeroBits, zero_add]
  refine Finset.sum_congr rfl fun k _ => ?_
  rw [val_main_v23_apply, r20, r2]
  have h0 : (i 0).val < 1 := (i 0).isLt
  have e : (i 0).val * 1024 + (i 1).val = (i 1).val := by omega
  show dy a w x g y k.val ((i 0).val * 1024 + (i 1).val) * dn a w k.val ((i 0).val * 1024 + (i 1).val) = _
  rw [e]

theorem r32 (i : S1x1024.Idx) : val_main_v32 (F := Ideal) (fullh a) (weight w) (full x) (row1 g) (full y) i
    = ∑ s ∈ Finset.range 4096, err a w x g y s (i 1).val * err a w x g y s (i 1).val := by
  rw [val_main_v32_apply, val_main_v31_apply, val_main_cst_8_apply, Finset.sum_range]
  show Ideal.ofBits .f32 0x00000000#32 + _ = _
  rw [zeroBits, zero_add]
  refine Finset.sum_congr rfl fun k _ => ?_
  rw [val_main_v30_apply, r29]
  rfl

theorem r36 (i : S6x1024.Idx) : val_main_v36 (F := Ideal) i = 0 := by
  rw [val_main_v36_apply, val_main_cst_9_apply]
  exact zeroBits

theorem r37 : val_main_v37 (F := Ideal) (fullh a) (weight w) (full x) (row1 g) (full y)
    = rows (sums a w x g y 4096) := by
  funext i
  idx_vars i
  have hq : (i0 : ℕ) < 8 := i0.isLt
  unfold val_main_v37
  pointwise []
  show _ = sums a w x g y 4096 (i0 : ℕ) (i1 : ℕ)
  unfold sums
  by_cases h : (i0 : ℕ) < 1
  · rw [if_pos (show (i0 : ℕ) = 0 by omega), dif_pos h]
    exact r25 a w x g y _
  · by_cases h' : (i0 : ℕ) - 1 < 1
    · rw [if_neg (show ¬(i0 : ℕ) = 0 by omega), if_pos (show (i0 : ℕ) = 1 by omega), dif_neg h, dif_pos h']
      exact r32 a w x g y _
    · rw [if_neg (show ¬(i0 : ℕ) = 0 by omega), if_neg (show ¬(i0 : ℕ) = 1 by omega), dif_neg h, dif_neg h']
      exact r36 _

end Ref

theorem frame_reference : Cert.quiescent_Reference2Ideal := fun m ρ _ =>
  (θ_run Cert.Reference2Ideal.defs _ _).mono
    (fun r h => ⟨fun c => (h c).2.2.2.2, sem_eq_zero_of_no_sems (by decide) r.2⟩)
    (Cert.Reference2Ideal.Value.run (F := Ideal) m ρ)

/-- The kernel and the reference compute the same residual, gradients and sums. -/
theorem value : Cert.algebraic_Kernel2Ideal_Reference2Ideal := by
  intro m ρ m' ρ' hpre hag
  let a : Dev Cert.Kernel2Ideal.nD → ℕ → ℕ → EReal := fun c =>
    at2 (a := 4096) (b := 2816) (m ((c : Thread Cert.Kernel2Ideal.nD Cert.Kernel2Ideal.τ).loc Cert.Kernel2Ideal.main_arg0))
  let w : Dev Cert.Kernel2Ideal.nD → ℕ → ℕ → EReal := fun c =>
    at2 (a := 2816) (b := 1024) (m ((c : Thread Cert.Kernel2Ideal.nD Cert.Kernel2Ideal.τ).loc Cert.Kernel2Ideal.main_arg1))
  let x : Dev Cert.Kernel2Ideal.nD → ℕ → ℕ → EReal := fun c =>
    at2 (a := 4096) (b := 1024) (m ((c : Thread Cert.Kernel2Ideal.nD Cert.Kernel2Ideal.τ).loc Cert.Kernel2Ideal.main_arg2))
  let g : Dev Cert.Kernel2Ideal.nD → ℕ → ℕ → EReal := fun c =>
    at2 (a := 1) (b := 1024) (m ((c : Thread Cert.Kernel2Ideal.nD Cert.Kernel2Ideal.τ).loc Cert.Kernel2Ideal.main_arg3))
  let y : Dev Cert.Kernel2Ideal.nD → ℕ → ℕ → EReal := fun c =>
    at2 (a := 4096) (b := 1024) (m ((c : Thread Cert.Kernel2Ideal.nD Cert.Kernel2Ideal.τ).loc Cert.Kernel2Ideal.main_arg4))
  have H : ∀ c, IsArgs m c (a c) (w c) (x c) (g c) (y c) := fun c =>
    ⟨(en2_at2 _).symm, (en2_at2 _).symm, (en2_at2 _).symm, (en2_at2 _).symm, (en2_at2 _).symm⟩
  clear_value a w x g y
  refine ⟨fun c => full (dy (a c) (w c) (x c) (g c) (y c)),
    fun c => fullh (dact (a c) (w c) (x c) (g c) (y c)),
    fun c => full (ddn (a c) (w c) (x c) (g c) (y c)),
    fun c => rows (sums (a c) (w c) (x c) (g c) (y c) 4096), ?_, ?_⟩
  · refine (θ_run Cert.Kernel2Ideal.defs _ _).mono (fun r h c => ?_) (Cert.Kernel2Ideal.Value.run_blocks m ρ)
    obtain ⟨r0, r1, r2, r3, ra⟩ := h c
    exact ⟨r0.trans (result5 (H c)), r1.trans (result6 (H c)), r2.trans (result7 (H c)), r3.trans (result8 (H c)), ra⟩
  · refine (θ_run Cert.Reference2Ideal.defs _ _).mono (fun r h c => ?_) (Cert.Reference2Ideal.Value.run (F := Ideal) m' ρ')
    obtain ⟨r0, r1, r2, r3, ra⟩ := h c
    obtain ⟨a0, a1, a2, a3, a4⟩ := hag c
    have b0 := a0.trans (H c).a
    have b1 := a1.trans (H c).w
    have b2 := a2.trans (H c).x
    have b3 := a3.trans (H c).g
    have b4 := a4.trans (H c).y
    refine ⟨r0.trans ?_, r1.trans ?_, r2.trans ?_, r3.trans ?_, ra⟩
    · rw [Cert.Reference2Ideal.Read.val_main_v20_eq, b0, b1, b2, b3, b4]
      exact Ref.r20 (a c) (w c) (x c) (g c) (y c)
    · rw [Cert.Reference2Ideal.Read.val_main_v34_eq, b0, b1, b2, b3, b4]
      exact Ref.r34 (a c) (w c) (x c) (g c) (y c)
    · rw [Cert.Reference2Ideal.Read.val_main_v35_eq, b0, b1, b2, b3, b4]
      exact Ref.r35 (a c) (w c) (x c) (g c) (y c)
    · rw [Cert.Reference2Ideal.Read.val_main_v37_eq, b0, b1, b2, b3, b4]
      exact Ref.r37 (a c) (w c) (x c) (g c) (y c)

end Cert.Down
-- ==== Proof.UpWeight.lean ====
/-
  The gradient of the widening weight: the product of the two transposed activations, summed over four tiles of tokens.
-/
module

public import proofs.«01_k».proof.Proof.En
public import proofs.«01_k».proof.Proof.Gen.Kernel3Ideal
public import proofs.«01_k».proof.Proof.Gen.Kernel3Ideal.Frame
public import proofs.«01_k».proof.Proof.Gen.Kernel3Ideal.Value
public import Idealize.ShloMosaic.Lib.Pipeline.ReadBack
public import Idealize.ShloMosaic.Lib.WritesUnit
public import Idealize.ShloMosaic.Lib.Tactic

@[expose] public section

set_option maxRecDepth 16384

noncomputable section

namespace Cert.UpWeight

open Idealize.ShloMosaic Idealize.ShloMosaic.TcCoe Idealize.SL.Sem
open Cert.Kernel3Ideal Cert.Kernel3Ideal.Gen Cert.Kernel3Ideal.Value Cert.En

/-- The running product with `n` tokens added: entry `(r, k)` of block `b`. -/
def part (x : ℕ → ℕ → EReal) (y : ℕ → ℕ → ℕ → EReal) (b n : ℕ) : ℕ → ℕ → EReal := fun r k =>
  ∑ s ∈ Finset.range n, x s r * y (b / 2) s (1408 * (b % 2) + k)

theorem part_tile (x : ℕ → ℕ → EReal) (y : ℕ → ℕ → ℕ → EReal) (b n : ℕ) (r k : ℕ) :
    part x y b (1024 * (n + 1)) r k = part x y b (1024 * n) r k
      + ∑ s ∈ Finset.range 1024, x (1024 * n + s) r * y (b / 2) (1024 * n + s) (1408 * (b % 2) + k) :=
  sum_tile _ _ _

theorem pay1 : k0_pay1 (F := Ideal) = en2 (a := 1024) (b := 1408) (fun _ _ => 0) := by
  funext j
  idx_vars j
  pointwise [k0_pay1]
  rfl

theorem pay2 (z x : ℕ → ℕ → EReal) (y : ℕ → ℕ → ℕ → EReal) :
    k0_pay2 (F := Ideal) (en2 (a := 1024) (b := 1408) z) (en2 (a := 1024) (b := 1024) x) (en3 (a := 1) (b := 1024) (c := 1408) y)
      = en2 (a := 1024) (b := 1408) (fun r k => z r k + ∑ s ∈ Finset.range 1024, x s r * y 0 s k) := by
  funext j
  idx_vars j
  pointwise [k0_pay2]
  simp only [en2_ix2, en3_ix3, Finset.sum_range]
  rfl

theorem pay3 (z : ℕ → ℕ → EReal) :
    k0_pay3 (F := Ideal) (en2 (a := 1024) (b := 1408) z) = en3 (a := 1) (b := 1024) (c := 1408) (fun _ r k => z r k) := by
  funext j
  idx_vars j
  pointwise [k0_pay3]
  rfl

theorem hz2 : (![0, 0] : Fin 2 → Nat) = fun _ => 0 := funext fun a => by fin_cases a <;> rfl
theorem hz3 : (![0, 0, 0] : Fin 3 → Nat) = fun _ => 0 := funext fun a => by fin_cases a <;> rfl

section Case

variable (c : Dev nD) (i : grid0.Coords) (a3 : Memref sig .tc .vmem S1024x1024 .bf16) (h3 : a3.IsWhole)
  (a4 : Memref sig .tc .vmem S1x1024x1408 .bf16) (h4 : a4.IsWhole) (a5 : Memref sig .tc .vmem S1x1024x1408 .bf16) (h5 : a5.IsWhole)
  (a6 : Memref sig .tc .vmem S1024x1408 .f32) (h6 : a6.IsWhole)
  (x0 : Vec Ideal S1024x1024 .bf16) (x1 : Vec Ideal S1x1024x1408 .bf16) (xs : Vec Ideal S1024x1408 .f32)

theorem sout_A (hc0 : cond0_0 i) (hc1 : ¬cond0_1 i) :
    sout0_A_0 (F := Ideal) c i a3 h3 a4 h4 a5 h5 a6 h6 hc0 hc1 x0 x1 = k0_pay2 (F := Ideal) (k0_pay1 (F := Ideal)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1408) hz2]
  simp only [View.readAt_eq_ld, h3.read_unread, h4.read_unread, View.readCov_unit_zero (S := S1024x1408) _ hz2, View.ld_unit_zero (S := S1024x1024) hz2, View.ld_unit_zero (S := S1x1024x1408) hz3]

theorem sout_B (hc0 : ¬cond0_0 i) (hc1 : ¬cond0_1 i) :
    sout0_B_0 (F := Ideal) c i a3 h3 a4 h4 a5 h5 a6 h6 hc0 hc1 x0 x1 xs = k0_pay2 (F := Ideal) xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz2]
  simp only [View.readAt_eq_ld, h3.read_unread, h4.read_unread, h6.read_unread, View.ld_unit_zero (S := S1024x1408) hz2, View.ld_unit_zero (S := S1024x1024) hz2, View.ld_unit_zero (S := S1x1024x1408) hz3]

theorem sout_C (hc0 : ¬cond0_0 i) (hc1 : cond0_1 i) :
    sout0_C_0 (F := Ideal) c i a3 h3 a4 h4 a5 h5 a6 h6 hc0 hc1 x0 x1 xs = k0_pay2 (F := Ideal) xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz2]
  simp only [View.readAt_eq_ld, h3.read_unread, h4.read_unread, h6.read_unread, View.ld_unit_zero (S := S1024x1408) hz2, View.ld_unit_zero (S := S1024x1024) hz2, View.ld_unit_zero (S := S1x1024x1408) hz3]

theorem out_C (hc0 : ¬cond0_0 i) (hc1 : cond0_1 i) :
    out0_C_2 (F := Ideal) c i a3 h3 a4 h4 a5 h5 a6 h6 hc0 hc1 x0 x1 xs = k0_pay3 (F := Ideal) (k0_pay2 (F := Ideal) xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz3]
  simp only [View.readAt_eq_ld, h3.read_unread, h4.read_unread, h6.read_unread, View.readCov_unit_zero (S := S1024x1408) _ hz2, View.ld_unit_zero (S := S1024x1408) hz2, View.ld_unit_zero (S := S1024x1024) hz2, View.ld_unit_zero (S := S1x1024x1408) hz3]

end Case

variable (m : (ℓ : Loc nD τ sig) → Buf (Elt Ideal) ℓ)

theorem idx0 : ∀ t : Fin cfg0.N, win0_0.index t (0 : Fin 2) = t.val % 4 ∧ win0_0.index t (1 : Fin 2) = 0 := (by decide +kernel : ∀ t : Fin grid0.N, _)
theorem idx1 : ∀ t : Fin cfg0.N, win0_1.index t (0 : Fin 3) = t.val / 4 / 2 ∧ win0_1.index t (1 : Fin 3) = t.val % 4
    ∧ win0_1.index t (2 : Fin 3) = t.val / 4 % 2 := (by decide +kernel : ∀ t : Fin grid0.N, _)

/-- The activations are `x` and their gradients `y`, by token. -/
structure IsArgs (c : Dev nD) (x : ℕ → ℕ → EReal) (y : ℕ → ℕ → ℕ → EReal) : Prop where
  x : m ((c : Thread nD τ).loc main_arg0) = en2 (a := 4096) (b := 1024) x
  y : m ((c : Thread nD τ).loc main_arg1) = en3 (a := 2) (b := 4096) (c := 2816) y

variable {m} {c : Dev nD} {x : ℕ → ℕ → EReal} {y : ℕ → ℕ → ℕ → EReal} (H : IsArgs m c x y)
include H

theorem blk0 (t : Fin cfg0.N) : iblk m c 0 t = en2 (a := 1024) (b := 1024) (fun s r => x (1024 * (t.val % 4) + s) r) := by
  funext z
  unfold iblk
  rw [View.read_apply]
  show m ((c : Thread nD τ).loc main_arg0) (((cfg0.win 0).blk t).view.emb z) = x (1024 * (t.val % 4) + (z 0 : ℕ)) (z 1 : ℕ)
  obtain ⟨e0, e1⟩ := idx0 t
  rw [H.x]
  show x (win0_0.index t (0 : Fin 2) * 1024 + 1 * (z 0).val) (win0_0.index t (1 : Fin 2) * 1024 + 1 * (z 1).val) = _
  rw [e0, e1]
  exact congrArg₂ x (by omega) (by omega)

theorem blk1 (t : Fin cfg0.N) : iblk m c 1 t
    = en3 (a := 1) (b := 1024) (c := 1408) (fun _ s k => y (t.val / 4 / 2) (1024 * (t.val % 4) + s) (1408 * (t.val / 4 % 2) + k)) := by
  funext z
  unfold iblk
  rw [View.read_apply]
  show m ((c : Thread nD τ).loc main_arg1) (((cfg0.win 1).blk t).view.emb z)
    = y (t.val / 4 / 2) (1024 * (t.val % 4) + (z 1 : ℕ)) (1408 * (t.val / 4 % 2) + (z 2 : ℕ))
  obtain ⟨e0, e1, e2⟩ := idx1 t
  have z0 : (z 0).val < 1 := (z 0).isLt
  rw [H.y]
  show y (win0_1.index t (0 : Fin 3) * 1 + 1 * (z 0).val) (win0_1.index t (1 : Fin 3) * 1024 + 1 * (z 1).val)
    (win0_1.index t (2 : Fin 3) * 1408 + 1 * (z 2).val) = _
  rw [e0, e1, e2]
  exact congr (congrArg₂ y (by omega) (by omega)) (by omega)

/-- The carried product after point `n`. -/
theorem carried : ∀ (n : ℕ) (hn : n < cfg0.N),
    (outsAt0 m c n hn).2 = en2 (a := 1024) (b := 1408) (part x y (n / 4) (1024 * (n % 4 + 1))) := by
  intro n
  induction n with
  | zero =>
    intro hn
    rw [outsAt0_A m c ⟨0, hn⟩ (by rfl) (by dsimp only; omega)]
    dsimp only
    rw [sout_A, blk0 H, blk1 H, pay1, pay2]
    congr 1
    funext r k
    rw [part_tile]
    simp [part]
  | succ n ih =>
    intro hn
    have ih := ih (by omega)
    have hN : n + 1 < 16 := lt_of_lt_of_eq hn (show cfg0.N = 16 from N_0)
    by_cases h0 : (n + 1) % 4 = 0
    · rw [outsAt0_A m c ⟨n + 1, hn⟩ h0 (by dsimp only; omega)]
      dsimp only
      rw [sout_A, blk0 H, blk1 H, pay1, pay2]
      congr 1
      funext r k
      rw [part_tile]
      dsimp only
      rw [h0]
      simp [part]
    · have e1 : (n + 1) % 4 = n % 4 + 1 := by omega
      have e2 : (n + 1) / 4 = n / 4 := by omega
      have key : k0_pay2 (F := Ideal) (outsAt0 m c n (by omega)).2 (iblk m c 0 ⟨n + 1, hn⟩) (iblk m c 1 ⟨n + 1, hn⟩)
          = en2 (a := 1024) (b := 1408) (part x y ((n + 1) / 4) (1024 * ((n + 1) % 4 + 1))) := by
        rw [ih, blk0 H, blk1 H, pay2]
        congr 1
        funext r k
        rw [e1, e2, part_tile x y _ (n % 4 + 1)]
      by_cases h1 : (n + 1) % 4 = 3
      · rw [outsAt0_C m c ⟨n + 1, hn⟩ h0 h1]
        dsimp only
        rw [sout_C]
        exact key
      · rw [outsAt0_B m c ⟨n + 1, hn⟩ h0 h1]
        dsimp only
        rw [sout_B]
        exact key

/-- What a point that ends a block writes. -/
theorem written (n : ℕ) (hn : n < cfg0.N) (h1 : n % 4 = 3) :
    (outsAt0 m c n hn).1 = en3 (a := 1) (b := 1024) (c := 1408) (fun _ r k => part x y (n / 4) 4096 r k) := by
  have e := carried H n hn
  rw [outsAt0_C m c ⟨n, hn⟩ (by dsimp only; omega) h1] at e ⊢
  dsimp only at e ⊢
  rw [sout_C] at e
  rw [out_C, e, h1, pay3]

/-- The whole array of the gradient. -/
theorem result :
    G2 m c = en3 (a := 4) (b := 1024) (c := 1408) (fun b r k => part x y b 4096 r k) := by
  funext i
  have h0 : (i 0).val < 4 := (i 0).isLt
  have h1 : (i 1).val < 1024 := (i 1).isLt
  have h2 : (i 2).val < 1408 := (i 2).isLt
  have hr : run2Of i = (i 0).val := by unfold run2Of; omega
  have hp : pt2Of i < cfg0.N := by
    have : cfg0.N = 16 := N_0
    unfold pt2Of
    rw [hr]
    omega
  unfold G2
  rw [dif_pos hp, ← outsAt0_sweep m c _ hp, written H _ hp (by unfold pt2Of; omega)]
  show part x y (pt2Of i / 4) 4096 ((i 1).val % 1024) ((i 2).val % 1408) = part x y (i 0).val 4096 (i 1).val (i 2).val
  rw [Nat.mod_eq_of_lt h1, Nat.mod_eq_of_lt h2]
  congr 1
  unfold pt2Of
  omega

end Cert.UpWeight
-- ==== Proof.UpWeightRef.lean ====
/-
  The reference's gradient of the widening weight: one product over all tokens, cut in four blocks of columns.
-/
module

public import proofs.«01_k».proof.Proof.UpWeight
public import proofs.«01_k».proof.Proof.Gen.Reference3Ideal
public import proofs.«01_k».proof.Proof.Gen.Reference3Ideal.Run
public import proofs.«01_k».proof.Proof.Gen.Reference3Ideal.Read
public import proofs.«01_k».proof.Defs
public import Idealize.ShloMosaic.Adequacy
public import Idealize.ShloMosaic.Init
public import Idealize.ShloMosaic.Lib.Quiescent

@[expose] public section

set_option maxRecDepth 16384

noncomputable section

namespace Cert.UpWeight

open Idealize.ShloMosaic Idealize.ShloMosaic.TcCoe Idealize.SL.Sem
open Cert.En

namespace Ref

open Cert.Reference3Ideal Cert.Reference3Ideal.Gen Cert.Reference3Ideal.Read

variable (x : ℕ → ℕ → EReal) (y : ℕ → ℕ → ℕ → EReal)

abbrev X : (⟨S4096x1024, .bf16⟩ : BufTy).Contents (Elt Ideal) := en2 (a := 4096) (b := 1024) x
abbrev Y : (⟨S2x4096x2816, .bf16⟩ : BufTy).Contents (Elt Ideal) := en3 (a := 2) (b := 4096) (c := 2816) y

theorem r1 (i : S4096x2816.Idx) : val_main_v1 (F := Ideal) (Y y) i = y 0 (i 0) (i 1) := by
  have h0 : (i 0).val < 4096 := (i 0).isLt
  have h1 : (i 1).val < 2816 := (i 1).isLt
  rw [val_main_v1_apply, val_main_v0_apply]
  show y 0 (((i 0).val * 2816 + (i 1).val) / 2816 % 4096) (((i 0).val * 2816 + (i 1).val) % 2816) = _
  exact congrArg₂ (y 0) (by omega) (by omega)

theorem r3 (i : S4096x2816.Idx) : val_main_v3 (F := Ideal) (Y y) i = y 1 (i 0) (i 1) := by
  have h0 : (i 0).val < 4096 := (i 0).isLt
  have h1 : (i 1).val < 2816 := (i 1).isLt
  rw [val_main_v3_apply, val_main_v2_apply]
  show y (1 + 0) (((i 0).val * 2816 + (i 1).val) / 2816 % 4096) (((i 0).val * 2816 + (i 1).val) % 2816) = _
  exact congrArg₂ (y 1) (by omega) (by omega)

theorem r4 (i : S4096x5632.Idx) : val_main_v4 (F := Ideal) (Y y) i = y ((i 1 : ℕ) / 2816) (i 0) ((i 1 : ℕ) % 2816) := by
  idx_vars i
  unfold val_main_v4
  pointwise []
  have hq : (i1 : ℕ) < 5632 := i1.isLt
  split_ifs with h
  · rw [r1]
    dsimp only [ix2_0, ix2_1]
    rw [Nat.div_eq_of_lt h, Nat.mod_eq_of_lt h]
  · rw [r3]
    dsimp only [ix2_0, ix2_1]
    rw [show (i1 : ℕ) / 2816 = 1 by omega, show (i1 : ℕ) % 2816 = (i1 : ℕ) - 2816 by omega]
  · exact absurd rfl ‹¬(1 : Fin 2).val = (1 : Fin 2).val›

theorem r9 (i : S5632x1024.Idx) : val_main_v9 (F := Ideal) (X x) (Y y) i
    = ∑ s ∈ Finset.range 4096, x s (i 1) * y ((i 0 : ℕ) / 2816) s ((i 0 : ℕ) % 2816) := by
  rw [val_main_v9_apply, Finset.sum_range]
  refine Finset.sum_congr rfl fun k _ => ?_
  rw [val_main_v8_apply, val_main_v6_apply]
  show val_main_v4 (F := Ideal) (Y y) (lidx_main_v9 i k) * _ = _
  rw [r4, mul_comm]
  rfl

theorem r13 : val_main_v13 (F := Ideal) (X x) (Y y) = en3 (a := 4) (b := 1024) (c := 1408) (fun b r k => part x y b 4096 r k) := by
  funext i
  have h0 : (i 0).val < 4 := (i 0).isLt
  have h1 : (i 1).val < 1024 := (i 1).isLt
  have h2 : (i 2).val < 1408 := (i 2).isLt
  rw [val_main_v13_apply, val_main_v12_apply, val_main_v11_apply]
  show val_main_v10 (F := Ideal) (X x) (Y y) (idx_main_v12 (idx_main_v13 i)) = _
  rw [val_main_v10_apply, r9]
  show _ = ∑ s ∈ Finset.range 4096, x s (i 1).val * y ((i 0).val / 2) s (1408 * ((i 0).val % 2) + (i 2).val)
  refine Finset.sum_congr rfl fun s _ => ?_
  show x s ((((i 1).val * 4 + (i 0).val) * 1408 + (i 2).val) / 5632)
      * y ((((i 1).val * 4 + (i 0).val) * 1408 + (i 2).val) % 5632 / 2816) s ((((i 1).val * 4 + (i 0).val) * 1408 + (i 2).val) % 5632 % 2816)
    = x s (i 1).val * y ((i 0).val / 2) s (1408 * ((i 0).val % 2) + (i 2).val)
  rw [show (((i 1).val * 4 + (i 0).val) * 1408 + (i 2).val) / 5632 = (i 1).val by omega,
    show (((i 1).val * 4 + (i 0).val) * 1408 + (i 2).val) % 5632 / 2816 = (i 0).val / 2 by omega,
    show (((i 1).val * 4 + (i 0).val) * 1408 + (i 2).val) % 5632 % 2816 = 1408 * ((i 0).val % 2) + (i 2).val by omega]

end Ref

theorem frame_reference : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- The kernel and the reference compute the same sums. -/
theorem value : Cert.algebraic_Kernel3Ideal_Reference3Ideal := by
  intro m g m' g' hpre hag
  let x : Dev Cert.Kernel3Ideal.nD → ℕ → ℕ → EReal := fun c =>
    at2 (a := 4096) (b := 1024) (m ((c : Thread Cert.Kernel3Ideal.nD Cert.Kernel3Ideal.τ).loc Cert.Kernel3Ideal.main_arg0))
  let y : Dev Cert.Kernel3Ideal.nD → ℕ → ℕ → ℕ → EReal := fun c =>
    at3 (a := 2) (b := 4096) (c := 2816) (m ((c : Thread Cert.Kernel3Ideal.nD Cert.Kernel3Ideal.τ).loc Cert.Kernel3Ideal.main_arg1))
  have H : ∀ c, IsArgs m c (x c) (y c) := fun c => ⟨(en2_at2 _).symm, (en3_at3 _).symm⟩
  clear_value x y
  refine ⟨fun c => en3 (a := 4) (b := 1024) (c := 1408) (fun b r k => part (x c) (y c) b 4096 r k), ?_, ?_⟩
  · refine (θ_run Cert.Kernel3Ideal.defs _ _).mono (fun r h c => ?_) (Cert.Kernel3Ideal.Value.run m g)
    exact ⟨(h c).1.trans (result (H c)), (h c).2⟩
  · refine (θ_run Cert.Reference3Ideal.defs _ _).mono (fun r h c => ?_) (Cert.Reference3Ideal.Value.run (F := Ideal) m' g')
    obtain ⟨r0, ra⟩ := h c
    obtain ⟨a0, a1⟩ := hag c
    have b0 := a0.trans (H c).x
    have b1 := a1.trans (H c).y
    refine ⟨r0.trans ?_, ra⟩
    rw [Cert.Reference3Ideal.Read.val_main_v13_eq, b0, b1]
    exact Ref.r13 (x c) (y c)

end Cert.UpWeight
-- ==== Proof.UpBwd.lean ====
/-
  The gradient through the up projection and the norm before it: the products of the two halves, added up in a scratch array, then the
  gradient of the stream, of the attention's output, and the four sums over all tokens.
-/
module

public import proofs.«01_k».proof.Proof.En
public import proofs.«01_k».proof.Proof.Re
public import proofs.«01_k».proof.Proof.Gen.Kernel4Ideal
public import proofs.«01_k».proof.Proof.Gen.Kernel4Ideal.Frame
public import proofs.«01_k».proof.Proof.Gen.Kernel4Ideal.Value
public import Idealize.ShloMosaic.Lib.Pipeline.ReadBack
public import Idealize.ShloMosaic.Lib.WritesUnit
public import Idealize.ShloMosaic.Lib.Tactic
public import Idealize.ShloMosaic.Lib.Pipeline.ValueKit

@[expose] public section

set_option maxRecDepth 16384

noncomputable section

namespace Cert.UpBwd

open Idealize.ShloMosaic Idealize.ShloMosaic.TcCoe Idealize.SL.Sem
open Cert.Kernel4Ideal Cert.Kernel4Ideal.Gen Cert.Kernel4Ideal.Value Cert.Attn

/-- The array of rank three whose entry at `(i, j, k)` is the real `f i j k`. -/
def re3 {a b c : ℕ} (f : ℕ → ℕ → ℕ → ℝ) : (⟨3, ![a, b, c]⟩ : Shape).Idx → EReal := fun i => ((f (i 0) (i 1) (i 2) : ℝ) : EReal)

theorem re3_ix3 {a b c : ℕ} (f : ℕ → ℕ → ℕ → ℝ) (i : Fin a) (j : Fin b) (k : Fin c) :
    re3 (a := a) (b := b) (c := c) f (ix3 i j k) = ((f i j k : ℝ) : EReal) := rfl

/-! The arrays of the call: whole ones, tiles of rows, rows, and the blocks of the gradient and of the weight. -/

abbrev tile (f : ℕ → ℕ → ℝ) := re2 (a := 512) (b := 1024) f
abbrev row1 (f : ℕ → ℕ → ℝ) := re2 (a := 1) (b := 1024) f
abbrev rows (f : ℕ → ℕ → ℝ) := re2 (a := 8) (b := 1024) f
abbrev full (f : ℕ → ℕ → ℝ) := re2 (a := 4096) (b := 1024) f
abbrev gtile (f : ℕ → ℕ → ℕ → ℝ) := re3 (a := 1) (b := 512) (c := 2816) f
abbrev wtile (f : ℕ → ℕ → ℕ → ℝ) := re3 (a := 2) (b := 1024) (c := 1408) f
abbrev gblk (f : ℕ → ℕ → ℕ → ℝ) := re3 (a := 1) (b := 512) (c := 1408) f
abbrev wblk (f : ℕ → ℕ → ℕ → ℝ) := re3 (a := 1) (b := 1024) (c := 1408) f

/-- The small number that the norm adds under the root. -/
def eps : ℝ := 8796093 / 8796093022208

/-- The mean of the squares, with the small number. -/
def ms (x : ℕ → ℕ → ℝ) : ℕ → ℝ := fun r => (∑ j ∈ Finset.range 1024, x r j * x r j) / 1024 + eps

/-- The norm's factor. -/
def rho (x : ℕ → ℕ → ℝ) : ℕ → ℝ := fun r => (√(ms x r))⁻¹

/-- The normalised stream. -/
def xn (x : ℕ → ℕ → ℝ) : ℕ → ℕ → ℝ := fun r k => x r k * rho x r

/-- The product of one half: two blocks of columns. -/
def part (u w : ℕ → ℕ → ℕ → ℝ) : ℕ → ℕ → ℝ := fun r k =>
  (∑ j ∈ Finset.range 1408, u 0 r j * w 0 k j) + ∑ j ∈ Finset.range 1408, u 0 r (1408 + j) * w 1 k j

/-- The gradient at the normalised stream. -/
def dxn (d n s : ℕ → ℕ → ℝ) : ℕ → ℕ → ℝ := fun r k => d r k * (n 0 k * (1 + s 0 k))

/-- The gradient of the stream. -/
def dx (d x y n s : ℕ → ℕ → ℝ) : ℕ → ℕ → ℝ := fun r k =>
  y r k + rho x r * (dxn d n s r k - xn x r k * ((∑ j ∈ Finset.range 1024, dxn d n s r j * xn x r j) / 1024))

/-- The gradient of the attention's output. -/
def dm (d x y n s g : ℕ → ℕ → ℝ) : ℕ → ℕ → ℝ := fun r k => dx d x y n s r k * g 0 k

/-- The four sums over the first `N` tokens. -/
def sums (d x y m n s : ℕ → ℕ → ℝ) (N : ℕ) : ℕ → ℕ → ℝ := fun r k =>
  if r = 0 then ∑ i ∈ Finset.range N, d i k
  else if r = 1 then (∑ i ∈ Finset.range N, d i k * xn x i k) * n 0 k
  else if r = 2 then (∑ i ∈ Finset.range N, d i k * xn x i k) * (1 + s 0 k)
  else if r = 3 then ∑ i ∈ Finset.range N, dx d x y n s i k * m i k
  else 0

/-- One tile more of the four sums, over the rows before. -/
def step (d x y m n s p : ℕ → ℕ → ℝ) : ℕ → ℕ → ℝ := fun r k =>
  if r = 0 then p 0 k + ∑ i ∈ Finset.range 512, d i k
  else if r = 1 then p 1 k + (∑ i ∈ Finset.range 512, d i k * xn x i k) * n 0 k
  else if r = 2 then p 2 k + (∑ i ∈ Finset.range 512, d i k * xn x i k) * (1 + s 0 k)
  else if r = 3 then p 3 k + ∑ i ∈ Finset.range 512, dx d x y n s i k * m i k
  else p r k

theorem epsBits : Ideal.ofBits .f32 0x358637BD#32 = ((eps : ℝ) : EReal) := by
  simp [Ideal.ofBits, Ideal.ieee, -EReal.coe_mul, eps]
  norm_num

theorem many : Ideal.ofBits .f32 0x44800000#32 = ((1024 : ℝ) : EReal) := by
  simp [Ideal.ofBits, Ideal.ieee, -EReal.coe_mul]
  norm_num

theorem ms_pos (x : ℕ → ℕ → ℝ) (r : ℕ) : 0 < ms x r := by
  have h : 0 ≤ ∑ j ∈ Finset.range 1024, x r j * x r j := Finset.sum_nonneg fun j _ => mul_self_nonneg _
  unfold ms eps
  positivity

theorem rsqrt_ms (x : ℕ → ℕ → ℝ) (r : ℕ) : Ideal.rsqrt ((ms x r : ℝ) : EReal) = ((rho x r : ℝ) : EReal) := by
  rw [Ideal.rsqrt_coe, if_neg (not_lt.mpr (ms_pos x r).le), if_neg (ms_pos x r).ne']
  rfl

section Pay

variable (d x y m n s g p : ℕ → ℕ → ℝ)

theorem pay1 : k0_pay1 (F := Ideal) = tile (fun _ _ => 0) := by
  funext j
  idx_vars j
  pointwise [k0_pay1]
  rfl

theorem pay2 : k0_pay2 (F := Ideal) = rows (fun _ _ => 0) := by
  funext j
  idx_vars j
  pointwise [k0_pay2]
  rfl

theorem pay3 (u v w z : ℕ → ℕ → ℕ → ℝ) :
    k0_pay3 (F := Ideal) (tile d) (gblk u) (wblk w)
      (gblk v) (wblk z)
      = tile (fun r k => d r k + ((∑ j ∈ Finset.range 1408, u 0 r j * w 0 k j) + ∑ j ∈ Finset.range 1408, v 0 r j * z 0 k j)) := by
  funext j
  idx_vars j
  pointwise [k0_pay3]
  simp only [re2_ix2, re3_ix3, EReal.coe_add, coe_sum, EReal.coe_mul, Finset.sum_range]
  rfl

theorem pay4 : k0_pay4 (F := Ideal) (tile x) = re2 (a := 512) (b := 1) (fun r _ => rho x r) := by
  funext j
  idx_vars j
  pointwise [k0_pay4]
  simp only [re2_ix2, ← EReal.coe_mul]
  rw [sum_fin fun k => x j0 k * x j0 k]
  refine Eq.trans ?_ (rsqrt_ms x j0)
  refine congrArg Ideal.rsqrt ?_
  rw [many, epsBits, div_real _ (by norm_num), ← EReal.coe_add]
  rfl

theorem pay5 : k0_pay5 (F := Ideal) (tile x) = tile (xn x) := by
  unfold k0_pay5
  rw [pay4]
  funext j
  idx_vars j
  pointwise []
  simp only [re2_ix2, ← EReal.coe_mul]
  rfl

theorem pay6 : k0_pay6 (F := Ideal) (tile d) (row1 p)
    = row1 (fun r k => p r k + ∑ i ∈ Finset.range 512, d i k) := by
  funext j
  idx_vars j
  pointwise [k0_pay6]
  simp only [re2_ix2]
  rw [sum_fin fun i => d i j1, ← EReal.coe_add]

theorem pay7 : k0_pay7 (F := Ideal) (tile d) (tile x) (row1 n) (row1 p)
    = row1 (fun r k => p r k + (∑ i ∈ Finset.range 512, d i k * xn x i k) * n r k) := by
  unfold k0_pay7
  rw [pay5]
  funext j
  idx_vars j
  pointwise []
  simp only [re2_ix2, ← EReal.coe_mul]
  rw [sum_fin fun i => d i j1 * xn x i j1, ← EReal.coe_mul, ← EReal.coe_add]

theorem pay8 : k0_pay8 (F := Ideal) (row1 p) = row1 p := by
  funext j
  idx_vars j
  pointwise [k0_pay8]

theorem pay9 : k0_pay9 (F := Ideal) (tile d) (tile x)
    = row1 (fun r k => ∑ i ∈ Finset.range 512, d i k * xn x i k) := by
  unfold k0_pay9
  rw [pay5]
  funext j
  idx_vars j
  pointwise []
  simp only [re2_ix2, ← EReal.coe_mul]
  rw [sum_fin fun i => d i j1 * xn x i j1]

theorem pay10 (q : ℕ → ℕ → ℝ) : k0_pay10 (F := Ideal) (row1 s) (row1 p) (row1 q) (Scalar.ofBits .f32 0x3F800000#32)
    = row1 (fun r k => p r k + q r k * (1 + s r k)) := by
  funext j
  idx_vars j
  pointwise [k0_pay10]
  rw [← EReal.coe_one]
  simp only [re2_ix2, ← EReal.coe_mul, ← EReal.coe_add]

theorem pay11 : k0_pay11 (F := Ideal) (tile d) (re2 (a := 512) (b := 1) (fun r _ => rho x r)) (tile (xn x))
      (row1 n) (row1 s) (tile y)
    = tile (dx d x y n s) := by
  funext j
  idx_vars j
  pointwise [k0_pay11]
  rw [← EReal.coe_one, many]
  simp only [re2_ix2, ← EReal.coe_mul, ← EReal.coe_add]
  refine Eq.trans (congrArg (fun v => ((y j0 j1 : ℝ) : EReal) + ((rho x j0 : ℝ) : EReal) * (((dxn d n s j0 j1 : ℝ) : EReal) - ((xn x j0 j1 : ℝ) : EReal) * Ideal.div v ((1024 : ℝ) : EReal)))
    (sum_fin (n := 1024) fun k => dxn d n s j0 k * xn x j0 k)) ?_
  rw [div_real _ (by norm_num)]
  simp only [← EReal.coe_mul, ← EReal.coe_add, ← EReal.coe_sub]
  rfl

theorem pay12 : k0_pay12 (F := Ideal) (tile d) (re2 (a := 512) (b := 1) (fun r _ => rho x r)) (tile (xn x))
      (row1 n) (row1 s) (tile y) (row1 p) (tile m)
    = row1 (fun r k => p r k + ∑ i ∈ Finset.range 512, dx d x y n s i k * m i k) := by
  unfold k0_pay12
  rw [pay11]
  funext j
  idx_vars j
  pointwise []
  simp only [re2_ix2, ← EReal.coe_mul]
  rw [sum_fin fun i => dx d x y n s i j1 * m i j1, ← EReal.coe_add]

theorem pay13 : k0_pay13 (F := Ideal) (tile d) (re2 (a := 512) (b := 1) (fun r _ => rho x r)) (tile (xn x))
      (row1 n) (row1 s) (tile y) (row1 g)
    = tile (dm d x y n s g) := by
  unfold k0_pay13
  rw [pay11]
  funext j
  idx_vars j
  pointwise []
  simp only [re2_ix2, ← EReal.coe_mul]
  rfl

end Pay

theorem hz2 : (![0, 0] : Fin 2 → Nat) = fun _ => 0 := funext fun a => by fin_cases a <;> rfl

/-- A row read out of an array of eight rows. -/
theorem ld_row (p : ℕ → ℕ → ℝ) (o : ℕ) (inb) :
    View.ld (Val := Elt Ideal) (e' := .f32) (rows p) (Rect.unit (s := S8x1024) ![o, 0] ![1, 1024] inb) = row1 (fun r k => p (o + r) k) := by
  funext z
  show ((p (o + 1 * (z 0 : ℕ)) (0 + 1 * (z 1 : ℕ)) : ℝ) : EReal) = ((p (o + (z 0 : ℕ)) (z 1 : ℕ) : ℝ) : EReal)
  rw [Nat.one_mul, Nat.one_mul, Nat.zero_add]

/-- A block of columns read out of the gradient of the products. -/
theorem ld_col (u : ℕ → ℕ → ℕ → ℝ) (o : ℕ) (inb) :
    View.ld (Val := Elt Ideal) (e' := .bf16) (gtile u) (Rect.unit (s := S1x512x2816) ![0, 0, o] ![1, 512, 1408] inb)
      = gblk (fun b r j => u b r (o + j)) := by
  funext z
  show ((u (0 + 1 * (z 0 : ℕ)) (0 + 1 * (z 1 : ℕ)) (o + 1 * (z 2 : ℕ)) : ℝ) : EReal) = ((u (z 0 : ℕ) (z 1 : ℕ) (o + (z 2 : ℕ)) : ℝ) : EReal)
  simp only [Nat.one_mul, Nat.zero_add]

/-- A block of the weight. -/
theorem ld_wt (w : ℕ → ℕ → ℕ → ℝ) (o : ℕ) (inb) :
    View.ld (Val := Elt Ideal) (e' := .bf16) (wtile w) (Rect.unit (s := S2x1024x1408) ![o, 0, 0] ![1, 1024, 1408] inb)
      = wblk (fun b r j => w (o + b) r j) := by
  funext z
  show ((w (o + 1 * (z 0 : ℕ)) (0 + 1 * (z 1 : ℕ)) (0 + 1 * (z 2 : ℕ)) : ℝ) : EReal) = ((w (o + (z 0 : ℕ)) (z 1 : ℕ) (z 2 : ℕ) : ℝ) : EReal)
  simp only [Nat.one_mul, Nat.zero_add]

/-- A row written over an array of eight rows. -/
theorem read_row {sp : Space} (v : View sig .tc sp S8x1024 .f32) (f : v.ty.Contents (Elt Ideal)) (o : ℕ)
    (inb) (w X : ℕ → ℕ → ℝ) (L : List (View.Piece (Elt Ideal) S8x1024 .f32)) (y : S8x1024.Idx)
    (hw : w 0 (y 1 : ℕ) = X o (y 1 : ℕ))
    (hX : (y 0 : ℕ) ≠ o → v.read (Elt Ideal) (v.writes (Elt Ideal) f L) y = ((X (y 0 : ℕ) (y 1 : ℕ) : ℝ) : EReal)) :
    v.read (Elt Ideal) (v.writes (Elt Ideal) f
        ((⟨Rect.unit (s := S8x1024) ![o, 0] ![1, 1024] inb, row1 w⟩ : View.Piece (Elt Ideal) S8x1024 .f32) :: L)) y
      = ((X (y 0 : ℕ) (y 1 : ℕ) : ℝ) : EReal) := by
  rw [View.read_writes_cons_rows (o := o) (W := 1) v f inb _ L y rfl rfl rfl]
  split_ifs with h
  · show ((w _ _ : ℝ) : EReal) = ((X _ _ : ℝ) : EReal)
    have e0 : (y 0 : ℕ) = o := by omega
    rw [Rect.unitLocal_val, Rect.unitLocal_val]
    simp only [Matrix.cons_val_zero, Matrix.cons_val_one]
    rw [e0, Nat.sub_self, Nat.sub_zero, hw]
  · exact hX (by omega)

section Case

variable (c : Dev nD) (i : grid0.Coords) (a2 : Memref sig .tc .vmem S1x512x2816 .bf16) (h2 : a2.IsWhole)
  (a3 : Memref sig .tc .vmem S2x1024x1408 .bf16) (h3 : a3.IsWhole) (a4 : Memref sig .tc .vmem S512x1024 .f32) (h4 : a4.IsWhole)
  (a5 : Memref sig .tc .vmem S512x1024 .f32) (h5 : a5.IsWhole) (a6 : Memref sig .tc .vmem S512x1024 .bf16) (h6 : a6.IsWhole)
  (a7 : Memref sig .tc .vmem S1x1024 .f32) (h7 : a7.IsWhole) (a8 : Memref sig .tc .vmem S1x1024 .f32) (h8 : a8.IsWhole)
  (a9 : Memref sig .tc .vmem S1x1024 .f32) (h9 : a9.IsWhole) (a10 : Memref sig .tc .vmem S512x1024 .f32) (h10 : a10.IsWhole)
  (a11 : Memref sig .tc .vmem S512x1024 .bf16) (h11 : a11.IsWhole) (a12 : Memref sig .tc .vmem S8x1024 .f32) (h12 : a12.IsWhole)
  (a13 : Memref sig .tc .vmem S512x1024 .f32) (h13 : a13.IsWhole)
  (u w : ℕ → ℕ → ℕ → ℝ) (x y m n s g p q : ℕ → ℕ → ℝ)

theorem sout_A (hc0 : cond0_0 i) (hc1 : cond0_1 i) (hc2 : ¬cond0_2 i) :
    sout0_A_0 (F := Ideal) c i a2 h2 a3 h3 a4 h4 a5 h5 a6 h6 a7 h7 a8 h8 a9 h9 a10 h10 a11 h11 a12 h12 a13 h13 hc0 hc1 hc2 (gtile u) (wtile w) (tile x) (tile y) (tile m) (row1 n) (row1 s) (row1 g)
      = tile (part u w) := by
  unfold sout0_A_0
  rw [View.read_writes_eq_canon _ _ _ (scover0_A_0 c i a2 h2 a3 h3 a4 h4 a5 h5 a6 h6 a7 h7 a8 h8 a9 h9 a10 h10 a11 h11 a12 h12 a13 h13 hc0 hc1 hc2 _ _ _ _ _ _ _ _)]
  unfold kernelRun0_A
  dsimp only
  sl_unfold_words
  rw [View.canon_cons_unit_zero (S := S512x1024) hz2]
  simp only [View.readAt_eq_ld, h2.read_unread, h3.read_unread, View.readCov_unit_zero (S := S512x1024) _ hz2, ld_col, ld_wt]
  rw [pay1, pay3]
  refine congrArg tile (funext fun r => funext fun k => ?_)
  simp only [zero_add, Nat.zero_add]
  rfl

theorem sout_C (hc0 : cond0_0 i) (hc1 : ¬cond0_1 i) (hc2 : ¬cond0_2 i) :
    sout0_C_0 (F := Ideal) c i a2 h2 a3 h3 a4 h4 a5 h5 a6 h6 a7 h7 a8 h8 a9 h9 a10 h10 a11 h11 a12 h12 a13 h13 hc0 hc1 hc2 (gtile u) (wtile w) (tile x) (tile y) (tile m) (row1 n) (row1 s) (row1 g)
      = tile (part u w) := by
  unfold sout0_C_0
  rw [View.read_writes_eq_canon _ _ _ (scover0_C_0 c i a2 h2 a3 h3 a4 h4 a5 h5 a6 h6 a7 h7 a8 h8 a9 h9 a10 h10 a11 h11 a12 h12 a13 h13 hc0 hc1 hc2 _ _ _ _ _ _ _ _)]
  unfold kernelRun0_C
  dsimp only
  sl_unfold_words
  rw [View.canon_cons_unit_zero (S := S512x1024) hz2]
  simp only [View.readAt_eq_ld, h2.read_unread, h3.read_unread, View.readCov_unit_zero (S := S512x1024) _ hz2, ld_col, ld_wt]
  rw [pay1, pay3]
  refine congrArg tile (funext fun r => funext fun k => ?_)
  simp only [zero_add, Nat.zero_add]
  rfl

theorem sout_B (hc0 : ¬cond0_0 i) (hc1 : ¬cond0_1 i) (hc2 : cond0_2 i) :
    sout0_B_0 (F := Ideal) c i a2 h2 a3 h3 a4 h4 a5 h5 a6 h6 a7 h7 a8 h8 a9 h9 a10 h10 a11 h11 a12 h12 a13 h13 hc0 hc1 hc2 (gtile u) (wtile w) (tile x) (tile y) (tile m) (row1 n) (row1 s) (row1 g) (rows p) (tile q)
      = tile (fun r k => q r k + part u w r k) := by
  unfold sout0_B_0
  rw [View.read_writes_eq_canon _ _ _ (scover0_B_0 c i a2 h2 a3 h3 a4 h4 a5 h5 a6 h6 a7 h7 a8 h8 a9 h9 a10 h10 a11 h11 a12 h12 a13 h13 hc0 hc1 hc2 _ _ _ _ _ _ _ _ _ _)]
  unfold kernelRun0_B
  dsimp only
  sl_unfold_words
  rw [View.canon_unit_zero (S := S512x1024) hz2]
  simp only [View.readAt_eq_ld, h2.read_unread, h3.read_unread, h13.read_unread, View.ld_unit_zero (S := S512x1024) hz2, ld_col, ld_wt]
  rw [pay3]
  refine congrArg tile (funext fun r => funext fun k => ?_)
  simp only [Nat.zero_add]
  rfl

theorem out_B_8 (hc0 : ¬cond0_0 i) (hc1 : ¬cond0_1 i) (hc2 : cond0_2 i) :
    out0_B_8 (F := Ideal) c i a2 h2 a3 h3 a4 h4 a5 h5 a6 h6 a7 h7 a8 h8 a9 h9 a10 h10 a11 h11 a12 h12 a13 h13 hc0 hc1 hc2 (gtile u) (wtile w) (tile x) (tile y) (tile m) (row1 n) (row1 s) (row1 g) (rows p) (tile q)
      = tile (dx (fun r k => q r k + part u w r k) x y n s) := by
  unfold out0_B_8
  rw [View.read_writes_eq_canon _ _ _ (cover0_B_8 c i a2 h2 a3 h3 a4 h4 a5 h5 a6 h6 a7 h7 a8 h8 a9 h9 a10 h10 a11 h11 a12 h12 a13 h13 hc0 hc1 hc2 _ _ _ _ _ _ _ _ _ _)]
  unfold kernelRun0_B
  dsimp only
  sl_unfold_words
  rw [View.canon_unit_zero (S := S512x1024) hz2]
  simp only [View.readAt_eq_ld, h2.read_unread, h3.read_unread, h4.read_unread, h5.read_unread, h6.read_unread, h7.read_unread, h8.read_unread, h9.read_unread, h13.read_unread, View.ld_unit_zero (S := S512x1024) hz2, View.ld_unit_zero (S := S1x1024) hz2, View.readCov_unit_zero (S := S512x1024) _ hz2, ld_col, ld_wt]
  rw [pay3, pay4, pay5, pay11]
  simp only [Nat.zero_add]
  rfl

theorem out_B_9 (hc0 : ¬cond0_0 i) (hc1 : ¬cond0_1 i) (hc2 : cond0_2 i) :
    out0_B_9 (F := Ideal) c i a2 h2 a3 h3 a4 h4 a5 h5 a6 h6 a7 h7 a8 h8 a9 h9 a10 h10 a11 h11 a12 h12 a13 h13 hc0 hc1 hc2 (gtile u) (wtile w) (tile x) (tile y) (tile m) (row1 n) (row1 s) (row1 g) (rows p) (tile q)
      = tile (dm (fun r k => q r k + part u w r k) x y n s g) := by
  unfold out0_B_9
  rw [View.read_writes_eq_canon _ _ _ (cover0_B_9 c i a2 h2 a3 h3 a4 h4 a5 h5 a6 h6 a7 h7 a8 h8 a9 h9 a10 h10 a11 h11 a12 h12 a13 h13 hc0 hc1 hc2 _ _ _ _ _ _ _ _ _ _)]
  unfold kernelRun0_B
  dsimp only
  sl_unfold_words
  rw [View.canon_unit_zero (S := S512x1024) hz2]
  simp only [View.readAt_eq_ld, h2.read_unread, h3.read_unread, h4.read_unread, h5.read_unread, h6.read_unread, h7.read_unread, h8.read_unread, h9.read_unread, h13.read_unread, View.ld_unit_zero (S := S512x1024) hz2, View.ld_unit_zero (S := S1x1024) hz2, View.readCov_unit_zero (S := S512x1024) _ hz2, ld_col, ld_wt]
  rw [pay3, pay4, pay5, pay13]
  simp only [Nat.zero_add]
  rfl

theorem out_B_10 (hc0 : ¬cond0_0 i) (hc1 : ¬cond0_1 i) (hc2 : cond0_2 i) :
    out0_B_10 (F := Ideal) c i a2 h2 a3 h3 a4 h4 a5 h5 a6 h6 a7 h7 a8 h8 a9 h9 a10 h10 a11 h11 a12 h12 a13 h13 hc0 hc1 hc2 (gtile u) (wtile w) (tile x) (tile y) (tile m) (row1 n) (row1 s) (row1 g) (rows p) (tile q)
      = rows (step (fun r k => q r k + part u w r k) x y m n s p) := by
  unfold out0_B_10 kernelRun0_B
  dsimp only
  sl_unfold_words
  simp only [View.readAt_eq_ld, h2.read_unread, h3.read_unread, h4.read_unread, h5.read_unread, h6.read_unread, h7.read_unread, h8.read_unread, h9.read_unread, h12.read_unread, h13.read_unread, View.ld_unit_zero (S := S512x1024) hz2, View.ld_unit_zero (S := S1x1024) hz2, View.readCov_unit_zero (S := S512x1024) _ hz2, ld_col, ld_wt]
  rw [ld_row, ld_row, ld_row, ld_row, pay3, pay4, pay5, pay12, pay8, pay9, pay10, pay7, pay6]
  simp only [Nat.zero_add]
  funext z
  refine read_row _ _ 3 _ _ (step (fun r k => q r k + part u w r k) x y m n s p) _ z (by rfl) fun b3 => ?_
  refine read_row _ _ 2 _ _ (step (fun r k => q r k + part u w r k) x y m n s p) _ z (by rfl) fun b2 => ?_
  refine read_row _ _ 1 _ _ (step (fun r k => q r k + part u w r k) x y m n s p) _ z (by rfl) fun b1 => ?_
  refine read_row _ _ 0 _ _ (step (fun r k => q r k + part u w r k) x y m n s p) _ z (by rfl) fun b0 => ?_
  rw [View.writes_nil, h12.read_unread]
  show ((p _ _ : ℝ) : EReal) = _
  unfold step
  rw [if_neg b0, if_neg b1, if_neg b2, if_neg b3]

theorem out_A_10 (hc0 : cond0_0 i) (hc1 : cond0_1 i) (hc2 : ¬cond0_2 i) :
    out0_A_10 (F := Ideal) c i a2 h2 a3 h3 a4 h4 a5 h5 a6 h6 a7 h7 a8 h8 a9 h9 a10 h10 a11 h11 a12 h12 a13 h13 hc0 hc1 hc2 (gtile u) (wtile w) (tile x) (tile y) (tile m) (row1 n) (row1 s) (row1 g)
      = rows (fun _ _ => 0) := by
  unfold out0_A_10
  rw [View.read_writes_eq_canon _ _ _ (cover0_A_10 c i a2 h2 a3 h3 a4 h4 a5 h5 a6 h6 a7 h7 a8 h8 a9 h9 a10 h10 a11 h11 a12 h12 a13 h13 hc0 hc1 hc2 _ _ _ _ _ _ _ _)]
  unfold kernelRun0_A
  dsimp only
  sl_unfold_words
  rw [View.canon_unit_zero (S := S8x1024) hz2, pay2]

end Case

/-- One block of columns' part of the product, out of the whole arrays. -/
def pt (u w : ℕ → ℕ → ℕ → ℝ) (e : ℕ) : ℕ → ℕ → ℝ := part (fun b => u (e + b)) (fun b => w (2 * e + b))

/-- The gradient at the norm's output. -/
def dh (u w : ℕ → ℕ → ℕ → ℝ) : ℕ → ℕ → ℝ := fun r k => pt u w 0 r k + pt u w 1 r k

theorem sum_more (f : ℕ → ℝ) (i : ℕ) :
    (∑ k ∈ Finset.range (512 * (i + 1)), f k) = (∑ k ∈ Finset.range (512 * i), f k) + ∑ k ∈ Finset.range 512, f (512 * i + k) := by
  rw [Nat.mul_add_one, Finset.sum_range_add]

theorem step_sums (d x y m n s : ℕ → ℕ → ℝ) (i : ℕ) :
    step (fun r => d (512 * i + r)) (fun r => x (512 * i + r)) (fun r => y (512 * i + r)) (fun r => m (512 * i + r)) n s (sums d x y m n s (512 * i))
      = sums d x y m n s (512 * (i + 1)) := by
  funext r k
  unfold step sums
  simp only [sum_more]
  by_cases b0 : r = 0
  · subst b0
    simp only [if_true]
  by_cases b1 : r = 1
  · subst b1
    simp only [if_true, b0, if_false, add_mul]
    rfl
  by_cases b2 : r = 2
  · subst b2
    simp only [if_true, b0, b1, if_false, add_mul]
    rfl
  by_cases b3 : r = 3
  · subst b3
    simp only [if_true, b0, b1, b2, if_false]
    rfl
  · simp only [b0, b1, b2, b3, if_false]

variable (mem : (ℓ : Loc nD τ sig) → Buf (Elt Ideal) ℓ)

theorem idx0 : ∀ t : Fin cfg0.N, win0_0.index t (0 : Fin 3) = t.val % 2 ∧ win0_0.index t (1 : Fin 3) = t.val / 2 ∧ win0_0.index t (2 : Fin 3) = 0 := (by decide +kernel : ∀ t : Fin grid0.N, _)
theorem idx1 : ∀ t : Fin cfg0.N, win0_1.index t (0 : Fin 3) = t.val % 2 ∧ win0_1.index t (1 : Fin 3) = 0 ∧ win0_1.index t (2 : Fin 3) = 0 := (by decide +kernel : ∀ t : Fin grid0.N, _)
theorem idx2 : ∀ t : Fin cfg0.N, win0_2.index t (0 : Fin 2) = t.val / 2 ∧ win0_2.index t (1 : Fin 2) = 0 := (by decide +kernel : ∀ t : Fin grid0.N, _)
theorem idx3 : ∀ t : Fin cfg0.N, win0_3.index t (0 : Fin 2) = t.val / 2 ∧ win0_3.index t (1 : Fin 2) = 0 := (by decide +kernel : ∀ t : Fin grid0.N, _)
theorem idx4 : ∀ t : Fin cfg0.N, win0_4.index t (0 : Fin 2) = t.val / 2 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = t.val / 2 ∧ win0_8.index t (1 : Fin 2) = 0 := (by decide +kernel : ∀ t : Fin grid0.N, _)
theorem idx9 : ∀ t : Fin cfg0.N, win0_9.index t (0 : Fin 2) = t.val / 2 ∧ win0_9.index t (1 : Fin 2) = 0 := (by decide +kernel : ∀ t : Fin grid0.N, _)
theorem idx10 : ∀ t : Fin cfg0.N, win0_10.index t (0 : Fin 2) = 0 ∧ win0_10.index t (1 : Fin 2) = 0 := (by decide +kernel : ∀ t : Fin grid0.N, _)

/-- The arguments' entries. -/
structure IsArgs (c : Dev nD) (u w : ℕ → ℕ → ℕ → ℝ) (x y m n s g : ℕ → ℕ → ℝ) : Prop where
  u : mem ((c : Thread nD τ).loc main_arg0) = re3 (a := 2) (b := 4096) (c := 2816) u
  w : mem ((c : Thread nD τ).loc main_arg1) = re3 (a := 4) (b := 1024) (c := 1408) w
  x : mem ((c : Thread nD τ).loc main_arg2) = full x
  y : mem ((c : Thread nD τ).loc main_arg3) = full y
  m : mem ((c : Thread nD τ).loc main_arg4) = full m
  n : mem ((c : Thread nD τ).loc main_arg5) = row1 n
  s : mem ((c : Thread nD τ).loc main_arg6) = row1 s
  g : mem ((c : Thread nD τ).loc main_arg7) = row1 g

variable {mem} {c : Dev nD} {u w : ℕ → ℕ → ℕ → ℝ} {x y m n s g : ℕ → ℕ → ℝ} (H : IsArgs mem c u w x y m n s g)
include H

theorem blk0 (t : Fin cfg0.N) : iblk mem c 0 t = gtile (fun b r => u (t.val % 2 + b) (512 * (t.val / 2) + r)) := by
  funext z
  unfold iblk
  rw [View.read_apply]
  show mem ((c : Thread nD τ).loc main_arg0) (((cfg0.win 0).blk t).view.emb z) = ((u (t.val % 2 + (z 0 : ℕ)) (512 * (t.val / 2) + (z 1 : ℕ)) (z 2 : ℕ) : ℝ) : EReal)
  obtain ⟨e0, e1, e2⟩ := idx0 t
  rw [H.u]
  show ((u (win0_0.index t (0 : Fin 3) * 1 + 1 * (z 0).val) (win0_0.index t (1 : Fin 3) * 512 + 1 * (z 1).val) (win0_0.index t (2 : Fin 3) * 2816 + 1 * (z 2).val) : ℝ) : EReal) = _
  rw [e0, e1, e2]
  exact congrArg _ (congr (congrArg₂ u (by omega) (by omega)) (by omega))

theorem blk1 (t : Fin cfg0.N) : iblk mem c 1 t = wtile (fun b => w (2 * (t.val % 2) + b)) := by
  funext z
  unfold iblk
  rw [View.read_apply]
  show mem ((c : Thread nD τ).loc main_arg1) (((cfg0.win 1).blk t).view.emb z) = ((w (2 * (t.val % 2) + (z 0 : ℕ)) (z 1 : ℕ) (z 2 : ℕ) : ℝ) : EReal)
  obtain ⟨e0, e1, e2⟩ := idx1 t
  rw [H.w]
  show ((w (win0_1.index t (0 : Fin 3) * 2 + 1 * (z 0).val) (win0_1.index t (1 : Fin 3) * 1024 + 1 * (z 1).val) (win0_1.index t (2 : Fin 3) * 1408 + 1 * (z 2).val) : ℝ) : EReal) = _
  rw [e0, e1, e2]
  exact congrArg _ (congr (congrArg₂ w (by omega) (by omega)) (by omega))

theorem blk2 (t : Fin cfg0.N) : iblk mem c 2 t = tile (fun r => x (512 * (t.val / 2) + r)) := by
  funext z
  unfold iblk
  rw [View.read_apply]
  show mem ((c : Thread nD τ).loc main_arg2) (((cfg0.win 2).blk t).view.emb z) = ((x (512 * (t.val / 2) + (z 0 : ℕ)) (z 1 : ℕ) : ℝ) : EReal)
  obtain ⟨e0, e1⟩ := idx2 t
  rw [H.x]
  show ((x (win0_2.index t (0 : Fin 2) * 512 + 1 * (z 0).val) (win0_2.index t (1 : Fin 2) * 1024 + 1 * (z 1).val) : ℝ) : EReal) = _
  rw [e0, e1]
  exact congrArg _ (congrArg₂ x (by omega) (by omega))

theorem blk3 (t : Fin cfg0.N) : iblk mem c 3 t = tile (fun r => y (512 * (t.val / 2) + r)) := by
  funext z
  unfold iblk
  rw [View.read_apply]
  show mem ((c : Thread nD τ).loc main_arg3) (((cfg0.win 3).blk t).view.emb z) = ((y (512 * (t.val / 2) + (z 0 : ℕ)) (z 1 : ℕ) : ℝ) : EReal)
  obtain ⟨e0, e1⟩ := idx3 t
  rw [H.y]
  show ((y (win0_3.index t (0 : Fin 2) * 512 + 1 * (z 0).val) (win0_3.index t (1 : Fin 2) * 1024 + 1 * (z 1).val) : ℝ) : EReal) = _
  rw [e0, e1]
  exact congrArg _ (congrArg₂ y (by omega) (by omega))

theorem blk4 (t : Fin cfg0.N) : iblk mem c 4 t = tile (fun r => m (512 * (t.val / 2) + r)) := by
  funext z
  unfold iblk
  rw [View.read_apply]
  show mem ((c : Thread nD τ).loc main_arg4) (((cfg0.win 4).blk t).view.emb z) = ((m (512 * (t.val / 2) + (z 0 : ℕ)) (z 1 : ℕ) : ℝ) : EReal)
  obtain ⟨e0, e1⟩ := idx4 t
  rw [H.m]
  show ((m (win0_4.index t (0 : Fin 2) * 512 + 1 * (z 0).val) (win0_4.index t (1 : Fin 2) * 1024 + 1 * (z 1).val) : ℝ) : EReal) = _
  rw [e0, e1]
  exact congrArg _ (congrArg₂ m (by omega) (by omega))

theorem blk5 (t : Fin cfg0.N) : iblk mem c 5 t = row1 n := by
  funext z
  unfold iblk
  rw [View.read_apply]
  show mem ((c : Thread nD τ).loc main_arg5) (((cfg0.win 5).blk t).view.emb z) = ((n (z 0 : ℕ) (z 1 : ℕ) : ℝ) : EReal)
  obtain ⟨e0, e1⟩ := idx5 t
  rw [H.n]
  show ((n (win0_5.index t (0 : Fin 2) * 1 + 1 * (z 0).val) (win0_5.index t (1 : Fin 2) * 1024 + 1 * (z 1).val) : ℝ) : EReal) = _
  rw [e0, e1]
  exact congrArg _ (congrArg₂ n (by omega) (by omega))

theorem blk6 (t : Fin cfg0.N) : iblk mem c 6 t = row1 s := by
  funext z
  unfold iblk
  rw [View.read_apply]
  show mem ((c : Thread nD τ).loc main_arg6) (((cfg0.win 6).blk t).view.emb z) = ((s (z 0 : ℕ) (z 1 : ℕ) : ℝ) : EReal)
  obtain ⟨e0, e1⟩ := idx6 t
  rw [H.s]
  show ((s (win0_6.index t (0 : Fin 2) * 1 + 1 * (z 0).val) (win0_6.index t (1 : Fin 2) * 1024 + 1 * (z 1).val) : ℝ) : EReal) = _
  rw [e0, e1]
  exact congrArg _ (congrArg₂ s (by omega) (by omega))

theorem blk7 (t : Fin cfg0.N) : iblk mem c 7 t = row1 g := by
  funext z
  unfold iblk
  rw [View.read_apply]
  show mem ((c : Thread nD τ).loc main_arg7) (((cfg0.win 7).blk t).view.emb z) = ((g (z 0 : ℕ) (z 1 : ℕ) : ℝ) : EReal)
  obtain ⟨e0, e1⟩ := idx7 t
  rw [H.g]
  show ((g (win0_7.index t (0 : Fin 2) * 1 + 1 * (z 0).val) (win0_7.index t (1 : Fin 2) * 1024 + 1 * (z 1).val) : ℝ) : EReal) = _
  rw [e0, e1]
  exact congrArg _ (congrArg₂ g (by omega) (by omega))

/-- The scratch array after the first point of a tile, and the sums after every point. -/
theorem carried : ∀ (k : ℕ) (hk : k < cfg0.N),
    (k % 2 = 0 → (outsAt0 mem c k hk).2.2.2 = tile (fun r => pt u w 0 (512 * (k / 2) + r)))
    ∧ (outsAt0 mem c k hk).2.2.1 = rows (sums (dh u w) x y m n s (512 * ((k + 1) / 2))) := by
  intro k
  induction k with
  | zero =>
    intro hk
    rw [outsAt0_A mem c ⟨0, hk⟩ (by rfl) (by rfl) (by dsimp only; omega)]
    dsimp only
    rw [blk0 H, blk1 H, blk2 H, blk3 H, blk4 H, blk5 H, blk6 H, blk7 H, sout_A, out_A_10]
    refine ⟨fun _ => rfl, congrArg rows (funext fun r => funext fun k => ?_)⟩
    simp [sums]
  | succ k ih =>
    intro hk
    have ih := ih (by omega)
    have hN : k + 1 < 16 := lt_of_lt_of_eq hk (show cfg0.N = 16 from N_0)
    by_cases h : k % 2 = 0
    · refine ⟨fun h' => absurd h' (by omega), ?_⟩
      rw [outsAt0_B mem c ⟨k + 1, hk⟩ (by dsimp only; omega) (by dsimp only; omega) (by dsimp only; omega)]
      dsimp only
      simp only [Nat.add_sub_cancel]
      rw [ih.1 h, ih.2, blk0 H, blk1 H, blk2 H, blk3 H, blk4 H, blk5 H, blk6 H, blk7 H, out_B_10]
      have e : (k + 1) / 2 = k / 2 := by omega
      have e' : (k + 1) % 2 = 1 := by omega
      have e2 : (k + 1 + 1) / 2 = k / 2 + 1 := by omega
      simp only [e, e', e2]
      exact congrArg rows (step_sums (dh u w) x y m n s (k / 2))
    · rw [outsAt0_C mem c ⟨k + 1, hk⟩ (by dsimp only; omega) (by dsimp only; omega) (by dsimp only; omega)]
      dsimp only
      simp only [Nat.add_sub_cancel]
      rw [ih.2, blk0 H, blk1 H, blk2 H, blk3 H, blk4 H, blk5 H, blk6 H, blk7 H, sout_C]
      have e' : (k + 1) % 2 = 0 := by omega
      have e2 : (k + 1 + 1) / 2 = (k + 1) / 2 := by omega
      simp only [e', e2]
      exact ⟨fun _ => rfl, rfl⟩

theorem tiles (k : ℕ) (hk : k < cfg0.N) (h : k % 2 = 1) :
    (outsAt0 mem c k hk).1 = tile (fun r => dx (dh u w) x y n s (512 * (k / 2) + r))
    ∧ (outsAt0 mem c k hk).2.1 = tile (fun r => dm (dh u w) x y n s g (512 * (k / 2) + r)) := by
  obtain ⟨j, rfl⟩ : ∃ j, k = j + 1 := ⟨k - 1, by omega⟩
  have hN : j + 1 < 16 := lt_of_lt_of_eq hk (show cfg0.N = 16 from N_0)
  have i := carried H j (by omega)
  rw [outsAt0_B mem c ⟨j + 1, hk⟩ (by dsimp only; omega) (by dsimp only; omega) (by dsimp only; omega)]
  dsimp only
  simp only [Nat.add_sub_cancel]
  rw [i.1 (by omega), i.2, blk0 H, blk1 H, blk2 H, blk3 H, blk4 H, blk5 H, blk6 H, blk7 H, out_B_8, out_B_9]
  have e : (j + 1) / 2 = j / 2 := by omega
  simp only [e, h]
  exact ⟨rfl, rfl⟩

theorem result8 : (dats mem 0 c).arrAt 8 cfg0.N = full (dx (dh u w) x y n s) := by
  refine (dats mem 0 c).arrAt_eq_of_covers 8 _ (by decide +kernel) fun t hf z => ?_
  blk_simp
  rw [after0_8, (tiles H t.val t.isLt ((flush0_8 t).mp hf)).1]
  obtain ⟨e0, e1⟩ := idx8 t
  show ((dx (dh u w) x y n s (512 * (t.val / 2) + (z 0 : ℕ)) (z 1 : ℕ) : ℝ) : EReal) = ((dx (dh u w) x y n s (win0_8.index t (0 : Fin 2) * 512 + 1 * (z 0).val) (win0_8.index t (1 : Fin 2) * 1024 + 1 * (z 1).val) : ℝ) : EReal)
  rw [e0, e1]
  exact congrArg _ (congrArg₂ (dx (dh u w) x y n s) (by omega) (by omega))

theorem result9 : (dats mem 0 c).arrAt 9 cfg0.N = full (dm (dh u w) x y n s g) := by
  refine (dats mem 0 c).arrAt_eq_of_covers 9 _ (by decide +kernel) fun t hf z => ?_
  blk_simp
  rw [after0_9, (tiles H t.val t.isLt ((flush0_9 t).mp hf)).2]
  obtain ⟨e0, e1⟩ := idx9 t
  show ((dm (dh u w) x y n s g (512 * (t.val / 2) + (z 0 : ℕ)) (z 1 : ℕ) : ℝ) : EReal) = ((dm (dh u w) x y n s g (win0_9.index t (0 : Fin 2) * 512 + 1 * (z 0).val) (win0_9.index t (1 : Fin 2) * 1024 + 1 * (z 1).val) : ℝ) : EReal)
  rw [e0, e1]
  exact congrArg _ (congrArg₂ (dm (dh u w) x y n s g) (by omega) (by omega))

theorem result10 : (dats mem 0 c).arrAt 10 cfg0.N = rows (sums (dh u w) x y m n s 4096) := by
  refine (dats mem 0 c).arrAt_eq_of_covers 10 _ (by decide +kernel) fun t hf z => ?_
  have hl := (flush0_10 t).mp hf
  have ht : t.val < 16 := lt_of_lt_of_eq t.isLt (show cfg0.N = 16 from N_0)
  blk_simp
  rw [after0_10, (carried H t.val t.isLt).2, show 512 * ((t.val + 1) / 2) = 4096 by omega]
  obtain ⟨e0, e1⟩ := idx10 t
  show ((sums (dh u w) x y m n s 4096 (z 0 : ℕ) (z 1 : ℕ) : ℝ) : EReal) = ((sums (dh u w) x y m n s 4096 (win0_10.index t (0 : Fin 2) * 8 + 1 * (z 0).val) (win0_10.index t (1 : Fin 2) * 1024 + 1 * (z 1).val) : ℝ) : EReal)
  rw [e0, e1]
  exact congrArg _ (congrArg₂ (sums (dh u w) x y m n s 4096) (by omega) (by omega))

end Cert.UpBwd
-- ==== Proof.UpBwdRef.lean ====
/-
  The reference's gradient through the up projection and the norm: the same gradients and sums over all tokens at once, for finite arguments.
-/
module

public import proofs.«01_k».proof.Proof.UpBwd
public import proofs.«01_k».proof.Proof.Finite
public import proofs.«01_k».proof.Pre_up_finite
public import proofs.«01_k».proof.Proof.Gen.Reference4Ideal
public import proofs.«01_k».proof.Proof.Gen.Reference4Ideal.Run
public import proofs.«01_k».proof.Proof.Gen.Reference4Ideal.Read
public import proofs.«01_k».proof.Defs
public import Idealize.ShloMosaic.Adequacy
public import Idealize.ShloMosaic.Init
public import Idealize.ShloMosaic.Lib.Quiescent

@[expose] public section

set_option maxRecDepth 16384

noncomputable section

namespace Cert.UpBwd

open Idealize.ShloMosaic Idealize.ShloMosaic.TcCoe Idealize.SL.Sem Cert.Attn

namespace Ref

open Cert.Reference4Ideal Cert.Reference4Ideal.Gen Cert.Reference4Ideal.Read

variable (u w : ℕ → ℕ → ℕ → ℝ) (x y m n s g : ℕ → ℕ → ℝ)

/-- The whole gradient at the two products. -/
abbrev gfull (f : ℕ → ℕ → ℕ → ℝ) := re3 (a := 2) (b := 4096) (c := 2816) f

/-- The whole weight, in its four blocks. -/
abbrev wfull (f : ℕ → ℕ → ℕ → ℝ) := re3 (a := 4) (b := 1024) (c := 1408) f

theorem zeroBits : Ideal.ofBits .f32 0x00000000#32 = 0 := by
  simp [Ideal.ofBits, Ideal.ieee]

theorem oneBits : Ideal.ofBits .f32 0x3F800000#32 = ((1 : ℝ) : EReal) := by
  simp [Ideal.ofBits, Ideal.ieee, -EReal.coe_mul]
  norm_num

theorem halfBits : Ideal.ofBits .f32 0xBF000000#32 = ((-(1 / 2) : ℝ) : EReal) := by
  simp [Ideal.ofBits, Ideal.ieee, -EReal.coe_mul]
  norm_num

theorem r16 : val_main_v16 (F := Ideal) (full x) = re2 (a := 4096) (b := 1) (fun r _ => ms x r) := by
  funext i
  rw [val_main_v16_apply, val_main_v14_apply, val_main_v12_apply, val_main_v11_apply, val_main_v13_apply, val_main_v15_apply, val_main_cst_0_apply, val_main_cst_1_apply, val_main_cst_2_apply]
  show Ideal.div (Ideal.ofBits .f32 0x00000000#32 + ∑ k : Fin 1024, ((x (i 0).val k.val : ℝ) : EReal) * ((x (i 0).val k.val : ℝ) : EReal)) (Ideal.ofBits .f32 0x44800000#32) + Ideal.ofBits .f32 0x358637BD#32 = ((ms x (i 0).val : ℝ) : EReal)
  simp only [← EReal.coe_mul]
  rw [zeroBits, zero_add, many, epsBits, sum_fin fun k => x (i 0).val k * x (i 0).val k, div_real _ (by norm_num), ← EReal.coe_add]
  rfl

theorem r17 : val_main_v17 (F := Ideal) (full x) = re2 (a := 4096) (b := 1) (fun r _ => rho x r) := by
  funext i
  rw [val_main_v17_apply, r16]
  exact rsqrt_ms x (i 0).val

theorem r20 : val_main_v20 (F := Ideal) (full x) = re2 (a := 4096) (b := 1) (fun r _ => -(1 / 2) * (rho x r / ms x r)) := by
  funext i
  rw [val_main_v20_apply, val_main_v18_apply, r17, r16, val_main_v19_apply, val_main_cst_3_apply]
  show Ideal.ofBits .f32 0xBF000000#32 * Ideal.div ((rho x (i 0).val : ℝ) : EReal) ((ms x (i 0).val : ℝ) : EReal) = _
  rw [halfBits, div_real _ (ms_pos x _).ne', ← EReal.coe_mul]
  rfl

theorem r22 : val_main_v22 (F := Ideal) (full x) = full (xn x) := by
  funext i
  rw [val_main_v22_apply, val_main_v21_apply, r17]
  exact (EReal.coe_mul _ _).symm

theorem r24 : val_main_v24 (F := Ideal) (full x) (row1 n) = full (fun r k => xn x r k * n 0 k) := by
  funext i
  rw [val_main_v24_apply, val_main_v23_apply, r22]
  exact (EReal.coe_mul _ _).symm

theorem r26 : val_main_v26 (F := Ideal) (row1 s) = row1 (fun r k => 1 + s r k) := by
  funext i
  rw [val_main_v26_apply, val_main_v25_apply, val_main_cst_4_apply]
  show Ideal.ofBits .f32 0x3F800000#32 + ((s (i 0).val (i 1).val : ℝ) : EReal) = _
  rw [oneBits]
  exact (EReal.coe_add _ _).symm

theorem r2 : val_main_v2 (F := Ideal) (wfull w) = re2 (a := 1024) (b := 5632) (fun k j => w (j / 1408) k (j % 1408)) := by
  funext i
  rw [val_main_v2_apply, val_main_v1_apply, val_main_v0_apply]
  have h0 : (i 0).val < 1024 := (i 0).isLt
  have h1 : (i 1).val < 5632 := (i 1).isLt
  show ((w (((i 0).val * 5632 + (i 1).val) / 1408 % 4) (((i 0).val * 5632 + (i 1).val) / 5632) (((i 0).val * 5632 + (i 1).val) % 1408) : ℝ) : EReal) = ((w ((i 1).val / 1408) (i 0).val ((i 1).val % 1408) : ℝ) : EReal)
  exact congrArg _ (congr (congrArg₂ w (by omega) (by omega)) (by omega))

theorem r8 : val_main_v8 (F := Ideal) (gfull u) = re2 (a := 4096) (b := 5632) (fun r j => if j < 2816 then u 0 r j else u 1 r (j - 2816)) := by
  funext i
  rw [val_main_v8_apply]
  idx_vars i
  have h0 : (i0 : ℕ) < 4096 := i0.isLt
  have h1 : (i1 : ℕ) < 5632 := i1.isLt
  unfold val_main_v7
  pointwise []
  show _ = (((if (i1 : ℕ) < 2816 then u 0 i0 i1 else u 1 i0 (i1 - 2816)) : ℝ) : EReal)
  by_cases h : (i1 : ℕ) < 2816
  · rw [if_pos h, dif_pos h, val_main_v4_apply, val_main_v3_apply]
    show ((u 0 (((i0 : ℕ) * 2816 + (i1 : ℕ)) / 2816 % 4096) (((i0 : ℕ) * 2816 + (i1 : ℕ)) % 2816) : ℝ) : EReal) = _
    exact congrArg _ (congrArg₂ (u 0) (by omega) (by omega))
  · rw [if_neg h, dif_neg h, val_main_v6_apply, val_main_v5_apply]
    show ((u 1 (((i0 : ℕ) * 2816 + ((i1 : ℕ) - 2816)) / 2816 % 4096) (((i0 : ℕ) * 2816 + ((i1 : ℕ) - 2816)) % 2816) : ℝ) : EReal) = _
    exact congrArg _ (congrArg₂ (u 1) (by omega) (by omega))

theorem dot_eq (r k : ℕ) : (∑ j ∈ Finset.range 5632, (if j < 2816 then u 0 r j else u 1 r (j - 2816)) * w (j / 1408) k (j % 1408)) = dh u w r k := by
  show (∑ j ∈ Finset.range (1408 + 1408 + 1408 + 1408), (if j < 2816 then u 0 r j else u 1 r (j - 2816)) * w (j / 1408) k (j % 1408)) = _
  rw [Finset.sum_range_add, Finset.sum_range_add, Finset.sum_range_add, add_assoc (_ + _)]
  refine congrArg₂ _ (congrArg₂ _ ?_ ?_) (congrArg₂ _ ?_ ?_)
  · refine Finset.sum_congr rfl fun j hj => ?_
    have h := Finset.mem_range.mp hj
    rw [if_pos (by omega), show j / 1408 = 0 by omega, show j % 1408 = j by omega]
  · refine Finset.sum_congr rfl fun j hj => ?_
    have h := Finset.mem_range.mp hj
    rw [if_pos (by omega), show (1408 + j) / 1408 = 1 by omega, show (1408 + j) % 1408 = j by omega]
  · refine Finset.sum_congr rfl fun j hj => ?_
    have h := Finset.mem_range.mp hj
    rw [if_neg (by omega), show (1408 + 1408 + j) / 1408 = 2 by omega, show (1408 + 1408 + j) % 1408 = j by omega, show 1408 + 1408 + j - 2816 = j by omega]
  · refine Finset.sum_congr rfl fun j hj => ?_
    have h := Finset.mem_range.mp hj
    rw [if_neg (by omega), show (1408 + 1408 + 1408 + j) / 1408 = 3 by omega, show (1408 + 1408 + 1408 + j) % 1408 = j by omega,
      show 1408 + 1408 + 1408 + j - 2816 = 1408 + j by omega]

theorem r32 : val_main_v32 (F := Ideal) (gfull u) (wfull w) = full (dh u w) := by
  funext i
  rw [val_main_v32_apply, r8, r2]
  refine Eq.trans (Finset.sum_congr rfl fun k _ => (EReal.coe_mul _ _).symm) (Eq.trans (sum_fin (n := 5632) fun j => (if j < 2816 then u 0 (i 0).val j else u 1 (i 0).val (j - 2816)) * w (j / 1408) (i 1).val (j % 1408)) ?_)
  exact congrArg _ (dot_eq u w (i 0).val (i 1).val)

theorem r39 : val_main_v39 (F := Ideal) (gfull u) (wfull w) (row1 s) = full (fun r k => dh u w r k * (1 + s 0 k)) := by
  funext i
  rw [val_main_v39_apply, r32, val_main_v38_apply, r26]
  exact (EReal.coe_mul _ _).symm

theorem r44 : val_main_v44 (F := Ideal) (gfull u) (wfull w) (row1 n) (row1 s) = full (dxn (dh u w) n s) := by
  funext i
  rw [val_main_v44_apply, r39, val_main_v43_apply]
  refine (EReal.coe_mul _ _).symm.trans (congrArg _ ?_)
  show dh u w _ _ * (1 + s 0 _) * n 0 _ = dh u w _ _ * (n 0 _ * (1 + s 0 _))
  ring

theorem r47 (i : S4096x1.Idx) : val_main_v47 (F := Ideal) (gfull u) (wfull w) (full x) (row1 n) (row1 s) i
    = ((∑ j ∈ Finset.range 1024, x (i 0).val j * dxn (dh u w) n s (i 0).val j : ℝ) : EReal) := by
  rw [val_main_v47_apply, val_main_v46_apply, val_main_cst_8_apply]
  show Ideal.ofBits .f32 0x00000000#32 + _ = _
  rw [zeroBits, zero_add, ← sum_fin fun j => x (i 0).val j * dxn (dh u w) n s (i 0).val j]
  refine Finset.sum_congr rfl fun k _ => ?_
  rw [val_main_v45_apply, r44]
  have h : (i 1).val < 1 := (i 1).isLt
  have e : (i 0).val * 1 + (i 1).val = (i 0).val := by omega
  refine (EReal.coe_mul _ _).symm.trans (congrArg _ ?_)
  show x ((i 0).val * 1 + (i 1).val) k.val * dxn (dh u w) n s ((i 0).val * 1 + (i 1).val) k.val = _
  rw [e]

theorem r59 : val_main_v59 (F := Ideal) (gfull u) (wfull w) (full x) (full y) (row1 n) (row1 s) = full (dx (dh u w) x y n s) := by
  funext i
  rw [val_main_v59_apply, val_main_v57_apply, val_main_v50_apply, val_main_v49_apply, val_main_v48_apply, val_main_v58_apply, val_main_v56_apply, val_main_v55_apply, val_main_v54_apply, val_main_cst_10_apply, r44, r17]
  simp only [Fin.sum_univ_one]
  rw [val_main_v53_apply, val_main_v51_apply, val_main_v52_apply, val_main_cst_9_apply, r47, r20]
  show (((y (i 0).val (i 1).val : ℝ) : EReal) + ((dxn (dh u w) n s (i 0).val (i 1).val : ℝ) : EReal) * ((rho x (i 0).val : ℝ) : EReal)
      + ((x (i 0).val (i 1).val : ℝ) : EReal) * (Ideal.ofBits .f32 0x00000000#32 + Ideal.div (((∑ j ∈ Finset.range 1024, x (i 0).val j * dxn (dh u w) n s (i 0).val j : ℝ) : EReal) * ((-(1 / 2) * (rho x (i 0).val / ms x (i 0).val) : ℝ) : EReal)) (Ideal.ofBits .f32 0x44800000#32)))
    + (Ideal.ofBits .f32 0x00000000#32 + Ideal.div (((∑ j ∈ Finset.range 1024, x (i 0).val j * dxn (dh u w) n s (i 0).val j : ℝ) : EReal) * ((-(1 / 2) * (rho x (i 0).val / ms x (i 0).val) : ℝ) : EReal)) (Ideal.ofBits .f32 0x44800000#32))
      * ((x (i 0).val (i 1).val : ℝ) : EReal) = ((dx (dh u w) x y n s (i 0).val (i 1).val : ℝ) : EReal)
  rw [zeroBits, zero_add, many]
  simp only [← EReal.coe_mul]
  rw [div_real _ (by norm_num)]
  simp only [← EReal.coe_mul, ← EReal.coe_add]
  refine congrArg _ ?_
  have hm := ms_pos x (i 0).val
  have hr : rho x (i 0).val * rho x (i 0).val = (ms x (i 0).val)⁻¹ := by
    unfold rho
    rw [← mul_inv, Real.mul_self_sqrt hm.le]
  have hs : (∑ j ∈ Finset.range 1024, dxn (dh u w) n s (i 0).val j * xn x (i 0).val j) = rho x (i 0).val * ∑ j ∈ Finset.range 1024, x (i 0).val j * dxn (dh u w) n s (i 0).val j := by
    rw [Finset.mul_sum]
    refine Finset.sum_congr rfl fun j _ => ?_
    unfold xn
    ring
  unfold dx
  rw [hs, div_eq_mul_inv (rho x _), ← hr]
  unfold xn
  ring

theorem r68 : val_main_v68 (F := Ideal) (gfull u) (wfull w) (full x) (full y) (row1 n) (row1 s) (row1 g) = full (dm (dh u w) x y n s g) := by
  funext i
  rw [val_main_v68_apply, val_main_v64_apply, val_main_v63_apply, r59]
  refine (EReal.coe_mul _ _).symm.trans (congrArg _ ?_)
  exact mul_comm _ _

theorem r34 (i : S1x1024.Idx) : val_main_v34 (F := Ideal) (gfull u) (wfull w) i
    = ((∑ j ∈ Finset.range 4096, dh u w j (i 1).val : ℝ) : EReal) := by
  rw [val_main_v34_apply, val_main_v33_apply, val_main_cst_5_apply]
  show Ideal.ofBits .f32 0x00000000#32 + _ = _
  have h0 : (i 0).val < 1 := (i 0).isLt
  have e : (i 0).val * 1024 + (i 1).val = (i 1).val := by omega
  rw [zeroBits, zero_add]
  refine Eq.trans (Finset.sum_congr rfl fun k _ => ?_) (sum_fin (n := 4096) fun j => dh u w j (i 1).val)
  rw [r32]
  show ((dh u w k.val ((i 0).val * 1024 + (i 1).val) : ℝ) : EReal) = _
  rw [e]

theorem r37 (i : S1x1024.Idx) : val_main_v37 (F := Ideal) (gfull u) (wfull w) (full x) (row1 n) i
    = (((∑ j ∈ Finset.range 4096, dh u w j (i 1).val * xn x j (i 1).val) * n 0 (i 1).val : ℝ) : EReal) := by
  rw [val_main_v37_apply, val_main_v36_apply, val_main_cst_6_apply]
  show Ideal.ofBits .f32 0x00000000#32 + _ = _
  have h0 : (i 0).val < 1 := (i 0).isLt
  have e : (i 0).val * 1024 + (i 1).val = (i 1).val := by omega
  rw [zeroBits, zero_add, Finset.sum_mul]
  refine Eq.trans (Finset.sum_congr rfl fun k _ => ?_) (sum_fin (n := 4096) fun j => dh u w j (i 1).val * xn x j (i 1).val * n 0 (i 1).val)
  rw [val_main_v35_apply, r24, r32]
  refine (EReal.coe_mul _ _).symm.trans (congrArg _ ?_)
  show xn x k.val ((i 0).val * 1024 + (i 1).val) * n 0 ((i 0).val * 1024 + (i 1).val) * dh u w k.val ((i 0).val * 1024 + (i 1).val) = _
  rw [e]
  ring

theorem r42 (i : S1x1024.Idx) : val_main_v42 (F := Ideal) (gfull u) (wfull w) (full x) (row1 s) i
    = (((∑ j ∈ Finset.range 4096, dh u w j (i 1).val * xn x j (i 1).val) * (1 + s 0 (i 1).val) : ℝ) : EReal) := by
  rw [val_main_v42_apply, val_main_v41_apply, val_main_cst_7_apply]
  show Ideal.ofBits .f32 0x00000000#32 + _ = _
  have h0 : (i 0).val < 1 := (i 0).isLt
  have e : (i 0).val * 1024 + (i 1).val = (i 1).val := by omega
  rw [zeroBits, zero_add, Finset.sum_mul]
  refine Eq.trans (Finset.sum_congr rfl fun k _ => ?_) (sum_fin (n := 4096) fun j => dh u w j (i 1).val * xn x j (i 1).val * (1 + s 0 (i 1).val))
  rw [val_main_v40_apply, r22, r39]
  refine (EReal.coe_mul _ _).symm.trans (congrArg _ ?_)
  show xn x k.val ((i 0).val * 1024 + (i 1).val) * (dh u w k.val ((i 0).val * 1024 + (i 1).val) * (1 + s 0 ((i 0).val * 1024 + (i 1).val))) = _
  rw [e]
  ring

theorem r67 (i : S1x1024.Idx) : val_main_v67 (F := Ideal) (gfull u) (wfull w) (full x) (full y) (full m) (row1 n) (row1 s) i
    = ((∑ j ∈ Finset.range 4096, dx (dh u w) x y n s j (i 1).val * m j (i 1).val : ℝ) : EReal) := by
  rw [val_main_v67_apply, val_main_v66_apply, val_main_cst_11_apply]
  show Ideal.ofBits .f32 0x00000000#32 + _ = _
  have h0 : (i 0).val < 1 := (i 0).isLt
  have e : (i 0).val * 1024 + (i 1).val = (i 1).val := by omega
  rw [zeroBits, zero_add]
  refine Eq.trans (Finset.sum_congr rfl fun k _ => ?_) (sum_fin (n := 4096) fun j => dx (dh u w) x y n s j (i 1).val * m j (i 1).val)
  rw [val_main_v65_apply, r59, val_main_v60_apply]
  refine (EReal.coe_mul _ _).symm.trans (congrArg _ ?_)
  show dx (dh u w) x y n s k.val ((i 0).val * 1024 + (i 1).val) * m k.val ((i 0).val * 1024 + (i 1).val) = _
  rw [e]

theorem r70 : val_main_v70 (F := Ideal) (gfull u) (wfull w) (full x) (full y) (full m) (row1 n) (row1 s) = rows (sums (dh u w) x y m n s 4096) := by
  funext i
  idx_vars i
  have hq : (i0 : ℕ) < 8 := i0.isLt
  unfold val_main_v70
  pointwise []
  show _ = ((sums (dh u w) x y m n s 4096 (i0 : ℕ) (i1 : ℕ) : ℝ) : EReal)
  unfold sums
  by_cases h : (i0 : ℕ) < 1
  · rw [if_pos (show (i0 : ℕ) = 0 by omega), dif_pos h]
    exact r34 u w _
  rw [if_neg (show ¬(i0 : ℕ) = 0 by omega), dif_neg h]
  by_cases h1 : (i0 : ℕ) - 1 < 1
  · rw [if_pos (show (i0 : ℕ) = 1 by omega), dif_pos h1]
    exact r37 u w x n _
  rw [if_neg (show ¬(i0 : ℕ) = 1 by omega), dif_neg h1]
  by_cases h2 : (i0 : ℕ) - 1 - 1 < 1
  · rw [if_pos (show (i0 : ℕ) = 2 by omega), dif_pos h2]
    exact r42 u w x s _
  rw [if_neg (show ¬(i0 : ℕ) = 2 by omega), dif_neg h2]
  by_cases h3 : (i0 : ℕ) - 1 - 1 - 1 < 1
  · rw [if_pos (show (i0 : ℕ) = 3 by omega), dif_pos h3]
    exact r67 u w x y m n s _
  rw [if_neg (show ¬(i0 : ℕ) = 3 by omega), dif_neg h3]
  rw [val_main_v69_apply, val_main_cst_12_apply]
  exact zeroBits

end Ref

/-- The reals of an array of rank three. -/
def toArr {a b c : ℕ} (x : (⟨3, ![a, b, c]⟩ : Shape).Idx → EReal) : ℕ → ℕ → ℕ → ℝ :=
  fun i j k => if h : i < a ∧ j < b ∧ k < c then (x (ix3 ⟨i, h.1⟩ ⟨j, h.2.1⟩ ⟨k, h.2.2⟩)).toReal else 0

theorem toArr_eq {a b c : ℕ} (x : (⟨3, ![a, b, c]⟩ : Shape).Idx → EReal) (h : ∀ i, x i ≠ ⊤ ∧ x i ≠ ⊥) : x = re3 (toArr x) := by
  funext i
  show x i = ((toArr x (i 0) (i 1) (i 2) : ℝ) : EReal)
  rw [toArr, dif_pos ⟨(i 0).isLt, (i 1).isLt, (i 2).isLt⟩]
  exact (EReal.coe_toReal (h i).1 (h i).2).symm.trans (congrArg (fun j => (((x j).toReal : ℝ) : EReal)) (ix3_eta i).symm)

theorem finite_all [Cert.Pre_up_finite.Facts] (x0 x1 x2 x3 x4 x5 x6 x7)
    (h : Cert.Pre_up_finite.fn (F := Ideal) x0 x1 x2 x3 x4 x5 x6 x7 = fun _ => 1#1) :
    (∀ i, x0 i ≠ ⊤ ∧ x0 i ≠ ⊥) ∧ (∀ i, x1 i ≠ ⊤ ∧ x1 i ≠ ⊥) ∧ (∀ i, x2 i ≠ ⊤ ∧ x2 i ≠ ⊥) ∧ (∀ i, x3 i ≠ ⊤ ∧ x3 i ≠ ⊥)
      ∧ (∀ i, x4 i ≠ ⊤ ∧ x4 i ≠ ⊥) ∧ (∀ i, x5 i ≠ ⊤ ∧ x5 i ≠ ⊥) ∧ (∀ i, x6 i ≠ ⊤ ∧ x6 i ≠ ⊥) ∧ (∀ i, x7 i ≠ ⊤ ∧ x7 i ≠ ⊥) := by
  have h' := congrFun h ix0
  dsimp only [Cert.Pre_up_finite.fn, Cert.Pre_up_finite.fn_part1, Cert.Pre_up_finite.fn_part2] at h'
  obtain ⟨h', h7⟩ := IntOp.andi_eq_one.1 h'
  obtain ⟨h', h6⟩ := IntOp.andi_eq_one.1 h'
  obtain ⟨h', h5⟩ := IntOp.andi_eq_one.1 h'
  obtain ⟨h', h4⟩ := IntOp.andi_eq_one.1 h'
  obtain ⟨h', h3⟩ := IntOp.andi_eq_one.1 h'
  obtain ⟨h', h2⟩ := IntOp.andi_eq_one.1 h'
  obtain ⟨h0, h1⟩ := IntOp.andi_eq_one.1 h'
  have key : ∀ {x : EReal}, Ideal.cmp .olt (max x (-x)) (Ideal.ofBits .f32 0x7F800000#32) = 1#1 → x ≠ ⊤ ∧ x ≠ ⊥ := by
    intro x hx; rw [topBits] at hx; exact finite_of_abs hx
  haveI : Subsingleton Cert.Pre_up_finite.S_.Idx := ⟨fun a b => funext fun k => k.elim0⟩
  exact ⟨fun i => key (Host.reduce_andi_all _ _ _ _ _ h0 i), fun i => key (Host.reduce_andi_all _ _ _ _ _ h1 i),
    fun i => key (Host.reduce_andi_all _ _ _ _ _ h2 i), fun i => key (Host.reduce_andi_all _ _ _ _ _ h3 i),
    fun i => key (Host.reduce_andi_all _ _ _ _ _ h4 i), fun i => key (Host.reduce_andi_all _ _ _ _ _ h5 i),
    fun i => key (Host.reduce_andi_all _ _ _ _ _ h6 i), fun i => key (Host.reduce_andi_all _ _ _ _ _ h7 i)⟩

theorem frame_reference : Cert.quiescent_Reference4Ideal := fun m ρ _ =>
  (θ_run Cert.Reference4Ideal.defs _ _).mono
    (fun r h => ⟨fun c => (h c).2.2.2, sem_eq_zero_of_no_sems (by decide) r.2⟩)
    (Cert.Reference4Ideal.Value.run (F := Ideal) m ρ)

/-- The kernel and the reference compute the same gradients and sums of finite arguments. -/
theorem value [Cert.Pre_up_finite.Facts] : Cert.algebraic_Kernel4Ideal_Reference4Ideal_pre_up_finite := by
  intro mem ρ mem' ρ' hpre hag
  have hA : ∀ c : Dev Cert.Kernel4Ideal.nD, ∃ (u w : ℕ → ℕ → ℕ → ℝ) (x y m n s g : ℕ → ℕ → ℝ), IsArgs mem c u w x y m n s g := by
    intro c
    obtain ⟨h0, h1, h2, h3, h4, h5, h6, h7⟩ := finite_all _ _ _ _ _ _ _ _ (hpre c)
    exact ⟨toArr _, toArr _, toMat _, toMat _, toMat _, toMat _, toMat _, toMat _,
      ⟨toArr_eq _ h0, toArr_eq _ h1, toMat_eq _ h2, toMat_eq _ h3, toMat_eq _ h4, toMat_eq _ h5, toMat_eq _ h6, toMat_eq _ h7⟩⟩
  choose u w x y m n s g H using hA
  refine ⟨fun c => full (dx (dh (u c) (w c)) (x c) (y c) (n c) (s c)),
    fun c => full (dm (dh (u c) (w c)) (x c) (y c) (n c) (s c) (g c)),
    fun c => rows (sums (dh (u c) (w c)) (x c) (y c) (m c) (n c) (s c) 4096), ?_, ?_⟩
  · refine (θ_run Cert.Kernel4Ideal.defs _ _).mono (fun r h c => ?_) (Cert.Kernel4Ideal.Value.run_blocks mem ρ)
    obtain ⟨r0, r1, r2, ra⟩ := h c
    exact ⟨r0.trans (result8 (H c)), r1.trans (result9 (H c)), r2.trans (result10 (H c)), ra⟩
  · refine (θ_run Cert.Reference4Ideal.defs _ _).mono (fun r h c => ?_) (Cert.Reference4Ideal.Value.run (F := Ideal) mem' ρ')
    obtain ⟨r0, r1, r2, ra⟩ := h c
    obtain ⟨a0, a1, a2, a3, a4, a5, a6, a7⟩ := hag c
    have b0 := a0.trans (H c).u
    have b1 := a1.trans (H c).w
    have b2 := a2.trans (H c).x
    have b3 := a3.trans (H c).y
    have b4 := a4.trans (H c).m
    have b5 := a5.trans (H c).n
    have b6 := a6.trans (H c).s
    have b7 := a7.trans (H c).g
    refine ⟨r0.trans ?_, r1.trans ?_, r2.trans ?_, ra⟩
    · rw [Cert.Reference4Ideal.Read.val_main_v59_eq, b0, b1, b2, b3, b5, b6]
      exact Ref.r59 (u c) (w c) (x c) (y c) (n c) (s c)
    · rw [Cert.Reference4Ideal.Read.val_main_v68_eq, b0, b1, b2, b3, b5, b6, b7]
      exact Ref.r68 (u c) (w c) (x c) (y c) (n c) (s c) (g c)
    · rw [Cert.Reference4Ideal.Read.val_main_v70_eq, b0, b1, b2, b3, b4, b5, b6]
      exact Ref.r70 (u c) (w c) (x c) (y c) (m c) (n c) (s c)

end Cert.UpBwd
-- ==== Proof.DownWeight.lean ====
/-
  The gradient of the narrowing weight: the product of the transposed activations with the gradients, summed over four tiles of tokens.
-/
module

public import proofs.«01_k».proof.Proof.En
public import proofs.«01_k».proof.Proof.Gen.Kernel5Ideal
public import proofs.«01_k».proof.Proof.Gen.Kernel5Ideal.Frame
public import proofs.«01_k».proof.Proof.Gen.Kernel5Ideal.Value
public import Idealize.ShloMosaic.Lib.Pipeline.ReadBack
public import Idealize.ShloMosaic.Lib.WritesUnit
public import Idealize.ShloMosaic.Lib.Tactic

@[expose] public section

set_option maxRecDepth 16384

noncomputable section

namespace Cert.DownWeight

open Idealize.ShloMosaic Idealize.ShloMosaic.TcCoe Idealize.SL.Sem
open Cert.Kernel5Ideal Cert.Kernel5Ideal.Gen Cert.Kernel5Ideal.Value Cert.En

/-- The running product with `n` tokens added: entry `(r, k)` of block `b`. -/
def part (x y : ℕ → ℕ → EReal) (b n : ℕ) : ℕ → ℕ → EReal := fun r k =>
  ∑ s ∈ Finset.range n, x s (1408 * b + r) * y s k

theorem part_tile (x y : ℕ → ℕ → EReal) (b n : ℕ) (r k : ℕ) :
    part x y b (1024 * (n + 1)) r k = part x y b (1024 * n) r k
      + ∑ s ∈ Finset.range 1024, x (1024 * n + s) (1408 * b + r) * y (1024 * n + s) k :=
  sum_tile _ _ _

theorem pay1 : k0_pay1 (F := Ideal) = en2 (a := 1408) (b := 1024) (fun _ _ => 0) := by
  funext j
  idx_vars j
  pointwise [k0_pay1]
  rfl

theorem pay2 (z x y : ℕ → ℕ → EReal) :
    k0_pay2 (F := Ideal) (en2 (a := 1408) (b := 1024) z) (en2 (a := 1024) (b := 1408) x) (en2 (a := 1024) (b := 1024) y)
      = en2 (a := 1408) (b := 1024) (fun r k => z r k + ∑ s ∈ Finset.range 1024, x s r * y s k) := by
  funext j
  idx_vars j
  pointwise [k0_pay2]
  simp only [en2_ix2, Finset.sum_range]

theorem pay3 (z : ℕ → ℕ → EReal) :
    k0_pay3 (F := Ideal) (en2 (a := 1408) (b := 1024) z) = en2 (a := 1408) (b := 1024) z := by
  funext j
  idx_vars j
  pointwise [k0_pay3]

theorem hz2 : (![0, 0] : Fin 2 → Nat) = fun _ => 0 := funext fun a => by fin_cases a <;> rfl

section Case

variable (c : Dev nD) (i : grid0.Coords) (a3 : Memref sig .tc .vmem S1024x1408 .bf16) (h3 : a3.IsWhole)
  (a4 : Memref sig .tc .vmem S1024x1024 .bf16) (h4 : a4.IsWhole) (a5 : Memref sig .tc .vmem S1408x1024 .bf16) (h5 : a5.IsWhole)
  (a6 : Memref sig .tc .vmem S1408x1024 .f32) (h6 : a6.IsWhole)
  (x0 : Vec Ideal S1024x1408 .bf16) (x1 : Vec Ideal S1024x1024 .bf16) (xs : Vec Ideal S1408x1024 .f32)

theorem sout_A (hc0 : cond0_0 i) (hc1 : ¬cond0_1 i) :
    sout0_A_0 (F := Ideal) c i a3 h3 a4 h4 a5 h5 a6 h6 hc0 hc1 x0 x1 = k0_pay2 (F := Ideal) (k0_pay1 (F := Ideal)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1408x1024) hz2]
  simp only [View.readAt_eq_ld, h3.read_unread, h4.read_unread, View.readCov_unit_zero (S := S1408x1024) _ hz2, View.ld_unit_zero (S := S1024x1408) hz2, View.ld_unit_zero (S := S1024x1024) hz2]

theorem sout_B (hc0 : ¬cond0_0 i) (hc1 : ¬cond0_1 i) :
    sout0_B_0 (F := Ideal) c i a3 h3 a4 h4 a5 h5 a6 h6 hc0 hc1 x0 x1 xs = k0_pay2 (F := Ideal) xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz2]
  simp only [View.readAt_eq_ld, h3.read_unread, h4.read_unread, h6.read_unread, View.ld_unit_zero (S := S1408x1024) hz2, View.ld_unit_zero (S := S1024x1408) hz2, View.ld_unit_zero (S := S1024x1024) hz2]

theorem sout_C (hc0 : ¬cond0_0 i) (hc1 : cond0_1 i) :
    sout0_C_0 (F := Ideal) c i a3 h3 a4 h4 a5 h5 a6 h6 hc0 hc1 x0 x1 xs = k0_pay2 (F := Ideal) xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz2]
  simp only [View.readAt_eq_ld, h3.read_unread, h4.read_unread, h6.read_unread, View.ld_unit_zero (S := S1408x1024) hz2, View.ld_unit_zero (S := S1024x1408) hz2, View.ld_unit_zero (S := S1024x1024) hz2]

theorem out_C (hc0 : ¬cond0_0 i) (hc1 : cond0_1 i) :
    out0_C_2 (F := Ideal) c i a3 h3 a4 h4 a5 h5 a6 h6 hc0 hc1 x0 x1 xs = k0_pay3 (F := Ideal) (k0_pay2 (F := Ideal) xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz2]
  simp only [View.readAt_eq_ld, h3.read_unread, h4.read_unread, h6.read_unread, View.readCov_unit_zero (S := S1408x1024) _ hz2, View.ld_unit_zero (S := S1408x1024) hz2, View.ld_unit_zero (S := S1024x1408) hz2, View.ld_unit_zero (S := S1024x1024) hz2]

end Case

variable (m : (ℓ : Loc nD τ sig) → Buf (Elt Ideal) ℓ)

theorem idx0 : ∀ t : Fin cfg0.N, win0_0.index t (0 : Fin 2) = t.val % 4 ∧ win0_0.index t (1 : Fin 2) = t.val / 4 := (by decide +kernel : ∀ t : Fin grid0.N, _)
theorem idx1 : ∀ t : Fin cfg0.N, win0_1.index t (0 : Fin 2) = t.val % 4 ∧ win0_1.index t (1 : Fin 2) = 0 := (by decide +kernel : ∀ t : Fin grid0.N, _)

/-- The activations are `x` and their gradients `y`, by token. -/
structure IsArgs (c : Dev nD) (x y : ℕ → ℕ → EReal) : Prop where
  x : m ((c : Thread nD τ).loc main_arg0) = en2 (a := 4096) (b := 2816) x
  y : m ((c : Thread nD τ).loc main_arg1) = en2 (a := 4096) (b := 1024) y

variable {m} {c : Dev nD} {x y : ℕ → ℕ → EReal} (H : IsArgs m c x y)
include H

theorem blk0 (t : Fin cfg0.N) : iblk m c 0 t = en2 (a := 1024) (b := 1408) (fun s r => x (1024 * (t.val % 4) + s) (1408 * (t.val / 4) + r)) := by
  funext z
  unfold iblk
  rw [View.read_apply]
  show m ((c : Thread nD τ).loc main_arg0) (((cfg0.win 0).blk t).view.emb z) = x (1024 * (t.val % 4) + (z 0 : ℕ)) (1408 * (t.val / 4) + (z 1 : ℕ))
  obtain ⟨e0, e1⟩ := idx0 t
  rw [H.x]
  show x (win0_0.index t (0 : Fin 2) * 1024 + 1 * (z 0).val) (win0_0.index t (1 : Fin 2) * 1408 + 1 * (z 1).val) = _
  rw [e0, e1]
  exact congrArg₂ x (by omega) (by omega)

theorem blk1 (t : Fin cfg0.N) : iblk m c 1 t = en2 (a := 1024) (b := 1024) (fun s k => y (1024 * (t.val % 4) + s) k) := by
  funext z
  unfold iblk
  rw [View.read_apply]
  show m ((c : Thread nD τ).loc main_arg1) (((cfg0.win 1).blk t).view.emb z) = y (1024 * (t.val % 4) + (z 0 : ℕ)) (z 1 : ℕ)
  obtain ⟨e0, e1⟩ := idx1 t
  rw [H.y]
  show y (win0_1.index t (0 : Fin 2) * 1024 + 1 * (z 0).val) (win0_1.index t (1 : Fin 2) * 1024 + 1 * (z 1).val) = _
  rw [e0, e1]
  exact congrArg₂ y (by omega) (by omega)

/-- The carried product after point `n`. -/
theorem carried : ∀ (n : ℕ) (hn : n < cfg0.N),
    (outsAt0 m c n hn).2 = en2 (a := 1408) (b := 1024) (part x y (n / 4) (1024 * (n % 4 + 1))) := by
  intro n
  induction n with
  | zero =>
    intro hn
    rw [outsAt0_A m c ⟨0, hn⟩ (by rfl) (by dsimp only; omega)]
    dsimp only
    rw [sout_A, blk0 H, blk1 H, pay1, pay2]
    congr 1
    funext r k
    rw [part_tile]
    simp [part]
  | succ n ih =>
    intro hn
    have ih := ih (by omega)
    have hN : n + 1 < 8 := lt_of_lt_of_eq hn (show cfg0.N = 8 from N_0)
    by_cases h0 : (n + 1) % 4 = 0
    · rw [outsAt0_A m c ⟨n + 1, hn⟩ h0 (by dsimp only; omega)]
      dsimp only
      rw [sout_A, blk0 H, blk1 H, pay1, pay2]
      congr 1
      funext r k
      rw [part_tile]
      dsimp only
      rw [h0]
      simp [part]
    · have e1 : (n + 1) % 4 = n % 4 + 1 := by omega
      have e2 : (n + 1) / 4 = n / 4 := by omega
      have key : k0_pay2 (F := Ideal) (outsAt0 m c n (by omega)).2 (iblk m c 0 ⟨n + 1, hn⟩) (iblk m c 1 ⟨n + 1, hn⟩)
          = en2 (a := 1408) (b := 1024) (part x y ((n + 1) / 4) (1024 * ((n + 1) % 4 + 1))) := by
        rw [ih, blk0 H, blk1 H, pay2]
        congr 1
        funext r k
        rw [e1, e2, part_tile x y _ (n % 4 + 1)]
      by_cases h1 : (n + 1) % 4 = 3
      · rw [outsAt0_C m c ⟨n + 1, hn⟩ h0 h1]
        dsimp only
        rw [sout_C]
        exact key
      · rw [outsAt0_B m c ⟨n + 1, hn⟩ h0 h1]
        dsimp only
        rw [sout_B]
        exact key

/-- What a point that ends a block writes. -/
theorem written (n : ℕ) (hn : n < cfg0.N) (h1 : n % 4 = 3) :
    (outsAt0 m c n hn).1 = en2 (a := 1408) (b := 1024) (part x y (n / 4) 4096) := by
  have e := carried H n hn
  rw [outsAt0_C m c ⟨n, hn⟩ (by dsimp only; omega) h1] at e ⊢
  dsimp only at e ⊢
  rw [sout_C] at e
  rw [out_C, e, h1, pay3]

/-- The whole array of the gradient. -/
theorem result : G2 m c = en2 (a := 2816) (b := 1024) (fun r k => ∑ s ∈ Finset.range 4096, x s r * y s k) := by
  funext i
  have h0 : (i 0).val < 2816 := (i 0).isLt
  have h1 : (i 1).val < 1024 := (i 1).isLt
  have hr : run2Of i = (i 0).val / 1408 := by unfold run2Of; omega
  have hp : pt2Of i < cfg0.N := by
    have : cfg0.N = 8 := N_0
    unfold pt2Of
    rw [hr]
    omega
  unfold G2
  rw [dif_pos hp, ← outsAt0_sweep m c _ hp, written H _ hp (by unfold pt2Of; omega)]
  show ∑ s ∈ Finset.range 4096, x s (1408 * (pt2Of i / 4) + (i 0).val % 1408) * y s ((i 1).val % 1024) = ∑ s ∈ Finset.range 4096, x s (i 0).val * y s (i 1).val
  rw [show 1408 * (pt2Of i / 4) + (i 0).val % 1408 = (i 0).val by unfold pt2Of; omega, Nat.mod_eq_of_lt h1]

end Cert.DownWeight
-- ==== Proof.DownWeightRef.lean ====
/-
  The reference's gradient of the narrowing weight: one product over all tokens.
-/
module

public import proofs.«01_k».proof.Proof.DownWeight
public import proofs.«01_k».proof.Proof.Gen.Reference5Ideal
public import proofs.«01_k».proof.Proof.Gen.Reference5Ideal.Run
public import proofs.«01_k».proof.Proof.Gen.Reference5Ideal.Read
public import proofs.«01_k».proof.Defs
public import Idealize.ShloMosaic.Adequacy
public import Idealize.ShloMosaic.Init
public import Idealize.ShloMosaic.Lib.Quiescent

@[expose] public section

set_option maxRecDepth 16384

noncomputable section

namespace Cert.DownWeight

open Idealize.ShloMosaic Idealize.ShloMosaic.TcCoe Idealize.SL.Sem
open Cert.En

namespace Ref

open Cert.Reference5Ideal Cert.Reference5Ideal.Gen Cert.Reference5Ideal.Read

variable (x y : ℕ → ℕ → EReal)

theorem r6 : val_main_v6 (F := Ideal) (en2 (a := 4096) (b := 2816) x) (en2 (a := 4096) (b := 1024) y)
    = en2 (a := 2816) (b := 1024) (fun r k => ∑ s ∈ Finset.range 4096, x s r * y s k) := by
  funext i
  rw [val_main_v6_apply]
  show val_main_v5 (F := Ideal) (en2 (a := 4096) (b := 2816) x) (en2 (a := 4096) (b := 1024) y) i = ∑ s ∈ Finset.range 4096, x s (i 0).val * y s (i 1).val
  rw [val_main_v5_apply, val_main_v4_apply, Finset.sum_range]
  refine Finset.sum_congr rfl fun k _ => ?_
  rw [val_main_v3_apply, val_main_v1_apply, mul_comm]
  rfl

end Ref

theorem frame_reference : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- The kernel and the reference compute the same sums. -/
theorem value : Cert.algebraic_Kernel5Ideal_Reference5Ideal := by
  intro m g m' g' hpre hag
  let x : Dev Cert.Kernel5Ideal.nD → ℕ → ℕ → EReal := fun c =>
    at2 (a := 4096) (b := 2816) (m ((c : Thread Cert.Kernel5Ideal.nD Cert.Kernel5Ideal.τ).loc Cert.Kernel5Ideal.main_arg0))
  let y : Dev Cert.Kernel5Ideal.nD → ℕ → ℕ → EReal := fun c =>
    at2 (a := 4096) (b := 1024) (m ((c : Thread Cert.Kernel5Ideal.nD Cert.Kernel5Ideal.τ).loc Cert.Kernel5Ideal.main_arg1))
  have H : ∀ c, IsArgs m c (x c) (y c) := fun c => ⟨(en2_at2 _).symm, (en2_at2 _).symm⟩
  clear_value x y
  refine ⟨fun c => en2 (a := 2816) (b := 1024) (fun r k => ∑ s ∈ Finset.range 4096, x c s r * y c s k), ?_, ?_⟩
  · refine (θ_run Cert.Kernel5Ideal.defs _ _).mono (fun r h c => ?_) (Cert.Kernel5Ideal.Value.run m g)
    exact ⟨(h c).1.trans (result (H c)), (h c).2⟩
  · refine (θ_run Cert.Reference5Ideal.defs _ _).mono (fun r h c => ?_) (Cert.Reference5Ideal.Value.run (F := Ideal) m' g')
    obtain ⟨r0, ra⟩ := h c
    obtain ⟨a0, a1⟩ := hag c
    have b0 := a0.trans (H c).x
    have b1 := a1.trans (H c).y
    refine ⟨r0.trans ?_, ra⟩
    rw [Cert.Reference5Ideal.Read.val_main_v6_eq, b0, b1]
    exact Ref.r6 (x c) (y c)

end Cert.DownWeight
-- ==== Proof.OutWeight.lean ====
/-
  The gradient of the mixing weight: the product of the transposed activations with the gradients, summed over four tiles of tokens.
-/
module

public import proofs.«01_k».proof.Proof.En
public import proofs.«01_k».proof.Proof.Gen.Kernel6Ideal
public import proofs.«01_k».proof.Proof.Gen.Kernel6Ideal.Frame
public import proofs.«01_k».proof.Proof.Gen.Kernel6Ideal.Value
public import Idealize.ShloMosaic.Lib.Pipeline.ReadBack
public import Idealize.ShloMosaic.Lib.WritesUnit
public import Idealize.ShloMosaic.Lib.Tactic

@[expose] public section

set_option maxRecDepth 16384

noncomputable section

namespace Cert.OutWeight

open Idealize.ShloMosaic Idealize.ShloMosaic.TcCoe Idealize.SL.Sem
open Cert.Kernel6Ideal Cert.Kernel6Ideal.Gen Cert.Kernel6Ideal.Value Cert.En

/-- The running product with `n` tokens added: entry `(r, k)` of block `b`. -/
def part (x y : ℕ → ℕ → EReal) (b n : ℕ) : ℕ → ℕ → EReal := fun r k =>
  ∑ s ∈ Finset.range n, x s (r) * y s k

theorem part_tile (x y : ℕ → ℕ → EReal) (b n : ℕ) (r k : ℕ) :
    part x y b (1024 * (n + 1)) r k = part x y b (1024 * n) r k
      + ∑ s ∈ Finset.range 1024, x (1024 * n + s) (r) * y (1024 * n + s) k :=
  sum_tile _ _ _

theorem pay1 : k0_pay1 (F := Ideal) = en2 (a := 1024) (b := 1024) (fun _ _ => 0) := by
  funext j
  idx_vars j
  pointwise [k0_pay1]
  rfl

theorem pay2 (z x y : ℕ → ℕ → EReal) :
    k0_pay2 (F := Ideal) (en2 (a := 1024) (b := 1024) z) (en2 (a := 1024) (b := 1024) x) (en2 (a := 1024) (b := 1024) y)
      = en2 (a := 1024) (b := 1024) (fun r k => z r k + ∑ s ∈ Finset.range 1024, x s r * y s k) := by
  funext j
  idx_vars j
  pointwise [k0_pay2]
  simp only [en2_ix2, Finset.sum_range]

theorem pay3 (z : ℕ → ℕ → EReal) :
    k0_pay3 (F := Ideal) (en2 (a := 1024) (b := 1024) z) = en2 (a := 1024) (b := 1024) z := by
  funext j
  idx_vars j
  pointwise [k0_pay3]

theorem hz2 : (![0, 0] : Fin 2 → Nat) = fun _ => 0 := funext fun a => by fin_cases a <;> rfl

section Case

variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .bf16) (h5 : a5.IsWhole)
  (a6 : Memref sig .tc .vmem S1024x1024 .f32) (h6 : a6.IsWhole)
  (x0 : Vec Ideal S1024x1024 .bf16) (x1 : Vec Ideal S1024x1024 .bf16) (xs : Vec Ideal S1024x1024 .f32)

theorem sout_A (hc0 : cond0_0 i) (hc1 : ¬cond0_1 i) :
    sout0_A_0 (F := Ideal) c i a3 h3 a4 h4 a5 h5 a6 h6 hc0 hc1 x0 x1 = k0_pay2 (F := Ideal) (k0_pay1 (F := Ideal)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz2]
  simp only [View.readAt_eq_ld, h3.read_unread, h4.read_unread, View.readCov_unit_zero (S := S1024x1024) _ hz2, View.ld_unit_zero (S := S1024x1024) hz2, View.ld_unit_zero (S := S1024x1024) hz2]

theorem sout_B (hc0 : ¬cond0_0 i) (hc1 : ¬cond0_1 i) :
    sout0_B_0 (F := Ideal) c i a3 h3 a4 h4 a5 h5 a6 h6 hc0 hc1 x0 x1 xs = k0_pay2 (F := Ideal) xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz2]
  simp only [View.readAt_eq_ld, h3.read_unread, h4.read_unread, h6.read_unread, View.ld_unit_zero (S := S1024x1024) hz2, View.ld_unit_zero (S := S1024x1024) hz2, View.ld_unit_zero (S := S1024x1024) hz2]

theorem sout_C (hc0 : ¬cond0_0 i) (hc1 : cond0_1 i) :
    sout0_C_0 (F := Ideal) c i a3 h3 a4 h4 a5 h5 a6 h6 hc0 hc1 x0 x1 xs = k0_pay2 (F := Ideal) xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz2]
  simp only [View.readAt_eq_ld, h3.read_unread, h4.read_unread, h6.read_unread, View.ld_unit_zero (S := S1024x1024) hz2, View.ld_unit_zero (S := S1024x1024) hz2, View.ld_unit_zero (S := S1024x1024) hz2]

theorem out_C (hc0 : ¬cond0_0 i) (hc1 : cond0_1 i) :
    out0_C_2 (F := Ideal) c i a3 h3 a4 h4 a5 h5 a6 h6 hc0 hc1 x0 x1 xs = k0_pay3 (F := Ideal) (k0_pay2 (F := Ideal) xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz2]
  simp only [View.readAt_eq_ld, h3.read_unread, h4.read_unread, h6.read_unread, View.readCov_unit_zero (S := S1024x1024) _ hz2, View.ld_unit_zero (S := S1024x1024) hz2, View.ld_unit_zero (S := S1024x1024) hz2, View.ld_unit_zero (S := S1024x1024) hz2]

end Case

variable (m : (ℓ : Loc nD τ sig) → Buf (Elt Ideal) ℓ)

theorem idx0 : ∀ t : Fin cfg0.N, win0_0.index t (0 : Fin 2) = t.val % 4 ∧ win0_0.index t (1 : Fin 2) = 0 := (by decide +kernel : ∀ t : Fin grid0.N, _)
theorem idx1 : ∀ t : Fin cfg0.N, win0_1.index t (0 : Fin 2) = t.val % 4 ∧ win0_1.index t (1 : Fin 2) = 0 := (by decide +kernel : ∀ t : Fin grid0.N, _)

/-- The activations are `x` and their gradients `y`, by token. -/
structure IsArgs (c : Dev nD) (x y : ℕ → ℕ → EReal) : Prop where
  x : m ((c : Thread nD τ).loc main_arg0) = en2 (a := 4096) (b := 1024) x
  y : m ((c : Thread nD τ).loc main_arg1) = en2 (a := 4096) (b := 1024) y

variable {m} {c : Dev nD} {x y : ℕ → ℕ → EReal} (H : IsArgs m c x y)
include H

theorem blk0 (t : Fin cfg0.N) : iblk m c 0 t = en2 (a := 1024) (b := 1024) (fun s r => x (1024 * (t.val % 4) + s) (r)) := by
  funext z
  unfold iblk
  rw [View.read_apply]
  show m ((c : Thread nD τ).loc main_arg0) (((cfg0.win 0).blk t).view.emb z) = x (1024 * (t.val % 4) + (z 0 : ℕ)) (z 1 : ℕ)
  obtain ⟨e0, e1⟩ := idx0 t
  rw [H.x]
  show x (win0_0.index t (0 : Fin 2) * 1024 + 1 * (z 0).val) (win0_0.index t (1 : Fin 2) * 1024 + 1 * (z 1).val) = _
  rw [e0, e1]
  exact congrArg₂ x (by omega) (by omega)

theorem blk1 (t : Fin cfg0.N) : iblk m c 1 t = en2 (a := 1024) (b := 1024) (fun s k => y (1024 * (t.val % 4) + s) k) := by
  funext z
  unfold iblk
  rw [View.read_apply]
  show m ((c : Thread nD τ).loc main_arg1) (((cfg0.win 1).blk t).view.emb z) = y (1024 * (t.val % 4) + (z 0 : ℕ)) (z 1 : ℕ)
  obtain ⟨e0, e1⟩ := idx1 t
  rw [H.y]
  show y (win0_1.index t (0 : Fin 2) * 1024 + 1 * (z 0).val) (win0_1.index t (1 : Fin 2) * 1024 + 1 * (z 1).val) = _
  rw [e0, e1]
  exact congrArg₂ y (by omega) (by omega)

/-- The carried product after point `n`. -/
theorem carried : ∀ (n : ℕ) (hn : n < cfg0.N),
    (outsAt0 m c n hn).2 = en2 (a := 1024) (b := 1024) (part x y (n / 4) (1024 * (n % 4 + 1))) := by
  intro n
  induction n with
  | zero =>
    intro hn
    rw [outsAt0_A m c ⟨0, hn⟩ (by rfl) (by dsimp only; omega)]
    dsimp only
    rw [sout_A, blk0 H, blk1 H, pay1, pay2]
    congr 1
    funext r k
    rw [part_tile]
    simp [part]
  | succ n ih =>
    intro hn
    have ih := ih (by omega)
    have hN : n + 1 < 4 := lt_of_lt_of_eq hn (show cfg0.N = 4 from N_0)
    by_cases h0 : (n + 1) % 4 = 0
    · rw [outsAt0_A m c ⟨n + 1, hn⟩ h0 (by dsimp only; omega)]
      dsimp only
      rw [sout_A, blk0 H, blk1 H, pay1, pay2]
      congr 1
      funext r k
      rw [part_tile]
      dsimp only
      rw [h0]
      simp [part]
    · have e1 : (n + 1) % 4 = n % 4 + 1 := by omega
      have e2 : (n + 1) / 4 = n / 4 := by omega
      have key : k0_pay2 (F := Ideal) (outsAt0 m c n (by omega)).2 (iblk m c 0 ⟨n + 1, hn⟩) (iblk m c 1 ⟨n + 1, hn⟩)
          = en2 (a := 1024) (b := 1024) (part x y ((n + 1) / 4) (1024 * ((n + 1) % 4 + 1))) := by
        rw [ih, blk0 H, blk1 H, pay2]
        congr 1
        funext r k
        rw [e1, e2, part_tile x y _ (n % 4 + 1)]
      by_cases h1 : (n + 1) % 4 = 3
      · rw [outsAt0_C m c ⟨n + 1, hn⟩ h0 h1]
        dsimp only
        rw [sout_C]
        exact key
      · rw [outsAt0_B m c ⟨n + 1, hn⟩ h0 h1]
        dsimp only
        rw [sout_B]
        exact key

/-- What a point that ends a block writes. -/
theorem written (n : ℕ) (hn : n < cfg0.N) (h1 : n % 4 = 3) :
    (outsAt0 m c n hn).1 = en2 (a := 1024) (b := 1024) (part x y (n / 4) 4096) := by
  have e := carried H n hn
  rw [outsAt0_C m c ⟨n, hn⟩ (by dsimp only; omega) h1] at e ⊢
  dsimp only at e ⊢
  rw [sout_C] at e
  rw [out_C, e, h1, pay3]

/-- The whole array of the gradient. -/
theorem result : G2 m c = en2 (a := 1024) (b := 1024) (fun r k => ∑ s ∈ Finset.range 4096, x s r * y s k) := by
  funext i
  have h0 : (i 0).val < 1024 := (i 0).isLt
  have h1 : (i 1).val < 1024 := (i 1).isLt
  have hr : run2Of i = (i 0).val / 1024 := by unfold run2Of; omega
  have hp : pt2Of i < cfg0.N := by
    have : cfg0.N = 4 := N_0
    unfold pt2Of
    rw [hr]
    omega
  unfold G2
  rw [dif_pos hp, ← outsAt0_sweep m c _ hp, written H _ hp (by unfold pt2Of; omega)]
  show ∑ s ∈ Finset.range 4096, x s ((i 0).val % 1024) * y s ((i 1).val % 1024) = ∑ s ∈ Finset.range 4096, x s (i 0).val * y s (i 1).val
  rw [Nat.mod_eq_of_lt h0, Nat.mod_eq_of_lt h1]

end Cert.OutWeight
-- ==== Proof.OutWeightRef.lean ====
/-
  The reference's gradient of the mixing weight: one product over all tokens.
-/
module

public import proofs.«01_k».proof.Proof.OutWeight
public import proofs.«01_k».proof.Proof.Gen.Reference6Ideal
public import proofs.«01_k».proof.Proof.Gen.Reference6Ideal.Run
public import proofs.«01_k».proof.Proof.Gen.Reference6Ideal.Read
public import proofs.«01_k».proof.Defs
public import Idealize.ShloMosaic.Adequacy
public import Idealize.ShloMosaic.Init
public import Idealize.ShloMosaic.Lib.Quiescent

@[expose] public section

set_option maxRecDepth 16384

noncomputable section

namespace Cert.OutWeight

open Idealize.ShloMosaic Idealize.ShloMosaic.TcCoe Idealize.SL.Sem
open Cert.En

namespace Ref

open Cert.Reference6Ideal Cert.Reference6Ideal.Gen Cert.Reference6Ideal.Read

variable (x y : ℕ → ℕ → EReal)

theorem r6 : val_main_v6 (F := Ideal) (en2 (a := 4096) (b := 1024) x) (en2 (a := 4096) (b := 1024) y)
    = en2 (a := 1024) (b := 1024) (fun r k => ∑ s ∈ Finset.range 4096, x s r * y s k) := by
  funext i
  rw [val_main_v6_apply]
  show val_main_v5 (F := Ideal) (en2 (a := 4096) (b := 1024) x) (en2 (a := 4096) (b := 1024) y) i = ∑ s ∈ Finset.range 4096, x s (i 0).val * y s (i 1).val
  rw [val_main_v5_apply, val_main_v4_apply, Finset.sum_range]
  refine Finset.sum_congr rfl fun k _ => ?_
  rw [val_main_v3_apply, val_main_v1_apply, mul_comm]
  rfl

end Ref

theorem frame_reference : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

/-- The kernel and the reference compute the same sums. -/
theorem value : Cert.algebraic_Kernel6Ideal_Reference6Ideal := by
  intro m g m' g' hpre hag
  let x : Dev Cert.Kernel6Ideal.nD → ℕ → ℕ → EReal := fun c =>
    at2 (a := 4096) (b := 1024) (m ((c : Thread Cert.Kernel6Ideal.nD Cert.Kernel6Ideal.τ).loc Cert.Kernel6Ideal.main_arg0))
  let y : Dev Cert.Kernel6Ideal.nD → ℕ → ℕ → EReal := fun c =>
    at2 (a := 4096) (b := 1024) (m ((c : Thread Cert.Kernel6Ideal.nD Cert.Kernel6Ideal.τ).loc Cert.Kernel6Ideal.main_arg1))
  have H : ∀ c, IsArgs m c (x c) (y c) := fun c => ⟨(en2_at2 _).symm, (en2_at2 _).symm⟩
  clear_value x y
  refine ⟨fun c => en2 (a := 1024) (b := 1024) (fun r k => ∑ s ∈ Finset.range 4096, x c s r * y c s k), ?_, ?_⟩
  · refine (θ_run Cert.Kernel6Ideal.defs _ _).mono (fun r h c => ?_) (Cert.Kernel6Ideal.Value.run m g)
    exact ⟨(h c).1.trans (result (H c)), (h c).2⟩
  · refine (θ_run Cert.Reference6Ideal.defs _ _).mono (fun r h c => ?_) (Cert.Reference6Ideal.Value.run (F := Ideal) m' g')
    obtain ⟨r0, ra⟩ := h c
    obtain ⟨a0, a1⟩ := hag c
    have b0 := a0.trans (H c).x
    have b1 := a1.trans (H c).y
    refine ⟨r0.trans ?_, ra⟩
    rw [Cert.Reference6Ideal.Read.val_main_v6_eq, b0, b1]
    exact Ref.r6 (x c) (y c)

end Cert.OutWeight
-- ==== Proof.InWeight.lean ====
/-
  The gradient of the first weight: what the context adds to 256 of its columns, and the product of the transposed activations with the gradients, summed over four tiles of tokens.
-/
module

public import proofs.«01_k».proof.Proof.En
public import proofs.«01_k».proof.Proof.Gen.Kernel7Ideal
public import proofs.«01_k».proof.Proof.Gen.Kernel7Ideal.Frame
public import proofs.«01_k».proof.Proof.Gen.Kernel7Ideal.Value
public import Idealize.ShloMosaic.Lib.Pipeline.ReadBack
public import Idealize.ShloMosaic.Lib.WritesUnit
public import Idealize.ShloMosaic.Lib.Tactic

@[expose] public section

set_option maxRecDepth 16384

noncomputable section

namespace Cert.InWeight

open Idealize.ShloMosaic Idealize.ShloMosaic.TcCoe Idealize.SL.Sem
open Cert.Kernel7Ideal Cert.Kernel7Ideal.Gen Cert.Kernel7Ideal.Value Cert.En

/-- What the context adds, in its columns. -/
def other (g : ℕ → ℕ → EReal) (r k : ℕ) : EReal := if 512 ≤ k ∧ k < 768 then g r (k - 512) else 0

/-- The running product with `n` tokens added. -/
def part (x y g : ℕ → ℕ → EReal) (n : ℕ) : ℕ → ℕ → EReal := fun r k =>
  other g r k + ∑ s ∈ Finset.range n, x s r * y s k

theorem part_tile (x y g : ℕ → ℕ → EReal) (n : ℕ) (r k : ℕ) :
    part x y g (1024 * (n + 1)) r k = part x y g (1024 * n) r k + ∑ s ∈ Finset.range 1024, x (1024 * n + s) r * y (1024 * n + s) k := by
  unfold part
  rw [sum_tile, add_assoc]

theorem pay1 : k0_pay1 (F := Ideal) = en2 (a := 1024) (b := 1792) (fun _ _ => 0) := by
  funext j
  idx_vars j
  pointwise [k0_pay1]
  rfl

theorem pay2 (g : ℕ → ℕ → EReal) : k0_pay2 (F := Ideal) (en2 (a := 1024) (b := 256) g) = en2 (a := 1024) (b := 256) g := by
  funext j
  idx_vars j
  pointwise [k0_pay2]

theorem pay3 (z x y : ℕ → ℕ → EReal) :
    k0_pay3 (F := Ideal) (en2 (a := 1024) (b := 1792) z) (en2 (a := 1024) (b := 1024) x) (en2 (a := 1024) (b := 1792) y)
      = en2 (a := 1024) (b := 1792) (fun r k => z r k + ∑ s ∈ Finset.range 1024, x s r * y s k) := by
  funext j
  idx_vars j
  pointwise [k0_pay3]
  simp only [en2_ix2, Finset.sum_range]

theorem pay4 (z : ℕ → ℕ → EReal) :
    k0_pay4 (F := Ideal) (en2 (a := 1024) (b := 1792) z) = en2 (a := 1024) (b := 1792) z := by
  funext j
  idx_vars j
  pointwise [k0_pay4]

theorem hz2 : (![0, 0] : Fin 2 → Nat) = fun _ => 0 := funext fun a => by fin_cases a <;> rfl

/-- The zeros, with the context's columns written over them. -/
def start (x2 : Vec Ideal S1024x256 .f32) : Vec Ideal S1024x1792 .f32 :=
  View.canon [(⟨Rect.unit (s := S1024x1792) ![0, 512] S1024x256.size inb_S1024x1792_S1024x256_0_512, k0_pay2 (F := Ideal) x2⟩ : View.Piece (Elt Ideal) S1024x1792 .f32),
    ⟨Rect.unit (s := S1024x1792) ![0, 0] S1024x1792.size inb_S1024x1792_S1024x1792_0_0, k0_pay1 (F := Ideal)⟩]

theorem start_en (g : ℕ → ℕ → EReal) : start (en2 (a := 1024) (b := 256) g) = en2 (a := 1024) (b := 1792) (other g) := by
  unfold start
  rw [pay2, pay1]
  funext y
  rw [← View.read_writes_junk_apply_eq_canon VS0_0, View.read_writes_cons_unit VS0_0 _ _ _ _ y rfl]
  show _ = other g (y 0 : ℕ) (y 1 : ℕ)
  unfold other
  split_ifs with h h' h'
  · show g ((y 0 : ℕ) - 0) ((y 1 : ℕ) - 512) = _
    rw [Nat.sub_zero]
  · have e := h (1 : Fin 2)
    simp only [Matrix.cons_val_one, Matrix.cons_val_zero] at e
    exact absurd ⟨e.1, e.2⟩ h'
  · refine absurd (Fin.forall_fin_two.mpr ⟨⟨Nat.zero_le _, ?_⟩, h'.1, h'.2⟩) h
    exact lt_of_lt_of_eq (y 0).isLt (by rfl)
  · rw [View.read_writes_junk_apply_eq_canon VS0_0, View.canon_unit_zero (S := S1024x1792) hz2]
    rfl

section Case

variable (c : Dev nD) (i : grid0.Coords) (a3 : Memref sig .tc .vmem S1024x1024 .bf16) (h3 : a3.IsWhole)
  (a4 : Memref sig .tc .vmem S1024x1792 .bf16) (h4 : a4.IsWhole) (a5 : Memref sig .tc .vmem S1024x256 .f32) (h5 : a5.IsWhole)
  (a6 : Memref sig .tc .vmem S1024x1792 .bf16) (h6 : a6.IsWhole) (a7 : Memref sig .tc .vmem S1024x1792 .f32) (h7 : a7.IsWhole)
  (x0 : Vec Ideal S1024x1024 .bf16) (x1 : Vec Ideal S1024x1792 .bf16) (x2 : Vec Ideal S1024x256 .f32) (xs : Vec Ideal S1024x1792 .f32)

theorem sout_A (hc0 : cond0_0 i) (hc1 : ¬cond0_1 i) :
    sout0_A_0 (F := Ideal) c i a3 h3 a4 h4 a5 h5 a6 h6 a7 h7 hc0 hc1 x0 x1 x2 = k0_pay3 (F := Ideal) (start x2) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1792) hz2]
  simp only [View.readAt_eq_ld, h3.read_unread, h4.read_unread, h5.read_unread, View.ld_unit_zero (S := S1024x256) hz2, View.ld_unit_zero (S := S1024x1024) hz2, View.ld_unit_zero (S := S1024x1792) hz2]
  rw [View.readCov_eq_canon_ld _ _ _ (fun y => ⟨_, List.mem_cons_of_mem _ (List.mem_singleton_self _), View.mem_set_unit_zero hz2 inb_S1024x1792_S1024x1792_0_0 y⟩), View.ld_unit_zero (S := S1024x1792) hz2]
  rfl

theorem sout_B (hc0 : ¬cond0_0 i) (hc1 : ¬cond0_1 i) :
    sout0_B_0 (F := Ideal) c i a3 h3 a4 h4 a5 h5 a6 h6 a7 h7 hc0 hc1 x0 x1 x2 xs = k0_pay3 (F := Ideal) xs x0 x1 := by
  unfold sout0_B_0
  rw [View.read_writes_eq_canon _ _ _ (scover0_B_0 c i a3 h3 a4 h4 a5 h5 a6 h6 a7 h7 hc0 hc1 x0 x1 x2 xs)]
  unfold kernelRun0_B
  dsimp only
  sl_unfold_words
  rw [View.canon_unit_zero hz2]
  simp only [View.readAt_eq_ld, h3.read_unread, h4.read_unread, h7.read_unread, View.ld_unit_zero (S := S1024x1792) hz2, View.ld_unit_zero (S := S1024x1024) hz2]

theorem sout_C (hc0 : ¬cond0_0 i) (hc1 : cond0_1 i) :
    sout0_C_0 (F := Ideal) c i a3 h3 a4 h4 a5 h5 a6 h6 a7 h7 hc0 hc1 x0 x1 x2 xs = k0_pay3 (F := Ideal) xs x0 x1 := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero hz2]
  simp only [View.readAt_eq_ld, h3.read_unread, h4.read_unread, h7.read_unread, View.ld_unit_zero (S := S1024x1792) hz2, View.ld_unit_zero (S := S1024x1024) hz2]

theorem out_C (hc0 : ¬cond0_0 i) (hc1 : cond0_1 i) :
    out0_C_3 (F := Ideal) c i a3 h3 a4 h4 a5 h5 a6 h6 a7 h7 hc0 hc1 x0 x1 x2 xs = k0_pay4 (F := Ideal) (k0_pay3 (F := Ideal) xs x0 x1) := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero hz2]
  simp only [View.readAt_eq_ld, h3.read_unread, h4.read_unread, h7.read_unread, View.readCov_unit_zero (S := S1024x1792) _ hz2, View.ld_unit_zero (S := S1024x1792) hz2, View.ld_unit_zero (S := S1024x1024) hz2]

end Case

variable (m : (ℓ : Loc nD τ sig) → Buf (Elt Ideal) ℓ)

theorem idx0 : ∀ t : Fin cfg0.N, win0_0.index t (0 : Fin 2) = t.val % 4 ∧ win0_0.index t (1 : Fin 2) = 0 := (by decide +kernel : ∀ t : Fin grid0.N, _)
theorem idx1 : ∀ t : Fin cfg0.N, win0_1.index t (0 : Fin 2) = t.val % 4 ∧ win0_1.index t (1 : Fin 2) = 0 := (by decide +kernel : ∀ t : Fin grid0.N, _)

theorem idx2 : ∀ t : Fin cfg0.N, win0_2.index t (0 : Fin 2) = 0 ∧ win0_2.index t (1 : Fin 2) = 0 := (by decide +kernel : ∀ t : Fin grid0.N, _)

/-- The activations are `x`, their gradients `y`, by token, and the context's part is `g`. -/
structure IsArgs (c : Dev nD) (x y g : ℕ → ℕ → EReal) : Prop where
  x : m ((c : Thread nD τ).loc main_arg0) = en2 (a := 4096) (b := 1024) x
  y : m ((c : Thread nD τ).loc main_arg1) = en2 (a := 4096) (b := 1792) y
  g : m ((c : Thread nD τ).loc main_arg2) = en2 (a := 1024) (b := 256) g

variable {m} {c : Dev nD} {x y g : ℕ → ℕ → EReal} (H : IsArgs m c x y g)
include H

theorem blk2 (t : Fin cfg0.N) : iblk m c 2 t = en2 (a := 1024) (b := 256) g := by
  funext z
  unfold iblk
  rw [View.read_apply]
  show m ((c : Thread nD τ).loc main_arg2) (((cfg0.win 2).blk t).view.emb z) = g (z 0 : ℕ) (z 1 : ℕ)
  obtain ⟨e0, e1⟩ := idx2 t
  rw [H.g]
  show g (win0_2.index t (0 : Fin 2) * 1024 + 1 * (z 0).val) (win0_2.index t (1 : Fin 2) * 256 + 1 * (z 1).val) = _
  rw [e0, e1]
  exact congrArg₂ g (by omega) (by omega)

theorem blk0 (t : Fin cfg0.N) : iblk m c 0 t = en2 (a := 1024) (b := 1024) (fun s r => x (1024 * (t.val % 4) + s) (r)) := by
  funext z
  unfold iblk
  rw [View.read_apply]
  show m ((c : Thread nD τ).loc main_arg0) (((cfg0.win 0).blk t).view.emb z) = x (1024 * (t.val % 4) + (z 0 : ℕ)) (z 1 : ℕ)
  obtain ⟨e0, e1⟩ := idx0 t
  rw [H.x]
  show x (win0_0.index t (0 : Fin 2) * 1024 + 1 * (z 0).val) (win0_0.index t (1 : Fin 2) * 1024 + 1 * (z 1).val) = _
  rw [e0, e1]
  exact congrArg₂ x (by omega) (by omega)

theorem blk1 (t : Fin cfg0.N) : iblk m c 1 t = en2 (a := 1024) (b := 1792) (fun s k => y (1024 * (t.val % 4) + s) k) := by
  funext z
  unfold iblk
  rw [View.read_apply]
  show m ((c : Thread nD τ).loc main_arg1) (((cfg0.win 1).blk t).view.emb z) = y (1024 * (t.val % 4) + (z 0 : ℕ)) (z 1 : ℕ)
  obtain ⟨e0, e1⟩ := idx1 t
  rw [H.y]
  show y (win0_1.index t (0 : Fin 2) * 1024 + 1 * (z 0).val) (win0_1.index t (1 : Fin 2) * 1792 + 1 * (z 1).val) = _
  rw [e0, e1]
  exact congrArg₂ y (by omega) (by omega)

/-- The carried product after point `n`. -/
theorem carried : ∀ (n : ℕ) (hn : n < cfg0.N),
    (outsAt0 m c n hn).2 = en2 (a := 1024) (b := 1792) (part x y g (1024 * (n + 1))) := by
  intro n
  induction n with
  | zero =>
    intro hn
    rw [outsAt0_A m c ⟨0, hn⟩ (by rfl) (by dsimp only; omega)]
    dsimp only
    rw [sout_A, blk0 H, blk1 H, blk2 H, start_en, pay3]
    refine congrArg (en2 (a := 1024) (b := 1792)) (funext fun r => funext fun k => ?_)
    rw [part_tile]
    simp [part]
  | succ n ih =>
    intro hn
    have ih := ih (by omega)
    have hN : n + 1 < 4 := lt_of_lt_of_eq hn (show cfg0.N = 4 from N_0)
    have key : k0_pay3 (F := Ideal) (outsAt0 m c n (by omega)).2 (iblk m c 0 ⟨n + 1, hn⟩) (iblk m c 1 ⟨n + 1, hn⟩)
        = en2 (a := 1024) (b := 1792) (part x y g (1024 * ((n + 1) + 1))) := by
      rw [ih, blk0 H, blk1 H, pay3]
      congr 1
      funext r k
      dsimp only
      rw [part_tile x y g (n + 1), Nat.mod_eq_of_lt hN]
    by_cases h1 : (n + 1) % 4 = 3
    · rw [outsAt0_C m c ⟨n + 1, hn⟩ (by dsimp only; omega) h1]
      dsimp only
      rw [sout_C]
      exact key
    · rw [outsAt0_B m c ⟨n + 1, hn⟩ (by dsimp only; omega) h1]
      dsimp only
      rw [sout_B]
      exact key

/-- What the last point writes. -/
theorem written (n : ℕ) (hn : n < cfg0.N) (h1 : n = 3) :
    (outsAt0 m c n hn).1 = en2 (a := 1024) (b := 1792) (part x y g 4096) := by
  have e := carried H n hn
  subst h1
  rw [outsAt0_C m c ⟨3, hn⟩ (by dsimp only; omega) (by rfl)] at e ⊢
  dsimp only at e ⊢
  rw [sout_C] at e
  rw [out_C, e, pay4]

/-- The whole array of the gradient. -/
theorem result : G3 m c = en2 (a := 1024) (b := 1792) (part x y g 4096) := by
  funext i
  have h0 : (i 0).val < 1024 := (i 0).isLt
  have h1 : (i 1).val < 1792 := (i 1).isLt
  have hr : run3Of i = 0 := by unfold run3Of; omega
  have hp : pt3Of i < cfg0.N := by
    have : cfg0.N = 4 := N_0
    unfold pt3Of
    rw [hr]
    omega
  unfold G3
  rw [dif_pos hp, ← outsAt0_sweep m c _ hp, written H _ hp (by unfold pt3Of; omega)]
  show part x y g 4096 ((i 0).val % 1024) ((i 1).val % 1792) = part x y g 4096 (i 0).val (i 1).val
  rw [Nat.mod_eq_of_lt h0, Nat.mod_eq_of_lt h1]

end Cert.InWeight
-- ==== Proof.InWeightRef.lean ====
/-
  The reference's gradient of the first weight: one product over all tokens, and the context's part.
-/
module

public import proofs.«01_k».proof.Proof.InWeight
public import proofs.«01_k».proof.Proof.Gen.Reference7Ideal
public import proofs.«01_k».proof.Proof.Gen.Reference7Ideal.Run
public import proofs.«01_k».proof.Proof.Gen.Reference7Ideal.Read
public import proofs.«01_k».proof.Defs
public import Idealize.ShloMosaic.Adequacy
public import Idealize.ShloMosaic.Init
public import Idealize.ShloMosaic.Lib.Quiescent

@[expose] public section

set_option maxRecDepth 16384

noncomputable section

namespace Cert.InWeight

open Idealize.ShloMosaic Idealize.ShloMosaic.TcCoe Idealize.SL.Sem
open Cert.En

namespace Ref

open Cert.Reference7Ideal Cert.Reference7Ideal.Gen Cert.Reference7Ideal.Read

variable (x y g : ℕ → ℕ → EReal)

theorem r2 (i : S1024x1792.Idx) : val_main_v2 (F := Ideal) (en2 (a := 1024) (b := 256) g) i = other g (i 0 : ℕ) (i 1 : ℕ) := by
  idx_vars i
  have hq : (i1 : ℕ) < 1792 := i1.isLt
  unfold val_main_v2
  pointwise []
  show _ = other g (i0 : ℕ) (i1 : ℕ)
  unfold other
  have z0 : ∀ j, val_main_v0 (F := Ideal) j = 0 := fun j => by
    rw [val_main_v0_apply, val_main_cst_apply]
    simp
  have z1 : ∀ j, val_main_v1 (F := Ideal) j = 0 := fun j => by
    rw [val_main_v1_apply, val_main_cst_0_apply]
    simp
  by_cases h : (i1 : ℕ) < 512
  · rw [if_neg (show ¬(512 ≤ (i1 : ℕ) ∧ (i1 : ℕ) < 768) by omega), dif_pos h]
    exact z0 _
  · by_cases h' : (i1 : ℕ) - 512 < 256
    · rw [if_pos (show 512 ≤ (i1 : ℕ) ∧ (i1 : ℕ) < 768 by omega), dif_neg h, dif_pos h']
      rfl
    · rw [if_neg (show ¬(512 ≤ (i1 : ℕ) ∧ (i1 : ℕ) < 768) by omega), dif_neg h, dif_neg h']
      exact z1 _

theorem r10 : val_main_v10 (F := Ideal) (en2 (a := 4096) (b := 1024) x) (en2 (a := 4096) (b := 1792) y) (en2 (a := 1024) (b := 256) g)
    = en2 (a := 1024) (b := 1792) (part x y g 4096) := by
  funext i
  rw [val_main_v10_apply]
  show val_main_v9 (F := Ideal) (en2 (a := 4096) (b := 1024) x) (en2 (a := 4096) (b := 1792) y) (en2 (a := 1024) (b := 256) g) i = other g (i 0).val (i 1).val + ∑ s ∈ Finset.range 4096, x s (i 0).val * y s (i 1).val
  rw [val_main_v9_apply, r2, val_main_v8_apply, val_main_v7_apply, Finset.sum_range, add_comm]
  show _ + (_ : EReal) = _
  refine congrArg₂ (· + ·) (Finset.sum_congr rfl fun k _ => ?_) rfl
  rw [val_main_v6_apply, val_main_v4_apply, mul_comm]
  rfl

end Ref

theorem frame_reference : Cert.quiescent_Reference7Ideal := fun m ρ _ =>
  (θ_run Cert.Reference7Ideal.defs _ _).mono
    (fun r h => ⟨fun c => (h c).2, sem_eq_zero_of_no_sems (by decide) r.2⟩)
    (Cert.Reference7Ideal.Value.run (F := Ideal) m ρ)

/-- The kernel and the reference compute the same sums. -/
theorem value : Cert.algebraic_Kernel7Ideal_Reference7Ideal := by
  intro m g m' g' hpre hag
  let x : Dev Cert.Kernel7Ideal.nD → ℕ → ℕ → EReal := fun c =>
    at2 (a := 4096) (b := 1024) (m ((c : Thread Cert.Kernel7Ideal.nD Cert.Kernel7Ideal.τ).loc Cert.Kernel7Ideal.main_arg0))
  let y : Dev Cert.Kernel7Ideal.nD → ℕ → ℕ → EReal := fun c =>
    at2 (a := 4096) (b := 1792) (m ((c : Thread Cert.Kernel7Ideal.nD Cert.Kernel7Ideal.τ).loc Cert.Kernel7Ideal.main_arg1))
  let g₀ : Dev Cert.Kernel7Ideal.nD → ℕ → ℕ → EReal := fun c =>
    at2 (a := 1024) (b := 256) (m ((c : Thread Cert.Kernel7Ideal.nD Cert.Kernel7Ideal.τ).loc Cert.Kernel7Ideal.main_arg2))
  have H : ∀ c, IsArgs m c (x c) (y c) (g₀ c) := fun c => ⟨(en2_at2 _).symm, (en2_at2 _).symm, (en2_at2 _).symm⟩
  clear_value x y g₀
  refine ⟨fun c => en2 (a := 1024) (b := 1792) (part (x c) (y c) (g₀ c) 4096), ?_, ?_⟩
  · refine (θ_run Cert.Kernel7Ideal.defs _ _).mono (fun r h c => ?_) (Cert.Kernel7Ideal.Value.run m g)
    exact ⟨(h c).1.trans (result (H c)), (h c).2⟩
  · refine (θ_run Cert.Reference7Ideal.defs _ _).mono (fun r h c => ?_) (Cert.Reference7Ideal.Value.run (F := Ideal) m' g')
    obtain ⟨r0, ra⟩ := h c
    obtain ⟨a0, a1, a2⟩ := hag c
    have b0 := a0.trans (H c).x
    have b1 := a1.trans (H c).y
    have b2 := a2.trans (H c).g
    refine ⟨r0.trans ?_, ra⟩
    rw [Cert.Reference7Ideal.Read.val_main_v10_eq, b0, b1, b2]
    exact Ref.r10 (x c) (y c) (g₀ c)

end Cert.InWeight
-- ==== Proof.UpFwd.Run.lean ====
/-
  The body of the norm and up projection call, run at one grid point.
-/
module

public import proofs.«01_k».proof.Proof.Gen.Kernel8Ideal.Skeleton
public import proofs.«01_k».proof.Proof.Gen.Kernel8Ideal.Frame
public import Idealize.ShloMosaic.Lib.Pipeline.ReadBack
public import Idealize.ShloMosaic.Lib.WritesUnit
public import Idealize.ShloMosaic.Lib.Tactic
public import Idealize.ShloMosaic.Lib.Pipeline.ValueKit

@[expose] public section

set_option maxRecDepth 16384

noncomputable section

namespace Cert.Kernel8Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem z2 : (![0, 0] : Fin 2 → Nat) = fun _ => 0 := funext fun a => by fin_cases a <;> rfl
theorem z3 : (![0, 0, 0] : Fin 3 → Nat) = fun _ => 0 := funext fun a => by fin_cases a <;> rfl

/-- What one store over a whole block leaves there. -/
theorem read_one {sp : Space} {S : Shape} {e : EltTy} (v : View sig .tc sp S e) (f : v.ty.Contents (Elt F)) {off : Fin S.rank → ℕ}
    (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩), View.canon_unit_zero h]

section

variable (c : Dev nD) (i : grid0.Coords) (a2 : Memref sig .tc .vmem S1024x1024 .f32) (h2 : a2.IsWhole) (a3 : Memref sig .tc .vmem S1x1024 .f32) (h3 : a3.IsWhole)
  (a4 : Memref sig .tc .vmem S1x1024 .f32) (h4 : a4.IsWhole) (a5 : Memref sig .tc .vmem S1x1024 .f32) (h5 : a5.IsWhole)
  (a6 : Memref sig .tc .vmem S1x1024x1408 .bf16) (h6 : a6.IsWhole) (a7 : Memref sig .tc .vmem S1024x1024 .bf16) (h7 : a7.IsWhole)
  (a8 : Memref sig .tc .vmem S1x1024x1408 .bf16) (h8 : a8.IsWhole) (a9 : Memref sig .tc .vmem S1024x1024 .bf16) (h9 : a9.IsWhole)
  (x0 : Vec F S1024x1024 .f32) (x1 x2 x3 : Vec F S1x1024 .f32) (x4 : Vec F S1x1024x1408 .bf16)

set_option maxHeartbeats 1000000 in
/-- At a row's first column the body stores the normed tile twice and the product. -/
theorem runA (hc : k0_cond1 i = 1#1) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4
        ∗ (∃ d, owns (c : Thread nD τ) a7 fullShare d) ∗ (∃ d, owns (c : Thread nD τ) a8 fullShare d) ∗ (∃ d, owns (c : Thread nD τ) a9 fullShare d)
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4
            ∗ owns (c : Thread nD τ) a7 fullShare (k0_pay1 x0 x1 x2 x3) ∗ owns (c : Thread nD τ) a8 fullShare (k0_pay3 (k0_pay2 x0 x1 x2 x3) x4) ∗ owns (c : Thread nD τ) a9 fullShare (k0_pay2 x0 x1 x2 x3)) -∗ K ⟨⟩))
      ⊢ wp frame (wpE (defs₀ (F := F)) Variants.none c none) E (cc0_ffn_up i a2 h2 a3 h3 a4 h4 a5 h5 a6 h6 a7 h7 a8 h8 a9 h9) K := by
  simp only [cc0_ffn_up_eq_skeleton]; unfold cc0_ffn_up_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds, %fs, -, HS⟩, Hk⟩
  obtain rfl := h2.eq_unread hf0; obtain rfl := h3.eq_unread hf1; obtain rfl := h4.eq_unread hf2; obtain rfl := h5.eq_unread hf3; obtain rfl := h6.eq_unread hf4
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr
    swap; · iexact H5
    ipureintro
    sl_unfold_words
    rw [read_one _ _ z2]
    simp only [View.readAt_eq_ld, h2.read_unread, h3.read_unread, h4.read_unread, h5.read_unread, View.ld_unit_zero (S := S1024x1024) z2, View.ld_unit_zero (S := S1x1024) z2]
  isplitl [H6]
  · iexists _; isplitr
    swap; · iexact H6
    ipureintro
    sl_unfold_words
    rw [read_one _ _ z3]
    simp only [View.readAt_eq_ld, h2.read_unread, h3.read_unread, h4.read_unread, h5.read_unread, h6.read_unread, View.ld_unit_zero (S := S1024x1024) z2, View.ld_unit_zero (S := S1x1024) z2, View.ld_unit_zero (S := S1x1024x1408) z3, View.readCov_unit_zero (S := S1024x1024) _ z2]
  iexists _; isplitr
  swap; · iexact HS
  ipureintro
  sl_unfold_words
  rw [read_one _ _ z2]
  simp only [View.readAt_eq_ld, h2.read_unread, h3.read_unread, h4.read_unread, h5.read_unread, View.ld_unit_zero (S := S1024x1024) z2, View.ld_unit_zero (S := S1x1024) z2]

set_option maxHeartbeats 1000000 in
/-- At the other columns it stores the product alone, of the tile it kept. -/
theorem runB (hc : ¬k0_cond1 i = 1#1) (p q : Vec F S1024x1024 .bf16) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4
        ∗ owns (c : Thread nD τ) a7 fullShare p ∗ (∃ d, owns (c : Thread nD τ) a8 fullShare d) ∗ owns (c : Thread nD τ) a9 fullShare q
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4
            ∗ owns (c : Thread nD τ) a7 fullShare p ∗ owns (c : Thread nD τ) a8 fullShare (k0_pay3 q x4) ∗ owns (c : Thread nD τ) a9 fullShare q) -∗ K ⟨⟩))
      ⊢ wp frame (wpE (defs₀ (F := F)) Variants.none c none) E (cc0_ffn_up i a2 h2 a3 h3 a4 h4 a5 h5 a6 h6 a7 h7 a8 h8 a9 h9) K := by
  simp only [cc0_ffn_up_eq_skeleton]; unfold cc0_ffn_up_skel
  unfold owns
  iintro ⟨H0, H1, H2, H3, ⟨%f4, %hf4, H4⟩, H5, ⟨%d6, %f6, -, H6⟩, ⟨%fs, %hfs, HS⟩, Hk⟩
  obtain rfl := h6.eq_unread hf4; obtain rfl := h9.eq_unread hfs
  sl_exec (disch := first | sl_exact hc)
  sl_step
  iapply Hk
  isplitl [H0]; · iexact H0
  isplitl [H1]; · iexact H1
  isplitl [H2]; · iexact H2
  isplitl [H3]; · iexact H3
  isplitl [H4]
  · iexists _; isplitr; · ipureintro; exact h6.read_unread _
    iexact H4
  isplitl [H5]; · iexact H5
  isplitl [H6]
  · iexists _; isplitr
    swap; · iexact H6
    ipureintro
    sl_unfold_words
    rw [read_one _ _ z3]
    simp only [View.readAt_eq_ld, h6.read_unread, h9.read_unread, View.ld_unit_zero (S := S1024x1024) z2, View.ld_unit_zero (S := S1x1024x1408) z3]
  iexists _; isplitr; · ipureintro; exact h9.read_unread _
  iexact HS

end

end Cert.Kernel8Ideal.Gen

end
-- ==== Proof.UpFwd.Frame.lean ====
/-
  The frame of the norm and up projection call. The first output's block is stored at a row's first column only and stays in its buffer until the row's last.
-/
module

public import proofs.«01_k».proof.Proof.UpFwd.Run

@[expose] public section

set_option maxRecDepth 16384

noncomputable section

namespace Cert.Kernel8Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's condition holds at a row's first column. -/
theorem cond_iff (t : Fin cfg0.N) : k0_cond1 (grid0.coords t) = 1#1 ↔ t.val % 4 = 0 :=
  (by decide +kernel : ∀ t : Fin grid0.N, k0_cond1 (grid0.coords t) = 1#1 ↔ t.val % 4 = 0) t

/-- The first point of a point's row. -/
def base (t : Fin cfg0.N) : Fin cfg0.N := ⟨4 * (t.val / 4), lt_of_le_of_lt (Nat.mul_div_le _ _) t.isLt⟩

theorem base_zero (t : Fin cfg0.N) (h : t.val % 4 = 0) : base t = t := Fin.ext (by unfold base; dsimp only; omega)

/-- The normed tile in the first output's buffer, and in the scratch array. -/
def held (c : Dev nD) (t : Fin cfg0.N) : Vec F S1024x1024 .bf16 :=
  k0_pay1 (iblk m c 0 (base t)) (iblk m c 1 (base t)) (iblk m c 2 (base t)) (iblk m c 3 (base t))
def kept9 (c : Dev nD) (t : Fin cfg0.N) : Vec F S1024x1024 .bf16 :=
  k0_pay2 (iblk m c 0 (base t)) (iblk m c 1 (base t)) (iblk m c 2 (base t)) (iblk m c 3 (base t))

/-- The scratch array as a memref. -/
abbrev scM : Memref sig .tc .vmem S1024x1024 .bf16 := Memref.whole cc0_scratch0

theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- Between points the scratch array holds the row's tile. -/
def PhiS (c : Dev nD) : (n : ℕ) → n ≤ cfg0.N → sProp 𝕄
  | 0, _ => Pipeline.ΦA spec0 c
  | n + 1, hn => iprop(iprop(owns (c : Thread nD τ) scM fullShare (kept9 m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM fullShare (kept9 m c ⟨n - 1, by omega⟩)) ∗ (∃ r, prngReg c r)) := by
  cases n with
  | zero => exact absurd rfl hz
  | succ n => rfl

/-- The proof data: the arrays as launched, each input's buffer at its block, the outputs' at what the row's tile gives. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => held m c t
    | ⟨6, _⟩ => k0_pay3 (kept9 m c t) (iblk m c 4 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = held m c t := by dsimp only [dats]
theorem after6 (c : Dev nD) (t : Fin cfg0.N) : (dats m 0 c).after 6 t = k0_pay3 (kept9 m c t) (iblk m c 4 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

theorem idle5 (t : Fin cfg0.N) : cfg0.idle 5 (grid0.coords t) = !(k0_cond1 (grid0.coords t) == 1#1) := rfl

/-- After a row's first column the first output's buffer holds the row's tile. -/
theorem before5 (c : Dev nD) : ∀ (n : ℕ) (hn : n < cfg0.N), ¬n % 4 = 0 → ∀ d, (dats m 0 c).before 5 ⟨n, hn⟩ d = held m c ⟨n, hn⟩ := by
  intro n
  induction n with
  | zero => intro hn h; exact absurd (Nat.zero_mod _) h
  | succ n ih =>
    intro hn h d
    have hn' : n < cfg0.N := Nat.lt_of_succ_lt hn
    have hN : n + 1 < 16 := lt_of_lt_of_eq hn (show cfg0.N = 16 from N_0)
    have hb : held m c ⟨n + 1, hn⟩ = held m c ⟨n, hn'⟩ := by
      unfold held
      rw [show base ⟨n + 1, hn⟩ = base ⟨n, hn'⟩ from Fin.ext (by unfold base; dsimp only; omega)]
    rw [(dats m 0 c).before_of_pos 5 ⟨n + 1, hn⟩ (Nat.succ_ne_zero n) ((cfg0.win 5).fetch_out rfl _) d,
      if_neg (fun hf => by have := (flush0_5 _).mp hf; dsimp only at this; omega), hb]
    show (dats m 0 c).left 5 ⟨n, hn'⟩ d = _
    unfold Dat.left
    by_cases h0 : n % 4 = 0
    · rw [show cfg0.idle 5 (cfg0.grid.coords ⟨n, hn'⟩) = false from
        (idle5 ⟨n, hn'⟩).trans (by rw [(cond_iff ⟨n, hn'⟩).mpr h0]; rfl)]
      show (dats m 0 c).kept 5 ⟨n, hn'⟩ d = _
      unfold Dat.kept
      rw [Pipeline.fill_of_clip_none 5 _ (fun _ => rfl) d ((dats m 0 c).after 5 _), Window.fill_cut, after5]
    · rw [show cfg0.idle 5 (cfg0.grid.coords ⟨n, hn'⟩) = true from
        (idle5 ⟨n, hn'⟩).trans (by rw [beq_eq_false_iff_ne.mpr (fun hc => h0 ((cond_iff ⟨n, hn'⟩).mp hc))]; rfl)]
      exact ih hn' h0 d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The row's tile in the first output's buffer is what every point owes of it. -/
theorem leaves5 (c : Dev nD) (t : Fin cfg0.N) :
    owns (c : Thread nD τ) (st0_5 t) fullShare ((dats m 0 c).after 5 t) ⊢ (dats m 0 c).leavesExact 5 t := by
  by_cases h0 : t.val % 4 = 0
  · unfold Dat.leavesExact
    rw [show cfg0.idle 5 (cfg0.grid.coords t) = false from (idle5 t).trans (by rw [(cond_iff t).mpr h0]; rfl)]
  · have hi : cfg0.idle 5 (cfg0.grid.coords t) = true :=
      (idle5 t).trans (by rw [beq_eq_false_iff_ne.mpr (fun hc => h0 ((cond_iff t).mp hc))]; rfl)
    by_cases h3 : t.val % 4 = 3
    · unfold Dat.leavesExact
      rw [hi, (flush0_5 t).mpr h3]
    · rw [(dats m 0 c).leavesExact_idle 5 t hi (Bool.eq_false_iff.mpr fun h => h3 ((flush0_5 t).mp h)), after5]
      iintro H
      iexists (held m c t)
      rw [before5 m c t.val t.isLt h0]
      iexact H

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    after0, after1, after2, after3, after4, after5, after6]
  rw [show (dats m 0 c).Φ t.succ = iprop(iprop(owns (c : Thread nD τ) scM fullShare (kept9 m c t)) ∗ (∃ r, prngReg c r)) from rfl, PhiS_castSucc m c t]
  by_cases h0 : t.val % 4 = 0
  · have hS : PhiS m c t.val (Nat.le_of_lt t.isLt) ⊢ iprop(iprop((∃ d, owns (c : Thread nD τ) scM fullShare d)) ∗ (∃ r, prngReg c r)) := by
      by_cases hz : t.val = 0
      · rw [PhiS_zero m c _ _ hz, PhiA_eq]
      · rw [PhiS_pos m c _ _ hz]
        iintro ⟨HS, Hg⟩
        isplitl [HS]
        · iexists _; iexact HS
        iexact Hg
    refine (sep_mono hS .rfl).trans ?_
    unfold held kept9
    rw [base_zero t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ scM (Memref.isWhole_whole _) (iblk m c 0 t) (iblk m c 1 t) (iblk m c 2 t) (iblk m c 3 t) (iblk m c 4 t) ((cond_iff t).mpr h0) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hz : t.val ≠ 0 := fun h => h0 (by rw [h])
    rw [PhiS_pos m c _ _ hz]
    have hk : kept9 m c ⟨t.val - 1, Nat.lt_of_le_of_lt (Nat.sub_le _ _) t.isLt⟩ = kept9 m c t := by
      unfold kept9
      rw [show base ⟨t.val - 1, Nat.lt_of_le_of_lt (Nat.sub_le _ _) t.isLt⟩ = base t from Fin.ext (by unfold base; dsimp only; omega)]
    rw [hk]
    simp only [before5 m c t.val t.isLt h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (runB c (grid0.coords t) _ _ _ _ _ _ _ _ _ _ _ _ _ _ scM (Memref.isWhole_whole _) (iblk m c 0 t) (iblk m c 1 t) (iblk m c 2 t) (iblk m c 3 t) (iblk m c 4 t) (fun h => h0 ((cond_iff t).mp h)) (held m c t) (kept9 m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ =>
    sep_mono .rfl (sep_mono .rfl (sep_mono .rfl (sep_mono .rfl (sep_mono .rfl (sep_mono .rfl (sep_mono .rfl (sep_mono (leaves5 m c t) .rfl)))))))

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N le_rfl from rfl, PhiS_pos m c _ _ (by rw [show cfg0.N = 16 from N_0]; omega), PhiA_eq]
  iintro ⟨HS, Hg⟩
  isplitl [HS]
  · iexists _; iexact HS
  iexact Hg

set_option backward.isDefEq.respectTransparency.types false in
/-- The launch, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel8Ideal.Gen

end
-- ==== Proof.UpFwd.Bridge.lean ====
/-
  The frame of the norm and up projection call at bit-exact values: its program is the one the frame is proved of.
-/
module

public import proofs.«01_k».proof.Proof.UpFwd.Frame
public import proofs.«01_k».proof.Proof.Gen.Kernel8
public import proofs.«01_k».proof.Defs

@[expose] public section

set_option maxRecDepth 16384

namespace Cert.UpFwd

open Idealize.ShloMosaic

/-- Both programs' bodies read the same. -/
theorem body_eq : Cert.Kernel8.cc0_ffn_up (F := Bits) = Cert.Kernel8Ideal.cc0_ffn_up (F := Bits) := by
  unfold Cert.Kernel8.cc0_ffn_up Cert.Kernel8Ideal.cc0_ffn_up
  rfl

theorem table_eq : Cert.Kernel8.defs₀ (F := Bits) = Cert.Kernel8Ideal.defs₀ (F := Bits) := by
  unfold Cert.Kernel8.defs₀ Cert.Kernel8Ideal.defs₀
  refine congrArg Defs.onTc ?_
  funext l a
  match l, a with
  | 0, (t, s) =>
    show Cert.Kernel8.cc0_ffn_up (F := Bits) _ _ _ _ _ _ _ _ _ _ _ _ _ _ _ _ _ = _
    rw [body_eq]
    rfl
  | ⟨_ + 1, h⟩, _ => exact absurd h (Nat.not_lt.2 (Nat.le_add_left _ _))

theorem defs_eq : Cert.Kernel8.defs (F := Bits) = Cert.Kernel8Ideal.defs (F := Bits) :=
  congrArg (Pipeline.defs Cert.Kernel8Ideal.pcfgs) table_eq

theorem frame_kernel : Cert.quiescent_Kernel8 := by
  intro m ρ _
  rw [defs_eq]
  exact Cert.Kernel8Ideal.Gen.frame (F := Bits) m ρ

end Cert.UpFwd
-- ==== Proof.UpFwd.Value.lean ====
/-
  The norm and up projection: the normed tokens and their products with the four parts of the weight, over four tiles of tokens.
-/
module

public import proofs.«01_k».proof.Proof.En
public import proofs.«01_k».proof.Proof.UpFwd.Frame
public import Idealize.ShloMosaic.Lib.Pipeline.ReadBack
public import Idealize.ShloMosaic.Lib.Tactic
public import Idealize.ShloMosaic.Lib.Pipeline.Value
public import Idealize.ShloMosaic.Lib.Pipeline.ValueKit

@[expose] public section

set_option maxRecDepth 16384

noncomputable section

namespace Cert.UpFwd

open Idealize.ShloMosaic Idealize.ShloMosaic.TcCoe Idealize.SL.Sem
open Cert.Kernel8Ideal Cert.Kernel8Ideal.Gen Cert.En
open Idealize.ShloMosaic.Pipeline (Dat)

abbrev tile (f : ℕ → ℕ → EReal) := en2 (a := 1024) (b := 1024) f
abbrev row1 (f : ℕ → ℕ → EReal) := en2 (a := 1) (b := 1024) f
abbrev part (f : ℕ → ℕ → ℕ → EReal) := en3 (a := 1) (b := 1024) (c := 1408) f
abbrev weight (f : ℕ → ℕ → ℕ → EReal) := en3 (a := 4) (b := 1024) (c := 1408) f
abbrev full (f : ℕ → ℕ → EReal) := en2 (a := 4096) (b := 1024) f
abbrev wide (f : ℕ → ℕ → ℕ → EReal) := en3 (a := 2) (b := 4096) (c := 2816) f

/-- The factor that norms a token: one over the root of its mean square with the small constant added. -/
def rho (x : ℕ → ℕ → EReal) (r : ℕ) : EReal :=
  Ideal.rsqrt (Ideal.div (∑ k ∈ Finset.range 1024, x r k * x r k) (Ideal.ofBits .f32 0x44800000#32) + Ideal.ofBits .f32 0x358637BD#32)

/-- The normed tokens, scaled and shifted. -/
def nrm (x n s h : ℕ → ℕ → EReal) : ℕ → ℕ → EReal := fun r k => x r k * rho x r * (n 0 k * (1 + s 0 k)) + h 0 k

/-- The product with the weight, whose parts are the columns' quarters; the result's halves are two quarters each. -/
def up (q : ℕ → ℕ → EReal) (w : ℕ → ℕ → ℕ → EReal) : ℕ → ℕ → ℕ → EReal := fun b r k =>
  ∑ i ∈ Finset.range 1024, q r i * w (2 * b + k / 1408) i (k % 1408)

variable (x n s h q : ℕ → ℕ → EReal) (w : ℕ → ℕ → ℕ → EReal)

theorem pay1 : k0_pay1 (F := Ideal) (tile x) (row1 n) (row1 s) (row1 h) = tile (nrm x n s h) := by
  funext j
  idx_vars j
  pointwise [k0_pay1]
  simp only [en2_ix2, nrm, rho, Finset.sum_range]
  rfl

theorem pay2 : k0_pay2 (F := Ideal) (tile x) (row1 n) (row1 s) (row1 h) = tile (nrm x n s h) := by
  unfold k0_pay2
  rw [pay1]
  funext j
  idx_vars j
  pointwise []

theorem pay3 : k0_pay3 (F := Ideal) (tile q) (part w) = part (fun b r k => ∑ i ∈ Finset.range 1024, q r i * w 0 i k) := by
  funext j
  idx_vars j
  pointwise [k0_pay3]
  simp only [en2_ix2, en3_ix3, Finset.sum_range]
  rfl

variable (m : (ℓ : Loc nD τ sig) → Buf (Elt Ideal) ℓ) (ρ : Dev nD → PrngReg)

theorem idx0 : ∀ t : Fin cfg0.N, win0_0.index t (0 : Fin 2) = t.val / 4 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 3) = t.val % 4 ∧ win0_4.index t (1 : Fin 3) = 0 ∧ win0_4.index t (2 : Fin 3) = 0 := (by decide +kernel : ∀ t : Fin grid0.N, _)
theorem idx5 : ∀ t : Fin cfg0.N, win0_5.index t (0 : Fin 2) = t.val / 4 ∧ win0_5.index t (1 : Fin 2) = 0 := (by decide +kernel : ∀ t : Fin grid0.N, _)
theorem idx6 : ∀ t : Fin cfg0.N, win0_6.index t (0 : Fin 3) = t.val % 4 / 2 ∧ win0_6.index t (1 : Fin 3) = t.val / 4 ∧ win0_6.index t (2 : Fin 3) = t.val % 2 := (by decide +kernel : ∀ t : Fin grid0.N, _)

/-- The arguments' entries. -/
structure IsArgs (c : Dev nD) (x n s h : ℕ → ℕ → EReal) (w : ℕ → ℕ → ℕ → EReal) : Prop where
  x : m ((c : Thread nD τ).loc main_arg0) = full x
  n : m ((c : Thread nD τ).loc main_arg1) = row1 n
  s : m ((c : Thread nD τ).loc main_arg2) = row1 s
  h : m ((c : Thread nD τ).loc main_arg3) = row1 h
  w : m ((c : Thread nD τ).loc main_arg4) = weight w

variable {m} {c : Dev nD} {x n s h w} (H : IsArgs m c x n s h w)
include H

theorem blk0 (t : Fin cfg0.N) : iblk m c 0 t = tile (fun r => x (1024 * (t.val / 4) + r)) := by
  funext z
  unfold iblk
  rw [View.read_apply]
  show m ((c : Thread nD τ).loc main_arg0) (((cfg0.win 0).blk t).view.emb z) = x (1024 * (t.val / 4) + (z 0 : ℕ)) (z 1 : ℕ)
  obtain ⟨e0, e1⟩ := idx0 t
  rw [H.x]
  show x (win0_0.index t (0 : Fin 2) * 1024 + 1 * (z 0).val) (win0_0.index t (1 : Fin 2) * 1024 + 1 * (z 1).val) = _
  rw [e0, e1]
  exact congrArg₂ x (by omega) (by omega)

theorem blk1 (t : Fin cfg0.N) : iblk m c 1 t = row1 n := by
  funext z
  unfold iblk
  rw [View.read_apply]
  show m ((c : Thread nD τ).loc main_arg1) (((cfg0.win 1).blk t).view.emb z) = n (z 0 : ℕ) (z 1 : ℕ)
  obtain ⟨e0, e1⟩ := idx1 t
  rw [H.n]
  show n (win0_1.index t (0 : Fin 2) * 1 + 1 * (z 0).val) (win0_1.index t (1 : Fin 2) * 1024 + 1 * (z 1).val) = _
  rw [e0, e1]
  exact congrArg₂ n (by omega) (by omega)

theorem blk2 (t : Fin cfg0.N) : iblk m c 2 t = row1 s := by
  funext z
  unfold iblk
  rw [View.read_apply]
  show m ((c : Thread nD τ).loc main_arg2) (((cfg0.win 2).blk t).view.emb z) = s (z 0 : ℕ) (z 1 : ℕ)
  obtain ⟨e0, e1⟩ := idx2 t
  rw [H.s]
  show s (win0_2.index t (0 : Fin 2) * 1 + 1 * (z 0).val) (win0_2.index t (1 : Fin 2) * 1024 + 1 * (z 1).val) = _
  rw [e0, e1]
  exact congrArg₂ s (by omega) (by omega)

theorem blk3 (t : Fin cfg0.N) : iblk m c 3 t = row1 h := by
  funext z
  unfold iblk
  rw [View.read_apply]
  show m ((c : Thread nD τ).loc main_arg3) (((cfg0.win 3).blk t).view.emb z) = h (z 0 : ℕ) (z 1 : ℕ)
  obtain ⟨e0, e1⟩ := idx3 t
  rw [H.h]
  show h (win0_3.index t (0 : Fin 2) * 1 + 1 * (z 0).val) (win0_3.index t (1 : Fin 2) * 1024 + 1 * (z 1).val) = _
  rw [e0, e1]
  exact congrArg₂ h (by omega) (by omega)

theorem blk4 (t : Fin cfg0.N) : iblk m c 4 t = part (fun b => w (t.val % 4 + b)) := by
  funext z
  unfold iblk
  rw [View.read_apply]
  show m ((c : Thread nD τ).loc main_arg4) (((cfg0.win 4).blk t).view.emb z) = w (t.val % 4 + (z 0 : ℕ)) (z 1 : ℕ) (z 2 : ℕ)
  obtain ⟨e0, e1, e2⟩ := idx4 t
  rw [H.w]
  show w (win0_4.index t (0 : Fin 3) * 1 + 1 * (z 0).val) (win0_4.index t (1 : Fin 3) * 1024 + 1 * (z 1).val) (win0_4.index t (2 : Fin 3) * 1408 + 1 * (z 2).val) = _
  rw [e0, e1, e2]
  exact congr (congrArg₂ w (by omega) (by omega)) (by omega)

theorem held_eq (t : Fin cfg0.N) : held m c t = tile (fun r => nrm x n s h (1024 * (t.val / 4) + r)) := by
  unfold held
  rw [blk0 H, blk1 H, blk2 H, blk3 H, pay1, show (base t).val / 4 = t.val / 4 by show 4 * (t.val / 4) / 4 = _; omega]
  rfl

theorem kept_eq (t : Fin cfg0.N) : kept9 m c t = tile (fun r => nrm x n s h (1024 * (t.val / 4) + r)) := by
  unfold kept9
  rw [blk0 H, blk1 H, blk2 H, blk3 H, pay2, show (base t).val / 4 = t.val / 4 by show 4 * (t.val / 4) / 4 = _; omega]
  rfl

theorem result5 : (dats m 0 c).arrAt 5 cfg0.N = full (nrm x n s h) := by
  refine (dats m 0 c).arrAt_eq_of_covers 5 _ (by decide +kernel) fun t hf z => ?_
  blk_simp
  rw [after5, held_eq H]
  obtain ⟨e0, e1⟩ := idx5 t
  show nrm x n s h (1024 * (t.val / 4) + (z 0 : ℕ)) (z 1 : ℕ) = nrm x n s h (win0_5.index t (0 : Fin 2) * 1024 + 1 * (z 0).val) (win0_5.index t (1 : Fin 2) * 1024 + 1 * (z 1).val)
  rw [e0, e1]
  exact congrArg₂ (nrm x n s h) (by omega) (by omega)

theorem result6 : (dats m 0 c).arrAt 6 cfg0.N = wide (up (nrm x n s h) w) := by
  refine (dats m 0 c).arrAt_eq_of_covers 6 _ (by decide +kernel) fun t hf z => ?_
  blk_simp
  rw [after6, kept_eq H, blk4 H, pay3]
  obtain ⟨e0, e1, e2⟩ := idx6 t
  have h0 : (z 0).val < 1 := (z 0).isLt
  have h2 : (z 2).val < 1408 := (z 2).isLt
  show (∑ i ∈ Finset.range 1024, nrm x n s h (1024 * (t.val / 4) + (z 1 : ℕ)) i * w (t.val % 4 + 0) i (z 2 : ℕ))
    = up (nrm x n s h) w (win0_6.index t (0 : Fin 3) * 1 + 1 * (z 0).val) (win0_6.index t (1 : Fin 3) * 1024 + 1 * (z 1).val) (win0_6.index t (2 : Fin 3) * 1408 + 1 * (z 2).val)
  rw [e0, e1, e2]
  unfold up
  refine Finset.sum_congr rfl fun i _ => ?_
  rw [show t.val / 4 * 1024 + 1 * (z 1).val = 1024 * (t.val / 4) + (z 1).val by omega,
    show 2 * (t.val % 4 / 2 * 1 + 1 * (z 0).val) + (t.val % 2 * 1408 + 1 * (z 2).val) / 1408 = t.val % 4 + 0 by omega,
    show (t.val % 2 * 1408 + 1 * (z 2).val) % 1408 = (z 2).val by omega]

omit H in
/-- The run with both results named and the arguments unchanged. -/
theorem run_blocks (m : (ℓ : Loc nD τ sig) → Buf (Elt Ideal) ℓ) : θ_run defs (onTc (τ := τ) (main (F := Ideal))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5, (h c).1 6,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c)))⟩) (run_main m ρ)

end Cert.UpFwd
-- ==== Proof.UpFwd.Ref.lean ====
/-
  The reference's norm and up projection: the same tokens and one product with the whole weight, cut into its halves.
-/
module

public import proofs.«01_k».proof.Proof.UpFwd.Value
public import proofs.«01_k».proof.Proof.Gen.Reference8Ideal
public import proofs.«01_k».proof.Proof.Gen.Reference8Ideal.Run
public import proofs.«01_k».proof.Proof.Gen.Reference8Ideal.Read
public import proofs.«01_k».proof.Defs
public import Idealize.ShloMosaic.Adequacy
public import Idealize.ShloMosaic.Init
public import Idealize.ShloMosaic.Lib.Quiescent

@[expose] public section

set_option maxRecDepth 16384

noncomputable section

namespace Cert.UpFwd

open Idealize.ShloMosaic Idealize.ShloMosaic.TcCoe Idealize.SL.Sem
open Cert.En

namespace Ref

open Cert.Reference8Ideal Cert.Reference8Ideal.Gen Cert.Reference8Ideal.Read

variable (x n s h : ℕ → ℕ → EReal) (w : ℕ → ℕ → ℕ → EReal)

theorem zero : Ideal.ofBits .f32 0x00000000#32 = 0 := by
  simp [Ideal.ofBits, Ideal.ieee]

theorem one : Ideal.ofBits .f32 0x3F800000#32 = 1 := by
  rw [← EReal.coe_one]
  simp [Ideal.ofBits, Ideal.ieee, -EReal.coe_mul, -EReal.coe_one]
  norm_num

theorem r7 (i : S4096x1.Idx) : val_main_v7 (F := Ideal) (full x) i = rho x (i 0).val := by
  rw [val_main_v7_apply, val_main_v6_apply, val_main_v5_apply, val_main_v4_apply, val_main_v3_apply, val_main_v2_apply,
    val_main_v1_apply, val_main_cst_apply, val_main_cst_0_apply, val_main_cst_1_apply]
  unfold rho
  rw [Finset.sum_range]
  refine congrArg (fun e => Ideal.rsqrt (Ideal.div e (Ideal.ofBits .f32 0x44800000#32) + Ideal.ofBits .f32 0x358637BD#32)) ?_
  show Ideal.ofBits .f32 0x00000000#32 + _ = _
  rw [zero, zero_add]
  refine Finset.sum_congr rfl fun k _ => ?_
  rw [val_main_v0_apply]
  rfl

theorem r17 : val_main_v17 (F := Ideal) (full x) (row1 n) (row1 s) (row1 h) = full (nrm x n s h) := by
  funext i
  rw [val_main_v17_apply, val_main_v16_apply, val_main_v15_apply, val_main_v14_apply, val_main_v13_apply, val_main_v12_apply,
    val_main_v11_apply, val_main_v10_apply, val_main_v9_apply, val_main_v8_apply, r7, val_main_cst_2_apply]
  show x (i 0).val (i 1).val * rho x (i 0).val * n 0 (i 1).val * (Ideal.ofBits .f32 0x3F800000#32 + s 0 (i 1).val) + h 0 (i 1).val = _
  rw [one, mul_assoc (x (i 0).val (i 1).val * rho x (i 0).val)]
  rfl

theorem r24 : val_main_v24 (F := Ideal) (full x) (row1 n) (row1 s) (row1 h) = full (nrm x n s h) := by
  funext i
  rw [val_main_v24_apply, r17]
  rfl

theorem r23 (i : S4096x5632.Idx) : val_main_v23 (F := Ideal) (full x) (row1 n) (row1 s) (row1 h) (weight w) i
    = ∑ k ∈ Finset.range 1024, nrm x n s h (i 0).val k * w ((i 1).val / 1408) k ((i 1).val % 1408) := by
  rw [val_main_v23_apply, Finset.sum_range]
  refine Finset.sum_congr rfl fun k _ => ?_
  rw [val_main_v19_apply, val_main_v18_apply, r17, val_main_v22_apply, val_main_v21_apply, val_main_v20_apply]
  have h1 : (i 1).val < 5632 := (i 1).isLt
  show nrm x n s h (i 0).val k.val * w ((k.val * 5632 + (i 1).val) / 1408 % 4) ((k.val * 5632 + (i 1).val) / 5632) ((k.val * 5632 + (i 1).val) % 1408) = _
  rw [show (k.val * 5632 + (i 1).val) / 1408 % 4 = (i 1).val / 1408 by omega, show (k.val * 5632 + (i 1).val) / 5632 = k.val by omega,
    show (k.val * 5632 + (i 1).val) % 1408 = (i 1).val % 1408 by omega]

theorem r30 : val_main_v30 (F := Ideal) (full x) (row1 n) (row1 s) (row1 h) (weight w) = wide (up (nrm x n s h) w) := by
  funext i
  rw [val_main_v30_apply]
  idx_vars i
  have hq : (i0 : ℕ) < 2 := i0.isLt
  have h2 : (i2 : ℕ) < 2816 := i2.isLt
  unfold val_main_v29
  pointwise []
  show _ = up (nrm x n s h) w (i0 : ℕ) (i1 : ℕ) (i2 : ℕ)
  by_cases h' : (i0 : ℕ) < 1
  · rw [dif_pos h', val_main_v26_apply, val_main_v25_apply, r23]
    unfold up
    refine Finset.sum_congr rfl fun k _ => ?_
    rw [show 2 * (i0 : ℕ) + (i2 : ℕ) / 1408 = (i2 : ℕ) / 1408 by omega]
    rfl
  · rw [dif_neg h', val_main_v28_apply, val_main_v27_apply, r23]
    unfold up
    refine Finset.sum_congr rfl fun k _ => ?_
    show nrm x n s h (i1 : ℕ) k * w ((2816 + (i2 : ℕ)) / 1408) k ((2816 + (i2 : ℕ)) % 1408) = _
    rw [show (2816 + (i2 : ℕ)) / 1408 = 2 * (i0 : ℕ) + (i2 : ℕ) / 1408 by omega, show (2816 + (i2 : ℕ)) % 1408 = (i2 : ℕ) % 1408 by omega]

end Ref

theorem frame_reference : Cert.quiescent_Reference8Ideal := fun m ρ _ =>
  (θ_run Cert.Reference8Ideal.defs _ _).mono
    (fun r h => ⟨fun c => (h c).2.2, sem_eq_zero_of_no_sems (by decide) r.2⟩)
    (Cert.Reference8Ideal.Value.run (F := Ideal) m ρ)

/-- The kernel and the reference compute the same normed tokens and products. -/
theorem value : Cert.algebraic_Kernel8Ideal_Reference8Ideal := by
  intro m ρ m' ρ' hpre hag
  let x : Dev Cert.Kernel8Ideal.nD → ℕ → ℕ → EReal := fun c =>
    at2 (a := 4096) (b := 1024) (m ((c : Thread Cert.Kernel8Ideal.nD Cert.Kernel8Ideal.τ).loc Cert.Kernel8Ideal.main_arg0))
  let n : Dev Cert.Kernel8Ideal.nD → ℕ → ℕ → EReal := fun c =>
    at2 (a := 1) (b := 1024) (m ((c : Thread Cert.Kernel8Ideal.nD Cert.Kernel8Ideal.τ).loc Cert.Kernel8Ideal.main_arg1))
  let s : Dev Cert.Kernel8Ideal.nD → ℕ → ℕ → EReal := fun c =>
    at2 (a := 1) (b := 1024) (m ((c : Thread Cert.Kernel8Ideal.nD Cert.Kernel8Ideal.τ).loc Cert.Kernel8Ideal.main_arg2))
  let h : Dev Cert.Kernel8Ideal.nD → ℕ → ℕ → EReal := fun c =>
    at2 (a := 1) (b := 1024) (m ((c : Thread Cert.Kernel8Ideal.nD Cert.Kernel8Ideal.τ).loc Cert.Kernel8Ideal.main_arg3))
  let w : Dev Cert.Kernel8Ideal.nD → ℕ → ℕ → ℕ → EReal := fun c =>
    at3 (a := 4) (b := 1024) (c := 1408) (m ((c : Thread Cert.Kernel8Ideal.nD Cert.Kernel8Ideal.τ).loc Cert.Kernel8Ideal.main_arg4))
  have H : ∀ c, IsArgs m c (x c) (n c) (s c) (h c) (w c) := fun c =>
    ⟨(en2_at2 _).symm, (en2_at2 _).symm, (en2_at2 _).symm, (en2_at2 _).symm, (en3_at3 _).symm⟩
  clear_value x n s h w
  refine ⟨fun c => full (nrm (x c) (n c) (s c) (h c)), fun c => wide (up (nrm (x c) (n c) (s c) (h c)) (w c)), ?_, ?_⟩
  · refine (θ_run Cert.Kernel8Ideal.defs _ _).mono (fun r h c => ?_) (run_blocks ρ m)
    obtain ⟨r0, r1, ra⟩ := h c
    exact ⟨r0.trans (result5 (H c)), r1.trans (result6 (H c)), ra⟩
  · refine (θ_run Cert.Reference8Ideal.defs _ _).mono (fun r h c => ?_) (Cert.Reference8Ideal.Value.run (F := Ideal) m' ρ')
    obtain ⟨r0, r1, ra⟩ := h c
    obtain ⟨a0, a1, a2, a3, a4⟩ := hag c
    have b0 := a0.trans (H c).x
    have b1 := a1.trans (H c).n
    have b2 := a2.trans (H c).s
    have b3 := a3.trans (H c).h
    have b4 := a4.trans (H c).w
    refine ⟨r0.trans ?_, r1.trans ?_, ra⟩
    · rw [Cert.Reference8Ideal.Read.val_main_v24_eq, b0, b1, b2, b3]
      exact Ref.r24 _ _ _ _
    · rw [Cert.Reference8Ideal.Read.val_main_v30_eq, b0, b1, b2, b3, b4]
      exact Ref.r30 _ _ _ _ _

end Cert.UpFwd
-- ==== Proof.lean ====
/- The certificate: the frames of the calls at both readings, the references' frames, and the value claims. -/
module

public import proofs.«01_k».proof.Defs
public import proofs.«01_k».proof.Proof.Gen.Kernel
public import proofs.«01_k».proof.Proof.FrameBits.Frame
public import proofs.«01_k».proof.Proof.Gen.KernelIdeal
public import proofs.«01_k».proof.Proof.FrameIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_attention_finite
public import proofs.«01_k».proof.Proof.Values
public import proofs.«01_k».proof.Proof.Ref
public import proofs.«01_k».proof.Proof.Finite
public import proofs.«01_k».proof.Proof.Gen.Pre_up_finite
public import proofs.«01_k».proof.Proof.Gen.Kernel2
public import proofs.«01_k».proof.Proof.Gen.Kernel2.Frame
public import proofs.«01_k».proof.Proof.DownRef
public import proofs.«01_k».proof.Proof.Gen.Kernel3
public import proofs.«01_k».proof.Proof.Gen.Kernel3.Frame
public import proofs.«01_k».proof.Proof.UpWeightRef
public import proofs.«01_k».proof.Proof.Gen.Kernel4
public import proofs.«01_k».proof.Proof.Gen.Kernel4.Frame
public import proofs.«01_k».proof.Proof.UpBwdRef
public import proofs.«01_k».proof.Proof.Gen.Kernel5
public import proofs.«01_k».proof.Proof.Gen.Kernel5.Frame
public import proofs.«01_k».proof.Proof.DownWeightRef
public import proofs.«01_k».proof.Proof.Gen.Kernel6
public import proofs.«01_k».proof.Proof.Gen.Kernel6.Frame
public import proofs.«01_k».proof.Proof.OutWeightRef
public import proofs.«01_k».proof.Proof.Gen.Kernel7
public import proofs.«01_k».proof.Proof.Gen.Kernel7.Frame
public import proofs.«01_k».proof.Proof.InWeightRef
public import proofs.«01_k».proof.Proof.UpFwd.Bridge
public import proofs.«01_k».proof.Proof.UpFwd.Ref
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference terminates, keeps its arguments and declares no semaphore. -/
theorem frame_reference : Cert.quiescent_ReferenceIdeal := fun m ρ _ =>
  (θ_run Cert.ReferenceIdeal.defs _ _).mono
    (fun r h => ⟨fun c => (h c).2.2.2.2.2.2.2, sem_eq_zero_of_no_sems (by decide) r.2⟩)
    (Cert.ReferenceIdeal.Value.run (F := Ideal) m ρ)

open Cert.Attn in
/-- Finite arguments are arrays of reals; the kernel and the reference compute the model's results of them. -/
theorem value [Cert.Pre_attention_finite.Facts] : Cert.algebraic_KernelIdeal_ReferenceIdeal_pre_attention_finite := by
  intro m g m' g' hpre hag
  have hA : ∀ c : Dev Cert.KernelIdeal.nD, ∃ A : Args, IsArgs A m c := by
    intro c
    obtain ⟨h0, h1, h2, h3, h4, h5, h6⟩ := finite_all _ _ _ _ _ _ _ (hpre c)
    exact ⟨⟨toMat _, toMat _, toMat _, toMat _, toMat _, toVec _, toMat _⟩,
      ⟨toMat_eq _ h0, toMat_eq _ h1, toMat_eq _ h2, toMat_eq _ h3, toMat_eq _ h4, toVec_eq _ h5, toMat_eq _ h6⟩⟩
  choose A H using hA
  refine ⟨fun c => re2 (a := 4096) (b := 512) (A c).o, fun c => re2 (a := 4096) (b := 512) (A c).dq,
    fun c => re2 (a := 4096) (b := 128) (A c).dk, fun c => re2 (a := 4096) (b := 128) (A c).dv,
    fun c => re2 (a := 256) (b := 128) (A c).dkc, fun c => re2 (a := 256) (b := 128) (A c).dvc,
    fun c i => (((A c).dsk (i 0) : ℝ) : EReal), ?_, ?_⟩
  · refine (θ_run Cert.KernelIdeal.defs _ _).mono (fun r h c => ?_) (Cert.KernelIdeal.Gen.run_results m g)
    obtain ⟨e0, e1, e2, e3, e4, e5, e6⟩ := results m g c (H c)
    obtain ⟨⟨r0, r1, r2, r3, r4, r5, r6⟩, ra⟩ := h c
    exact ⟨r0.trans e0, r1.trans e1, r2.trans e2, r3.trans e3, r4.trans e4, r5.trans e5, r6.trans e6, ra⟩
  · refine (θ_run Cert.ReferenceIdeal.defs _ _).mono (fun r h c => ?_) (Cert.ReferenceIdeal.Value.run (F := Ideal) m' g')
    obtain ⟨r0, r1, r2, r3, r4, r5, r6, ra⟩ := h c
    obtain ⟨a0, a1, a2, a3, a4, a5, a6⟩ := hag c
    have b0 := a0.trans (H c).q
    have b1 := a1.trans (H c).k
    have b2 := a2.trans (H c).v
    have b3 := a3.trans (H c).kc
    have b4 := a4.trans (H c).vc
    have b5 := a5.trans (H c).sk
    have b6 := a6.trans (H c).g
    refine ⟨r0.trans ?_, r1.trans ?_, r2.trans ?_, r3.trans ?_, r4.trans ?_, r5.trans ?_, r6.trans ?_, ra⟩
    · rw [Cert.ReferenceIdeal.Read.val_main_v62_eq, b0, b1, b2, b3, b4, b5]; exact Ref.r62 (A c)
    · rw [Cert.ReferenceIdeal.Read.val_main_v114_eq, b0, b1, b2, b3, b4, b5, b6]; exact Ref.r114 (A c)
    · rw [Cert.ReferenceIdeal.Read.val_main_v112_eq, b0, b1, b2, b3, b4, b5, b6]; exact Ref.r112 (A c)
    · rw [Cert.ReferenceIdeal.Read.val_main_v111_eq, b0, b1, b3, b5, b6]; exact Ref.r111 (A c)
    · rw [Cert.ReferenceIdeal.Read.val_main_v110_eq, b0, b1, b2, b3, b4, b5, b6]; exact Ref.r110 (A c)
    · rw [Cert.ReferenceIdeal.Read.val_main_v109_eq, b0, b1, b3, b5, b6]; exact Ref.r109 (A c)
    · rw [Cert.ReferenceIdeal.Read.val_main_v113_eq, b0, b1, b2, b3, b4, b5, b6]; exact Ref.r113 (A c)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_attention_finite.Gen.facts, Cert.Pre_up_finite.Gen.facts,
  Cert.FrameBits.frame,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ, fun m ρ _ => Cert.Kernel2Ideal.Gen.frame m ρ, Cert.Down.frame_reference,
  fun m ρ _ => Cert.Kernel3.Gen.frame m ρ, fun m ρ _ => Cert.Kernel3Ideal.Gen.frame m ρ, Cert.UpWeight.frame_reference,
  fun m ρ _ => Cert.Kernel4.Gen.frame m ρ, fun m ρ _ => Cert.Kernel4Ideal.Gen.frame m ρ, fun m ρ _ => Cert.Kernel4Ideal.Gen.frame m ρ,
  Cert.UpBwd.frame_reference, fun m ρ _ => Cert.UpBwd.frame_reference m ρ trivial,
  fun m ρ _ => Cert.Kernel5.Gen.frame m ρ, fun m ρ _ => Cert.Kernel5Ideal.Gen.frame m ρ, Cert.DownWeight.frame_reference,
  fun m ρ _ => Cert.Kernel6.Gen.frame m ρ, fun m ρ _ => Cert.Kernel6Ideal.Gen.frame m ρ, Cert.OutWeight.frame_reference,
  fun m ρ _ => Cert.Kernel7.Gen.frame m ρ, fun m ρ _ => Cert.Kernel7Ideal.Gen.frame m ρ, Cert.InWeight.frame_reference,
  Cert.UpFwd.frame_kernel, fun m ρ _ => Cert.Kernel8Ideal.Gen.frame m ρ, Cert.UpFwd.frame_reference,
  IdealRules.named_const.statement Cert.KernelIdeal.κ "mask" .f32 0xF149F2CA#32 ⊥ rfl,
  value,
  trivial, Cert.Down.value,
  trivial, Cert.UpWeight.value,
  trivial, Cert.UpBwd.value,
  trivial, Cert.DownWeight.value,
  trivial, Cert.OutWeight.value,
  trivial, Cert.InWeight.value,
  trivial, Cert.UpFwd.value⟩

end Cert.Proof

end
